-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite [hPre_finite : Cert.Pre_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite [hPre_finite : Cert.Pre_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_finite [hKernel8Ideal : Cert.Kernel8Ideal.Facts] [hPre_finite : Cert.Pre_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_finite [hReference8Ideal : Cert.Reference8Ideal.Facts] [hPre_finite : Cert.Pre_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v11)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v37) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  IdealRules.named_const.Statement Cert.Kernel8Ideal.κ "log2e" .f32 0x3FB8AA3B#32 (((Real.log 2)⁻¹ : ℝ) : EReal)
  ∧ IdealRules.named_const.Statement Cert.Kernel8Ideal.κ "mask" .f32 0xF149F2CA#32 ⊥

def algebraic_Kernel8Ideal_Reference8Ideal_pre_finite [hKernel8Ideal : Cert.Kernel8Ideal.Facts] [hReference8Ideal : Cert.Reference8Ideal.Facts] [hPre_finite : Cert.Pre_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v42) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v19) = v0 c
          ∧ r.2.mem ((c.tc : Thread Cert.Reference9Ideal.nD Cert.Reference9Ideal.τ).loc Cert.Reference9Ideal.main_v28) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite (hKernel8Ideal := hKernel8Ideal) (hPre_finite := hPre_finite)
    ∧ quiescent_Reference8Ideal (hReference8Ideal := hReference8Ideal)
    ∧ quiescent_Reference8Ideal_pre_finite (hReference8Ideal := hReference8Ideal) (hPre_finite := hPre_finite)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite (hKernel8Ideal := hKernel8Ideal) (hReference8Ideal := hReference8Ideal) (hPre_finite := hPre_finite)
    ∧ preserves_Kernel9_Kernel9Ideal
    ∧ algebraic_Kernel9Ideal_Reference9Ideal (hKernel9Ideal := hKernel9Ideal) (hReference9Ideal := hReference9Ideal)
-- ==== Pre_finite.lean ====
abbrev S8192x4096 : Shape := ⟨2, ![8192, 4096]⟩
abbrev S2048x8192 : Shape := ⟨2, ![2048, 8192]⟩
abbrev S16x8192 : Shape := ⟨2, ![16, 8192]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16x8192 : S_.BroadcastsInDim S16x8192 (![] : Fin 0 → Fin S16x8192.rank)
  reducesTo_S16x8192_S_d0_1 : S16x8192.ReducesTo [0, 1] S_

variable [Facts]

def fn {F : FTy → Type} [FloatOps F] (main_arg0 : FVec F S8192x4096 .bf16) (main_arg1 : FVec F S2048x8192 .bf16) (main_arg2 : FVec F S8192x4096 .bf16) (main_arg3 : FVec F S16x8192 .f32) : IVec S_ 1 :=
  let main_v0 : FVec F S8192x4096 .f32 := (extf .f32 · bitsLt_bf16_f32) main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_v3 : FVec F S8192x4096 .f32 := (extf .f32 · bitsLt_bf16_f32) main_arg0
  let main_cst_0 : FVec F S_ .f32 := constant S_ .f32 0xFF800000#32
  let main_v4 : FVec F S8192x4096 .f32 := broadcastInDim S8192x4096 ![] bcast_S_S8192x4096 main_cst_0
  let main_v5 : IVec S8192x4096 1 := cmpf .ogt main_v3 main_v4
  let main_v6 : IVec S8192x4096 1 := andi main_v2 main_v5
  let main_c : IVec S_ 1 := constantI S_ 1 1#1
  let main_v7 : IVec S_ 1 := (fun x v => Host.reduce IntOp.andi x v reducesTo_S8192x4096_S_d0_1 h_S_) main_v6 main_c
  let main_cst_1 : FVec F S_ .f32 := constant S_ .f32 0x7F800000#32
  let main_v8 : FVec F S16x8192 .f32 := broadcastInDim S16x8192 ![] bcast_S_S16x8192 main_cst_1
  let main_v9 : IVec S16x8192 1 := cmpf .olt main_arg3 main_v8
  let main_cst_2 : FVec F S_ .f32 := constant S_ .f32 0xFF800000#32
  let main_v10 : FVec F S16x8192 .f32 := broadcastInDim S16x8192 ![] bcast_S_S16x8192 main_cst_2
  let main_v11 : IVec S16x8192 1 := cmpf .ogt main_arg3 main_v10
  let main_v12 : IVec S16x8192 1 := andi main_v9 main_v11
  let main_c_3 : IVec S_ 1 := constantI S_ 1 1#1
  let main_v13 : IVec S_ 1 := (fun x v => Host.reduce IntOp.andi x v reducesTo_S16x8192_S_d0_1 h_S_) main_v12 main_c_3
  let main_v14 : IVec S_ 1 := andi main_v7 main_v13
  main_v14
-- ==== Kernel.lean ====
abbrev S8192x4096 : Shape := ⟨2, ![8192, 4096]⟩
abbrev S4096x12304 : Shape := ⟨2, ![4096, 12304]⟩
abbrev S12304x4096 : Shape := ⟨2, ![12304, 4096]⟩
abbrev S1024x4096 : Shape := ⟨2, ![1024, 4096]⟩
abbrev S256x4096 : Shape := ⟨2, ![256, 4096]⟩
abbrev S1024x1024 : Shape := ⟨2, ![1024, 1024]⟩
abbrev S2x1024x4096 : Shape := ⟨3, ![2, 1024, 4096]⟩
abbrev S1x256x4096 : Shape := ⟨3, ![1, 256, 4096]⟩
abbrev S1x1024x4096 : Shape := ⟨3, ![1, 1024, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x12304, .f32⟩
  | .hbm, ⟨2, _⟩ => ⟨S12304x4096, .f32⟩
  | .hbm, ⟨3, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S256x4096, .f32⟩
  | .local _ .vmem, ⟨3, _⟩ => ⟨S256x4096, .f32⟩
  | .local _ .vmem, ⟨4, _⟩ => ⟨S1024x1024, .bf16⟩
  | .local _ .vmem, ⟨5, _⟩ => ⟨S1024x1024, .bf16⟩
  | .local _ .vmem, ⟨6, _⟩ => ⟨S2x1024x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![36], ![false]⟩

def k0_mult1 (i : grid0.Coords) : BitVec 32 :=
  let c6144_i32 : BitVec 32 := 6144#32
  let arg0 : BitVec 32 := BitVec.ofNat 32 (i 0).val
  let c4_i32_11 : BitVec 32 := 4#32
  let v29 : BitVec 1 := Scalar.cmpi .slt arg0 c4_i32_11
  let c0_i32_14 : BitVec 32 := 0#32
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c8_i32 : BitVec 32 := 8#32
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c1_i32_12 : BitVec 32 := 1#32
  let v31 : BitVec 32 := Scalar.addi v18 c1_i32_12
  let c3_i32_13 : BitVec 32 := 3#32
  let v32 : BitVec 32 := Scalar.minsi v31 c3_i32_13
  let v33 : BitVec 32 := Scalar.select v29 c0_i32_14 v32
  let c1_i32_17 : BitVec 32 := 1#32
  let v37 : BitVec 1 := Scalar.cmpi .sge v33 c1_i32_17
  let c1024_i32 : BitVec 32 := 1024#32
  let c0_i32_18 : BitVec 32 := 0#32
  let v38 : BitVec 32 := Scalar.select v37 c1024_i32 c0_i32_18
  let v39 : BitVec 32 := Scalar.addi c6144_i32 v38
  let c2_i32 : BitVec 32 := 2#32
  let v40 : BitVec 1 := Scalar.cmpi .sge v33 c2_i32
  let c3088_i32 : BitVec 32 := 3088#32
  let c0_i32_19 : BitVec 32 := 0#32
  let v41 : BitVec 32 := Scalar.select v40 c3088_i32 c0_i32_19
  let v42 : BitVec 32 := Scalar.addi v39 v41
  let c3_i32_20 : BitVec 32 := 3#32
  let v43 : BitVec 1 := Scalar.cmpi .sge v33 c3_i32_20
  let c1024_i32_21 : BitVec 32 := 1024#32
  let c0_i32_22 : BitVec 32 := 0#32
  let v44 : BitVec 32 := Scalar.select v43 c1024_i32_21 c0_i32_22
  let v45 : BitVec 32 := Scalar.addi v42 v44
  let c3_i32 : BitVec 32 := 3#32
  let v30 : BitVec 1 := Scalar.cmpi .eq v18 c3_i32
  let c3_i32_16 : BitVec 32 := 3#32
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c3_i32_15 : BitVec 32 := 3#32
  let v34 : BitVec 32 := Scalar.minsi v28 c3_i32_15
  let v35 : BitVec 32 := Scalar.select v30 c3_i32_16 v34
  let v36 : BitVec 32 := Scalar.select v29 arg0 v35
  let c256_i32 : BitVec 32 := 256#32
  let v46 : BitVec 32 := Scalar.muli v36 c256_i32
  let v47 : BitVec 32 := Scalar.addi v45 v46
  v47
def k0_cond1 (i : grid0.Coords) : BitVec 1 :=
  let arg0 : BitVec 32 := BitVec.ofNat 32 (i 0).val
  let c4_i32_11 : BitVec 32 := 4#32
  let v30 : BitVec 1 := Scalar.cmpi .slt arg0 c4_i32_11
  let v31 : BitVec 32 := Scalar.extui v30
  let c0_i32_12 : BitVec 32 := 0#32
  let v32 : BitVec 1 := Scalar.cmpi .ne v31 c0_i32_12
  v32

def k0_mult2 (i : grid0.Coords) : BitVec 32 :=
  let arg0 : BitVec 32 := BitVec.ofNat 32 (i 0).val
  let c256_i32 : BitVec 32 := 256#32
  let v36 : BitVec 32 := Scalar.muli arg0 c256_i32
  v36
def k0_off1 (i : grid0.Coords) : Fin 3 → Nat :=
  let c0_16 : Index := 0#32
  let arg0 : BitVec 32 := BitVec.ofNat 32 (i 0).val
  let c256_i32 : BitVec 32 := 256#32
  let v36 : BitVec 32 := Scalar.muli arg0 c256_i32
  let v37 : BitVec 32 := v36
  let v41 : Index := Scalar.indexCast v37
  let c0_17 : Index := 0#32
  ![0, v41.toNat, 0]
def k0_cond2 (i : grid0.Coords) : BitVec 1 :=
  let arg0 : BitVec 32 := BitVec.ofNat 32 (i 0).val
  let c4_i32_13 : BitVec 32 := 4#32
  let v33 : BitVec 1 := Scalar.cmpi .sge arg0 c4_i32_13
  let v34 : BitVec 32 := Scalar.extui v33
  let c0_i32_14 : BitVec 32 := 0#32
  let v35 : BitVec 1 := Scalar.cmpi .ne v34 c0_i32_14
  v35

def k0_off2 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c8_i32 : BitVec 32 := 8#32
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2_i32 : BitVec 32 := 2#32
  let c0_i32_15 : BitVec 32 := 0#32
  let v36 : BitVec 1 := Scalar.cmpi .eq c2_i32 c0_i32_15
  let c1_i32_16 : BitVec 32 := 1#32
  let v37 : BitVec 32 := Scalar.select v36 c1_i32_16 c2_i32
  let v38 : BitVec 32 := Scalar.remsi v18 v37
  let c0_i32_18 : BitVec 32 := 0#32
  let v40 : BitVec 1 := Scalar.cmpi .slt v38 c0_i32_18
  let c0_i32_19 : BitVec 32 := 0#32
  let v41 : BitVec 1 := Scalar.cmpi .slt v37 c0_i32_19
  let v42 : BitVec 1 := Scalar.xori v40 v41
  let c0_i32_17 : BitVec 32 := 0#32
  let v39 : BitVec 1 := Scalar.cmpi .ne v38 c0_i32_17
  let v43 : BitVec 1 := Scalar.andi v42 v39
  let v44 : BitVec 32 := Scalar.addi v38 v37
  let v45 : BitVec 32 := Scalar.select v43 v44 v38
  let v46 : Index := Scalar.indexCast v45
  let c0 : Index := 0#32
  let c0_20 : Index := 0#32
  ![v46.toNat, 0, 0]
def k0_mult3 (i : grid0.Coords) : BitVec 32 :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c3_i32 : BitVec 32 := 3#32
  let v29 : BitVec 32 := Scalar.minsi v28 c3_i32
  let c256_i32 : BitVec 32 := 256#32
  let v72 : BitVec 32 := Scalar.muli v29 c256_i32
  v72
def k0_off3 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c8_i32 : BitVec 32 := 8#32
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c1_i32_28 : BitVec 32 := 1#32
  let v61 : BitVec 32 := Scalar.addi v18 c1_i32_28
  let c2_i32_29 : BitVec 32 := 2#32
  let c0_i32_30 : BitVec 32 := 0#32
  let v62 : BitVec 1 := Scalar.cmpi .eq c2_i32_29 c0_i32_30
  let c1_i32_31 : BitVec 32 := 1#32
  let v63 : BitVec 32 := Scalar.select v62 c1_i32_31 c2_i32_29
  let v64 : BitVec 32 := Scalar.remsi v61 v63
  let c0_i32_33 : BitVec 32 := 0#32
  let v66 : BitVec 1 := Scalar.cmpi .slt v64 c0_i32_33
  let c0_i32_34 : BitVec 32 := 0#32
  let v67 : BitVec 1 := Scalar.cmpi .slt v63 c0_i32_34
  let v68 : BitVec 1 := Scalar.xori v66 v67
  let c0_i32_32 : BitVec 32 := 0#32
  let v65 : BitVec 1 := Scalar.cmpi .ne v64 c0_i32_32
  let v69 : BitVec 1 := Scalar.andi v68 v65
  let v70 : BitVec 32 := Scalar.addi v64 v63
  let v71 : BitVec 32 := Scalar.select v69 v70 v64
  let v77 : Index := Scalar.indexCast v71
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c3_i32 : BitVec 32 := 3#32
  let v29 : BitVec 32 := Scalar.minsi v28 c3_i32
  let c256_i32 : BitVec 32 := 256#32
  let v72 : BitVec 32 := Scalar.muli v29 c256_i32
  let v73 : BitVec 32 := v72
  let v78 : Index := Scalar.indexCast v73
  let c0_37 : Index := 0#32
  ![v77.toNat, v78.toNat, 0]
def cc0_transform_0 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 1 := Scalar.cmpi .slt arg0 c4_i32_11
  let c3_i32 : BitVec 32 := 3#32
  let v30 : BitVec 1 := Scalar.cmpi .eq v18 c3_i32
  let c1_i32_12 : BitVec 32 := 1#32
  let v31 : BitVec 32 := Scalar.addi v18 c1_i32_12
  let c3_i32_13 : BitVec 32 := 3#32
  let v32 : BitVec 32 := Scalar.minsi v31 c3_i32_13
  let c0_i32_14 : BitVec 32 := 0#32
  let v33 : BitVec 32 := Scalar.select v29 c0_i32_14 v32
  let c3_i32_15 : BitVec 32 := 3#32
  let v34 : BitVec 32 := Scalar.minsi v28 c3_i32_15
  let c3_i32_16 : BitVec 32 := 3#32
  let v35 : BitVec 32 := Scalar.select v30 c3_i32_16 v34
  let v36 : BitVec 32 := Scalar.select v29 arg0 v35
  let c0_i32_17 : BitVec 32 := 0#32
  let c0_i32_18 : BitVec 32 := 0#32
  ![v28.toNat, c0_i32_17.toNat]

def cc0_transform_1 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 1 := Scalar.cmpi .slt arg0 c4_i32_11
  let c3_i32 : BitVec 32 := 3#32
  let v30 : BitVec 1 := Scalar.cmpi .eq v18 c3_i32
  let c1_i32_12 : BitVec 32 := 1#32
  let v31 : BitVec 32 := Scalar.addi v18 c1_i32_12
  let c3_i32_13 : BitVec 32 := 3#32
  let v32 : BitVec 32 := Scalar.minsi v31 c3_i32_13
  let c0_i32_14 : BitVec 32 := 0#32
  let v33 : BitVec 32 := Scalar.select v29 c0_i32_14 v32
  let c3_i32_15 : BitVec 32 := 3#32
  let v34 : BitVec 32 := Scalar.minsi v28 c3_i32_15
  let c3_i32_16 : BitVec 32 := 3#32
  let v35 : BitVec 32 := Scalar.select v30 c3_i32_16 v34
  let v36 : BitVec 32 := Scalar.select v29 arg0 v35
  let c1_i32_17 : BitVec 32 := 1#32
  let v37 : BitVec 1 := Scalar.cmpi .sge v33 c1_i32_17
  let c1024_i32 : BitVec 32 := 1024#32
  let c0_i32_18 : BitVec 32 := 0#32
  let v38 : BitVec 32 := Scalar.select v37 c1024_i32 c0_i32_18
  let c6144_i32 : BitVec 32 := 6144#32
  let v39 : BitVec 32 := Scalar.addi c6144_i32 v38
  let c2_i32 : BitVec 32 := 2#32
  let v40 : BitVec 1 := Scalar.cmpi .sge v33 c2_i32
  let c3088_i32 : BitVec 32 := 3088#32
  let c0_i32_19 : BitVec 32 := 0#32
  let v41 : BitVec 32 := Scalar.select v40 c3088_i32 c0_i32_19
  let v42 : BitVec 32 := Scalar.addi v39 v41
  let c3_i32_20 : BitVec 32 := 3#32
  let v43 : BitVec 1 := Scalar.cmpi .sge v33 c3_i32_20
  let c1024_i32_21 : BitVec 32 := 1024#32
  let c0_i32_22 : BitVec 32 := 0#32
  let v44 : BitVec 32 := Scalar.select v43 c1024_i32_21 c0_i32_22
  let v45 : BitVec 32 := Scalar.addi v42 v44
  let c256_i32 : BitVec 32 := 256#32
  let v46 : BitVec 32 := Scalar.muli v36 c256_i32
  let v47 : BitVec 32 := Scalar.addi v45 v46
  let v48 : BitVec 32 := v47
  let c0_i32_23 : BitVec 32 := 0#32
  let c0_i32_24 : BitVec 32 := 0#32
  ![v48.toNat, c0_i32_23.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 1 := Scalar.cmpi .slt arg0 c4_i32_11
  let c3_i32 : BitVec 32 := 3#32
  let v30 : BitVec 1 := Scalar.cmpi .eq v18 c3_i32
  let c1_i32_12 : BitVec 32 := 1#32
  let v31 : BitVec 32 := Scalar.addi v18 c1_i32_12
  let c3_i32_13 : BitVec 32 := 3#32
  let v32 : BitVec 32 := Scalar.minsi v31 c3_i32_13
  let c0_i32_14 : BitVec 32 := 0#32
  let v33 : BitVec 32 := Scalar.select v29 c0_i32_14 v32
  let c3_i32_15 : BitVec 32 := 3#32
  let v34 : BitVec 32 := Scalar.minsi v28 c3_i32_15
  let c3_i32_16 : BitVec 32 := 3#32
  let v35 : BitVec 32 := Scalar.select v30 c3_i32_16 v34
  let v36 : BitVec 32 := Scalar.select v29 arg0 v35
  let c0_i32_17 : BitVec 32 := 0#32
  ![v28.toNat, v18.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8192x4096 : Shape := ⟨2, ![8192, 4096]⟩
abbrev S4096x12304 : Shape := ⟨2, ![4096, 12304]⟩
abbrev S8192x12304 : Shape := ⟨2, ![8192, 12304]⟩
abbrev S8192x2048 : Shape := ⟨2, ![8192, 2048]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x12304, .f32⟩
  | .hbm, ⟨2, _⟩ => ⟨S8192x4096, .f32⟩
  | .hbm, ⟨3, _⟩ => ⟨S8192x12304, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x4096, .f32⟩
  | .hbm, ⟨25, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_call1_v0 : Ref sig .tc := ⟨.hbm, 15, rfl⟩
abbrev main_call1_v1 : Ref sig .tc := ⟨.hbm, 16, rfl⟩
abbrev main_call1_cst : Ref sig .tc := ⟨.hbm, 17, rfl⟩
abbrev main_call1_v2 : Ref sig .tc := ⟨.hbm, 18, rfl⟩
abbrev main_call1_v3 : Ref sig .tc := ⟨.hbm, 19, rfl⟩
abbrev main_call1_cst_0 : Ref sig .tc := ⟨.hbm, 20, rfl⟩
abbrev main_call1_v4 : Ref sig .tc := ⟨.hbm, 21, rfl⟩
abbrev main_call1_v5 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩

abbrev nD : Nat := 1
abbrev τ : Topo := Topo.v7x

variable {F : FTy → Type} [FloatOps F]
-- ==== Kernel2.lean ====
abbrev S8192x4096 : Shape := ⟨2, ![8192, 4096]⟩
abbrev S4096x8192 : Shape := ⟨2, ![4096, 8192]⟩
abbrev S8192 : Shape := ⟨1, ![8192]⟩
abbrev S1x8192 : Shape := ⟨2, ![1, 8192]⟩
abbrev S8192x8192 : Shape := ⟨2, ![8192, 8192]⟩
abbrev S1024x4096 : Shape := ⟨2, ![1024, 4096]⟩
abbrev S1024x1024 : Shape := ⟨2, ![1024, 1024]⟩
abbrev S1x1024 : Shape := ⟨2, ![1, 1024]⟩
abbrev S2x4096x1024 : Shape := ⟨3, ![2, 4096, 1024]⟩
abbrev S1x1024x1024 : Shape := ⟨3, ![1, 1024, 1024]⟩
abbrev S1x4096x1024 : Shape := ⟨3, ![1, 4096, 1024]⟩
abbrev S4096x1024 : Shape := ⟨2, ![4096, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x8192, .f32⟩
  | .hbm, ⟨2, _⟩ => ⟨S8192, .f32⟩
  | .hbm, ⟨3, _⟩ => ⟨S1x8192, .f32⟩
  | .hbm, ⟨4, _⟩ => ⟨S8192x8192, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S2x4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![68], ![false]⟩

def k0_cond1 (i : grid0.Coords) : BitVec 1 :=
  let arg0 : BitVec 32 := BitVec.ofNat 32 (i 0).val
  let c4_i32_11 : BitVec 32 := 4#32
  let v30 : BitVec 1 := Scalar.cmpi .slt arg0 c4_i32_11
  let v31 : BitVec 32 := Scalar.extui v30
  let c0_i32_12 : BitVec 32 := 0#32
  let v32 : BitVec 1 := Scalar.cmpi .ne v31 c0_i32_12
  v32

def k0_mult1 (i : grid0.Coords) : BitVec 32 :=
  let arg0 : BitVec 32 := BitVec.ofNat 32 (i 0).val
  let c1024_i32 : BitVec 32 := 1024#32
  let v36 : BitVec 32 := Scalar.muli arg0 c1024_i32
  v36
def k0_off1 (i : grid0.Coords) : Fin 3 → Nat :=
  let c0_16 : Index := 0#32
  let arg0 : BitVec 32 := BitVec.ofNat 32 (i 0).val
  let c1024_i32 : BitVec 32 := 1024#32
  let v36 : BitVec 32 := Scalar.muli arg0 c1024_i32
  let v37 : BitVec 32 := v36
  let v40 : Index := Scalar.indexCast v37
  let c0_17 : Index := 0#32
  ![0, v40.toNat, 0]
def k0_cond2 (i : grid0.Coords) : BitVec 1 :=
  let arg0 : BitVec 32 := BitVec.ofNat 32 (i 0).val
  let c4_i32_13 : BitVec 32 := 4#32
  let v33 : BitVec 1 := Scalar.cmpi .sge arg0 c4_i32_13
  let v34 : BitVec 32 := Scalar.extui v33
  let c0_i32_14 : BitVec 32 := 0#32
  let v35 : BitVec 1 := Scalar.cmpi .ne v34 c0_i32_14
  v35

def k0_off2 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c8_i32 : BitVec 32 := 8#32
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2_i32 : BitVec 32 := 2#32
  let c0_i32_15 : BitVec 32 := 0#32
  let v36 : BitVec 1 := Scalar.cmpi .eq c2_i32 c0_i32_15
  let c1_i32_16 : BitVec 32 := 1#32
  let v37 : BitVec 32 := Scalar.select v36 c1_i32_16 c2_i32
  let v38 : BitVec 32 := Scalar.remsi v18 v37
  let c0_i32_18 : BitVec 32 := 0#32
  let v40 : BitVec 1 := Scalar.cmpi .slt v38 c0_i32_18
  let c0_i32_19 : BitVec 32 := 0#32
  let v41 : BitVec 1 := Scalar.cmpi .slt v37 c0_i32_19
  let v42 : BitVec 1 := Scalar.xori v40 v41
  let c0_i32_17 : BitVec 32 := 0#32
  let v39 : BitVec 1 := Scalar.cmpi .ne v38 c0_i32_17
  let v43 : BitVec 1 := Scalar.andi v42 v39
  let v44 : BitVec 32 := Scalar.addi v38 v37
  let v45 : BitVec 32 := Scalar.select v43 v44 v38
  let v46 : Index := Scalar.indexCast v45
  let c0 : Index := 0#32
  let c0_20 : Index := 0#32
  ![v46.toNat, 0, 0]
def k0_mult2 (i : grid0.Coords) : BitVec 32 :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c3_i32 : BitVec 32 := 3#32
  let v29 : BitVec 32 := Scalar.minsi v28 c3_i32
  let c1024_i32 : BitVec 32 := 1024#32
  let v75 : BitVec 32 := Scalar.muli v29 c1024_i32
  v75
def k0_off3 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c8_i32 : BitVec 32 := 8#32
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c1_i32_30 : BitVec 32 := 1#32
  let v64 : BitVec 32 := Scalar.addi v18 c1_i32_30
  let c2_i32_31 : BitVec 32 := 2#32
  let c0_i32_32 : BitVec 32 := 0#32
  let v65 : BitVec 1 := Scalar.cmpi .eq c2_i32_31 c0_i32_32
  let c1_i32_33 : BitVec 32 := 1#32
  let v66 : BitVec 32 := Scalar.select v65 c1_i32_33 c2_i32_31
  let v67 : BitVec 32 := Scalar.remsi v64 v66
  let c0_i32_35 : BitVec 32 := 0#32
  let v69 : BitVec 1 := Scalar.cmpi .slt v67 c0_i32_35
  let c0_i32_36 : BitVec 32 := 0#32
  let v70 : BitVec 1 := Scalar.cmpi .slt v66 c0_i32_36
  let v71 : BitVec 1 := Scalar.xori v69 v70
  let c0_i32_34 : BitVec 32 := 0#32
  let v68 : BitVec 1 := Scalar.cmpi .ne v67 c0_i32_34
  let v72 : BitVec 1 := Scalar.andi v71 v68
  let v73 : BitVec 32 := Scalar.addi v67 v66
  let v74 : BitVec 32 := Scalar.select v72 v73 v67
  let v79 : Index := Scalar.indexCast v74
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c3_i32 : BitVec 32 := 3#32
  let v29 : BitVec 32 := Scalar.minsi v28 c3_i32
  let c1024_i32 : BitVec 32 := 1024#32
  let v75 : BitVec 32 := Scalar.muli v29 c1024_i32
  let v76 : BitVec 32 := v75
  let v80 : Index := Scalar.indexCast v76
  let c0_39 : Index := 0#32
  ![v79.toNat, v80.toNat, 0]
def cc0_transform_0 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 1 := Scalar.cmpi .slt arg0 c4_i32_11
  let c7_i32 : BitVec 32 := 7#32
  let v30 : BitVec 1 := Scalar.cmpi .eq v18 c7_i32
  let c1_i32_12 : BitVec 32 := 1#32
  let v31 : BitVec 32 := Scalar.addi v18 c1_i32_12
  let c7_i32_13 : BitVec 32 := 7#32
  let v32 : BitVec 32 := Scalar.minsi v31 c7_i32_13
  let c0_i32_14 : BitVec 32 := 0#32
  let v33 : BitVec 32 := Scalar.select v29 c0_i32_14 v32
  let c3_i32 : BitVec 32 := 3#32
  let v34 : BitVec 32 := Scalar.minsi v28 c3_i32
  let c3_i32_15 : BitVec 32 := 3#32
  let v35 : BitVec 32 := Scalar.select v30 c3_i32_15 v34
  let v36 : BitVec 32 := Scalar.select v29 arg0 v35
  let c0_i32_16 : BitVec 32 := 0#32
  let c0_i32_17 : BitVec 32 := 0#32
  ![v28.toNat, c0_i32_16.toNat]

def cc0_transform_1 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 1 := Scalar.cmpi .slt arg0 c4_i32_11
  let c7_i32 : BitVec 32 := 7#32
  let v30 : BitVec 1 := Scalar.cmpi .eq v18 c7_i32
  let c1_i32_12 : BitVec 32 := 1#32
  let v31 : BitVec 32 := Scalar.addi v18 c1_i32_12
  let c7_i32_13 : BitVec 32 := 7#32
  let v32 : BitVec 32 := Scalar.minsi v31 c7_i32_13
  let c0_i32_14 : BitVec 32 := 0#32
  let v33 : BitVec 32 := Scalar.select v29 c0_i32_14 v32
  let c3_i32 : BitVec 32 := 3#32
  let v34 : BitVec 32 := Scalar.minsi v28 c3_i32
  let c3_i32_15 : BitVec 32 := 3#32
  let v35 : BitVec 32 := Scalar.select v30 c3_i32_15 v34
  let v36 : BitVec 32 := Scalar.select v29 arg0 v35
  let c0_i32_16 : BitVec 32 := 0#32
  let v37 : BitVec 32 := Scalar.addi c0_i32_16 v33
  let c0_i32_17 : BitVec 32 := 0#32
  ![v36.toNat, v37.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 1 := Scalar.cmpi .slt arg0 c4_i32_11
  let c7_i32 : BitVec 32 := 7#32
  let v30 : BitVec 1 := Scalar.cmpi .eq v18 c7_i32
  let c1_i32_12 : BitVec 32 := 1#32
  let v31 : BitVec 32 := Scalar.addi v18 c1_i32_12
  let c7_i32_13 : BitVec 32 := 7#32
  let v32 : BitVec 32 := Scalar.minsi v31 c7_i32_13
  let c0_i32_14 : BitVec 32 := 0#32
  let v33 : BitVec 32 := Scalar.select v29 c0_i32_14 v32
  let c3_i32 : BitVec 32 := 3#32
  let v34 : BitVec 32 := Scalar.minsi v28 c3_i32
  let c3_i32_15 : BitVec 32 := 3#32
  let v35 : BitVec 32 := Scalar.select v30 c3_i32_15 v34
  let v36 : BitVec 32 := Scalar.select v29 arg0 v35
  let c0_i32_16 : BitVec 32 := 0#32
  let c0_i32_17 : BitVec 32 := 0#32
  ![c0_i32_16.toNat, v18.toNat]

def cc0_transform_3 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 1 := Scalar.cmpi .slt arg0 c4_i32_11
  let c7_i32 : BitVec 32 := 7#32
  let v30 : BitVec 1 := Scalar.cmpi .eq v18 c7_i32
  let c1_i32_12 : BitVec 32 := 1#32
  let v31 : BitVec 32 := Scalar.addi v18 c1_i32_12
  let c7_i32_13 : BitVec 32 := 7#32
  let v32 : BitVec 32 := Scalar.minsi v31 c7_i32_13
  let c0_i32_14 : BitVec 32 := 0#32
  let v33 : BitVec 32 := Scalar.select v29 c0_i32_14 v32
  let c3_i32 : BitVec 32 := 3#32
  let v34 : BitVec 32 := Scalar.minsi v28 c3_i32
  let c3_i32_15 : BitVec 32 := 3#32
  let v35 : BitVec 32 := Scalar.select v30 c3_i32_15 v34
  let v36 : BitVec 32 := Scalar.select v29 arg0 v35
  let c0_i32_16 : BitVec 32 := 0#32
  ![v28.toNat, v18.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S8192x4096 : Shape := ⟨2, ![8192, 4096]⟩
abbrev S4096x8192 : Shape := ⟨2, ![4096, 8192]⟩
abbrev S8192 : Shape := ⟨1, ![8192]⟩
abbrev S8192x8192 : Shape := ⟨2, ![8192, 8192]⟩
abbrev S1x8192 : Shape := ⟨2, ![1, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x8192, .f32⟩
  | .hbm, ⟨2, _⟩ => ⟨S8192, .f32⟩
  | .hbm, ⟨3, _⟩ => ⟨S8192x4096, .f32⟩
  | .hbm, ⟨4, _⟩ => ⟨S8192x8192, .f32⟩
  | .hbm, ⟨5, _⟩ => ⟨S1x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel3.lean ====
abbrev S8192x4096 : Shape := ⟨2, ![8192, 4096]⟩
abbrev S4096x4096 : Shape := ⟨2, ![4096, 4096]⟩
abbrev S1x4096 : Shape := ⟨2, ![1, 4096]⟩
abbrev S4096 : Shape := ⟨1, ![4096]⟩
abbrev S1024x4096 : Shape := ⟨2, ![1024, 4096]⟩
abbrev S512x1024 : Shape := ⟨2, ![512, 1024]⟩
abbrev S1024x1024 : Shape := ⟨2, ![1024, 1024]⟩
abbrev S1x1024 : Shape := ⟨2, ![1, 1024]⟩
abbrev S2x4096x1024 : Shape := ⟨3, ![2, 4096, 1024]⟩
abbrev S1x512x1024 : Shape := ⟨3, ![1, 512, 1024]⟩
abbrev S1x4096x1024 : Shape := ⟨3, ![1, 4096, 1024]⟩
abbrev S4096x1024 : Shape := ⟨2, ![4096, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S1x4096, .f32⟩
  | .hbm, ⟨4, _⟩ => ⟨S4096, .f32⟩
  | .hbm, ⟨5, _⟩ => ⟨S1x4096, .f32⟩
  | .hbm, ⟨6, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S2x4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![40], ![false]⟩

def k0_cond1 (i : grid0.Coords) : BitVec 1 :=
  let arg0 : BitVec 32 := BitVec.ofNat 32 (i 0).val
  let c8_i32_12 : BitVec 32 := 8#32
  let v30 : BitVec 1 := Scalar.cmpi .slt arg0 c8_i32_12
  let v31 : BitVec 32 := Scalar.extui v30
  let c0_i32_13 : BitVec 32 := 0#32
  let v32 : BitVec 1 := Scalar.cmpi .ne v31 c0_i32_13
  v32

def k0_mult1 (i : grid0.Coords) : BitVec 32 :=
  let arg0 : BitVec 32 := BitVec.ofNat 32 (i 0).val
  let c512_i32 : BitVec 32 := 512#32
  let v36 : BitVec 32 := Scalar.muli arg0 c512_i32
  v36
def k0_off1 (i : grid0.Coords) : Fin 3 → Nat :=
  let c0_17 : Index := 0#32
  let arg0 : BitVec 32 := BitVec.ofNat 32 (i 0).val
  let c512_i32 : BitVec 32 := 512#32
  let v36 : BitVec 32 := Scalar.muli arg0 c512_i32
  let v37 : BitVec 32 := v36
  let v40 : Index := Scalar.indexCast v37
  let c0_18 : Index := 0#32
  ![0, v40.toNat, 0]
def k0_cond2 (i : grid0.Coords) : BitVec 1 :=
  let arg0 : BitVec 32 := BitVec.ofNat 32 (i 0).val
  let c8_i32_14 : BitVec 32 := 8#32
  let v33 : BitVec 1 := Scalar.cmpi .sge arg0 c8_i32_14
  let v34 : BitVec 32 := Scalar.extui v33
  let c0_i32_15 : BitVec 32 := 0#32
  let v35 : BitVec 1 := Scalar.cmpi .ne v34 c0_i32_15
  v35

def k0_off2 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c8_i32_0 : BitVec 32 := 8#32
  let c0_i32_3 : BitVec 32 := 0#32
  let v8 : BitVec 1 := Scalar.cmpi .sgt c8_i32_0 c0_i32_3
  let v9 : BitVec 32 := Scalar.extui v8
  let c0_i32_4 : BitVec 32 := 0#32
  let v10 : BitVec 1 := Scalar.cmpi .slt c8_i32_0 c0_i32_4
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_5 : BitVec 32 := 0#32
  let v15 : BitVec 1 := Scalar.cmpi .ne v14 c0_i32_5
  let v16 : BitVec 1 := Scalar.andi v13 v15
  let v2 : BitVec 32 := Scalar.divsi v1 c8_i32_0
  let c1_i32 : BitVec 32 := 1#32
  let v17 : BitVec 32 := Scalar.subi v2 c1_i32
  let v18 : BitVec 32 := Scalar.select v16 v17 v2
  let c2_i32 : BitVec 32 := 2#32
  let c0_i32_16 : BitVec 32 := 0#32
  let v36 : BitVec 1 := Scalar.cmpi .eq c2_i32 c0_i32_16
  let c1_i32_17 : BitVec 32 := 1#32
  let v37 : BitVec 32 := Scalar.select v36 c1_i32_17 c2_i32
  let v38 : BitVec 32 := Scalar.remsi v18 v37
  let c0_i32_19 : BitVec 32 := 0#32
  let v40 : BitVec 1 := Scalar.cmpi .slt v38 c0_i32_19
  let c0_i32_20 : BitVec 32 := 0#32
  let v41 : BitVec 1 := Scalar.cmpi .slt v37 c0_i32_20
  let v42 : BitVec 1 := Scalar.xori v40 v41
  let c0_i32_18 : BitVec 32 := 0#32
  let v39 : BitVec 1 := Scalar.cmpi .ne v38 c0_i32_18
  let v43 : BitVec 1 := Scalar.andi v42 v39
  let v44 : BitVec 32 := Scalar.addi v38 v37
  let v45 : BitVec 32 := Scalar.select v43 v44 v38
  let v46 : Index := Scalar.indexCast v45
  let c0 : Index := 0#32
  let c0_21 : Index := 0#32
  ![v46.toNat, 0, 0]
def k0_mult2 (i : grid0.Coords) : BitVec 32 :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let c7_i32 : BitVec 32 := 7#32
  let v29 : BitVec 32 := Scalar.minsi v28 c7_i32
  let c512_i32 : BitVec 32 := 512#32
  let v69 : BitVec 32 := Scalar.muli v29 c512_i32
  v69
def k0_off3 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c8_i32_0 : BitVec 32 := 8#32
  let c0_i32_3 : BitVec 32 := 0#32
  let v8 : BitVec 1 := Scalar.cmpi .sgt c8_i32_0 c0_i32_3
  let v9 : BitVec 32 := Scalar.extui v8
  let c0_i32_4 : BitVec 32 := 0#32
  let v10 : BitVec 1 := Scalar.cmpi .slt c8_i32_0 c0_i32_4
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_5 : BitVec 32 := 0#32
  let v15 : BitVec 1 := Scalar.cmpi .ne v14 c0_i32_5
  let v16 : BitVec 1 := Scalar.andi v13 v15
  let v2 : BitVec 32 := Scalar.divsi v1 c8_i32_0
  let c1_i32 : BitVec 32 := 1#32
  let v17 : BitVec 32 := Scalar.subi v2 c1_i32
  let v18 : BitVec 32 := Scalar.select v16 v17 v2
  let c1_i32_30 : BitVec 32 := 1#32
  let v58 : BitVec 32 := Scalar.addi v18 c1_i32_30
  let c2_i32_31 : BitVec 32 := 2#32
  let c0_i32_32 : BitVec 32 := 0#32
  let v59 : BitVec 1 := Scalar.cmpi .eq c2_i32_31 c0_i32_32
  let c1_i32_33 : BitVec 32 := 1#32
  let v60 : BitVec 32 := Scalar.select v59 c1_i32_33 c2_i32_31
  let v61 : BitVec 32 := Scalar.remsi v58 v60
  let c0_i32_35 : BitVec 32 := 0#32
  let v63 : BitVec 1 := Scalar.cmpi .slt v61 c0_i32_35
  let c0_i32_36 : BitVec 32 := 0#32
  let v64 : BitVec 1 := Scalar.cmpi .slt v60 c0_i32_36
  let v65 : BitVec 1 := Scalar.xori v63 v64
  let c0_i32_34 : BitVec 32 := 0#32
  let v62 : BitVec 1 := Scalar.cmpi .ne v61 c0_i32_34
  let v66 : BitVec 1 := Scalar.andi v65 v62
  let v67 : BitVec 32 := Scalar.addi v61 v60
  let v68 : BitVec 32 := Scalar.select v66 v67 v61
  let v73 : Index := Scalar.indexCast v68
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let c7_i32 : BitVec 32 := 7#32
  let v29 : BitVec 32 := Scalar.minsi v28 c7_i32
  let c512_i32 : BitVec 32 := 512#32
  let v69 : BitVec 32 := Scalar.muli v29 c512_i32
  let v70 : BitVec 32 := v69
  let v74 : Index := Scalar.indexCast v70
  let c0_39 : Index := 0#32
  ![v73.toNat, v74.toNat, 0]
def cc0_transform_0 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 32 := Scalar.divsi v1 c8_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_0 c0_i32_3
  let v9 : BitVec 32 := Scalar.extui v8
  let c0_i32_4 : BitVec 32 := 0#32
  let v10 : BitVec 1 := Scalar.cmpi .slt c8_i32_0 c0_i32_4
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c8_i32_12 : BitVec 32 := 8#32
  let v29 : BitVec 1 := Scalar.cmpi .slt arg0 c8_i32_12
  let c3_i32 : BitVec 32 := 3#32
  let v30 : BitVec 1 := Scalar.cmpi .eq v18 c3_i32
  let c1_i32_13 : BitVec 32 := 1#32
  let v31 : BitVec 32 := Scalar.addi v18 c1_i32_13
  let c3_i32_14 : BitVec 32 := 3#32
  let v32 : BitVec 32 := Scalar.minsi v31 c3_i32_14
  let c0_i32_15 : BitVec 32 := 0#32
  let v33 : BitVec 32 := Scalar.select v29 c0_i32_15 v32
  let c7_i32 : BitVec 32 := 7#32
  let v34 : BitVec 32 := Scalar.minsi v28 c7_i32
  let c7_i32_16 : BitVec 32 := 7#32
  let v35 : BitVec 32 := Scalar.select v30 c7_i32_16 v34
  let v36 : BitVec 32 := Scalar.select v29 arg0 v35
  let c0_i32_17 : BitVec 32 := 0#32
  let c0_i32_18 : BitVec 32 := 0#32
  ![v28.toNat, c0_i32_17.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 32 := Scalar.divsi v1 c8_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_0 c0_i32_3
  let v9 : BitVec 32 := Scalar.extui v8
  let c0_i32_4 : BitVec 32 := 0#32
  let v10 : BitVec 1 := Scalar.cmpi .slt c8_i32_0 c0_i32_4
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c8_i32_12 : BitVec 32 := 8#32
  let v29 : BitVec 1 := Scalar.cmpi .slt arg0 c8_i32_12
  let c3_i32 : BitVec 32 := 3#32
  let v30 : BitVec 1 := Scalar.cmpi .eq v18 c3_i32
  let c1_i32_13 : BitVec 32 := 1#32
  let v31 : BitVec 32 := Scalar.addi v18 c1_i32_13
  let c3_i32_14 : BitVec 32 := 3#32
  let v32 : BitVec 32 := Scalar.minsi v31 c3_i32_14
  let c0_i32_15 : BitVec 32 := 0#32
  let v33 : BitVec 32 := Scalar.select v29 c0_i32_15 v32
  let c7_i32 : BitVec 32 := 7#32
  let v34 : BitVec 32 := Scalar.minsi v28 c7_i32
  let c7_i32_16 : BitVec 32 := 7#32
  let v35 : BitVec 32 := Scalar.select v30 c7_i32_16 v34
  let v36 : BitVec 32 := Scalar.select v29 arg0 v35
  let c0_i32_17 : BitVec 32 := 0#32
  let v37 : BitVec 32 := Scalar.addi c0_i32_17 v33
  let c0_i32_18 : BitVec 32 := 0#32
  ![v36.toNat, v37.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 32 := Scalar.divsi v1 c8_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_0 c0_i32_3
  let v9 : BitVec 32 := Scalar.extui v8
  let c0_i32_4 : BitVec 32 := 0#32
  let v10 : BitVec 1 := Scalar.cmpi .slt c8_i32_0 c0_i32_4
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c8_i32_12 : BitVec 32 := 8#32
  let v29 : BitVec 1 := Scalar.cmpi .slt arg0 c8_i32_12
  let c3_i32 : BitVec 32 := 3#32
  let v30 : BitVec 1 := Scalar.cmpi .eq v18 c3_i32
  let c1_i32_13 : BitVec 32 := 1#32
  let v31 : BitVec 32 := Scalar.addi v18 c1_i32_13
  let c3_i32_14 : BitVec 32 := 3#32
  let v32 : BitVec 32 := Scalar.minsi v31 c3_i32_14
  let c0_i32_15 : BitVec 32 := 0#32
  let v33 : BitVec 32 := Scalar.select v29 c0_i32_15 v32
  let c7_i32 : BitVec 32 := 7#32
  let v34 : BitVec 32 := Scalar.minsi v28 c7_i32
  let c7_i32_16 : BitVec 32 := 7#32
  let v35 : BitVec 32 := Scalar.select v30 c7_i32_16 v34
  let v36 : BitVec 32 := Scalar.select v29 arg0 v35
  let c0_i32_17 : BitVec 32 := 0#32
  ![v28.toNat, v18.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 32 := Scalar.divsi v1 c8_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_0 c0_i32_3
  let v9 : BitVec 32 := Scalar.extui v8
  let c0_i32_4 : BitVec 32 := 0#32
  let v10 : BitVec 1 := Scalar.cmpi .slt c8_i32_0 c0_i32_4
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c8_i32_12 : BitVec 32 := 8#32
  let v29 : BitVec 1 := Scalar.cmpi .slt arg0 c8_i32_12
  let c3_i32 : BitVec 32 := 3#32
  let v30 : BitVec 1 := Scalar.cmpi .eq v18 c3_i32
  let c1_i32_13 : BitVec 32 := 1#32
  let v31 : BitVec 32 := Scalar.addi v18 c1_i32_13
  let c3_i32_14 : BitVec 32 := 3#32
  let v32 : BitVec 32 := Scalar.minsi v31 c3_i32_14
  let c0_i32_15 : BitVec 32 := 0#32
  let v33 : BitVec 32 := Scalar.select v29 c0_i32_15 v32
  let c7_i32 : BitVec 32 := 7#32
  let v34 : BitVec 32 := Scalar.minsi v28 c7_i32
  let c7_i32_16 : BitVec 32 := 7#32
  let v35 : BitVec 32 := Scalar.select v30 c7_i32_16 v34
  let v36 : BitVec 32 := Scalar.select v29 arg0 v35
  let c0_i32_17 : BitVec 32 := 0#32
  let c0_i32_18 : BitVec 32 := 0#32
  ![c0_i32_17.toNat, v18.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 32 := Scalar.divsi v1 c8_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_0 c0_i32_3
  let v9 : BitVec 32 := Scalar.extui v8
  let c0_i32_4 : BitVec 32 := 0#32
  let v10 : BitVec 1 := Scalar.cmpi .slt c8_i32_0 c0_i32_4
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c8_i32_12 : BitVec 32 := 8#32
  let v29 : BitVec 1 := Scalar.cmpi .slt arg0 c8_i32_12
  let c3_i32 : BitVec 32 := 3#32
  let v30 : BitVec 1 := Scalar.cmpi .eq v18 c3_i32
  let c1_i32_13 : BitVec 32 := 1#32
  let v31 : BitVec 32 := Scalar.addi v18 c1_i32_13
  let c3_i32_14 : BitVec 32 := 3#32
  let v32 : BitVec 32 := Scalar.minsi v31 c3_i32_14
  let c0_i32_15 : BitVec 32 := 0#32
  let v33 : BitVec 32 := Scalar.select v29 c0_i32_15 v32
  let c7_i32 : BitVec 32 := 7#32
  let v34 : BitVec 32 := Scalar.minsi v28 c7_i32
  let c7_i32_16 : BitVec 32 := 7#32
  let v35 : BitVec 32 := Scalar.select v30 c7_i32_16 v34
  let v36 : BitVec 32 := Scalar.select v29 arg0 v35
  let c0_i32_17 : BitVec 32 := 0#32
  ![v28.toNat, v18.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S8192x4096 : Shape := ⟨2, ![8192, 4096]⟩
abbrev S4096x4096 : Shape := ⟨2, ![4096, 4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S1x4096, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel4.lean ====
abbrev S8192x2048 : Shape := ⟨2, ![8192, 2048]⟩
abbrev S8192x8192 : Shape := ⟨2, ![8192, 8192]⟩
abbrev S2048x4096 : Shape := ⟨2, ![2048, 4096]⟩
abbrev S8192x4096 : Shape := ⟨2, ![8192, 4096]⟩
abbrev S1024x2048 : Shape := ⟨2, ![1024, 2048]⟩
abbrev S1024x1024 : Shape := ⟨2, ![1024, 1024]⟩
abbrev S256x1024 : Shape := ⟨2, ![256, 1024]⟩
abbrev S2x2048x1024 : Shape := ⟨3, ![2, 2048, 1024]⟩
abbrev S1x256x1024 : Shape := ⟨3, ![1, 256, 1024]⟩
abbrev S1x2048x1024 : Shape := ⟨3, ![1, 2048, 1024]⟩
abbrev S2048x1024 : Shape := ⟨2, ![2048, 1024]⟩

abbrev nBuf : Space → Nat
  | .hbm => 6
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x8192, .bf16⟩
  | .hbm, ⟨3, _⟩ => ⟨S2048x4096, .f32⟩
  | .hbm, ⟨4, _⟩ => ⟨S2048x4096, .f32⟩
  | .hbm, ⟨5, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1024x1024, .bf16⟩
  | .local _ .vmem, ⟨13, _⟩ => ⟨S1024x1024, .bf16⟩
  | .local _ .vmem, ⟨14, _⟩ => ⟨S2x2048x1024, .bf16⟩
  | .local _ .vmem, ⟨15, _⟩ => ⟨S2x2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![40], ![false]⟩

def k0_cond1 (i : grid0.Coords) : BitVec 1 :=
  let arg0 : BitVec 32 := BitVec.ofNat 32 (i 0).val
  let c8_i32_12 : BitVec 32 := 8#32
  let v30 : BitVec 1 := Scalar.cmpi .slt arg0 c8_i32_12
  let v31 : BitVec 32 := Scalar.extui v30
  let c0_i32_13 : BitVec 32 := 0#32
  let v32 : BitVec 1 := Scalar.cmpi .ne v31 c0_i32_13
  v32

def k0_mult1 (i : grid0.Coords) : BitVec 32 :=
  let arg0 : BitVec 32 := BitVec.ofNat 32 (i 0).val
  let c256_i32 : BitVec 32 := 256#32
  let v36 : BitVec 32 := Scalar.muli arg0 c256_i32
  v36
def k0_off1 (i : grid0.Coords) : Fin 3 → Nat :=
  let c0_17 : Index := 0#32
  let arg0 : BitVec 32 := BitVec.ofNat 32 (i 0).val
  let c256_i32 : BitVec 32 := 256#32
  let v36 : BitVec 32 := Scalar.muli arg0 c256_i32
  let v37 : BitVec 32 := v36
  let v40 : Index := Scalar.indexCast v37
  let c0_18 : Index := 0#32
  ![0, v40.toNat, 0]
def k0_cond2 (i : grid0.Coords) : BitVec 1 :=
  let arg0 : BitVec 32 := BitVec.ofNat 32 (i 0).val
  let c8_i32_14 : BitVec 32 := 8#32
  let v33 : BitVec 1 := Scalar.cmpi .sge arg0 c8_i32_14
  let v34 : BitVec 32 := Scalar.extui v33
  let c0_i32_15 : BitVec 32 := 0#32
  let v35 : BitVec 1 := Scalar.cmpi .ne v34 c0_i32_15
  v35

def k0_off2 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c8_i32_0 : BitVec 32 := 8#32
  let c0_i32_3 : BitVec 32 := 0#32
  let v8 : BitVec 1 := Scalar.cmpi .sgt c8_i32_0 c0_i32_3
  let v9 : BitVec 32 := Scalar.extui v8
  let c0_i32_4 : BitVec 32 := 0#32
  let v10 : BitVec 1 := Scalar.cmpi .slt c8_i32_0 c0_i32_4
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_5 : BitVec 32 := 0#32
  let v15 : BitVec 1 := Scalar.cmpi .ne v14 c0_i32_5
  let v16 : BitVec 1 := Scalar.andi v13 v15
  let v2 : BitVec 32 := Scalar.divsi v1 c8_i32_0
  let c1_i32 : BitVec 32 := 1#32
  let v17 : BitVec 32 := Scalar.subi v2 c1_i32
  let v18 : BitVec 32 := Scalar.select v16 v17 v2
  let c2_i32 : BitVec 32 := 2#32
  let c0_i32_17 : BitVec 32 := 0#32
  let v37 : BitVec 1 := Scalar.cmpi .eq c2_i32 c0_i32_17
  let c1_i32_18 : BitVec 32 := 1#32
  let v38 : BitVec 32 := Scalar.select v37 c1_i32_18 c2_i32
  let v39 : BitVec 32 := Scalar.remsi v18 v38
  let c0_i32_20 : BitVec 32 := 0#32
  let v41 : BitVec 1 := Scalar.cmpi .slt v39 c0_i32_20
  let c0_i32_21 : BitVec 32 := 0#32
  let v42 : BitVec 1 := Scalar.cmpi .slt v38 c0_i32_21
  let v43 : BitVec 1 := Scalar.xori v41 v42
  let c0_i32_19 : BitVec 32 := 0#32
  let v40 : BitVec 1 := Scalar.cmpi .ne v39 c0_i32_19
  let v44 : BitVec 1 := Scalar.andi v43 v40
  let v45 : BitVec 32 := Scalar.addi v39 v38
  let v46 : BitVec 32 := Scalar.select v44 v45 v39
  let v47 : Index := Scalar.indexCast v46
  let c0_22 : Index := 0#32
  let c0_23 : Index := 0#32
  ![v47.toNat, 0, 0]
def k0_mult2 (i : grid0.Coords) : BitVec 32 :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let c7_i32 : BitVec 32 := 7#32
  let v29 : BitVec 32 := Scalar.minsi v28 c7_i32
  let c256_i32 : BitVec 32 := 256#32
  let v86 : BitVec 32 := Scalar.muli v29 c256_i32
  v86
def k0_off3 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c8_i32_0 : BitVec 32 := 8#32
  let c0_i32_3 : BitVec 32 := 0#32
  let v8 : BitVec 1 := Scalar.cmpi .sgt c8_i32_0 c0_i32_3
  let v9 : BitVec 32 := Scalar.extui v8
  let c0_i32_4 : BitVec 32 := 0#32
  let v10 : BitVec 1 := Scalar.cmpi .slt c8_i32_0 c0_i32_4
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_5 : BitVec 32 := 0#32
  let v15 : BitVec 1 := Scalar.cmpi .ne v14 c0_i32_5
  let v16 : BitVec 1 := Scalar.andi v13 v15
  let v2 : BitVec 32 := Scalar.divsi v1 c8_i32_0
  let c1_i32 : BitVec 32 := 1#32
  let v17 : BitVec 32 := Scalar.subi v2 c1_i32
  let v18 : BitVec 32 := Scalar.select v16 v17 v2
  let c1_i32_41 : BitVec 32 := 1#32
  let v75 : BitVec 32 := Scalar.addi v18 c1_i32_41
  let c2_i32_42 : BitVec 32 := 2#32
  let c0_i32_43 : BitVec 32 := 0#32
  let v76 : BitVec 1 := Scalar.cmpi .eq c2_i32_42 c0_i32_43
  let c1_i32_44 : BitVec 32 := 1#32
  let v77 : BitVec 32 := Scalar.select v76 c1_i32_44 c2_i32_42
  let v78 : BitVec 32 := Scalar.remsi v75 v77
  let c0_i32_46 : BitVec 32 := 0#32
  let v80 : BitVec 1 := Scalar.cmpi .slt v78 c0_i32_46
  let c0_i32_47 : BitVec 32 := 0#32
  let v81 : BitVec 1 := Scalar.cmpi .slt v77 c0_i32_47
  let v82 : BitVec 1 := Scalar.xori v80 v81
  let c0_i32_45 : BitVec 32 := 0#32
  let v79 : BitVec 1 := Scalar.cmpi .ne v78 c0_i32_45
  let v83 : BitVec 1 := Scalar.andi v82 v79
  let v84 : BitVec 32 := Scalar.addi v78 v77
  let v85 : BitVec 32 := Scalar.select v83 v84 v78
  let v90 : Index := Scalar.indexCast v85
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let c7_i32 : BitVec 32 := 7#32
  let v29 : BitVec 32 := Scalar.minsi v28 c7_i32
  let c256_i32 : BitVec 32 := 256#32
  let v86 : BitVec 32 := Scalar.muli v29 c256_i32
  let v87 : BitVec 32 := v86
  let v91 : Index := Scalar.indexCast v87
  let c0_50 : Index := 0#32
  ![v90.toNat, v91.toNat, 0]
def cc0_transform_0 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 32 := Scalar.divsi v1 c8_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_0 c0_i32_3
  let v9 : BitVec 32 := Scalar.extui v8
  let c0_i32_4 : BitVec 32 := 0#32
  let v10 : BitVec 1 := Scalar.cmpi .slt c8_i32_0 c0_i32_4
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c8_i32_12 : BitVec 32 := 8#32
  let v29 : BitVec 1 := Scalar.cmpi .slt arg0 c8_i32_12
  let c3_i32 : BitVec 32 := 3#32
  let v30 : BitVec 1 := Scalar.cmpi .eq v18 c3_i32
  let c1_i32_13 : BitVec 32 := 1#32
  let v31 : BitVec 32 := Scalar.addi v18 c1_i32_13
  let c3_i32_14 : BitVec 32 := 3#32
  let v32 : BitVec 32 := Scalar.minsi v31 c3_i32_14
  let c0_i32_15 : BitVec 32 := 0#32
  let v33 : BitVec 32 := Scalar.select v29 c0_i32_15 v32
  let c7_i32 : BitVec 32 := 7#32
  let v34 : BitVec 32 := Scalar.minsi v28 c7_i32
  let c7_i32_16 : BitVec 32 := 7#32
  let v35 : BitVec 32 := Scalar.select v30 c7_i32_16 v34
  let v36 : BitVec 32 := Scalar.select v29 arg0 v35
  let c0_i32_17 : BitVec 32 := 0#32
  let c0_i32_18 : BitVec 32 := 0#32
  ![v28.toNat, c0_i32_17.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 32 := Scalar.divsi v1 c8_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_0 c0_i32_3
  let v9 : BitVec 32 := Scalar.extui v8
  let c0_i32_4 : BitVec 32 := 0#32
  let v10 : BitVec 1 := Scalar.cmpi .slt c8_i32_0 c0_i32_4
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c8_i32_12 : BitVec 32 := 8#32
  let v29 : BitVec 1 := Scalar.cmpi .slt arg0 c8_i32_12
  let c3_i32 : BitVec 32 := 3#32
  let v30 : BitVec 1 := Scalar.cmpi .eq v18 c3_i32
  let c1_i32_13 : BitVec 32 := 1#32
  let v31 : BitVec 32 := Scalar.addi v18 c1_i32_13
  let c3_i32_14 : BitVec 32 := 3#32
  let v32 : BitVec 32 := Scalar.minsi v31 c3_i32_14
  let c0_i32_15 : BitVec 32 := 0#32
  let v33 : BitVec 32 := Scalar.select v29 c0_i32_15 v32
  let c7_i32 : BitVec 32 := 7#32
  let v34 : BitVec 32 := Scalar.minsi v28 c7_i32
  let c7_i32_16 : BitVec 32 := 7#32
  let v35 : BitVec 32 := Scalar.select v30 c7_i32_16 v34
  let v36 : BitVec 32 := Scalar.select v29 arg0 v35
  let c0_i32_17 : BitVec 32 := 0#32
  let c0_i32_18 : BitVec 32 := 0#32
  ![v28.toNat, c0_i32_17.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 32 := Scalar.divsi v1 c8_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_0 c0_i32_3
  let v9 : BitVec 32 := Scalar.extui v8
  let c0_i32_4 : BitVec 32 := 0#32
  let v10 : BitVec 1 := Scalar.cmpi .slt c8_i32_0 c0_i32_4
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c8_i32_12 : BitVec 32 := 8#32
  let v29 : BitVec 1 := Scalar.cmpi .slt arg0 c8_i32_12
  let c3_i32 : BitVec 32 := 3#32
  let v30 : BitVec 1 := Scalar.cmpi .eq v18 c3_i32
  let c1_i32_13 : BitVec 32 := 1#32
  let v31 : BitVec 32 := Scalar.addi v18 c1_i32_13
  let c3_i32_14 : BitVec 32 := 3#32
  let v32 : BitVec 32 := Scalar.minsi v31 c3_i32_14
  let c0_i32_15 : BitVec 32 := 0#32
  let v33 : BitVec 32 := Scalar.select v29 c0_i32_15 v32
  let c7_i32 : BitVec 32 := 7#32
  let v34 : BitVec 32 := Scalar.minsi v28 c7_i32
  let c7_i32_16 : BitVec 32 := 7#32
  let v35 : BitVec 32 := Scalar.select v30 c7_i32_16 v34
  let v36 : BitVec 32 := Scalar.select v29 arg0 v35
  let c8_i32_17 : BitVec 32 := 8#32
  let v37 : BitVec 32 := Scalar.subi arg0 c8_i32_17
  let c0_i32_18 : BitVec 32 := 0#32
  let v38 : BitVec 32 := Scalar.maxsi v37 c0_i32_18
  let c8_i32_19 : BitVec 32 := 8#32
  let v39 : BitVec 32 := Scalar.divsi v38 c8_i32_19
  let c0_i32_20 : BitVec 32 := 0#32
  let v40 : BitVec 1 := Scalar.cmpi .sgt v38 c0_i32_20
  let v41 : BitVec 32 := Scalar.extui v40
  let c0_i32_21 : BitVec 32 := 0#32
  let v42 : BitVec 1 := Scalar.cmpi .slt v38 c0_i32_21
  let v43 : BitVec 32 := Scalar.extui v42
  let v44 : BitVec 32 := Scalar.subi v41 v43
  let c0_i32_22 : BitVec 32 := 0#32
  let v45 : BitVec 1 := Scalar.cmpi .sgt c8_i32_19 c0_i32_22
  let v46 : BitVec 32 := Scalar.extui v45
  let c0_i32_23 : BitVec 32 := 0#32
  let v47 : BitVec 1 := Scalar.cmpi .slt c8_i32_19 c0_i32_23
  let v48 : BitVec 32 := Scalar.extui v47
  let v49 : BitVec 32 := Scalar.subi v46 v48
  let v50 : BitVec 1 := Scalar.cmpi .ne v44 v49
  let v51 : BitVec 32 := Scalar.remsi v38 c8_i32_19
  let c0_i32_24 : BitVec 32 := 0#32
  let v52 : BitVec 1 := Scalar.cmpi .ne v51 c0_i32_24
  let v53 : BitVec 1 := Scalar.andi v50 v52
  let c1_i32_25 : BitVec 32 := 1#32
  let v54 : BitVec 32 := Scalar.subi v39 c1_i32_25
  let v55 : BitVec 32 := Scalar.select v53 v54 v39
  let c8_i32_26 : BitVec 32 := 8#32
  let c0_i32_27 : BitVec 32 := 0#32
  let v56 : BitVec 1 := Scalar.cmpi .eq c8_i32_26 c0_i32_27
  let c1_i32_28 : BitVec 32 := 1#32
  let v57 : BitVec 32 := Scalar.select v56 c1_i32_28 c8_i32_26
  let v58 : BitVec 32 := Scalar.remsi v38 v57
  let c0_i32_29 : BitVec 32 := 0#32
  let v59 : BitVec 1 := Scalar.cmpi .ne v58 c0_i32_29
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let v63 : BitVec 1 := Scalar.andi v62 v59
  let v64 : BitVec 32 := Scalar.addi v58 v57
  let v65 : BitVec 32 := Scalar.select v63 v64 v58
  let c8_i32_32 : BitVec 32 := 8#32
  let v66 : BitVec 1 := Scalar.cmpi .slt arg0 c8_i32_32
  let c3_i32_33 : BitVec 32 := 3#32
  let v67 : BitVec 1 := Scalar.cmpi .eq v55 c3_i32_33
  let c1_i32_34 : BitVec 32 := 1#32
  let v68 : BitVec 32 := Scalar.addi v55 c1_i32_34
  let c3_i32_35 : BitVec 32 := 3#32
  let v69 : BitVec 32 := Scalar.minsi v68 c3_i32_35
  let c0_i32_36 : BitVec 32 := 0#32
  let v70 : BitVec 32 := Scalar.select v66 c0_i32_36 v69
  let c7_i32_37 : BitVec 32 := 7#32
  let v71 : BitVec 32 := Scalar.minsi v65 c7_i32_37
  let c7_i32_38 : BitVec 32 := 7#32
  let v72 : BitVec 32 := Scalar.select v67 c7_i32_38 v71
  let v73 : BitVec 32 := Scalar.select v66 arg0 v72
  let c0_i32_39 : BitVec 32 := 0#32
  ![v28.toNat, v55.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 32 := Scalar.divsi v1 c8_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_0 c0_i32_3
  let v9 : BitVec 32 := Scalar.extui v8
  let c0_i32_4 : BitVec 32 := 0#32
  let v10 : BitVec 1 := Scalar.cmpi .slt c8_i32_0 c0_i32_4
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c8_i32_12 : BitVec 32 := 8#32
  let v29 : BitVec 1 := Scalar.cmpi .slt arg0 c8_i32_12
  let c3_i32 : BitVec 32 := 3#32
  let v30 : BitVec 1 := Scalar.cmpi .eq v18 c3_i32
  let c1_i32_13 : BitVec 32 := 1#32
  let v31 : BitVec 32 := Scalar.addi v18 c1_i32_13
  let c3_i32_14 : BitVec 32 := 3#32
  let v32 : BitVec 32 := Scalar.minsi v31 c3_i32_14
  let c0_i32_15 : BitVec 32 := 0#32
  let v33 : BitVec 32 := Scalar.select v29 c0_i32_15 v32
  let c7_i32 : BitVec 32 := 7#32
  let v34 : BitVec 32 := Scalar.minsi v28 c7_i32
  let c7_i32_16 : BitVec 32 := 7#32
  let v35 : BitVec 32 := Scalar.select v30 c7_i32_16 v34
  let v36 : BitVec 32 := Scalar.select v29 arg0 v35
  let c8_i32_17 : BitVec 32 := 8#32
  let v37 : BitVec 32 := Scalar.subi arg0 c8_i32_17
  let c0_i32_18 : BitVec 32 := 0#32
  let v38 : BitVec 32 := Scalar.maxsi v37 c0_i32_18
  let c8_i32_19 : BitVec 32 := 8#32
  let v39 : BitVec 32 := Scalar.divsi v38 c8_i32_19
  let c0_i32_20 : BitVec 32 := 0#32
  let v40 : BitVec 1 := Scalar.cmpi .sgt v38 c0_i32_20
  let v41 : BitVec 32 := Scalar.extui v40
  let c0_i32_21 : BitVec 32 := 0#32
  let v42 : BitVec 1 := Scalar.cmpi .slt v38 c0_i32_21
  let v43 : BitVec 32 := Scalar.extui v42
  let v44 : BitVec 32 := Scalar.subi v41 v43
  let c0_i32_22 : BitVec 32 := 0#32
  let v45 : BitVec 1 := Scalar.cmpi .sgt c8_i32_19 c0_i32_22
  let v46 : BitVec 32 := Scalar.extui v45
  let c0_i32_23 : BitVec 32 := 0#32
  let v47 : BitVec 1 := Scalar.cmpi .slt c8_i32_19 c0_i32_23
  let v48 : BitVec 32 := Scalar.extui v47
  let v49 : BitVec 32 := Scalar.subi v46 v48
  let v50 : BitVec 1 := Scalar.cmpi .ne v44 v49
  let v51 : BitVec 32 := Scalar.remsi v38 c8_i32_19
  let c0_i32_24 : BitVec 32 := 0#32
  let v52 : BitVec 1 := Scalar.cmpi .ne v51 c0_i32_24
  let v53 : BitVec 1 := Scalar.andi v50 v52
  let c1_i32_25 : BitVec 32 := 1#32
  let v54 : BitVec 32 := Scalar.subi v39 c1_i32_25
  let v55 : BitVec 32 := Scalar.select v53 v54 v39
  let c8_i32_26 : BitVec 32 := 8#32
  let c0_i32_27 : BitVec 32 := 0#32
  let v56 : BitVec 1 := Scalar.cmpi .eq c8_i32_26 c0_i32_27
  let c1_i32_28 : BitVec 32 := 1#32
  let v57 : BitVec 32 := Scalar.select v56 c1_i32_28 c8_i32_26
  let v58 : BitVec 32 := Scalar.remsi v38 v57
  let c0_i32_29 : BitVec 32 := 0#32
  let v59 : BitVec 1 := Scalar.cmpi .ne v58 c0_i32_29
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let v63 : BitVec 1 := Scalar.andi v62 v59
  let v64 : BitVec 32 := Scalar.addi v58 v57
  let v65 : BitVec 32 := Scalar.select v63 v64 v58
  let c8_i32_32 : BitVec 32 := 8#32
  let v66 : BitVec 1 := Scalar.cmpi .slt arg0 c8_i32_32
  let c3_i32_33 : BitVec 32 := 3#32
  let v67 : BitVec 1 := Scalar.cmpi .eq v55 c3_i32_33
  let c1_i32_34 : BitVec 32 := 1#32
  let v68 : BitVec 32 := Scalar.addi v55 c1_i32_34
  let c3_i32_35 : BitVec 32 := 3#32
  let v69 : BitVec 32 := Scalar.minsi v68 c3_i32_35
  let c0_i32_36 : BitVec 32 := 0#32
  let v70 : BitVec 32 := Scalar.select v66 c0_i32_36 v69
  let c7_i32_37 : BitVec 32 := 7#32
  let v71 : BitVec 32 := Scalar.minsi v65 c7_i32_37
  let c7_i32_38 : BitVec 32 := 7#32
  let v72 : BitVec 32 := Scalar.select v67 c7_i32_38 v71
  let v73 : BitVec 32 := Scalar.select v66 arg0 v72
  let c4_i32 : BitVec 32 := 4#32
  let v74 : BitVec 32 := Scalar.addi c4_i32 v55
  let c0_i32_39 : BitVec 32 := 0#32
  ![v28.toNat, v74.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 32 := Scalar.divsi v1 c8_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_0 c0_i32_3
  let v9 : BitVec 32 := Scalar.extui v8
  let c0_i32_4 : BitVec 32 := 0#32
  let v10 : BitVec 1 := Scalar.cmpi .slt c8_i32_0 c0_i32_4
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c8_i32_12 : BitVec 32 := 8#32
  let v29 : BitVec 1 := Scalar.cmpi .slt arg0 c8_i32_12
  let c3_i32 : BitVec 32 := 3#32
  let v30 : BitVec 1 := Scalar.cmpi .eq v18 c3_i32
  let c1_i32_13 : BitVec 32 := 1#32
  let v31 : BitVec 32 := Scalar.addi v18 c1_i32_13
  let c3_i32_14 : BitVec 32 := 3#32
  let v32 : BitVec 32 := Scalar.minsi v31 c3_i32_14
  let c0_i32_15 : BitVec 32 := 0#32
  let v33 : BitVec 32 := Scalar.select v29 c0_i32_15 v32
  let c7_i32 : BitVec 32 := 7#32
  let v34 : BitVec 32 := Scalar.minsi v28 c7_i32
  let c7_i32_16 : BitVec 32 := 7#32
  let v35 : BitVec 32 := Scalar.select v30 c7_i32_16 v34
  let v36 : BitVec 32 := Scalar.select v29 arg0 v35
  let c8_i32_17 : BitVec 32 := 8#32
  let v37 : BitVec 32 := Scalar.subi arg0 c8_i32_17
  let c0_i32_18 : BitVec 32 := 0#32
  let v38 : BitVec 32 := Scalar.maxsi v37 c0_i32_18
  let c8_i32_19 : BitVec 32 := 8#32
  let v39 : BitVec 32 := Scalar.divsi v38 c8_i32_19
  let c0_i32_20 : BitVec 32 := 0#32
  let v40 : BitVec 1 := Scalar.cmpi .sgt v38 c0_i32_20
  let v41 : BitVec 32 := Scalar.extui v40
  let c0_i32_21 : BitVec 32 := 0#32
  let v42 : BitVec 1 := Scalar.cmpi .slt v38 c0_i32_21
  let v43 : BitVec 32 := Scalar.extui v42
  let v44 : BitVec 32 := Scalar.subi v41 v43
  let c0_i32_22 : BitVec 32 := 0#32
  let v45 : BitVec 1 := Scalar.cmpi .sgt c8_i32_19 c0_i32_22
  let v46 : BitVec 32 := Scalar.extui v45
  let c0_i32_23 : BitVec 32 := 0#32
  let v47 : BitVec 1 := Scalar.cmpi .slt c8_i32_19 c0_i32_23
  let v48 : BitVec 32 := Scalar.extui v47
  let v49 : BitVec 32 := Scalar.subi v46 v48
  let v50 : BitVec 1 := Scalar.cmpi .ne v44 v49
  let v51 : BitVec 32 := Scalar.remsi v38 c8_i32_19
  let c0_i32_24 : BitVec 32 := 0#32
  let v52 : BitVec 1 := Scalar.cmpi .ne v51 c0_i32_24
  let v53 : BitVec 1 := Scalar.andi v50 v52
  let c1_i32_25 : BitVec 32 := 1#32
  let v54 : BitVec 32 := Scalar.subi v39 c1_i32_25
  let v55 : BitVec 32 := Scalar.select v53 v54 v39
  let c8_i32_26 : BitVec 32 := 8#32
  let c0_i32_27 : BitVec 32 := 0#32
  let v56 : BitVec 1 := Scalar.cmpi .eq c8_i32_26 c0_i32_27
  let c1_i32_28 : BitVec 32 := 1#32
  let v57 : BitVec 32 := Scalar.select v56 c1_i32_28 c8_i32_26
  let v58 : BitVec 32 := Scalar.remsi v38 v57
  let c0_i32_29 : BitVec 32 := 0#32
  let v59 : BitVec 1 := Scalar.cmpi .ne v58 c0_i32_29
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let v63 : BitVec 1 := Scalar.andi v62 v59
  let v64 : BitVec 32 := Scalar.addi v58 v57
  let v65 : BitVec 32 := Scalar.select v63 v64 v58
  let c8_i32_32 : BitVec 32 := 8#32
  let v66 : BitVec 1 := Scalar.cmpi .slt arg0 c8_i32_32
  let c3_i32_33 : BitVec 32 := 3#32
  let v67 : BitVec 1 := Scalar.cmpi .eq v55 c3_i32_33
  let c1_i32_34 : BitVec 32 := 1#32
  let v68 : BitVec 32 := Scalar.addi v55 c1_i32_34
  let c3_i32_35 : BitVec 32 := 3#32
  let v69 : BitVec 32 := Scalar.minsi v68 c3_i32_35
  let c0_i32_36 : BitVec 32 := 0#32
  let v70 : BitVec 32 := Scalar.select v66 c0_i32_36 v69
  let c7_i32_37 : BitVec 32 := 7#32
  let v71 : BitVec 32 := Scalar.minsi v65 c7_i32_37
  let c7_i32_38 : BitVec 32 := 7#32
  let v72 : BitVec 32 := Scalar.select v67 c7_i32_38 v71
  let v73 : BitVec 32 := Scalar.select v66 arg0 v72
  let c0_i32_39 : BitVec 32 := 0#32
  ![v36.toNat, v70.toNat]

def cc0_transform_5 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 32 := Scalar.divsi v1 c8_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_0 c0_i32_3
  let v9 : BitVec 32 := Scalar.extui v8
  let c0_i32_4 : BitVec 32 := 0#32
  let v10 : BitVec 1 := Scalar.cmpi .slt c8_i32_0 c0_i32_4
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c8_i32_12 : BitVec 32 := 8#32
  let v29 : BitVec 1 := Scalar.cmpi .slt arg0 c8_i32_12
  let c3_i32 : BitVec 32 := 3#32
  let v30 : BitVec 1 := Scalar.cmpi .eq v18 c3_i32
  let c1_i32_13 : BitVec 32 := 1#32
  let v31 : BitVec 32 := Scalar.addi v18 c1_i32_13
  let c3_i32_14 : BitVec 32 := 3#32
  let v32 : BitVec 32 := Scalar.minsi v31 c3_i32_14
  let c0_i32_15 : BitVec 32 := 0#32
  let v33 : BitVec 32 := Scalar.select v29 c0_i32_15 v32
  let c7_i32 : BitVec 32 := 7#32
  let v34 : BitVec 32 := Scalar.minsi v28 c7_i32
  let c7_i32_16 : BitVec 32 := 7#32
  let v35 : BitVec 32 := Scalar.select v30 c7_i32_16 v34
  let v36 : BitVec 32 := Scalar.select v29 arg0 v35
  let c8_i32_17 : BitVec 32 := 8#32
  let v37 : BitVec 32 := Scalar.subi arg0 c8_i32_17
  let c0_i32_18 : BitVec 32 := 0#32
  let v38 : BitVec 32 := Scalar.maxsi v37 c0_i32_18
  let c8_i32_19 : BitVec 32 := 8#32
  let v39 : BitVec 32 := Scalar.divsi v38 c8_i32_19
  let c0_i32_20 : BitVec 32 := 0#32
  let v40 : BitVec 1 := Scalar.cmpi .sgt v38 c0_i32_20
  let v41 : BitVec 32 := Scalar.extui v40
  let c0_i32_21 : BitVec 32 := 0#32
  let v42 : BitVec 1 := Scalar.cmpi .slt v38 c0_i32_21
  let v43 : BitVec 32 := Scalar.extui v42
  let v44 : BitVec 32 := Scalar.subi v41 v43
  let c0_i32_22 : BitVec 32 := 0#32
  let v45 : BitVec 1 := Scalar.cmpi .sgt c8_i32_19 c0_i32_22
  let v46 : BitVec 32 := Scalar.extui v45
  let c0_i32_23 : BitVec 32 := 0#32
  let v47 : BitVec 1 := Scalar.cmpi .slt c8_i32_19 c0_i32_23
  let v48 : BitVec 32 := Scalar.extui v47
  let v49 : BitVec 32 := Scalar.subi v46 v48
  let v50 : BitVec 1 := Scalar.cmpi .ne v44 v49
  let v51 : BitVec 32 := Scalar.remsi v38 c8_i32_19
  let c0_i32_24 : BitVec 32 := 0#32
  let v52 : BitVec 1 := Scalar.cmpi .ne v51 c0_i32_24
  let v53 : BitVec 1 := Scalar.andi v50 v52
  let c1_i32_25 : BitVec 32 := 1#32
  let v54 : BitVec 32 := Scalar.subi v39 c1_i32_25
  let v55 : BitVec 32 := Scalar.select v53 v54 v39
  let c8_i32_26 : BitVec 32 := 8#32
  let c0_i32_27 : BitVec 32 := 0#32
  let v56 : BitVec 1 := Scalar.cmpi .eq c8_i32_26 c0_i32_27
  let c1_i32_28 : BitVec 32 := 1#32
  let v57 : BitVec 32 := Scalar.select v56 c1_i32_28 c8_i32_26
  let v58 : BitVec 32 := Scalar.remsi v38 v57
  let c0_i32_29 : BitVec 32 := 0#32
  let v59 : BitVec 1 := Scalar.cmpi .ne v58 c0_i32_29
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let v63 : BitVec 1 := Scalar.andi v62 v59
  let v64 : BitVec 32 := Scalar.addi v58 v57
  let v65 : BitVec 32 := Scalar.select v63 v64 v58
  let c8_i32_32 : BitVec 32 := 8#32
  let v66 : BitVec 1 := Scalar.cmpi .slt arg0 c8_i32_32
  let c3_i32_33 : BitVec 32 := 3#32
  let v67 : BitVec 1 := Scalar.cmpi .eq v55 c3_i32_33
  let c1_i32_34 : BitVec 32 := 1#32
  let v68 : BitVec 32 := Scalar.addi v55 c1_i32_34
  let c3_i32_35 : BitVec 32 := 3#32
  let v69 : BitVec 32 := Scalar.minsi v68 c3_i32_35
  let c0_i32_36 : BitVec 32 := 0#32
  let v70 : BitVec 32 := Scalar.select v66 c0_i32_36 v69
  let c7_i32_37 : BitVec 32 := 7#32
  let v71 : BitVec 32 := Scalar.minsi v65 c7_i32_37
  let c7_i32_38 : BitVec 32 := 7#32
  let v72 : BitVec 32 := Scalar.select v67 c7_i32_38 v71
  let v73 : BitVec 32 := Scalar.select v66 arg0 v72
  let c0_i32_39 : BitVec 32 := 0#32
  ![v36.toNat, v70.toNat]

def cc0_transform_6 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 32 := Scalar.divsi v1 c8_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_0 c0_i32_3
  let v9 : BitVec 32 := Scalar.extui v8
  let c0_i32_4 : BitVec 32 := 0#32
  let v10 : BitVec 1 := Scalar.cmpi .slt c8_i32_0 c0_i32_4
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c8_i32_12 : BitVec 32 := 8#32
  let v29 : BitVec 1 := Scalar.cmpi .slt arg0 c8_i32_12
  let c3_i32 : BitVec 32 := 3#32
  let v30 : BitVec 1 := Scalar.cmpi .eq v18 c3_i32
  let c1_i32_13 : BitVec 32 := 1#32
  let v31 : BitVec 32 := Scalar.addi v18 c1_i32_13
  let c3_i32_14 : BitVec 32 := 3#32
  let v32 : BitVec 32 := Scalar.minsi v31 c3_i32_14
  let c0_i32_15 : BitVec 32 := 0#32
  let v33 : BitVec 32 := Scalar.select v29 c0_i32_15 v32
  let c7_i32 : BitVec 32 := 7#32
  let v34 : BitVec 32 := Scalar.minsi v28 c7_i32
  let c7_i32_16 : BitVec 32 := 7#32
  let v35 : BitVec 32 := Scalar.select v30 c7_i32_16 v34
  let v36 : BitVec 32 := Scalar.select v29 arg0 v35
  let c8_i32_17 : BitVec 32 := 8#32
  let v37 : BitVec 32 := Scalar.subi arg0 c8_i32_17
  let c0_i32_18 : BitVec 32 := 0#32
  let v38 : BitVec 32 := Scalar.maxsi v37 c0_i32_18
  let c8_i32_19 : BitVec 32 := 8#32
  let v39 : BitVec 32 := Scalar.divsi v38 c8_i32_19
  let c0_i32_20 : BitVec 32 := 0#32
  let v40 : BitVec 1 := Scalar.cmpi .sgt v38 c0_i32_20
  let v41 : BitVec 32 := Scalar.extui v40
  let c0_i32_21 : BitVec 32 := 0#32
  let v42 : BitVec 1 := Scalar.cmpi .slt v38 c0_i32_21
  let v43 : BitVec 32 := Scalar.extui v42
  let v44 : BitVec 32 := Scalar.subi v41 v43
  let c0_i32_22 : BitVec 32 := 0#32
  let v45 : BitVec 1 := Scalar.cmpi .sgt c8_i32_19 c0_i32_22
  let v46 : BitVec 32 := Scalar.extui v45
  let c0_i32_23 : BitVec 32 := 0#32
  let v47 : BitVec 1 := Scalar.cmpi .slt c8_i32_19 c0_i32_23
  let v48 : BitVec 32 := Scalar.extui v47
  let v49 : BitVec 32 := Scalar.subi v46 v48
  let v50 : BitVec 1 := Scalar.cmpi .ne v44 v49
  let v51 : BitVec 32 := Scalar.remsi v38 c8_i32_19
  let c0_i32_24 : BitVec 32 := 0#32
  let v52 : BitVec 1 := Scalar.cmpi .ne v51 c0_i32_24
  let v53 : BitVec 1 := Scalar.andi v50 v52
  let c1_i32_25 : BitVec 32 := 1#32
  let v54 : BitVec 32 := Scalar.subi v39 c1_i32_25
  let v55 : BitVec 32 := Scalar.select v53 v54 v39
  let c8_i32_26 : BitVec 32 := 8#32
  let c0_i32_27 : BitVec 32 := 0#32
  let v56 : BitVec 1 := Scalar.cmpi .eq c8_i32_26 c0_i32_27
  let c1_i32_28 : BitVec 32 := 1#32
  let v57 : BitVec 32 := Scalar.select v56 c1_i32_28 c8_i32_26
  let v58 : BitVec 32 := Scalar.remsi v38 v57
  let c0_i32_29 : BitVec 32 := 0#32
  let v59 : BitVec 1 := Scalar.cmpi .ne v58 c0_i32_29
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let v63 : BitVec 1 := Scalar.andi v62 v59
  let v64 : BitVec 32 := Scalar.addi v58 v57
  let v65 : BitVec 32 := Scalar.select v63 v64 v58
  let c8_i32_32 : BitVec 32 := 8#32
  let v66 : BitVec 1 := Scalar.cmpi .slt arg0 c8_i32_32
  let c3_i32_33 : BitVec 32 := 3#32
  let v67 : BitVec 1 := Scalar.cmpi .eq v55 c3_i32_33
  let c1_i32_34 : BitVec 32 := 1#32
  let v68 : BitVec 32 := Scalar.addi v55 c1_i32_34
  let c3_i32_35 : BitVec 32 := 3#32
  let v69 : BitVec 32 := Scalar.minsi v68 c3_i32_35
  let c0_i32_36 : BitVec 32 := 0#32
  let v70 : BitVec 32 := Scalar.select v66 c0_i32_36 v69
  let c7_i32_37 : BitVec 32 := 7#32
  let v71 : BitVec 32 := Scalar.minsi v65 c7_i32_37
  let c7_i32_38 : BitVec 32 := 7#32
  let v72 : BitVec 32 := Scalar.select v67 c7_i32_38 v71
  let v73 : BitVec 32 := Scalar.select v66 arg0 v72
  let c0_i32_39 : BitVec 32 := 0#32
  ![v28.toNat, v55.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S8192x2048 : Shape := ⟨2, ![8192, 2048]⟩
abbrev S8192x8192 : Shape := ⟨2, ![8192, 8192]⟩
abbrev S2048x4096 : Shape := ⟨2, ![2048, 4096]⟩
abbrev S8192x4096 : Shape := ⟨2, ![8192, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x8192, .bf16⟩
  | .hbm, ⟨3, _⟩ => ⟨S2048x4096, .f32⟩
  | .hbm, ⟨4, _⟩ => ⟨S2048x4096, .f32⟩
  | .hbm, ⟨5, _⟩ => ⟨S8192x2048, .f32⟩
  | .hbm, ⟨6, _⟩ => ⟨S8192x4096, .f32⟩
  | .hbm, ⟨7, _⟩ => ⟨S8192x2048, .f32⟩
  | .hbm, ⟨8, _⟩ => ⟨S8192x4096, .f32⟩
  | .hbm, ⟨9, _⟩ => ⟨S8192x8192, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel5.lean ====
abbrev S8192x4096 : Shape := ⟨2, ![8192, 4096]⟩
abbrev S4096x12304 : Shape := ⟨2, ![4096, 12304]⟩
abbrev S12304x4096 : Shape := ⟨2, ![12304, 4096]⟩
abbrev S2048x8192 : Shape := ⟨2, ![2048, 8192]⟩
abbrev S1024x4096 : Shape := ⟨2, ![1024, 4096]⟩
abbrev S256x4096 : Shape := ⟨2, ![256, 4096]⟩
abbrev S1024x1024 : Shape := ⟨2, ![1024, 1024]⟩
abbrev S2x1024x4096 : Shape := ⟨3, ![2, 1024, 4096]⟩
abbrev S1x256x4096 : Shape := ⟨3, ![1, 256, 4096]⟩
abbrev S1x1024x4096 : Shape := ⟨3, ![1, 1024, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x12304, .f32⟩
  | .hbm, ⟨2, _⟩ => ⟨S12304x4096, .f32⟩
  | .hbm, ⟨3, _⟩ => ⟨S2048x8192, .bf16⟩
  | .local _ .vmem, ⟨0, _⟩ => ⟨S1024x4096, .bf16⟩
  | .local _ .vmem, ⟨1, _⟩ => ⟨S1024x4096, .bf16⟩
  | .local _ .vmem, ⟨2, _⟩ => ⟨S256x4096, .f32⟩
  | .local _ .vmem, ⟨3, _⟩ => ⟨S256x4096, .f32⟩
  | .local _ .vmem, ⟨4, _⟩ => ⟨S1024x1024, .bf16⟩
  | .local _ .vmem, ⟨5, _⟩ => ⟨S1024x1024, .bf16⟩
  | .local _ .vmem, ⟨6, _⟩ => ⟨S2x1024x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![20], ![false]⟩

def k0_mult1 (i : grid0.Coords) : BitVec 32 :=
  let c4096_i32 : BitVec 32 := 4096#32
  let arg0 : BitVec 32 := BitVec.ofNat 32 (i 0).val
  let c4_i32_11 : BitVec 32 := 4#32
  let v29 : BitVec 1 := Scalar.cmpi .slt arg0 c4_i32_11
  let c0_i32_15 : BitVec 32 := 0#32
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c8_i32 : BitVec 32 := 8#32
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c1_i32_13 : BitVec 32 := 1#32
  let v31 : BitVec 32 := Scalar.addi v18 c1_i32_13
  let c1_i32_14 : BitVec 32 := 1#32
  let v32 : BitVec 32 := Scalar.minsi v31 c1_i32_14
  let v33 : BitVec 32 := Scalar.select v29 c0_i32_15 v32
  let c1_i32_17 : BitVec 32 := 1#32
  let v37 : BitVec 1 := Scalar.cmpi .sge v33 c1_i32_17
  let c1024_i32 : BitVec 32 := 1024#32
  let c0_i32_18 : BitVec 32 := 0#32
  let v38 : BitVec 32 := Scalar.select v37 c1024_i32 c0_i32_18
  let v39 : BitVec 32 := Scalar.addi c4096_i32 v38
  let c1_i32_12 : BitVec 32 := 1#32
  let v30 : BitVec 1 := Scalar.cmpi .eq v18 c1_i32_12
  let c3_i32_16 : BitVec 32 := 3#32
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c3_i32 : BitVec 32 := 3#32
  let v34 : BitVec 32 := Scalar.minsi v28 c3_i32
  let v35 : BitVec 32 := Scalar.select v30 c3_i32_16 v34
  let v36 : BitVec 32 := Scalar.select v29 arg0 v35
  let c256_i32 : BitVec 32 := 256#32
  let v40 : BitVec 32 := Scalar.muli v36 c256_i32
  let v41 : BitVec 32 := Scalar.addi v39 v40
  v41
def k0_cond1 (i : grid0.Coords) : BitVec 1 :=
  let arg0 : BitVec 32 := BitVec.ofNat 32 (i 0).val
  let c4_i32_11 : BitVec 32 := 4#32
  let v30 : BitVec 1 := Scalar.cmpi .slt arg0 c4_i32_11
  let v31 : BitVec 32 := Scalar.extui v30
  let c0_i32_12 : BitVec 32 := 0#32
  let v32 : BitVec 1 := Scalar.cmpi .ne v31 c0_i32_12
  v32

def k0_mult2 (i : grid0.Coords) : BitVec 32 :=
  let arg0 : BitVec 32 := BitVec.ofNat 32 (i 0).val
  let c256_i32 : BitVec 32 := 256#32
  let v36 : BitVec 32 := Scalar.muli arg0 c256_i32
  v36
def k0_off1 (i : grid0.Coords) : Fin 3 → Nat :=
  let c0_16 : Index := 0#32
  let arg0 : BitVec 32 := BitVec.ofNat 32 (i 0).val
  let c256_i32 : BitVec 32 := 256#32
  let v36 : BitVec 32 := Scalar.muli arg0 c256_i32
  let v37 : BitVec 32 := v36
  let v41 : Index := Scalar.indexCast v37
  let c0_17 : Index := 0#32
  ![0, v41.toNat, 0]
def k0_cond2 (i : grid0.Coords) : BitVec 1 :=
  let arg0 : BitVec 32 := BitVec.ofNat 32 (i 0).val
  let c4_i32_13 : BitVec 32 := 4#32
  let v33 : BitVec 1 := Scalar.cmpi .sge arg0 c4_i32_13
  let v34 : BitVec 32 := Scalar.extui v33
  let c0_i32_14 : BitVec 32 := 0#32
  let v35 : BitVec 1 := Scalar.cmpi .ne v34 c0_i32_14
  v35

def k0_off2 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c8_i32 : BitVec 32 := 8#32
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2_i32 : BitVec 32 := 2#32
  let c0_i32_15 : BitVec 32 := 0#32
  let v36 : BitVec 1 := Scalar.cmpi .eq c2_i32 c0_i32_15
  let c1_i32_16 : BitVec 32 := 1#32
  let v37 : BitVec 32 := Scalar.select v36 c1_i32_16 c2_i32
  let v38 : BitVec 32 := Scalar.remsi v18 v37
  let c0_i32_18 : BitVec 32 := 0#32
  let v40 : BitVec 1 := Scalar.cmpi .slt v38 c0_i32_18
  let c0_i32_19 : BitVec 32 := 0#32
  let v41 : BitVec 1 := Scalar.cmpi .slt v37 c0_i32_19
  let v42 : BitVec 1 := Scalar.xori v40 v41
  let c0_i32_17 : BitVec 32 := 0#32
  let v39 : BitVec 1 := Scalar.cmpi .ne v38 c0_i32_17
  let v43 : BitVec 1 := Scalar.andi v42 v39
  let v44 : BitVec 32 := Scalar.addi v38 v37
  let v45 : BitVec 32 := Scalar.select v43 v44 v38
  let v46 : Index := Scalar.indexCast v45
  let c0 : Index := 0#32
  let c0_20 : Index := 0#32
  ![v46.toNat, 0, 0]
def k0_mult3 (i : grid0.Coords) : BitVec 32 :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c3_i32 : BitVec 32 := 3#32
  let v29 : BitVec 32 := Scalar.minsi v28 c3_i32
  let c256_i32 : BitVec 32 := 256#32
  let v64 : BitVec 32 := Scalar.muli v29 c256_i32
  v64
def k0_off3 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c8_i32 : BitVec 32 := 8#32
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c1_i32_25 : BitVec 32 := 1#32
  let v53 : BitVec 32 := Scalar.addi v18 c1_i32_25
  let c2_i32_26 : BitVec 32 := 2#32
  let c0_i32_27 : BitVec 32 := 0#32
  let v54 : BitVec 1 := Scalar.cmpi .eq c2_i32_26 c0_i32_27
  let c1_i32_28 : BitVec 32 := 1#32
  let v55 : BitVec 32 := Scalar.select v54 c1_i32_28 c2_i32_26
  let v56 : BitVec 32 := Scalar.remsi v53 v55
  let c0_i32_30 : BitVec 32 := 0#32
  let v58 : BitVec 1 := Scalar.cmpi .slt v56 c0_i32_30
  let c0_i32_31 : BitVec 32 := 0#32
  let v59 : BitVec 1 := Scalar.cmpi .slt v55 c0_i32_31
  let v60 : BitVec 1 := Scalar.xori v58 v59
  let c0_i32_29 : BitVec 32 := 0#32
  let v57 : BitVec 1 := Scalar.cmpi .ne v56 c0_i32_29
  let v61 : BitVec 1 := Scalar.andi v60 v57
  let v62 : BitVec 32 := Scalar.addi v56 v55
  let v63 : BitVec 32 := Scalar.select v61 v62 v56
  let v69 : Index := Scalar.indexCast v63
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c3_i32 : BitVec 32 := 3#32
  let v29 : BitVec 32 := Scalar.minsi v28 c3_i32
  let c256_i32 : BitVec 32 := 256#32
  let v64 : BitVec 32 := Scalar.muli v29 c256_i32
  let v65 : BitVec 32 := v64
  let v70 : Index := Scalar.indexCast v65
  let c0_34 : Index := 0#32
  ![v69.toNat, v70.toNat, 0]
def cc0_transform_0 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 1 := Scalar.cmpi .slt arg0 c4_i32_11
  let c1_i32_12 : BitVec 32 := 1#32
  let v30 : BitVec 1 := Scalar.cmpi .eq v18 c1_i32_12
  let c1_i32_13 : BitVec 32 := 1#32
  let v31 : BitVec 32 := Scalar.addi v18 c1_i32_13
  let c1_i32_14 : BitVec 32 := 1#32
  let v32 : BitVec 32 := Scalar.minsi v31 c1_i32_14
  let c0_i32_15 : BitVec 32 := 0#32
  let v33 : BitVec 32 := Scalar.select v29 c0_i32_15 v32
  let c3_i32 : BitVec 32 := 3#32
  let v34 : BitVec 32 := Scalar.minsi v28 c3_i32
  let c3_i32_16 : BitVec 32 := 3#32
  let v35 : BitVec 32 := Scalar.select v30 c3_i32_16 v34
  let v36 : BitVec 32 := Scalar.select v29 arg0 v35
  let c0_i32_17 : BitVec 32 := 0#32
  let c0_i32_18 : BitVec 32 := 0#32
  ![v28.toNat, c0_i32_17.toNat]

def cc0_transform_1 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 1 := Scalar.cmpi .slt arg0 c4_i32_11
  let c1_i32_12 : BitVec 32 := 1#32
  let v30 : BitVec 1 := Scalar.cmpi .eq v18 c1_i32_12
  let c1_i32_13 : BitVec 32 := 1#32
  let v31 : BitVec 32 := Scalar.addi v18 c1_i32_13
  let c1_i32_14 : BitVec 32 := 1#32
  let v32 : BitVec 32 := Scalar.minsi v31 c1_i32_14
  let c0_i32_15 : BitVec 32 := 0#32
  let v33 : BitVec 32 := Scalar.select v29 c0_i32_15 v32
  let c3_i32 : BitVec 32 := 3#32
  let v34 : BitVec 32 := Scalar.minsi v28 c3_i32
  let c3_i32_16 : BitVec 32 := 3#32
  let v35 : BitVec 32 := Scalar.select v30 c3_i32_16 v34
  let v36 : BitVec 32 := Scalar.select v29 arg0 v35
  let c1_i32_17 : BitVec 32 := 1#32
  let v37 : BitVec 1 := Scalar.cmpi .sge v33 c1_i32_17
  let c1024_i32 : BitVec 32 := 1024#32
  let c0_i32_18 : BitVec 32 := 0#32
  let v38 : BitVec 32 := Scalar.select v37 c1024_i32 c0_i32_18
  let c4096_i32 : BitVec 32 := 4096#32
  let v39 : BitVec 32 := Scalar.addi c4096_i32 v38
  let c256_i32 : BitVec 32 := 256#32
  let v40 : BitVec 32 := Scalar.muli v36 c256_i32
  let v41 : BitVec 32 := Scalar.addi v39 v40
  let v42 : BitVec 32 := v41
  let c0_i32_19 : BitVec 32 := 0#32
  let c0_i32_20 : BitVec 32 := 0#32
  ![v42.toNat, c0_i32_19.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 1 := Scalar.cmpi .slt arg0 c4_i32_11
  let c1_i32_12 : BitVec 32 := 1#32
  let v30 : BitVec 1 := Scalar.cmpi .eq v18 c1_i32_12
  let c1_i32_13 : BitVec 32 := 1#32
  let v31 : BitVec 32 := Scalar.addi v18 c1_i32_13
  let c1_i32_14 : BitVec 32 := 1#32
  let v32 : BitVec 32 := Scalar.minsi v31 c1_i32_14
  let c0_i32_15 : BitVec 32 := 0#32
  let v33 : BitVec 32 := Scalar.select v29 c0_i32_15 v32
  let c3_i32 : BitVec 32 := 3#32
  let v34 : BitVec 32 := Scalar.minsi v28 c3_i32
  let c3_i32_16 : BitVec 32 := 3#32
  let v35 : BitVec 32 := Scalar.select v30 c3_i32_16 v34
  let v36 : BitVec 32 := Scalar.select v29 arg0 v35
  let c0_i32_17 : BitVec 32 := 0#32
  ![v18.toNat, v28.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S8192x4096 : Shape := ⟨2, ![8192, 4096]⟩
abbrev S4096x12304 : Shape := ⟨2, ![4096, 12304]⟩
abbrev S8192x12304 : Shape := ⟨2, ![8192, 12304]⟩
abbrev S8192x2048 : Shape := ⟨2, ![8192, 2048]⟩
abbrev S2048x8192 : Shape := ⟨2, ![2048, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x12304, .f32⟩
  | .hbm, ⟨2, _⟩ => ⟨S8192x4096, .f32⟩
  | .hbm, ⟨3, _⟩ => ⟨S8192x12304, .f32⟩
  | .hbm, ⟨4, _⟩ => ⟨S8192x2048, .f32⟩
  | .hbm, ⟨5, _⟩ => ⟨S2048x8192, .f32⟩
  | .hbm, ⟨6, _⟩ => ⟨S2048x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S8192x4096 : Shape := ⟨2, ![8192, 4096]⟩
abbrev S4096x12304 : Shape := ⟨2, ![4096, 12304]⟩
abbrev S12304x4096 : Shape := ⟨2, ![12304, 4096]⟩
abbrev S8192x2048 : Shape := ⟨2, ![8192, 2048]⟩
abbrev S1024x4096 : Shape := ⟨2, ![1024, 4096]⟩
abbrev S256x4096 : Shape := ⟨2, ![256, 4096]⟩
abbrev S1024x1024 : Shape := ⟨2, ![1024, 1024]⟩
abbrev S2x1024x4096 : Shape := ⟨3, ![2, 1024, 4096]⟩
abbrev S1x256x4096 : Shape := ⟨3, ![1, 256, 4096]⟩
abbrev S1x1024x4096 : Shape := ⟨3, ![1, 1024, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x12304, .f32⟩
  | .hbm, ⟨2, _⟩ => ⟨S12304x4096, .f32⟩
  | .hbm, ⟨3, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .f32⟩
  | .local _ .vmem, ⟨3, _⟩ => ⟨S256x4096, .f32⟩
  | .local _ .vmem, ⟨4, _⟩ => ⟨S1024x1024, .f32⟩
  | .local _ .vmem, ⟨5, _⟩ => ⟨S1024x1024, .f32⟩
  | .local _ .vmem, ⟨6, _⟩ => ⟨S2x1024x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![20], ![false]⟩

def k0_mult1 (i : grid0.Coords) : BitVec 32 :=
  let c8208_i32 : BitVec 32 := 8208#32
  let arg0 : BitVec 32 := BitVec.ofNat 32 (i 0).val
  let c4_i32_11 : BitVec 32 := 4#32
  let v29 : BitVec 1 := Scalar.cmpi .slt arg0 c4_i32_11
  let c0_i32_15 : BitVec 32 := 0#32
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c8_i32 : BitVec 32 := 8#32
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c1_i32_13 : BitVec 32 := 1#32
  let v31 : BitVec 32 := Scalar.addi v18 c1_i32_13
  let c1_i32_14 : BitVec 32 := 1#32
  let v32 : BitVec 32 := Scalar.minsi v31 c1_i32_14
  let v33 : BitVec 32 := Scalar.select v29 c0_i32_15 v32
  let c1_i32_17 : BitVec 32 := 1#32
  let v37 : BitVec 1 := Scalar.cmpi .sge v33 c1_i32_17
  let c1024_i32 : BitVec 32 := 1024#32
  let c0_i32_18 : BitVec 32 := 0#32
  let v38 : BitVec 32 := Scalar.select v37 c1024_i32 c0_i32_18
  let v39 : BitVec 32 := Scalar.addi c8208_i32 v38
  let c1_i32_12 : BitVec 32 := 1#32
  let v30 : BitVec 1 := Scalar.cmpi .eq v18 c1_i32_12
  let c3_i32_16 : BitVec 32 := 3#32
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c3_i32 : BitVec 32 := 3#32
  let v34 : BitVec 32 := Scalar.minsi v28 c3_i32
  let v35 : BitVec 32 := Scalar.select v30 c3_i32_16 v34
  let v36 : BitVec 32 := Scalar.select v29 arg0 v35
  let c256_i32 : BitVec 32 := 256#32
  let v40 : BitVec 32 := Scalar.muli v36 c256_i32
  let v41 : BitVec 32 := Scalar.addi v39 v40
  v41
def k0_cond1 (i : grid0.Coords) : BitVec 1 :=
  let arg0 : BitVec 32 := BitVec.ofNat 32 (i 0).val
  let c4_i32_11 : BitVec 32 := 4#32
  let v30 : BitVec 1 := Scalar.cmpi .slt arg0 c4_i32_11
  let v31 : BitVec 32 := Scalar.extui v30
  let c0_i32_12 : BitVec 32 := 0#32
  let v32 : BitVec 1 := Scalar.cmpi .ne v31 c0_i32_12
  v32

def k0_mult2 (i : grid0.Coords) : BitVec 32 :=
  let arg0 : BitVec 32 := BitVec.ofNat 32 (i 0).val
  let c256_i32 : BitVec 32 := 256#32
  let v36 : BitVec 32 := Scalar.muli arg0 c256_i32
  v36
def k0_off1 (i : grid0.Coords) : Fin 3 → Nat :=
  let c0_16 : Index := 0#32
  let arg0 : BitVec 32 := BitVec.ofNat 32 (i 0).val
  let c256_i32 : BitVec 32 := 256#32
  let v36 : BitVec 32 := Scalar.muli arg0 c256_i32
  let v37 : BitVec 32 := v36
  let v41 : Index := Scalar.indexCast v37
  let c0_17 : Index := 0#32
  ![0, v41.toNat, 0]
def k0_cond2 (i : grid0.Coords) : BitVec 1 :=
  let arg0 : BitVec 32 := BitVec.ofNat 32 (i 0).val
  let c4_i32_13 : BitVec 32 := 4#32
  let v33 : BitVec 1 := Scalar.cmpi .sge arg0 c4_i32_13
  let v34 : BitVec 32 := Scalar.extui v33
  let c0_i32_14 : BitVec 32 := 0#32
  let v35 : BitVec 1 := Scalar.cmpi .ne v34 c0_i32_14
  v35

def k0_off2 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c8_i32 : BitVec 32 := 8#32
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2_i32 : BitVec 32 := 2#32
  let c0_i32_15 : BitVec 32 := 0#32
  let v36 : BitVec 1 := Scalar.cmpi .eq c2_i32 c0_i32_15
  let c1_i32_16 : BitVec 32 := 1#32
  let v37 : BitVec 32 := Scalar.select v36 c1_i32_16 c2_i32
  let v38 : BitVec 32 := Scalar.remsi v18 v37
  let c0_i32_18 : BitVec 32 := 0#32
  let v40 : BitVec 1 := Scalar.cmpi .slt v38 c0_i32_18
  let c0_i32_19 : BitVec 32 := 0#32
  let v41 : BitVec 1 := Scalar.cmpi .slt v37 c0_i32_19
  let v42 : BitVec 1 := Scalar.xori v40 v41
  let c0_i32_17 : BitVec 32 := 0#32
  let v39 : BitVec 1 := Scalar.cmpi .ne v38 c0_i32_17
  let v43 : BitVec 1 := Scalar.andi v42 v39
  let v44 : BitVec 32 := Scalar.addi v38 v37
  let v45 : BitVec 32 := Scalar.select v43 v44 v38
  let v46 : Index := Scalar.indexCast v45
  let c0 : Index := 0#32
  let c0_20 : Index := 0#32
  ![v46.toNat, 0, 0]
def k0_mult3 (i : grid0.Coords) : BitVec 32 :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c3_i32 : BitVec 32 := 3#32
  let v29 : BitVec 32 := Scalar.minsi v28 c3_i32
  let c256_i32 : BitVec 32 := 256#32
  let v63 : BitVec 32 := Scalar.muli v29 c256_i32
  v63
def k0_off3 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c8_i32 : BitVec 32 := 8#32
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c1_i32_25 : BitVec 32 := 1#32
  let v52 : BitVec 32 := Scalar.addi v18 c1_i32_25
  let c2_i32_26 : BitVec 32 := 2#32
  let c0_i32_27 : BitVec 32 := 0#32
  let v53 : BitVec 1 := Scalar.cmpi .eq c2_i32_26 c0_i32_27
  let c1_i32_28 : BitVec 32 := 1#32
  let v54 : BitVec 32 := Scalar.select v53 c1_i32_28 c2_i32_26
  let v55 : BitVec 32 := Scalar.remsi v52 v54
  let c0_i32_30 : BitVec 32 := 0#32
  let v57 : BitVec 1 := Scalar.cmpi .slt v55 c0_i32_30
  let c0_i32_31 : BitVec 32 := 0#32
  let v58 : BitVec 1 := Scalar.cmpi .slt v54 c0_i32_31
  let v59 : BitVec 1 := Scalar.xori v57 v58
  let c0_i32_29 : BitVec 32 := 0#32
  let v56 : BitVec 1 := Scalar.cmpi .ne v55 c0_i32_29
  let v60 : BitVec 1 := Scalar.andi v59 v56
  let v61 : BitVec 32 := Scalar.addi v55 v54
  let v62 : BitVec 32 := Scalar.select v60 v61 v55
  let v68 : Index := Scalar.indexCast v62
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c3_i32 : BitVec 32 := 3#32
  let v29 : BitVec 32 := Scalar.minsi v28 c3_i32
  let c256_i32 : BitVec 32 := 256#32
  let v63 : BitVec 32 := Scalar.muli v29 c256_i32
  let v64 : BitVec 32 := v63
  let v69 : Index := Scalar.indexCast v64
  let c0_34 : Index := 0#32
  ![v68.toNat, v69.toNat, 0]
def cc0_transform_0 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 1 := Scalar.cmpi .slt arg0 c4_i32_11
  let c1_i32_12 : BitVec 32 := 1#32
  let v30 : BitVec 1 := Scalar.cmpi .eq v18 c1_i32_12
  let c1_i32_13 : BitVec 32 := 1#32
  let v31 : BitVec 32 := Scalar.addi v18 c1_i32_13
  let c1_i32_14 : BitVec 32 := 1#32
  let v32 : BitVec 32 := Scalar.minsi v31 c1_i32_14
  let c0_i32_15 : BitVec 32 := 0#32
  let v33 : BitVec 32 := Scalar.select v29 c0_i32_15 v32
  let c3_i32 : BitVec 32 := 3#32
  let v34 : BitVec 32 := Scalar.minsi v28 c3_i32
  let c3_i32_16 : BitVec 32 := 3#32
  let v35 : BitVec 32 := Scalar.select v30 c3_i32_16 v34
  let v36 : BitVec 32 := Scalar.select v29 arg0 v35
  let c0_i32_17 : BitVec 32 := 0#32
  let c0_i32_18 : BitVec 32 := 0#32
  ![v28.toNat, c0_i32_17.toNat]

def cc0_transform_1 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 1 := Scalar.cmpi .slt arg0 c4_i32_11
  let c1_i32_12 : BitVec 32 := 1#32
  let v30 : BitVec 1 := Scalar.cmpi .eq v18 c1_i32_12
  let c1_i32_13 : BitVec 32 := 1#32
  let v31 : BitVec 32 := Scalar.addi v18 c1_i32_13
  let c1_i32_14 : BitVec 32 := 1#32
  let v32 : BitVec 32 := Scalar.minsi v31 c1_i32_14
  let c0_i32_15 : BitVec 32 := 0#32
  let v33 : BitVec 32 := Scalar.select v29 c0_i32_15 v32
  let c3_i32 : BitVec 32 := 3#32
  let v34 : BitVec 32 := Scalar.minsi v28 c3_i32
  let c3_i32_16 : BitVec 32 := 3#32
  let v35 : BitVec 32 := Scalar.select v30 c3_i32_16 v34
  let v36 : BitVec 32 := Scalar.select v29 arg0 v35
  let c1_i32_17 : BitVec 32 := 1#32
  let v37 : BitVec 1 := Scalar.cmpi .sge v33 c1_i32_17
  let c1024_i32 : BitVec 32 := 1024#32
  let c0_i32_18 : BitVec 32 := 0#32
  let v38 : BitVec 32 := Scalar.select v37 c1024_i32 c0_i32_18
  let c8208_i32 : BitVec 32 := 8208#32
  let v39 : BitVec 32 := Scalar.addi c8208_i32 v38
  let c256_i32 : BitVec 32 := 256#32
  let v40 : BitVec 32 := Scalar.muli v36 c256_i32
  let v41 : BitVec 32 := Scalar.addi v39 v40
  let v42 : BitVec 32 := v41
  let c0_i32_19 : BitVec 32 := 0#32
  let c0_i32_20 : BitVec 32 := 0#32
  ![v42.toNat, c0_i32_19.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 1 := Scalar.cmpi .slt arg0 c4_i32_11
  let c1_i32_12 : BitVec 32 := 1#32
  let v30 : BitVec 1 := Scalar.cmpi .eq v18 c1_i32_12
  let c1_i32_13 : BitVec 32 := 1#32
  let v31 : BitVec 32 := Scalar.addi v18 c1_i32_13
  let c1_i32_14 : BitVec 32 := 1#32
  let v32 : BitVec 32 := Scalar.minsi v31 c1_i32_14
  let c0_i32_15 : BitVec 32 := 0#32
  let v33 : BitVec 32 := Scalar.select v29 c0_i32_15 v32
  let c3_i32 : BitVec 32 := 3#32
  let v34 : BitVec 32 := Scalar.minsi v28 c3_i32
  let c3_i32_16 : BitVec 32 := 3#32
  let v35 : BitVec 32 := Scalar.select v30 c3_i32_16 v34
  let v36 : BitVec 32 := Scalar.select v29 arg0 v35
  let c0_i32_17 : BitVec 32 := 0#32
  ![v28.toNat, v18.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S8192x4096 : Shape := ⟨2, ![8192, 4096]⟩
abbrev S4096x12304 : Shape := ⟨2, ![4096, 12304]⟩
abbrev S8192x12304 : Shape := ⟨2, ![8192, 12304]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x12304, .f32⟩
  | .hbm, ⟨2, _⟩ => ⟨S8192x4096, .f32⟩
  | .hbm, ⟨3, _⟩ => ⟨S8192x12304, .f32⟩
  | .hbm, ⟨4, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S8192x4096 : Shape := ⟨2, ![8192, 4096]⟩
abbrev S4096x12304 : Shape := ⟨2, ![4096, 12304]⟩
abbrev S128 : Shape := ⟨1, ![128]⟩
abbrev S_ : Shape := ⟨0, ![]⟩
abbrev S1x128 : Shape := ⟨2, ![1, 128]⟩
abbrev S16x128 : Shape := ⟨2, ![16, 128]⟩
abbrev S2048 : Shape := ⟨1, ![2048]⟩
abbrev S4096 : Shape := ⟨1, ![4096]⟩
abbrev S12304x4096 : Shape := ⟨2, ![12304, 4096]⟩
abbrev S1x4096 : Shape := ⟨2, ![1, 4096]⟩
abbrev S1024x4096 : Shape := ⟨2, ![1024, 4096]⟩
abbrev S256x4096 : Shape := ⟨2, ![256, 4096]⟩
abbrev S1x1024 : Shape := ⟨2, ![1, 1024]⟩
abbrev S1024x1024 : Shape := ⟨2, ![1024, 1024]⟩
abbrev S2x1024x4096 : Shape := ⟨3, ![2, 1024, 4096]⟩
abbrev S1x256x4096 : Shape := ⟨3, ![1, 256, 4096]⟩
abbrev S1x1024x4096 : Shape := ⟨3, ![1, 1024, 4096]⟩
abbrev S1024x128 : Shape := ⟨2, ![1024, 128]⟩
abbrev S1024 : Shape := ⟨1, ![1024]⟩
abbrev S1024x1 : Shape := ⟨2, ![1024, 1]⟩

abbrev nBuf : Space → Nat
  | .hbm => 17
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x12304, .f32⟩
  | .hbm, ⟨2, _⟩ => ⟨S128, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S128, .f32⟩
  | .hbm, ⟨7, _⟩ => ⟨S1x128, .f32⟩
  | .hbm, ⟨8, _⟩ => ⟨S16x128, .f32⟩
  | .hbm, ⟨9, _⟩ => ⟨S2048, .f32⟩
  | .hbm, ⟨10, _⟩ => ⟨S1x128, .f32⟩
  | .hbm, ⟨11, _⟩ => ⟨S16x128, .f32⟩
  | .hbm, ⟨12, _⟩ => ⟨S2048, .f32⟩
  | .hbm, ⟨13, _⟩ => ⟨S4096, .f32⟩
  | .hbm, ⟨14, _⟩ => ⟨S12304x4096, .f32⟩
  | .hbm, ⟨15, _⟩ => ⟨S1x4096, .f32⟩
  | .hbm, ⟨16, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S256x4096, .f32⟩
  | .local _ .vmem, ⟨3, _⟩ => ⟨S256x4096, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S2x1024x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![36], ![false]⟩

def k0_mult1 (i : grid0.Coords) : BitVec 32 :=
  let c0_i32_19 : BitVec 32 := 0#32
  let arg0 : BitVec 32 := BitVec.ofNat 32 (i 0).val
  let c4_i32_11 : BitVec 32 := 4#32
  let v29 : BitVec 1 := Scalar.cmpi .slt arg0 c4_i32_11
  let c0_i32_14 : BitVec 32 := 0#32
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c8_i32 : BitVec 32 := 8#32
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c1_i32_12 : BitVec 32 := 1#32
  let v31 : BitVec 32 := Scalar.addi v18 c1_i32_12
  let c3_i32_13 : BitVec 32 := 3#32
  let v32 : BitVec 32 := Scalar.minsi v31 c3_i32_13
  let v33 : BitVec 32 := Scalar.select v29 c0_i32_14 v32
  let c1_i32_17 : BitVec 32 := 1#32
  let v37 : BitVec 1 := Scalar.cmpi .sge v33 c1_i32_17
  let c1024_i32 : BitVec 32 := 1024#32
  let c0_i32_18 : BitVec 32 := 0#32
  let v38 : BitVec 32 := Scalar.select v37 c1024_i32 c0_i32_18
  let v39 : BitVec 32 := Scalar.addi c0_i32_19 v38
  let c2_i32 : BitVec 32 := 2#32
  let v40 : BitVec 1 := Scalar.cmpi .sge v33 c2_i32
  let c1024_i32_20 : BitVec 32 := 1024#32
  let c0_i32_21 : BitVec 32 := 0#32
  let v41 : BitVec 32 := Scalar.select v40 c1024_i32_20 c0_i32_21
  let v42 : BitVec 32 := Scalar.addi v39 v41
  let c3_i32_22 : BitVec 32 := 3#32
  let v43 : BitVec 1 := Scalar.cmpi .sge v33 c3_i32_22
  let c1024_i32_23 : BitVec 32 := 1024#32
  let c0_i32_24 : BitVec 32 := 0#32
  let v44 : BitVec 32 := Scalar.select v43 c1024_i32_23 c0_i32_24
  let v45 : BitVec 32 := Scalar.addi v42 v44
  let c3_i32 : BitVec 32 := 3#32
  let v30 : BitVec 1 := Scalar.cmpi .eq v18 c3_i32
  let c3_i32_16 : BitVec 32 := 3#32
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c3_i32_15 : BitVec 32 := 3#32
  let v34 : BitVec 32 := Scalar.minsi v28 c3_i32_15
  let v35 : BitVec 32 := Scalar.select v30 c3_i32_16 v34
  let v36 : BitVec 32 := Scalar.select v29 arg0 v35
  let c256_i32 : BitVec 32 := 256#32
  let v46 : BitVec 32 := Scalar.muli v36 c256_i32
  let v47 : BitVec 32 := Scalar.addi v45 v46
  v47
def k0_cond1 (i : grid0.Coords) : BitVec 1 :=
  let arg0 : BitVec 32 := BitVec.ofNat 32 (i 0).val
  let c4_i32_11 : BitVec 32 := 4#32
  let v30 : BitVec 1 := Scalar.cmpi .slt arg0 c4_i32_11
  let v31 : BitVec 32 := Scalar.extui v30
  let c0_i32_12 : BitVec 32 := 0#32
  let v32 : BitVec 1 := Scalar.cmpi .ne v31 c0_i32_12
  v32

def k0_mult2 (i : grid0.Coords) : BitVec 32 :=
  let arg0 : BitVec 32 := BitVec.ofNat 32 (i 0).val
  let c256_i32 : BitVec 32 := 256#32
  let v36 : BitVec 32 := Scalar.muli arg0 c256_i32
  v36
def k0_off1 (i : grid0.Coords) : Fin 3 → Nat :=
  let c0_16 : Index := 0#32
  let arg0 : BitVec 32 := BitVec.ofNat 32 (i 0).val
  let c256_i32 : BitVec 32 := 256#32
  let v36 : BitVec 32 := Scalar.muli arg0 c256_i32
  let v37 : BitVec 32 := v36
  let v41 : Index := Scalar.indexCast v37
  let c0_17 : Index := 0#32
  ![0, v41.toNat, 0]
def k0_cond2 (i : grid0.Coords) : BitVec 1 :=
  let arg0 : BitVec 32 := BitVec.ofNat 32 (i 0).val
  let c4_i32_13 : BitVec 32 := 4#32
  let v33 : BitVec 1 := Scalar.cmpi .sge arg0 c4_i32_13
  let v34 : BitVec 32 := Scalar.extui v33
  let c0_i32_14 : BitVec 32 := 0#32
  let v35 : BitVec 1 := Scalar.cmpi .ne v34 c0_i32_14
  v35

def k0_off2 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c8_i32 : BitVec 32 := 8#32
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2_i32 : BitVec 32 := 2#32
  let c0_i32_15 : BitVec 32 := 0#32
  let v36 : BitVec 1 := Scalar.cmpi .eq c2_i32 c0_i32_15
  let c1_i32_16 : BitVec 32 := 1#32
  let v37 : BitVec 32 := Scalar.select v36 c1_i32_16 c2_i32
  let v38 : BitVec 32 := Scalar.remsi v18 v37
  let c0_i32_18 : BitVec 32 := 0#32
  let v40 : BitVec 1 := Scalar.cmpi .slt v38 c0_i32_18
  let c0_i32_19 : BitVec 32 := 0#32
  let v41 : BitVec 1 := Scalar.cmpi .slt v37 c0_i32_19
  let v42 : BitVec 1 := Scalar.xori v40 v41
  let c0_i32_17 : BitVec 32 := 0#32
  let v39 : BitVec 1 := Scalar.cmpi .ne v38 c0_i32_17
  let v43 : BitVec 1 := Scalar.andi v42 v39
  let v44 : BitVec 32 := Scalar.addi v38 v37
  let v45 : BitVec 32 := Scalar.select v43 v44 v38
  let v46 : Index := Scalar.indexCast v45
  let c0 : Index := 0#32
  let c0_20 : Index := 0#32
  ![v46.toNat, 0, 0]
def k0_mult3 (i : grid0.Coords) : BitVec 32 :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c3_i32 : BitVec 32 := 3#32
  let v29 : BitVec 32 := Scalar.minsi v28 c3_i32
  let c256_i32 : BitVec 32 := 256#32
  let v198 : BitVec 32 := Scalar.muli v29 c256_i32
  v198
def k0_off3 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c8_i32 : BitVec 32 := 8#32
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c1_i32_72 : BitVec 32 := 1#32
  let v187 : BitVec 32 := Scalar.addi v18 c1_i32_72
  let c2_i32_73 : BitVec 32 := 2#32
  let c0_i32_74 : BitVec 32 := 0#32
  let v188 : BitVec 1 := Scalar.cmpi .eq c2_i32_73 c0_i32_74
  let c1_i32_75 : BitVec 32 := 1#32
  let v189 : BitVec 32 := Scalar.select v188 c1_i32_75 c2_i32_73
  let v190 : BitVec 32 := Scalar.remsi v187 v189
  let c0_i32_77 : BitVec 32 := 0#32
  let v192 : BitVec 1 := Scalar.cmpi .slt v190 c0_i32_77
  let c0_i32_78 : BitVec 32 := 0#32
  let v193 : BitVec 1 := Scalar.cmpi .slt v189 c0_i32_78
  let v194 : BitVec 1 := Scalar.xori v192 v193
  let c0_i32_76 : BitVec 32 := 0#32
  let v191 : BitVec 1 := Scalar.cmpi .ne v190 c0_i32_76
  let v195 : BitVec 1 := Scalar.andi v194 v191
  let v196 : BitVec 32 := Scalar.addi v190 v189
  let v197 : BitVec 32 := Scalar.select v195 v196 v190
  let v203 : Index := Scalar.indexCast v197
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c3_i32 : BitVec 32 := 3#32
  let v29 : BitVec 32 := Scalar.minsi v28 c3_i32
  let c256_i32 : BitVec 32 := 256#32
  let v198 : BitVec 32 := Scalar.muli v29 c256_i32
  let v199 : BitVec 32 := v198
  let v204 : Index := Scalar.indexCast v199
  let c0_81 : Index := 0#32
  ![v203.toNat, v204.toNat, 0]
def cc0_transform_0 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 1 := Scalar.cmpi .slt arg0 c4_i32_11
  let c3_i32 : BitVec 32 := 3#32
  let v30 : BitVec 1 := Scalar.cmpi .eq v18 c3_i32
  let c1_i32_12 : BitVec 32 := 1#32
  let v31 : BitVec 32 := Scalar.addi v18 c1_i32_12
  let c3_i32_13 : BitVec 32 := 3#32
  let v32 : BitVec 32 := Scalar.minsi v31 c3_i32_13
  let c0_i32_14 : BitVec 32 := 0#32
  let v33 : BitVec 32 := Scalar.select v29 c0_i32_14 v32
  let c3_i32_15 : BitVec 32 := 3#32
  let v34 : BitVec 32 := Scalar.minsi v28 c3_i32_15
  let c3_i32_16 : BitVec 32 := 3#32
  let v35 : BitVec 32 := Scalar.select v30 c3_i32_16 v34
  let v36 : BitVec 32 := Scalar.select v29 arg0 v35
  let c0_i32_17 : BitVec 32 := 0#32
  let c0_i32_18 : BitVec 32 := 0#32
  ![v28.toNat, c0_i32_17.toNat]

def cc0_transform_1 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 1 := Scalar.cmpi .slt arg0 c4_i32_11
  let c3_i32 : BitVec 32 := 3#32
  let v30 : BitVec 1 := Scalar.cmpi .eq v18 c3_i32
  let c1_i32_12 : BitVec 32 := 1#32
  let v31 : BitVec 32 := Scalar.addi v18 c1_i32_12
  let c3_i32_13 : BitVec 32 := 3#32
  let v32 : BitVec 32 := Scalar.minsi v31 c3_i32_13
  let c0_i32_14 : BitVec 32 := 0#32
  let v33 : BitVec 32 := Scalar.select v29 c0_i32_14 v32
  let c3_i32_15 : BitVec 32 := 3#32
  let v34 : BitVec 32 := Scalar.minsi v28 c3_i32_15
  let c3_i32_16 : BitVec 32 := 3#32
  let v35 : BitVec 32 := Scalar.select v30 c3_i32_16 v34
  let v36 : BitVec 32 := Scalar.select v29 arg0 v35
  let c1_i32_17 : BitVec 32 := 1#32
  let v37 : BitVec 1 := Scalar.cmpi .sge v33 c1_i32_17
  let c1024_i32 : BitVec 32 := 1024#32
  let c0_i32_18 : BitVec 32 := 0#32
  let v38 : BitVec 32 := Scalar.select v37 c1024_i32 c0_i32_18
  let c0_i32_19 : BitVec 32 := 0#32
  let v39 : BitVec 32 := Scalar.addi c0_i32_19 v38
  let c2_i32 : BitVec 32 := 2#32
  let v40 : BitVec 1 := Scalar.cmpi .sge v33 c2_i32
  let c1024_i32_20 : BitVec 32 := 1024#32
  let c0_i32_21 : BitVec 32 := 0#32
  let v41 : BitVec 32 := Scalar.select v40 c1024_i32_20 c0_i32_21
  let v42 : BitVec 32 := Scalar.addi v39 v41
  let c3_i32_22 : BitVec 32 := 3#32
  let v43 : BitVec 1 := Scalar.cmpi .sge v33 c3_i32_22
  let c1024_i32_23 : BitVec 32 := 1024#32
  let c0_i32_24 : BitVec 32 := 0#32
  let v44 : BitVec 32 := Scalar.select v43 c1024_i32_23 c0_i32_24
  let v45 : BitVec 32 := Scalar.addi v42 v44
  let c256_i32 : BitVec 32 := 256#32
  let v46 : BitVec 32 := Scalar.muli v36 c256_i32
  let v47 : BitVec 32 := Scalar.addi v45 v46
  let v48 : BitVec 32 := v47
  let c0_i32_25 : BitVec 32 := 0#32
  let c0_i32_26 : BitVec 32 := 0#32
  ![v48.toNat, c0_i32_25.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 1 := Scalar.cmpi .slt arg0 c4_i32_11
  let c3_i32 : BitVec 32 := 3#32
  let v30 : BitVec 1 := Scalar.cmpi .eq v18 c3_i32
  let c1_i32_12 : BitVec 32 := 1#32
  let v31 : BitVec 32 := Scalar.addi v18 c1_i32_12
  let c3_i32_13 : BitVec 32 := 3#32
  let v32 : BitVec 32 := Scalar.minsi v31 c3_i32_13
  let c0_i32_14 : BitVec 32 := 0#32
  let v33 : BitVec 32 := Scalar.select v29 c0_i32_14 v32
  let c3_i32_15 : BitVec 32 := 3#32
  let v34 : BitVec 32 := Scalar.minsi v28 c3_i32_15
  let c3_i32_16 : BitVec 32 := 3#32
  let v35 : BitVec 32 := Scalar.select v30 c3_i32_16 v34
  let v36 : BitVec 32 := Scalar.select v29 arg0 v35
  let c0_i32_17 : BitVec 32 := 0#32
  let c0_i32_18 : BitVec 32 := 0#32
  ![c0_i32_17.toNat, v18.toNat]

def cc0_transform_3 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 1 := Scalar.cmpi .slt arg0 c4_i32_11
  let c3_i32 : BitVec 32 := 3#32
  let v30 : BitVec 1 := Scalar.cmpi .eq v18 c3_i32
  let c1_i32_12 : BitVec 32 := 1#32
  let v31 : BitVec 32 := Scalar.addi v18 c1_i32_12
  let c3_i32_13 : BitVec 32 := 3#32
  let v32 : BitVec 32 := Scalar.minsi v31 c3_i32_13
  let c0_i32_14 : BitVec 32 := 0#32
  let v33 : BitVec 32 := Scalar.select v29 c0_i32_14 v32
  let c3_i32_15 : BitVec 32 := 3#32
  let v34 : BitVec 32 := Scalar.minsi v28 c3_i32_15
  let c3_i32_16 : BitVec 32 := 3#32
  let v35 : BitVec 32 := Scalar.select v30 c3_i32_16 v34
  let v36 : BitVec 32 := Scalar.select v29 arg0 v35
  let c0_i32_17 : BitVec 32 := 0#32
  ![v28.toNat, v18.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8192x4096 : Shape := ⟨2, ![8192, 4096]⟩
abbrev S4096x12304 : Shape := ⟨2, ![4096, 12304]⟩
abbrev S128 : Shape := ⟨1, ![128]⟩
abbrev S8192x12304 : Shape := ⟨2, ![8192, 12304]⟩
abbrev S8192x2048 : Shape := ⟨2, ![8192, 2048]⟩
abbrev S8192x16x128 : Shape := ⟨3, ![8192, 16, 128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩

abbrev nBuf : Space → Nat
  | .hbm => 49
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x12304, .f32⟩
  | .hbm, ⟨2, _⟩ => ⟨S128, .f32⟩
  | .hbm, ⟨3, _⟩ => ⟨S128, .f32⟩
  | .hbm, ⟨4, _⟩ => ⟨S8192x4096, .f32⟩
  | .hbm, ⟨5, _⟩ => ⟨S8192x12304, .f32⟩
  | .hbm, ⟨6, _⟩ => ⟨S8192x2048, .f32⟩
  | .hbm, ⟨7, _⟩ => ⟨S8192x16x128, .f32⟩
  | .hbm, ⟨8, _⟩ => ⟨S8192x2048, .f32⟩
  | .hbm, ⟨9, _⟩ => ⟨S8192x16x128, .f32⟩
  | .hbm, ⟨10, _⟩ => ⟨S8192x16x128, .f32⟩
  | .hbm, ⟨11, _⟩ => ⟨S_, .f32⟩
  | .hbm, ⟨12, _⟩ => ⟨S8192x16, .f32⟩
  | .hbm, ⟨13, _⟩ => ⟨S8192x16x1, .f32⟩
  | .hbm, ⟨14, _⟩ => ⟨S_, .f32⟩
  | .hbm, ⟨15, _⟩ => ⟨S8192x16x1, .f32⟩
  | .hbm, ⟨16, _⟩ => ⟨S8192x16x1, .f32⟩
  | .hbm, ⟨17, _⟩ => ⟨S_, .f32⟩
  | .hbm, ⟨18, _⟩ => ⟨S8192x16x1, .f32⟩
  | .hbm, ⟨19, _⟩ => ⟨S8192x16x1, .f32⟩
  | .hbm, ⟨20, _⟩ => ⟨S8192x16x1, .f32⟩
  | .hbm, ⟨21, _⟩ => ⟨S8192x16x128, .f32⟩
  | .hbm, ⟨22, _⟩ => ⟨S8192x16x128, .f32⟩
  | .hbm, ⟨23, _⟩ => ⟨S1x1x128, .f32⟩
  | .hbm, ⟨24, _⟩ => ⟨S8192x16x128, .f32⟩
  | .hbm, ⟨25, _⟩ => ⟨S8192x16x128, .f32⟩
  | .hbm, ⟨26, _⟩ => ⟨S8192x16x128, .f32⟩
  | .hbm, ⟨27, _⟩ => ⟨S_, .f32⟩
  | .hbm, ⟨28, _⟩ => ⟨S8192x16, .f32⟩
  | .hbm, ⟨29, _⟩ => ⟨S8192x16x1, .f32⟩
  | .hbm, ⟨30, _⟩ => ⟨S_, .f32⟩
  | .hbm, ⟨31, _⟩ => ⟨S8192x16x1, .f32⟩
  | .hbm, ⟨32, _⟩ => ⟨S8192x16x1, .f32⟩
  | .hbm, ⟨33, _⟩ => ⟨S_, .f32⟩
  | .hbm, ⟨34, _⟩ => ⟨S8192x16x1, .f32⟩
  | .hbm, ⟨35, _⟩ => ⟨S8192x16x1, .f32⟩
  | .hbm, ⟨36, _⟩ => ⟨S8192x16x1, .f32⟩
  | .hbm, ⟨37, _⟩ => ⟨S8192x16x128, .f32⟩
  | .hbm, ⟨38, _⟩ => ⟨S8192x16x128, .f32⟩
  | .hbm, ⟨39, _⟩ => ⟨S1x1x128, .f32⟩
  | .hbm, ⟨40, _⟩ => ⟨S8192x16x128, .f32⟩
  | .hbm, ⟨41, _⟩ => ⟨S8192x16x128, .f32⟩
  | .hbm, ⟨42, _⟩ => ⟨S_, .f32⟩
  | .hbm, ⟨43, _⟩ => ⟨S8192x16x128, .f32⟩
  | .hbm, ⟨44, _⟩ => ⟨S8192x16x128, .f32⟩
  | .hbm, ⟨45, _⟩ => ⟨S8192x2048, .f32⟩
  | .hbm, ⟨46, _⟩ => ⟨S8192x2048, .f32⟩
  | .hbm, ⟨47, _⟩ => ⟨S8192x4096, .f32⟩
  | .hbm, ⟨48, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Kernel8.lean ====
abbrev S8192x4096 : Shape := ⟨2, ![8192, 4096]⟩
abbrev S2048x8192 : Shape := ⟨2, ![2048, 8192]⟩
abbrev S16x8192 : Shape := ⟨2, ![16, 8192]⟩
abbrev S16x1x8192 : Shape := ⟨3, ![16, 1, 8192]⟩
abbrev S8192x2048 : Shape := ⟨2, ![8192, 2048]⟩
abbrev S1024x128 : Shape := ⟨2, ![1024, 128]⟩
abbrev S8192x128 : Shape := ⟨2, ![8192, 128]⟩
abbrev S128x8192 : Shape := ⟨2, ![128, 8192]⟩
abbrev S1x1x8192 : Shape := ⟨3, ![1, 1, 8192]⟩
abbrev S144x8192 : Shape := ⟨2, ![144, 8192]⟩
abbrev S1024x256 : Shape := ⟨2, ![1024, 256]⟩
abbrev S512x1024 : Shape := ⟨2, ![512, 1024]⟩
abbrev S1x1024 : Shape := ⟨2, ![1, 1024]⟩
abbrev S144x1024 : Shape := ⟨2, ![144, 1024]⟩
abbrev S128x4096 : Shape := ⟨2, ![128, 4096]⟩
abbrev S1x1x4096 : Shape := ⟨3, ![1, 1, 4096]⟩
abbrev S1x4096 : Shape := ⟨2, ![1, 4096]⟩
abbrev S4096x128 : Shape := ⟨2, ![4096, 128]⟩
abbrev S512x128 : Shape := ⟨2, ![512, 128]⟩
abbrev S512x256 : Shape := ⟨2, ![512, 256]⟩
abbrev S1x256 : Shape := ⟨2, ![1, 256]⟩
abbrev S256 : Shape := ⟨1, ![256]⟩
abbrev S144x512 : Shape := ⟨2, ![144, 512]⟩
abbrev S144x256 : Shape := ⟨2, ![144, 256]⟩
abbrev S512x512 : Shape := ⟨2, ![512, 512]⟩
abbrev S128x1024 : Shape := ⟨2, ![128, 1024]⟩

abbrev nBuf : Space → Nat
  | .hbm => 6
  | .vmem => 20
  | .smem => 0
  | _ => 0

abbrev bufTy : (tb : Table) → Fin (tcTables nBuf tb) → BufTy
  | .hbm, ⟨0, _⟩ => ⟨S8192x4096, .bf16⟩
  | .hbm, ⟨1, _⟩ => ⟨S2048x8192, .bf16⟩
  | .hbm, ⟨2, _⟩ => ⟨S8192x4096, .bf16⟩
  | .hbm, ⟨3, _⟩ => ⟨S16x8192, .f32⟩
  | .hbm, ⟨4, _⟩ => ⟨S16x1x8192, .f32⟩
  | .hbm, ⟨5, _⟩ => ⟨S8192x2048, .bf16⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S128x8192, .bf16⟩
  | .local _ .vmem, ⟨5, _⟩ => ⟨S128x8192, .bf16⟩
  | .local _ .vmem, ⟨6, _⟩ => ⟨S1x1x8192, .f32⟩
  | .local _ .vmem, ⟨7, _⟩ => ⟨S1x1x8192, .f32⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S8192x128, .bf16⟩
  | .local _ .vmem, ⟨13, _⟩ => ⟨S8192x128, .bf16⟩
  | .local _ .vmem, ⟨14, _⟩ => ⟨S144x8192, .bf16⟩
  | .local _ .vmem, ⟨15, _⟩ => ⟨S1024x256, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S144x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_139 : BitVec 32 := 0#32
  let c2_i32_140 : BitVec 32 := 2#32
  let v288 : BitVec 32 := Scalar.addi c0_i32_139 c2_i32_140
  let c1_i32_141 : BitVec 32 := 1#32
  ⟨c0_i32_139, v288, c1_i32_141⟩
def k0_mult1 (k0_t1 : Fin k0_t1_loop.trips) : BitVec 32 :=
  let c0_i32_139 : BitVec 32 := 0#32
  let c1_i32_141 : BitVec 32 := 1#32
  let arg16 : BitVec 32 := Scf.iv c0_i32_139 c1_i32_141 k0_t1
  let c4096_i32 : BitVec 32 := 4096#32
  let v303 : BitVec 32 := Scalar.muli arg16 c4096_i32
  v303
def k0_off1 (k0_t1 : Fin k0_t1_loop.trips) : Fin 3 → Nat :=
  let c0_152 : Index := 0#32
  let c0_153 : Index := 0#32
  let c0_i32_139 : BitVec 32 := 0#32
  let c1_i32_141 : BitVec 32 := 1#32
  let arg16 : BitVec 32 := Scf.iv c0_i32_139 c1_i32_141 k0_t1
  let c4096_i32 : BitVec 32 := 4096#32
  let v303 : BitVec 32 := Scalar.muli arg16 c4096_i32
  let v304 : BitVec 32 := v303
  let v305 : Index := Scalar.indexCast v304
  ![0, 0, v305.toNat]
def k0_off2 (k0_t1 : Fin k0_t1_loop.trips) : Fin 2 → Nat :=
  let c0_i32_139 : BitVec 32 := 0#32
  let c1_i32_141 : BitVec 32 := 1#32
  let arg16 : BitVec 32 := Scf.iv c0_i32_139 c1_i32_141 k0_t1
  let c4096_i32 : BitVec 32 := 4096#32
  let v303 : BitVec 32 := Scalar.muli arg16 c4096_i32
  let v304 : BitVec 32 := v303
  let v369 : Index := Scalar.indexCast v304
  let c0_167 : Index := 0#32
  ![v369.toNat, 0]
def k0_mult2 (i : grid0.Coords) : BitVec 32 :=
  let arg1 : BitVec 32 := BitVec.ofNat 32 (i 1).val
  let c1024_i32 : BitVec 32 := 1024#32
  let v3 : BitVec 32 := Scalar.muli arg1 c1024_i32
  v3
def k0_off3 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v9 : Index := Scalar.indexCast v4
  let c0_4 : Index := 0#32
  ![v9.toNat, 0]
def k0_mult3 : BitVec 32 :=
  let c0_i32_11 : BitVec 32 := 0#32
  c0_i32_11
@[reducible] def k0_t2_loop (i : grid0.Coords) : Scf.Loop 32 :=
  let c0_i32_26 : BitVec 32 := 0#32
  let arg1 : BitVec 32 := BitVec.ofNat 32 (i 1).val
  let c1_i32 : BitVec 32 := 1#32
  let v33 : BitVec 32 := Scalar.muli arg1 c1_i32
  let c0_i32_19 : BitVec 32 := 0#32
  let v35 : BitVec 1 := Scalar.cmpi .sgt v33 c0_i32_19
  let v36 : BitVec 32 := Scalar.extui v35
  let c0_i32_20 : BitVec 32 := 0#32
  let v37 : BitVec 1 := Scalar.cmpi .slt v33 c0_i32_20
  let v38 : BitVec 32 := Scalar.extui v37
  let v39 : BitVec 32 := Scalar.subi v36 v38
  let c2_i32 : BitVec 32 := 2#32
  let c0_i32_21 : BitVec 32 := 0#32
  let v40 : BitVec 1 := Scalar.cmpi .sgt c2_i32 c0_i32_21
  let v41 : BitVec 32 := Scalar.extui v40
  let c0_i32_22 : BitVec 32 := 0#32
  let v42 : BitVec 1 := Scalar.cmpi .slt c2_i32 c0_i32_22
  let v43 : BitVec 32 := Scalar.extui v42
  let v44 : BitVec 32 := Scalar.subi v41 v43
  let v45 : BitVec 1 := Scalar.cmpi .ne v39 v44
  let v46 : BitVec 32 := Scalar.remsi v33 c2_i32
  let c0_i32_23 : BitVec 32 := 0#32
  let v47 : BitVec 1 := Scalar.cmpi .ne v46 c0_i32_23
  let v48 : BitVec 1 := Scalar.andi v45 v47
  let v34 : BitVec 32 := Scalar.divsi v33 c2_i32
  let c1_i32_24 : BitVec 32 := 1#32
  let v49 : BitVec 32 := Scalar.subi v34 c1_i32_24
  let v50 : BitVec 32 := Scalar.select v48 v49 v34
  let v51 : BitVec 32 := Scalar.subi v50 c0_i32_26
  let c1_i32_27 : BitVec 32 := 1#32
  let v53 : BitVec 32 := Scalar.divsi v51 c1_i32_27
  let v54 : BitVec 32 := Scalar.muli v53 c1_i32_27
  let v55 : BitVec 32 := Scalar.addi c0_i32_26 v54
  let c1_i32_28 : BitVec 32 := 1#32
  ⟨c0_i32_26, v55, c1_i32_28⟩
def k0_mult4 (i : grid0.Coords) (k0_t2 : Fin (k0_t2_loop i).trips) : BitVec 32 :=
  let c2_i32_140 : BitVec 32 := 2#32
  let c2_i32_139 : BitVec 32 := 2#32
  let c0_i32_26 : BitVec 32 := 0#32
  let c1_i32_28 : BitVec 32 := 1#32
  let arg16 : BitVec 32 := Scf.iv c0_i32_26 c1_i32_28 k0_t2
  let v287 : BitVec 32 := Scalar.muli c2_i32_139 arg16
  let v288 : BitVec 32 := Scalar.muli c2_i32_140 v287
  let c1_i32_141 : BitVec 32 := 1#32
  let v289 : BitVec 32 := Scalar.addi v288 c1_i32_141
  let c512_i32_142 : BitVec 32 := 512#32
  let v290 : BitVec 32 := Scalar.muli v289 c512_i32_142
  v290
def k0_off4 (i : grid0.Coords) (k0_t2 : Fin (k0_t2_loop i).trips) (c1_i32_141 : BitVec 32) : Fin 2 → Nat :=
  let c2_i32_140 : BitVec 32 := 2#32
  let c2_i32_139 : BitVec 32 := 2#32
  let c0_i32_26 : BitVec 32 := 0#32
  let c1_i32_28 : BitVec 32 := 1#32
  let arg16 : BitVec 32 := Scf.iv c0_i32_26 c1_i32_28 k0_t2
  let v287 : BitVec 32 := Scalar.muli c2_i32_139 arg16
  let v288 : BitVec 32 := Scalar.muli c2_i32_140 v287
  let v289 : BitVec 32 := Scalar.addi v288 c1_i32_141
  let c512_i32_142 : BitVec 32 := 512#32
  let v290 : BitVec 32 := Scalar.muli v289 c512_i32_142
  let v291 : BitVec 32 := v290
  let v292 : Index := Scalar.indexCast v291
  let c0_143 : Index := 0#32
  ![v292.toNat, 0]
def k0_mult5 (i : grid0.Coords) (k0_t2 : Fin (k0_t2_loop i).trips) : BitVec 32 :=
  let c2_i32_140 : BitVec 32 := 2#32
  let c2_i32_139 : BitVec 32 := 2#32
  let c0_i32_26 : BitVec 32 := 0#32
  let c1_i32_28 : BitVec 32 := 1#32
  let arg16 : BitVec 32 := Scf.iv c0_i32_26 c1_i32_28 k0_t2
  let v287 : BitVec 32 := Scalar.muli c2_i32_139 arg16
  let v288 : BitVec 32 := Scalar.muli c2_i32_140 v287
  let c512_i32_150 : BitVec 32 := 512#32
  let v302 : BitVec 32 := Scalar.muli v288 c512_i32_150
  v302
def k0_mult6 (i : grid0.Coords) : BitVec 32 :=
  let arg1 : BitVec 32 := BitVec.ofNat 32 (i 1).val
  let c0_i32_151 : BitVec 32 := 0#32
  let v304 : BitVec 32 := Scalar.minsi arg1 c0_i32_151
  let c8_i32_152 : BitVec 32 := 8#32
  let v305 : BitVec 32 := Scalar.muli v304 c8_i32_152
  v305
def k0_off5 (i : grid0.Coords) : Fin 2 → Nat :=
  let arg1 : BitVec 32 := BitVec.ofNat 32 (i 1).val
  let c0_i32_151 : BitVec 32 := 0#32
  let v304 : BitVec 32 := Scalar.minsi arg1 c0_i32_151
  let c8_i32_152 : BitVec 32 := 8#32
  let v305 : BitVec 32 := Scalar.muli v304 c8_i32_152
  let v306 : BitVec 32 := v305
  let v307 : Index := Scalar.indexCast v306
  let c0_153 : Index := 0#32
  ![v307.toNat, 0]
def k0_off6 (i : grid0.Coords) (k0_t2 : Fin (k0_t2_loop i).trips) : Fin 2 → Nat :=
  let c0_157 : Index := 0#32
  let c2_i32_140 : BitVec 32 := 2#32
  let c2_i32_139 : BitVec 32 := 2#32
  let c0_i32_26 : BitVec 32 := 0#32
  let c1_i32_28 : BitVec 32 := 1#32
  let arg16 : BitVec 32 := Scf.iv c0_i32_26 c1_i32_28 k0_t2
  let v287 : BitVec 32 := Scalar.muli c2_i32_139 arg16
  let v288 : BitVec 32 := Scalar.muli c2_i32_140 v287
  let c512_i32_150 : BitVec 32 := 512#32
  let v302 : BitVec 32 := Scalar.muli v288 c512_i32_150
  let v303 : BitVec 32 := v302
  let v319 : Index := Scalar.indexCast v303
  ![0, v319.toNat]
def k0_off7 (i : grid0.Coords) : Fin 2 → Nat :=
  let arg1 : BitVec 32 := BitVec.ofNat 32 (i 1).val
  let c0_i32_151 : BitVec 32 := 0#32
  let v304 : BitVec 32 := Scalar.minsi arg1 c0_i32_151
  let c8_i32_152 : BitVec 32 := 8#32
  let v305 : BitVec 32 := Scalar.muli v304 c8_i32_152
  let v306 : BitVec 32 := v305
  let v332 : Index := Scalar.indexCast v306
  let c256_165 : Index := 256#32
  ![v332.toNat, 256]
def k0_off8 (i : grid0.Coords) : Fin 2 → Nat :=
  let arg1 : BitVec 32 := BitVec.ofNat 32 (i 1).val
  let c0_i32_151 : BitVec 32 := 0#32
  let v304 : BitVec 32 := Scalar.minsi arg1 c0_i32_151
  let c8_i32_152 : BitVec 32 := 8#32
  let v305 : BitVec 32 := Scalar.muli v304 c8_i32_152
  let v306 : BitVec 32 := v305
  let v357 : Index := Scalar.indexCast v306
  let c512_177 : Index := 512#32
  ![v357.toNat, 512]
def k0_off9 (i : grid0.Coords) : Fin 2 → Nat :=
  let arg1 : BitVec 32 := BitVec.ofNat 32 (i 1).val
  let c0_i32_151 : BitVec 32 := 0#32
  let v304 : BitVec 32 := Scalar.minsi arg1 c0_i32_151
  let c8_i32_152 : BitVec 32 := 8#32
  let v305 : BitVec 32 := Scalar.muli v304 c8_i32_152
  let v306 : BitVec 32 := v305
  let v382 : Index := Scalar.indexCast v306
  let c768_189 : Index := 768#32
  ![v382.toNat, 768]
def k0_mult7 (i : grid0.Coords) (k0_t2 : Fin (k0_t2_loop i).trips) : BitVec 32 :=
  let c2_i32_140 : BitVec 32 := 2#32
  let c2_i32_139 : BitVec 32 := 2#32
  let c0_i32_26 : BitVec 32 := 0#32
  let c1_i32_28 : BitVec 32 := 1#32
  let arg16 : BitVec 32 := Scf.iv c0_i32_26 c1_i32_28 k0_t2
  let v287 : BitVec 32 := Scalar.muli c2_i32_139 arg16
  let v288 : BitVec 32 := Scalar.muli c2_i32_140 v287
  let c2_i32_201 : BitVec 32 := 2#32
  let v407 : BitVec 32 := Scalar.addi v288 c2_i32_201
  let c512_i32_202 : BitVec 32 := 512#32
  let v408 : BitVec 32 := Scalar.muli v407 c512_i32_202
  v408
def k0_mult8 (i : grid0.Coords) (k0_t2 : Fin (k0_t2_loop i).trips) : BitVec 32 :=
  let c2_i32_140 : BitVec 32 := 2#32
  let c2_i32_139 : BitVec 32 := 2#32
  let c0_i32_26 : BitVec 32 := 0#32
  let c1_i32_28 : BitVec 32 := 1#32
  let arg16 : BitVec 32 := Scf.iv c0_i32_26 c1_i32_28 k0_t2
  let v287 : BitVec 32 := Scalar.muli c2_i32_139 arg16
  let v288 : BitVec 32 := Scalar.muli c2_i32_140 v287
  let c1_i32_210 : BitVec 32 := 1#32
  let v420 : BitVec 32 := Scalar.addi v288 c1_i32_210
  let c512_i32_211 : BitVec 32 := 512#32
  let v421 : BitVec 32 := Scalar.muli v420 c512_i32_211
  v421
def k0_mult9 (i : grid0.Coords) : BitVec 32 :=
  let arg1 : BitVec 32 := BitVec.ofNat 32 (i 1).val
  let c0_i32_212 : BitVec 32 := 0#32
  let v423 : BitVec 32 := Scalar.minsi arg1 c0_i32_212
  let c8_i32_213 : BitVec 32 := 8#32
  let v424 : BitVec 32 := Scalar.muli v423 c8_i32_213
  v424
def k0_off10 (i : grid0.Coords) (k0_t2 : Fin (k0_t2_loop i).trips) : Fin 2 → Nat :=
  let c0_218 : Index := 0#32
  let c2_i32_140 : BitVec 32 := 2#32
  let c2_i32_139 : BitVec 32 := 2#32
  let c0_i32_26 : BitVec 32 := 0#32
  let c1_i32_28 : BitVec 32 := 1#32
  let arg16 : BitVec 32 := Scf.iv c0_i32_26 c1_i32_28 k0_t2
  let v287 : BitVec 32 := Scalar.muli c2_i32_139 arg16
  let v288 : BitVec 32 := Scalar.muli c2_i32_140 v287
  let c1_i32_210 : BitVec 32 := 1#32
  let v420 : BitVec 32 := Scalar.addi v288 c1_i32_210
  let c512_i32_211 : BitVec 32 := 512#32
  let v421 : BitVec 32 := Scalar.muli v420 c512_i32_211
  let v422 : BitVec 32 := v421
  let v438 : Index := Scalar.indexCast v422
  ![0, v438.toNat]
def k0_mult10 (i : grid0.Coords) (k0_t2 : Fin (k0_t2_loop i).trips) : BitVec 32 :=
  let c2_i32_264 : BitVec 32 := 2#32
  let c2_i32_262 : BitVec 32 := 2#32
  let c0_i32_26 : BitVec 32 := 0#32
  let c1_i32_28 : BitVec 32 := 1#32
  let arg16 : BitVec 32 := Scf.iv c0_i32_26 c1_i32_28 k0_t2
  let v526 : BitVec 32 := Scalar.muli c2_i32_262 arg16
  let c1_i32_263 : BitVec 32 := 1#32
  let v527 : BitVec 32 := Scalar.addi v526 c1_i32_263
  let v528 : BitVec 32 := Scalar.muli c2_i32_264 v527
  let c1_i32_265 : BitVec 32 := 1#32
  let v529 : BitVec 32 := Scalar.addi v528 c1_i32_265
  let c512_i32_266 : BitVec 32 := 512#32
  let v530 : BitVec 32 := Scalar.muli v529 c512_i32_266
  v530
def k0_off11 (i : grid0.Coords) (k0_t2 : Fin (k0_t2_loop i).trips) (c1_i32_265 : BitVec 32) : Fin 2 → Nat :=
  let c2_i32_264 : BitVec 32 := 2#32
  let c2_i32_262 : BitVec 32 := 2#32
  let c0_i32_26 : BitVec 32 := 0#32
  let c1_i32_28 : BitVec 32 := 1#32
  let arg16 : BitVec 32 := Scf.iv c0_i32_26 c1_i32_28 k0_t2
  let v526 : BitVec 32 := Scalar.muli c2_i32_262 arg16
  let c1_i32_263 : BitVec 32 := 1#32
  let v527 : BitVec 32 := Scalar.addi v526 c1_i32_263
  let v528 : BitVec 32 := Scalar.muli c2_i32_264 v527
  let v529 : BitVec 32 := Scalar.addi v528 c1_i32_265
  let c512_i32_266 : BitVec 32 := 512#32
  let v530 : BitVec 32 := Scalar.muli v529 c512_i32_266
  let v531 : BitVec 32 := v530
  let v532 : Index := Scalar.indexCast v531
  let c0_267 : Index := 0#32
  ![v532.toNat, 0]
def k0_mult11 (i : grid0.Coords) (k0_t2 : Fin (k0_t2_loop i).trips) : BitVec 32 :=
  let c2_i32_264 : BitVec 32 := 2#32
  let c2_i32_262 : BitVec 32 := 2#32
  let c0_i32_26 : BitVec 32 := 0#32
  let c1_i32_28 : BitVec 32 := 1#32
  let arg16 : BitVec 32 := Scf.iv c0_i32_26 c1_i32_28 k0_t2
  let v526 : BitVec 32 := Scalar.muli c2_i32_262 arg16
  let c1_i32_263 : BitVec 32 := 1#32
  let v527 : BitVec 32 := Scalar.addi v526 c1_i32_263
  let v528 : BitVec 32 := Scalar.muli c2_i32_264 v527
  let c512_i32_274 : BitVec 32 := 512#32
  let v542 : BitVec 32 := Scalar.muli v528 c512_i32_274
  v542
def k0_mult12 (i : grid0.Coords) : BitVec 32 :=
  let arg1 : BitVec 32 := BitVec.ofNat 32 (i 1).val
  let c0_i32_275 : BitVec 32 := 0#32
  let v544 : BitVec 32 := Scalar.minsi arg1 c0_i32_275
  let c8_i32_276 : BitVec 32 := 8#32
  let v545 : BitVec 32 := Scalar.muli v544 c8_i32_276
  v545
def k0_off12 (i : grid0.Coords) (k0_t2 : Fin (k0_t2_loop i).trips) : Fin 2 → Nat :=
  let c0_281 : Index := 0#32
  let c2_i32_264 : BitVec 32 := 2#32
  let c2_i32_262 : BitVec 32 := 2#32
  let c0_i32_26 : BitVec 32 := 0#32
  let c1_i32_28 : BitVec 32 := 1#32
  let arg16 : BitVec 32 := Scf.iv c0_i32_26 c1_i32_28 k0_t2
  let v526 : BitVec 32 := Scalar.muli c2_i32_262 arg16
  let c1_i32_263 : BitVec 32 := 1#32
  let v527 : BitVec 32 := Scalar.addi v526 c1_i32_263
  let v528 : BitVec 32 := Scalar.muli c2_i32_264 v527
  let c512_i32_274 : BitVec 32 := 512#32
  let v542 : BitVec 32 := Scalar.muli v528 c512_i32_274
  let v543 : BitVec 32 := v542
  let v559 : Index := Scalar.indexCast v543
  ![0, v559.toNat]
def k0_mult13 (i : grid0.Coords) (k0_t2 : Fin (k0_t2_loop i).trips) : BitVec 32 :=
  let c2_i32_264 : BitVec 32 := 2#32
  let c2_i32_262 : BitVec 32 := 2#32
  let c0_i32_26 : BitVec 32 := 0#32
  let c1_i32_28 : BitVec 32 := 1#32
  let arg16 : BitVec 32 := Scf.iv c0_i32_26 c1_i32_28 k0_t2
  let v526 : BitVec 32 := Scalar.muli c2_i32_262 arg16
  let c1_i32_263 : BitVec 32 := 1#32
  let v527 : BitVec 32 := Scalar.addi v526 c1_i32_263
  let v528 : BitVec 32 := Scalar.muli c2_i32_264 v527
  let c2_i32_325 : BitVec 32 := 2#32
  let v647 : BitVec 32 := Scalar.addi v528 c2_i32_325
  let c512_i32_326 : BitVec 32 := 512#32
  let v648 : BitVec 32 := Scalar.muli v647 c512_i32_326
  v648
def k0_mult14 (i : grid0.Coords) (k0_t2 : Fin (k0_t2_loop i).trips) : BitVec 32 :=
  let c2_i32_264 : BitVec 32 := 2#32
  let c2_i32_262 : BitVec 32 := 2#32
  let c0_i32_26 : BitVec 32 := 0#32
  let c1_i32_28 : BitVec 32 := 1#32
  let arg16 : BitVec 32 := Scf.iv c0_i32_26 c1_i32_28 k0_t2
  let v526 : BitVec 32 := Scalar.muli c2_i32_262 arg16
  let c1_i32_263 : BitVec 32 := 1#32
  let v527 : BitVec 32 := Scalar.addi v526 c1_i32_263
  let v528 : BitVec 32 := Scalar.muli c2_i32_264 v527
  let c1_i32_334 : BitVec 32 := 1#32
  let v660 : BitVec 32 := Scalar.addi v528 c1_i32_334
  let c512_i32_335 : BitVec 32 := 512#32
  let v661 : BitVec 32 := Scalar.muli v660 c512_i32_335
  v661
def k0_mult15 (i : grid0.Coords) : BitVec 32 :=
  let arg1 : BitVec 32 := BitVec.ofNat 32 (i 1).val
  let c0_i32_336 : BitVec 32 := 0#32
  let v663 : BitVec 32 := Scalar.minsi arg1 c0_i32_336
  let c8_i32_337 : BitVec 32 := 8#32
  let v664 : BitVec 32 := Scalar.muli v663 c8_i32_337
  v664
def k0_off13 (i : grid0.Coords) (k0_t2 : Fin (k0_t2_loop i).trips) : Fin 2 → Nat :=
  let c0_342 : Index := 0#32
  let c2_i32_264 : BitVec 32 := 2#32
  let c2_i32_262 : BitVec 32 := 2#32
  let c0_i32_26 : BitVec 32 := 0#32
  let c1_i32_28 : BitVec 32 := 1#32
  let arg16 : BitVec 32 := Scf.iv c0_i32_26 c1_i32_28 k0_t2
  let v526 : BitVec 32 := Scalar.muli c2_i32_262 arg16
  let c1_i32_263 : BitVec 32 := 1#32
  let v527 : BitVec 32 := Scalar.addi v526 c1_i32_263
  let v528 : BitVec 32 := Scalar.muli c2_i32_264 v527
  let c1_i32_334 : BitVec 32 := 1#32
  let v660 : BitVec 32 := Scalar.addi v528 c1_i32_334
  let c512_i32_335 : BitVec 32 := 512#32
  let v661 : BitVec 32 := Scalar.muli v660 c512_i32_335
  let v662 : BitVec 32 := v661
  let v678 : Index := Scalar.indexCast v662
  ![0, v678.toNat]
@[reducible] def k0_t3_loop (i : grid0.Coords) : Scf.Loop 32 :=
  let c0_i32_26 : BitVec 32 := 0#32
  let arg1 : BitVec 32 := BitVec.ofNat 32 (i 1).val
  let c1_i32 : BitVec 32 := 1#32
  let v33 : BitVec 32 := Scalar.muli arg1 c1_i32
  let c0_i32_19 : BitVec 32 := 0#32
  let v35 : BitVec 1 := Scalar.cmpi .sgt v33 c0_i32_19
  let v36 : BitVec 32 := Scalar.extui v35
  let c0_i32_20 : BitVec 32 := 0#32
  let v37 : BitVec 1 := Scalar.cmpi .slt v33 c0_i32_20
  let v38 : BitVec 32 := Scalar.extui v37
  let v39 : BitVec 32 := Scalar.subi v36 v38
  let c2_i32 : BitVec 32 := 2#32
  let c0_i32_21 : BitVec 32 := 0#32
  let v40 : BitVec 1 := Scalar.cmpi .sgt c2_i32 c0_i32_21
  let v41 : BitVec 32 := Scalar.extui v40
  let c0_i32_22 : BitVec 32 := 0#32
  let v42 : BitVec 1 := Scalar.cmpi .slt c2_i32 c0_i32_22
  let v43 : BitVec 32 := Scalar.extui v42
  let v44 : BitVec 32 := Scalar.subi v41 v43
  let v45 : BitVec 1 := Scalar.cmpi .ne v39 v44
  let v46 : BitVec 32 := Scalar.remsi v33 c2_i32
  let c0_i32_23 : BitVec 32 := 0#32
  let v47 : BitVec 1 := Scalar.cmpi .ne v46 c0_i32_23
  let v48 : BitVec 1 := Scalar.andi v45 v47
  let v34 : BitVec 32 := Scalar.divsi v33 c2_i32
  let c1_i32_24 : BitVec 32 := 1#32
  let v49 : BitVec 32 := Scalar.subi v34 c1_i32_24
  let v50 : BitVec 32 := Scalar.select v48 v49 v34
  let v51 : BitVec 32 := Scalar.subi v50 c0_i32_26
  let c1_i32_27 : BitVec 32 := 1#32
  let v53 : BitVec 32 := Scalar.divsi v51 c1_i32_27
  let v54 : BitVec 32 := Scalar.muli v53 c1_i32_27
  let v55 : BitVec 32 := Scalar.addi c0_i32_26 v54
  let v52 : BitVec 32 := Scalar.addi c0_i32_26 v51
  let c1_i32_29 : BitVec 32 := 1#32
  ⟨v55, v52, c1_i32_29⟩
def k0_mult16 (i : grid0.Coords) (k0_t3 : Fin (k0_t3_loop i).trips) : BitVec 32 :=
  let c2_i32_140 : BitVec 32 := 2#32
  let c2_i32_139 : BitVec 32 := 2#32
  let c0_i32_26 : BitVec 32 := 0#32
  let arg1 : BitVec 32 := BitVec.ofNat 32 (i 1).val
  let c1_i32 : BitVec 32 := 1#32
  let v33 : BitVec 32 := Scalar.muli arg1 c1_i32
  let c0_i32_19 : BitVec 32 := 0#32
  let v35 : BitVec 1 := Scalar.cmpi .sgt v33 c0_i32_19
  let v36 : BitVec 32 := Scalar.extui v35
  let c0_i32_20 : BitVec 32 := 0#32
  let v37 : BitVec 1 := Scalar.cmpi .slt v33 c0_i32_20
  let v38 : BitVec 32 := Scalar.extui v37
  let v39 : BitVec 32 := Scalar.subi v36 v38
  let c2_i32 : BitVec 32 := 2#32
  let c0_i32_21 : BitVec 32 := 0#32
  let v40 : BitVec 1 := Scalar.cmpi .sgt c2_i32 c0_i32_21
  let v41 : BitVec 32 := Scalar.extui v40
  let c0_i32_22 : BitVec 32 := 0#32
  let v42 : BitVec 1 := Scalar.cmpi .slt c2_i32 c0_i32_22
  let v43 : BitVec 32 := Scalar.extui v42
  let v44 : BitVec 32 := Scalar.subi v41 v43
  let v45 : BitVec 1 := Scalar.cmpi .ne v39 v44
  let v46 : BitVec 32 := Scalar.remsi v33 c2_i32
  let c0_i32_23 : BitVec 32 := 0#32
  let v47 : BitVec 1 := Scalar.cmpi .ne v46 c0_i32_23
  let v48 : BitVec 1 := Scalar.andi v45 v47
  let v34 : BitVec 32 := Scalar.divsi v33 c2_i32
  let c1_i32_24 : BitVec 32 := 1#32
  let v49 : BitVec 32 := Scalar.subi v34 c1_i32_24
  let v50 : BitVec 32 := Scalar.select v48 v49 v34
  let v51 : BitVec 32 := Scalar.subi v50 c0_i32_26
  let c1_i32_27 : BitVec 32 := 1#32
  let v53 : BitVec 32 := Scalar.divsi v51 c1_i32_27
  let v54 : BitVec 32 := Scalar.muli v53 c1_i32_27
  let v55 : BitVec 32 := Scalar.addi c0_i32_26 v54
  let c1_i32_29 : BitVec 32 := 1#32
  let arg16 : BitVec 32 := Scf.iv v55 c1_i32_29 k0_t3
  let v287 : BitVec 32 := Scalar.muli c2_i32_139 arg16
  let v288 : BitVec 32 := Scalar.muli c2_i32_140 v287
  let c1_i32_141 : BitVec 32 := 1#32
  let v289 : BitVec 32 := Scalar.addi v288 c1_i32_141
  let c512_i32_142 : BitVec 32 := 512#32
  let v290 : BitVec 32 := Scalar.muli v289 c512_i32_142
  v290
def k0_off14 (i : grid0.Coords) (k0_t3 : Fin (k0_t3_loop i).trips) (c1_i32_141 : BitVec 32) : Fin 2 → Nat :=
  let c2_i32_140 : BitVec 32 := 2#32
  let c2_i32_139 : BitVec 32 := 2#32
  let c0_i32_26 : BitVec 32 := 0#32
  let arg1 : BitVec 32 := BitVec.ofNat 32 (i 1).val
  let c1_i32 : BitVec 32 := 1#32
  let v33 : BitVec 32 := Scalar.muli arg1 c1_i32
  let c0_i32_19 : BitVec 32 := 0#32
  let v35 : BitVec 1 := Scalar.cmpi .sgt v33 c0_i32_19
  let v36 : BitVec 32 := Scalar.extui v35
  let c0_i32_20 : BitVec 32 := 0#32
  let v37 : BitVec 1 := Scalar.cmpi .slt v33 c0_i32_20
  let v38 : BitVec 32 := Scalar.extui v37
  let v39 : BitVec 32 := Scalar.subi v36 v38
  let c2_i32 : BitVec 32 := 2#32
  let c0_i32_21 : BitVec 32 := 0#32
  let v40 : BitVec 1 := Scalar.cmpi .sgt c2_i32 c0_i32_21
  let v41 : BitVec 32 := Scalar.extui v40
  let c0_i32_22 : BitVec 32 := 0#32
  let v42 : BitVec 1 := Scalar.cmpi .slt c2_i32 c0_i32_22
  let v43 : BitVec 32 := Scalar.extui v42
  let v44 : BitVec 32 := Scalar.subi v41 v43
  let v45 : BitVec 1 := Scalar.cmpi .ne v39 v44
  let v46 : BitVec 32 := Scalar.remsi v33 c2_i32
  let c0_i32_23 : BitVec 32 := 0#32
  let v47 : BitVec 1 := Scalar.cmpi .ne v46 c0_i32_23
  let v48 : BitVec 1 := Scalar.andi v45 v47
  let v34 : BitVec 32 := Scalar.divsi v33 c2_i32
  let c1_i32_24 : BitVec 32 := 1#32
  let v49 : BitVec 32 := Scalar.subi v34 c1_i32_24
  let v50 : BitVec 32 := Scalar.select v48 v49 v34
  let v51 : BitVec 32 := Scalar.subi v50 c0_i32_26
  let c1_i32_27 : BitVec 32 := 1#32
  let v53 : BitVec 32 := Scalar.divsi v51 c1_i32_27
  let v54 : BitVec 32 := Scalar.muli v53 c1_i32_27
  let v55 : BitVec 32 := Scalar.addi c0_i32_26 v54
  let c1_i32_29 : BitVec 32 := 1#32
  let arg16 : BitVec 32 := Scf.iv v55 c1_i32_29 k0_t3
  let v287 : BitVec 32 := Scalar.muli c2_i32_139 arg16
  let v288 : BitVec 32 := Scalar.muli c2_i32_140 v287
  let v289 : BitVec 32 := Scalar.addi v288 c1_i32_141
  let c512_i32_142 : BitVec 32 := 512#32
  let v290 : BitVec 32 := Scalar.muli v289 c512_i32_142
  let v291 : BitVec 32 := v290
  let v292 : Index := Scalar.indexCast v291
  let c0_143 : Index := 0#32
  ![v292.toNat, 0]
def k0_mult17 (i : grid0.Coords) (k0_t3 : Fin (k0_t3_loop i).trips) : BitVec 32 :=
  let c2_i32_140 : BitVec 32 := 2#32
  let c2_i32_139 : BitVec 32 := 2#32
  let c0_i32_26 : BitVec 32 := 0#32
  let arg1 : BitVec 32 := BitVec.ofNat 32 (i 1).val
  let c1_i32 : BitVec 32 := 1#32
  let v33 : BitVec 32 := Scalar.muli arg1 c1_i32
  let c0_i32_19 : BitVec 32 := 0#32
  let v35 : BitVec 1 := Scalar.cmpi .sgt v33 c0_i32_19
  let v36 : BitVec 32 := Scalar.extui v35
  let c0_i32_20 : BitVec 32 := 0#32
  let v37 : BitVec 1 := Scalar.cmpi .slt v33 c0_i32_20
  let v38 : BitVec 32 := Scalar.extui v37
  let v39 : BitVec 32 := Scalar.subi v36 v38
  let c2_i32 : BitVec 32 := 2#32
  let c0_i32_21 : BitVec 32 := 0#32
  let v40 : BitVec 1 := Scalar.cmpi .sgt c2_i32 c0_i32_21
  let v41 : BitVec 32 := Scalar.extui v40
  let c0_i32_22 : BitVec 32 := 0#32
  let v42 : BitVec 1 := Scalar.cmpi .slt c2_i32 c0_i32_22
  let v43 : BitVec 32 := Scalar.extui v42
  let v44 : BitVec 32 := Scalar.subi v41 v43
  let v45 : BitVec 1 := Scalar.cmpi .ne v39 v44
  let v46 : BitVec 32 := Scalar.remsi v33 c2_i32
  let c0_i32_23 : BitVec 32 := 0#32
  let v47 : BitVec 1 := Scalar.cmpi .ne v46 c0_i32_23
  let v48 : BitVec 1 := Scalar.andi v45 v47
  let v34 : BitVec 32 := Scalar.divsi v33 c2_i32
  let c1_i32_24 : BitVec 32 := 1#32
  let v49 : BitVec 32 := Scalar.subi v34 c1_i32_24
  let v50 : BitVec 32 := Scalar.select v48 v49 v34
  let v51 : BitVec 32 := Scalar.subi v50 c0_i32_26
  let c1_i32_27 : BitVec 32 := 1#32
  let v53 : BitVec 32 := Scalar.divsi v51 c1_i32_27
  let v54 : BitVec 32 := Scalar.muli v53 c1_i32_27
  let v55 : BitVec 32 := Scalar.addi c0_i32_26 v54
  let c1_i32_29 : BitVec 32 := 1#32
  let arg16 : BitVec 32 := Scf.iv v55 c1_i32_29 k0_t3
  let v287 : BitVec 32 := Scalar.muli c2_i32_139 arg16
  let v288 : BitVec 32 := Scalar.muli c2_i32_140 v287
  let c512_i32_150 : BitVec 32 := 512#32
  let v302 : BitVec 32 := Scalar.muli v288 c512_i32_150
  v302
def k0_mult18 (i : grid0.Coords) : BitVec 32 :=
  let arg1 : BitVec 32 := BitVec.ofNat 32 (i 1).val
  let c0_i32_151 : BitVec 32 := 0#32
  let v304 : BitVec 32 := Scalar.minsi arg1 c0_i32_151
  let c8_i32_152 : BitVec 32 := 8#32
  let v305 : BitVec 32 := Scalar.muli v304 c8_i32_152
  v305
def k0_off15 (i : grid0.Coords) : Fin 2 → Nat :=
  let arg1 : BitVec 32 := BitVec.ofNat 32 (i 1).val
  let c0_i32_151 : BitVec 32 := 0#32
  let v304 : BitVec 32 := Scalar.minsi arg1 c0_i32_151
  let c8_i32_152 : BitVec 32 := 8#32
  let v305 : BitVec 32 := Scalar.muli v304 c8_i32_152
  let v306 : BitVec 32 := v305
  let v307 : Index := Scalar.indexCast v306
  let c0_153 : Index := 0#32
  ![v307.toNat, 0]
def k0_off16 (i : grid0.Coords) (k0_t3 : Fin (k0_t3_loop i).trips) : Fin 2 → Nat :=
  let c0_157 : Index := 0#32
  let c2_i32_140 : BitVec 32 := 2#32
  let c2_i32_139 : BitVec 32 := 2#32
  let c0_i32_26 : BitVec 32 := 0#32
  let arg1 : BitVec 32 := BitVec.ofNat 32 (i 1).val
  let c1_i32 : BitVec 32 := 1#32
  let v33 : BitVec 32 := Scalar.muli arg1 c1_i32
  let c0_i32_19 : BitVec 32 := 0#32
  let v35 : BitVec 1 := Scalar.cmpi .sgt v33 c0_i32_19
  let v36 : BitVec 32 := Scalar.extui v35
  let c0_i32_20 : BitVec 32 := 0#32
  let v37 : BitVec 1 := Scalar.cmpi .slt v33 c0_i32_20
  let v38 : BitVec 32 := Scalar.extui v37
  let v39 : BitVec 32 := Scalar.subi v36 v38
  let c2_i32 : BitVec 32 := 2#32
  let c0_i32_21 : BitVec 32 := 0#32
  let v40 : BitVec 1 := Scalar.cmpi .sgt c2_i32 c0_i32_21
  let v41 : BitVec 32 := Scalar.extui v40
  let c0_i32_22 : BitVec 32 := 0#32
  let v42 : BitVec 1 := Scalar.cmpi .slt c2_i32 c0_i32_22
  let v43 : BitVec 32 := Scalar.extui v42
  let v44 : BitVec 32 := Scalar.subi v41 v43
  let v45 : BitVec 1 := Scalar.cmpi .ne v39 v44
  let v46 : BitVec 32 := Scalar.remsi v33 c2_i32
  let c0_i32_23 : BitVec 32 := 0#32
  let v47 : BitVec 1 := Scalar.cmpi .ne v46 c0_i32_23
  let v48 : BitVec 1 := Scalar.andi v45 v47
  let v34 : BitVec 32 := Scalar.divsi v33 c2_i32
  let c1_i32_24 : BitVec 32 := 1#32
  let v49 : BitVec 32 := Scalar.subi v34 c1_i32_24
  let v50 : BitVec 32 := Scalar.select v48 v49 v34
  let v51 : BitVec 32 := Scalar.subi v50 c0_i32_26
  let c1_i32_27 : BitVec 32 := 1#32
  let v53 : BitVec 32 := Scalar.divsi v51 c1_i32_27
  let v54 : BitVec 32 := Scalar.muli v53 c1_i32_27
  let v55 : BitVec 32 := Scalar.addi c0_i32_26 v54
  let c1_i32_29 : BitVec 32 := 1#32
  let arg16 : BitVec 32 := Scf.iv v55 c1_i32_29 k0_t3
  let v287 : BitVec 32 := Scalar.muli c2_i32_139 arg16
  let v288 : BitVec 32 := Scalar.muli c2_i32_140 v287
  let c512_i32_150 : BitVec 32 := 512#32
  let v302 : BitVec 32 := Scalar.muli v288 c512_i32_150
  let v303 : BitVec 32 := v302
  let v319 : Index := Scalar.indexCast v303
  ![0, v319.toNat]
def k0_off17 (i : grid0.Coords) : Fin 2 → Nat :=
  let arg1 : BitVec 32 := BitVec.ofNat 32 (i 1).val
  let c0_i32_151 : BitVec 32 := 0#32
  let v304 : BitVec 32 := Scalar.minsi arg1 c0_i32_151
  let c8_i32_152 : BitVec 32 := 8#32
  let v305 : BitVec 32 := Scalar.muli v304 c8_i32_152
  let v306 : BitVec 32 := v305
  let v332 : Index := Scalar.indexCast v306
  let c256_165 : Index := 256#32
  ![v332.toNat, 256]
def k0_off18 (i : grid0.Coords) : Fin 2 → Nat :=
  let arg1 : BitVec 32 := BitVec.ofNat 32 (i 1).val
  let c0_i32_151 : BitVec 32 := 0#32
  let v304 : BitVec 32 := Scalar.minsi arg1 c0_i32_151
  let c8_i32_152 : BitVec 32 := 8#32
  let v305 : BitVec 32 := Scalar.muli v304 c8_i32_152
  let v306 : BitVec 32 := v305
  let v357 : Index := Scalar.indexCast v306
  let c512_177 : Index := 512#32
  ![v357.toNat, 512]
def k0_off19 (i : grid0.Coords) : Fin 2 → Nat :=
  let arg1 : BitVec 32 := BitVec.ofNat 32 (i 1).val
  let c0_i32_151 : BitVec 32 := 0#32
  let v304 : BitVec 32 := Scalar.minsi arg1 c0_i32_151
  let c8_i32_152 : BitVec 32 := 8#32
  let v305 : BitVec 32 := Scalar.muli v304 c8_i32_152
  let v306 : BitVec 32 := v305
  let v382 : Index := Scalar.indexCast v306
  let c768_189 : Index := 768#32
  ![v382.toNat, 768]
def k0_mult19 (i : grid0.Coords) (k0_t3 : Fin (k0_t3_loop i).trips) : BitVec 32 :=
  let c2_i32_140 : BitVec 32 := 2#32
  let c2_i32_139 : BitVec 32 := 2#32
  let c0_i32_26 : BitVec 32 := 0#32
  let arg1 : BitVec 32 := BitVec.ofNat 32 (i 1).val
  let c1_i32 : BitVec 32 := 1#32
  let v33 : BitVec 32 := Scalar.muli arg1 c1_i32
  let c0_i32_19 : BitVec 32 := 0#32
  let v35 : BitVec 1 := Scalar.cmpi .sgt v33 c0_i32_19
  let v36 : BitVec 32 := Scalar.extui v35
  let c0_i32_20 : BitVec 32 := 0#32
  let v37 : BitVec 1 := Scalar.cmpi .slt v33 c0_i32_20
  let v38 : BitVec 32 := Scalar.extui v37
  let v39 : BitVec 32 := Scalar.subi v36 v38
  let c2_i32 : BitVec 32 := 2#32
  let c0_i32_21 : BitVec 32 := 0#32
  let v40 : BitVec 1 := Scalar.cmpi .sgt c2_i32 c0_i32_21
  let v41 : BitVec 32 := Scalar.extui v40
  let c0_i32_22 : BitVec 32 := 0#32
  let v42 : BitVec 1 := Scalar.cmpi .slt c2_i32 c0_i32_22
  let v43 : BitVec 32 := Scalar.extui v42
  let v44 : BitVec 32 := Scalar.subi v41 v43
  let v45 : BitVec 1 := Scalar.cmpi .ne v39 v44
  let v46 : BitVec 32 := Scalar.remsi v33 c2_i32
  let c0_i32_23 : BitVec 32 := 0#32
  let v47 : BitVec 1 := Scalar.cmpi .ne v46 c0_i32_23
  let v48 : BitVec 1 := Scalar.andi v45 v47
  let v34 : BitVec 32 := Scalar.divsi v33 c2_i32
  let c1_i32_24 : BitVec 32 := 1#32
  let v49 : BitVec 32 := Scalar.subi v34 c1_i32_24
  let v50 : BitVec 32 := Scalar.select v48 v49 v34
  let v51 : BitVec 32 := Scalar.subi v50 c0_i32_26
  let c1_i32_27 : BitVec 32 := 1#32
  let v53 : BitVec 32 := Scalar.divsi v51 c1_i32_27
  let v54 : BitVec 32 := Scalar.muli v53 c1_i32_27
  let v55 : BitVec 32 := Scalar.addi c0_i32_26 v54
  let c1_i32_29 : BitVec 32 := 1#32
  let arg16 : BitVec 32 := Scf.iv v55 c1_i32_29 k0_t3
  let v287 : BitVec 32 := Scalar.muli c2_i32_139 arg16
  let v288 : BitVec 32 := Scalar.muli c2_i32_140 v287
  let c2_i32_201 : BitVec 32 := 2#32
  let v407 : BitVec 32 := Scalar.addi v288 c2_i32_201
  let c512_i32_202 : BitVec 32 := 512#32
  let v408 : BitVec 32 := Scalar.muli v407 c512_i32_202
  v408
def k0_mult20 (i : grid0.Coords) (k0_t3 : Fin (k0_t3_loop i).trips) : BitVec 32 :=
  let c2_i32_140 : BitVec 32 := 2#32
  let c2_i32_139 : BitVec 32 := 2#32
  let c0_i32_26 : BitVec 32 := 0#32
  let arg1 : BitVec 32 := BitVec.ofNat 32 (i 1).val
  let c1_i32 : BitVec 32 := 1#32
  let v33 : BitVec 32 := Scalar.muli arg1 c1_i32
  let c0_i32_19 : BitVec 32 := 0#32
  let v35 : BitVec 1 := Scalar.cmpi .sgt v33 c0_i32_19
  let v36 : BitVec 32 := Scalar.extui v35
  let c0_i32_20 : BitVec 32 := 0#32
  let v37 : BitVec 1 := Scalar.cmpi .slt v33 c0_i32_20
  let v38 : BitVec 32 := Scalar.extui v37
  let v39 : BitVec 32 := Scalar.subi v36 v38
  let c2_i32 : BitVec 32 := 2#32
  let c0_i32_21 : BitVec 32 := 0#32
  let v40 : BitVec 1 := Scalar.cmpi .sgt c2_i32 c0_i32_21
  let v41 : BitVec 32 := Scalar.extui v40
  let c0_i32_22 : BitVec 32 := 0#32
  let v42 : BitVec 1 := Scalar.cmpi .slt c2_i32 c0_i32_22
  let v43 : BitVec 32 := Scalar.extui v42
  let v44 : BitVec 32 := Scalar.subi v41 v43
  let v45 : BitVec 1 := Scalar.cmpi .ne v39 v44
  let v46 : BitVec 32 := Scalar.remsi v33 c2_i32
  let c0_i32_23 : BitVec 32 := 0#32
  let v47 : BitVec 1 := Scalar.cmpi .ne v46 c0_i32_23
  let v48 : BitVec 1 := Scalar.andi v45 v47
  let v34 : BitVec 32 := Scalar.divsi v33 c2_i32
  let c1_i32_24 : BitVec 32 := 1#32
  let v49 : BitVec 32 := Scalar.subi v34 c1_i32_24
  let v50 : BitVec 32 := Scalar.select v48 v49 v34
  let v51 : BitVec 32 := Scalar.subi v50 c0_i32_26
  let c1_i32_27 : BitVec 32 := 1#32
  let v53 : BitVec 32 := Scalar.divsi v51 c1_i32_27
  let v54 : BitVec 32 := Scalar.muli v53 c1_i32_27
  let v55 : BitVec 32 := Scalar.addi c0_i32_26 v54
  let c1_i32_29 : BitVec 32 := 1#32
  let arg16 : BitVec 32 := Scf.iv v55 c1_i32_29 k0_t3
  let v287 : BitVec 32 := Scalar.muli c2_i32_139 arg16
  let v288 : BitVec 32 := Scalar.muli c2_i32_140 v287
  let c1_i32_210 : BitVec 32 := 1#32
  let v420 : BitVec 32 := Scalar.addi v288 c1_i32_210
  let c512_i32_211 : BitVec 32 := 512#32
  let v421 : BitVec 32 := Scalar.muli v420 c512_i32_211
  v421
def k0_mult21 (i : grid0.Coords) : BitVec 32 :=
  let arg1 : BitVec 32 := BitVec.ofNat 32 (i 1).val
  let c0_i32_212 : BitVec 32 := 0#32
  let v423 : BitVec 32 := Scalar.minsi arg1 c0_i32_212
  let c8_i32_213 : BitVec 32 := 8#32
  let v424 : BitVec 32 := Scalar.muli v423 c8_i32_213
  v424
def k0_off20 (i : grid0.Coords) (k0_t3 : Fin (k0_t3_loop i).trips) : Fin 2 → Nat :=
  let c0_218 : Index := 0#32
  let c2_i32_140 : BitVec 32 := 2#32
  let c2_i32_139 : BitVec 32 := 2#32
  let c0_i32_26 : BitVec 32 := 0#32
  let arg1 : BitVec 32 := BitVec.ofNat 32 (i 1).val
  let c1_i32 : BitVec 32 := 1#32
  let v33 : BitVec 32 := Scalar.muli arg1 c1_i32
  let c0_i32_19 : BitVec 32 := 0#32
  let v35 : BitVec 1 := Scalar.cmpi .sgt v33 c0_i32_19
  let v36 : BitVec 32 := Scalar.extui v35
  let c0_i32_20 : BitVec 32 := 0#32
  let v37 : BitVec 1 := Scalar.cmpi .slt v33 c0_i32_20
  let v38 : BitVec 32 := Scalar.extui v37
  let v39 : BitVec 32 := Scalar.subi v36 v38
  let c2_i32 : BitVec 32 := 2#32
  let c0_i32_21 : BitVec 32 := 0#32
  let v40 : BitVec 1 := Scalar.cmpi .sgt c2_i32 c0_i32_21
  let v41 : BitVec 32 := Scalar.extui v40
  let c0_i32_22 : BitVec 32 := 0#32
  let v42 : BitVec 1 := Scalar.cmpi .slt c2_i32 c0_i32_22
  let v43 : BitVec 32 := Scalar.extui v42
  let v44 : BitVec 32 := Scalar.subi v41 v43
  let v45 : BitVec 1 := Scalar.cmpi .ne v39 v44
  let v46 : BitVec 32 := Scalar.remsi v33 c2_i32
  let c0_i32_23 : BitVec 32 := 0#32
  let v47 : BitVec 1 := Scalar.cmpi .ne v46 c0_i32_23
  let v48 : BitVec 1 := Scalar.andi v45 v47
  let v34 : BitVec 32 := Scalar.divsi v33 c2_i32
  let c1_i32_24 : BitVec 32 := 1#32
  let v49 : BitVec 32 := Scalar.subi v34 c1_i32_24
  let v50 : BitVec 32 := Scalar.select v48 v49 v34
  let v51 : BitVec 32 := Scalar.subi v50 c0_i32_26
  let c1_i32_27 : BitVec 32 := 1#32
  let v53 : BitVec 32 := Scalar.divsi v51 c1_i32_27
  let v54 : BitVec 32 := Scalar.muli v53 c1_i32_27
  let v55 : BitVec 32 := Scalar.addi c0_i32_26 v54
  let c1_i32_29 : BitVec 32 := 1#32
  let arg16 : BitVec 32 := Scf.iv v55 c1_i32_29 k0_t3
  let v287 : BitVec 32 := Scalar.muli c2_i32_139 arg16
  let v288 : BitVec 32 := Scalar.muli c2_i32_140 v287
  let c1_i32_210 : BitVec 32 := 1#32
  let v420 : BitVec 32 := Scalar.addi v288 c1_i32_210
  let c512_i32_211 : BitVec 32 := 512#32
  let v421 : BitVec 32 := Scalar.muli v420 c512_i32_211
  let v422 : BitVec 32 := v421
  let v438 : Index := Scalar.indexCast v422
  ![0, v438.toNat]
def k0_mult22 (i : grid0.Coords) (k0_t3 : Fin (k0_t3_loop i).trips) : BitVec 32 :=
  let c2_i32_264 : BitVec 32 := 2#32
  let c2_i32_262 : BitVec 32 := 2#32
  let c0_i32_26 : BitVec 32 := 0#32
  let arg1 : BitVec 32 := BitVec.ofNat 32 (i 1).val
  let c1_i32 : BitVec 32 := 1#32
  let v33 : BitVec 32 := Scalar.muli arg1 c1_i32
  let c0_i32_19 : BitVec 32 := 0#32
  let v35 : BitVec 1 := Scalar.cmpi .sgt v33 c0_i32_19
  let v36 : BitVec 32 := Scalar.extui v35
  let c0_i32_20 : BitVec 32 := 0#32
  let v37 : BitVec 1 := Scalar.cmpi .slt v33 c0_i32_20
  let v38 : BitVec 32 := Scalar.extui v37
  let v39 : BitVec 32 := Scalar.subi v36 v38
  let c2_i32 : BitVec 32 := 2#32
  let c0_i32_21 : BitVec 32 := 0#32
  let v40 : BitVec 1 := Scalar.cmpi .sgt c2_i32 c0_i32_21
  let v41 : BitVec 32 := Scalar.extui v40
  let c0_i32_22 : BitVec 32 := 0#32
  let v42 : BitVec 1 := Scalar.cmpi .slt c2_i32 c0_i32_22
  let v43 : BitVec 32 := Scalar.extui v42
  let v44 : BitVec 32 := Scalar.subi v41 v43
  let v45 : BitVec 1 := Scalar.cmpi .ne v39 v44
  let v46 : BitVec 32 := Scalar.remsi v33 c2_i32
  let c0_i32_23 : BitVec 32 := 0#32
  let v47 : BitVec 1 := Scalar.cmpi .ne v46 c0_i32_23
  let v48 : BitVec 1 := Scalar.andi v45 v47
  let v34 : BitVec 32 := Scalar.divsi v33 c2_i32
  let c1_i32_24 : BitVec 32 := 1#32
  let v49 : BitVec 32 := Scalar.subi v34 c1_i32_24
  let v50 : BitVec 32 := Scalar.select v48 v49 v34
  let v51 : BitVec 32 := Scalar.subi v50 c0_i32_26
  let c1_i32_27 : BitVec 32 := 1#32
  let v53 : BitVec 32 := Scalar.divsi v51 c1_i32_27
  let v54 : BitVec 32 := Scalar.muli v53 c1_i32_27
  let v55 : BitVec 32 := Scalar.addi c0_i32_26 v54
  let c1_i32_29 : BitVec 32 := 1#32
  let arg16 : BitVec 32 := Scf.iv v55 c1_i32_29 k0_t3
  let v526 : BitVec 32 := Scalar.muli c2_i32_262 arg16
  let c1_i32_263 : BitVec 32 := 1#32
  let v527 : BitVec 32 := Scalar.addi v526 c1_i32_263
  let v528 : BitVec 32 := Scalar.muli c2_i32_264 v527
  let c1_i32_265 : BitVec 32 := 1#32
  let v529 : BitVec 32 := Scalar.addi v528 c1_i32_265
  let c512_i32_266 : BitVec 32 := 512#32
  let v530 : BitVec 32 := Scalar.muli v529 c512_i32_266
  v530
def k0_off21 (i : grid0.Coords) (k0_t3 : Fin (k0_t3_loop i).trips) (c1_i32_265 : BitVec 32) : Fin 2 → Nat :=
  let c2_i32_264 : BitVec 32 := 2#32
  let c2_i32_262 : BitVec 32 := 2#32
  let c0_i32_26 : BitVec 32 := 0#32
  let arg1 : BitVec 32 := BitVec.ofNat 32 (i 1).val
  let c1_i32 : BitVec 32 := 1#32
  let v33 : BitVec 32 := Scalar.muli arg1 c1_i32
  let c0_i32_19 : BitVec 32 := 0#32
  let v35 : BitVec 1 := Scalar.cmpi .sgt v33 c0_i32_19
  let v36 : BitVec 32 := Scalar.extui v35
  let c0_i32_20 : BitVec 32 := 0#32
  let v37 : BitVec 1 := Scalar.cmpi .slt v33 c0_i32_20
  let v38 : BitVec 32 := Scalar.extui v37
  let v39 : BitVec 32 := Scalar.subi v36 v38
  let c2_i32 : BitVec 32 := 2#32
  let c0_i32_21 : BitVec 32 := 0#32
  let v40 : BitVec 1 := Scalar.cmpi .sgt c2_i32 c0_i32_21
  let v41 : BitVec 32 := Scalar.extui v40
  let c0_i32_22 : BitVec 32 := 0#32
  let v42 : BitVec 1 := Scalar.cmpi .slt c2_i32 c0_i32_22
  let v43 : BitVec 32 := Scalar.extui v42
  let v44 : BitVec 32 := Scalar.subi v41 v43
  let v45 : BitVec 1 := Scalar.cmpi .ne v39 v44
  let v46 : BitVec 32 := Scalar.remsi v33 c2_i32
  let c0_i32_23 : BitVec 32 := 0#32
  let v47 : BitVec 1 := Scalar.cmpi .ne v46 c0_i32_23
  let v48 : BitVec 1 := Scalar.andi v45 v47
  let v34 : BitVec 32 := Scalar.divsi v33 c2_i32
  let c1_i32_24 : BitVec 32 := 1#32
  let v49 : BitVec 32 := Scalar.subi v34 c1_i32_24
  let v50 : BitVec 32 := Scalar.select v48 v49 v34
  let v51 : BitVec 32 := Scalar.subi v50 c0_i32_26
  let c1_i32_27 : BitVec 32 := 1#32
  let v53 : BitVec 32 := Scalar.divsi v51 c1_i32_27
  let v54 : BitVec 32 := Scalar.muli v53 c1_i32_27
  let v55 : BitVec 32 := Scalar.addi c0_i32_26 v54
  let c1_i32_29 : BitVec 32 := 1#32
  let arg16 : BitVec 32 := Scf.iv v55 c1_i32_29 k0_t3
  let v526 : BitVec 32 := Scalar.muli c2_i32_262 arg16
  let c1_i32_263 : BitVec 32 := 1#32
  let v527 : BitVec 32 := Scalar.addi v526 c1_i32_263
  let v528 : BitVec 32 := Scalar.muli c2_i32_264 v527
  let v529 : BitVec 32 := Scalar.addi v528 c1_i32_265
  let c512_i32_266 : BitVec 32 := 512#32
  let v530 : BitVec 32 := Scalar.muli v529 c512_i32_266
  let v531 : BitVec 32 := v530
  let v532 : Index := Scalar.indexCast v531
  let c0_267 : Index := 0#32
  ![v532.toNat, 0]
def k0_mult23 (i : grid0.Coords) (k0_t3 : Fin (k0_t3_loop i).trips) : BitVec 32 :=
  let c2_i32_264 : BitVec 32 := 2#32
  let c2_i32_262 : BitVec 32 := 2#32
  let c0_i32_26 : BitVec 32 := 0#32
  let arg1 : BitVec 32 := BitVec.ofNat 32 (i 1).val
  let c1_i32 : BitVec 32 := 1#32
  let v33 : BitVec 32 := Scalar.muli arg1 c1_i32
  let c0_i32_19 : BitVec 32 := 0#32
  let v35 : BitVec 1 := Scalar.cmpi .sgt v33 c0_i32_19
  let v36 : BitVec 32 := Scalar.extui v35
  let c0_i32_20 : BitVec 32 := 0#32
  let v37 : BitVec 1 := Scalar.cmpi .slt v33 c0_i32_20
  let v38 : BitVec 32 := Scalar.extui v37
  let v39 : BitVec 32 := Scalar.subi v36 v38
  let c2_i32 : BitVec 32 := 2#32
  let c0_i32_21 : BitVec 32 := 0#32
  let v40 : BitVec 1 := Scalar.cmpi .sgt c2_i32 c0_i32_21
  let v41 : BitVec 32 := Scalar.extui v40
  let c0_i32_22 : BitVec 32 := 0#32
  let v42 : BitVec 1 := Scalar.cmpi .slt c2_i32 c0_i32_22
  let v43 : BitVec 32 := Scalar.extui v42
  let v44 : BitVec 32 := Scalar.subi v41 v43
  let v45 : BitVec 1 := Scalar.cmpi .ne v39 v44
  let v46 : BitVec 32 := Scalar.remsi v33 c2_i32
  let c0_i32_23 : BitVec 32 := 0#32
  let v47 : BitVec 1 := Scalar.cmpi .ne v46 c0_i32_23
  let v48 : BitVec 1 := Scalar.andi v45 v47
  let v34 : BitVec 32 := Scalar.divsi v33 c2_i32
  let c1_i32_24 : BitVec 32 := 1#32
  let v49 : BitVec 32 := Scalar.subi v34 c1_i32_24
  let v50 : BitVec 32 := Scalar.select v48 v49 v34
  let v51 : BitVec 32 := Scalar.subi v50 c0_i32_26
  let c1_i32_27 : BitVec 32 := 1#32
  let v53 : BitVec 32 := Scalar.divsi v51 c1_i32_27
  let v54 : BitVec 32 := Scalar.muli v53 c1_i32_27
  let v55 : BitVec 32 := Scalar.addi c0_i32_26 v54
  let c1_i32_29 : BitVec 32 := 1#32
  let arg16 : BitVec 32 := Scf.iv v55 c1_i32_29 k0_t3
  let v526 : BitVec 32 := Scalar.muli c2_i32_262 arg16
  let c1_i32_263 : BitVec 32 := 1#32
  let v527 : BitVec 32 := Scalar.addi v526 c1_i32_263
  let v528 : BitVec 32 := Scalar.muli c2_i32_264 v527
  let c512_i32_274 : BitVec 32 := 512#32
  let v542 : BitVec 32 := Scalar.muli v528 c512_i32_274
  v542
def k0_mult24 (i : grid0.Coords) : BitVec 32 :=
  let arg1 : BitVec 32 := BitVec.ofNat 32 (i 1).val
  let c0_i32_275 : BitVec 32 := 0#32
  let v544 : BitVec 32 := Scalar.minsi arg1 c0_i32_275
  let c8_i32_276 : BitVec 32 := 8#32
  let v545 : BitVec 32 := Scalar.muli v544 c8_i32_276
  v545
def k0_off22 (i : grid0.Coords) (k0_t3 : Fin (k0_t3_loop i).trips) : Fin 2 → Nat :=
  let c0_281 : Index := 0#32
  let c2_i32_264 : BitVec 32 := 2#32
  let c2_i32_262 : BitVec 32 := 2#32
  let c0_i32_26 : BitVec 32 := 0#32
  let arg1 : BitVec 32 := BitVec.ofNat 32 (i 1).val
  let c1_i32 : BitVec 32 := 1#32
  let v33 : BitVec 32 := Scalar.muli arg1 c1_i32
  let c0_i32_19 : BitVec 32 := 0#32
  let v35 : BitVec 1 := Scalar.cmpi .sgt v33 c0_i32_19
  let v36 : BitVec 32 := Scalar.extui v35
  let c0_i32_20 : BitVec 32 := 0#32
  let v37 : BitVec 1 := Scalar.cmpi .slt v33 c0_i32_20
  let v38 : BitVec 32 := Scalar.extui v37
  let v39 : BitVec 32 := Scalar.subi v36 v38
  let c2_i32 : BitVec 32 := 2#32
  let c0_i32_21 : BitVec 32 := 0#32
  let v40 : BitVec 1 := Scalar.cmpi .sgt c2_i32 c0_i32_21
  let v41 : BitVec 32 := Scalar.extui v40
  let c0_i32_22 : BitVec 32 := 0#32
  let v42 : BitVec 1 := Scalar.cmpi .slt c2_i32 c0_i32_22
  let v43 : BitVec 32 := Scalar.extui v42
  let v44 : BitVec 32 := Scalar.subi v41 v43
  let v45 : BitVec 1 := Scalar.cmpi .ne v39 v44
  let v46 : BitVec 32 := Scalar.remsi v33 c2_i32
  let c0_i32_23 : BitVec 32 := 0#32
  let v47 : BitVec 1 := Scalar.cmpi .ne v46 c0_i32_23
  let v48 : BitVec 1 := Scalar.andi v45 v47
  let v34 : BitVec 32 := Scalar.divsi v33 c2_i32
  let c1_i32_24 : BitVec 32 := 1#32
  let v49 : BitVec 32 := Scalar.subi v34 c1_i32_24
  let v50 : BitVec 32 := Scalar.select v48 v49 v34
  let v51 : BitVec 32 := Scalar.subi v50 c0_i32_26
  let c1_i32_27 : BitVec 32 := 1#32
  let v53 : BitVec 32 := Scalar.divsi v51 c1_i32_27
  let v54 : BitVec 32 := Scalar.muli v53 c1_i32_27
  let v55 : BitVec 32 := Scalar.addi c0_i32_26 v54
  let c1_i32_29 : BitVec 32 := 1#32
  let arg16 : BitVec 32 := Scf.iv v55 c1_i32_29 k0_t3
  let v526 : BitVec 32 := Scalar.muli c2_i32_262 arg16
  let c1_i32_263 : BitVec 32 := 1#32
  let v527 : BitVec 32 := Scalar.addi v526 c1_i32_263
  let v528 : BitVec 32 := Scalar.muli c2_i32_264 v527
  let c512_i32_274 : BitVec 32 := 512#32
  let v542 : BitVec 32 := Scalar.muli v528 c512_i32_274
  let v543 : BitVec 32 := v542
  let v559 : Index := Scalar.indexCast v543
  ![0, v559.toNat]
def k0_mult25 (i : grid0.Coords) (k0_t3 : Fin (k0_t3_loop i).trips) : BitVec 32 :=
  let c2_i32_264 : BitVec 32 := 2#32
  let c2_i32_262 : BitVec 32 := 2#32
  let c0_i32_26 : BitVec 32 := 0#32
  let arg1 : BitVec 32 := BitVec.ofNat 32 (i 1).val
  let c1_i32 : BitVec 32 := 1#32
  let v33 : BitVec 32 := Scalar.muli arg1 c1_i32
  let c0_i32_19 : BitVec 32 := 0#32
  let v35 : BitVec 1 := Scalar.cmpi .sgt v33 c0_i32_19
  let v36 : BitVec 32 := Scalar.extui v35
  let c0_i32_20 : BitVec 32 := 0#32
  let v37 : BitVec 1 := Scalar.cmpi .slt v33 c0_i32_20
  let v38 : BitVec 32 := Scalar.extui v37
  let v39 : BitVec 32 := Scalar.subi v36 v38
  let c2_i32 : BitVec 32 := 2#32
  let c0_i32_21 : BitVec 32 := 0#32
  let v40 : BitVec 1 := Scalar.cmpi .sgt c2_i32 c0_i32_21
  let v41 : BitVec 32 := Scalar.extui v40
  let c0_i32_22 : BitVec 32 := 0#32
  let v42 : BitVec 1 := Scalar.cmpi .slt c2_i32 c0_i32_22
  let v43 : BitVec 32 := Scalar.extui v42
  let v44 : BitVec 32 := Scalar.subi v41 v43
  let v45 : BitVec 1 := Scalar.cmpi .ne v39 v44
  let v46 : BitVec 32 := Scalar.remsi v33 c2_i32
  let c0_i32_23 : BitVec 32 := 0#32
  let v47 : BitVec 1 := Scalar.cmpi .ne v46 c0_i32_23
  let v48 : BitVec 1 := Scalar.andi v45 v47
  let v34 : BitVec 32 := Scalar.divsi v33 c2_i32
  let c1_i32_24 : BitVec 32 := 1#32
  let v49 : BitVec 32 := Scalar.subi v34 c1_i32_24
  let v50 : BitVec 32 := Scalar.select v48 v49 v34
  let v51 : BitVec 32 := Scalar.subi v50 c0_i32_26
  let c1_i32_27 : BitVec 32 := 1#32
  let v53 : BitVec 32 := Scalar.divsi v51 c1_i32_27
  let v54 : BitVec 32 := Scalar.muli v53 c1_i32_27
  let v55 : BitVec 32 := Scalar.addi c0_i32_26 v54
  let c1_i32_29 : BitVec 32 := 1#32
  let arg16 : BitVec 32 := Scf.iv v55 c1_i32_29 k0_t3
  let v526 : BitVec 32 := Scalar.muli c2_i32_262 arg16
  let c1_i32_263 : BitVec 32 := 1#32
  let v527 : BitVec 32 := Scalar.addi v526 c1_i32_263
  let v528 : BitVec 32 := Scalar.muli c2_i32_264 v527
  let c2_i32_325 : BitVec 32 := 2#32
  let v647 : BitVec 32 := Scalar.addi v528 c2_i32_325
  let c512_i32_326 : BitVec 32 := 512#32
  let v648 : BitVec 32 := Scalar.muli v647 c512_i32_326
  v648
def k0_mult26 (i : grid0.Coords) (k0_t3 : Fin (k0_t3_loop i).trips) : BitVec 32 :=
  let c2_i32_264 : BitVec 32 := 2#32
  let c2_i32_262 : BitVec 32 := 2#32
  let c0_i32_26 : BitVec 32 := 0#32
  let arg1 : BitVec 32 := BitVec.ofNat 32 (i 1).val
  let c1_i32 : BitVec 32 := 1#32
  let v33 : BitVec 32 := Scalar.muli arg1 c1_i32
  let c0_i32_19 : BitVec 32 := 0#32
  let v35 : BitVec 1 := Scalar.cmpi .sgt v33 c0_i32_19
  let v36 : BitVec 32 := Scalar.extui v35
  let c0_i32_20 : BitVec 32 := 0#32
  let v37 : BitVec 1 := Scalar.cmpi .slt v33 c0_i32_20
  let v38 : BitVec 32 := Scalar.extui v37
  let v39 : BitVec 32 := Scalar.subi v36 v38
  let c2_i32 : BitVec 32 := 2#32
  let c0_i32_21 : BitVec 32 := 0#32
  let v40 : BitVec 1 := Scalar.cmpi .sgt c2_i32 c0_i32_21
  let v41 : BitVec 32 := Scalar.extui v40
  let c0_i32_22 : BitVec 32 := 0#32
  let v42 : BitVec 1 := Scalar.cmpi .slt c2_i32 c0_i32_22
  let v43 : BitVec 32 := Scalar.extui v42
  let v44 : BitVec 32 := Scalar.subi v41 v43
  let v45 : BitVec 1 := Scalar.cmpi .ne v39 v44
  let v46 : BitVec 32 := Scalar.remsi v33 c2_i32
  let c0_i32_23 : BitVec 32 := 0#32
  let v47 : BitVec 1 := Scalar.cmpi .ne v46 c0_i32_23
  let v48 : BitVec 1 := Scalar.andi v45 v47
  let v34 : BitVec 32 := Scalar.divsi v33 c2_i32
  let c1_i32_24 : BitVec 32 := 1#32
  let v49 : BitVec 32 := Scalar.subi v34 c1_i32_24
  let v50 : BitVec 32 := Scalar.select v48 v49 v34
  let v51 : BitVec 32 := Scalar.subi v50 c0_i32_26
  let c1_i32_27 : BitVec 32 := 1#32
  let v53 : BitVec 32 := Scalar.divsi v51 c1_i32_27
  let v54 : BitVec 32 := Scalar.muli v53 c1_i32_27
  let v55 : BitVec 32 := Scalar.addi c0_i32_26 v54
  let c1_i32_29 : BitVec 32 := 1#32
  let arg16 : BitVec 32 := Scf.iv v55 c1_i32_29 k0_t3
  let v526 : BitVec 32 := Scalar.muli c2_i32_262 arg16
  let c1_i32_263 : BitVec 32 := 1#32
  let v527 : BitVec 32 := Scalar.addi v526 c1_i32_263
  let v528 : BitVec 32 := Scalar.muli c2_i32_264 v527
  let c1_i32_334 : BitVec 32 := 1#32
  let v660 : BitVec 32 := Scalar.addi v528 c1_i32_334
  let c512_i32_335 : BitVec 32 := 512#32
  let v661 : BitVec 32 := Scalar.muli v660 c512_i32_335
  v661
def k0_mult27 (i : grid0.Coords) : BitVec 32 :=
  let arg1 : BitVec 32 := BitVec.ofNat 32 (i 1).val
  let c0_i32_336 : BitVec 32 := 0#32
  let v663 : BitVec 32 := Scalar.minsi arg1 c0_i32_336
  let c8_i32_337 : BitVec 32 := 8#32
  let v664 : BitVec 32 := Scalar.muli v663 c8_i32_337
  v664
def k0_off23 (i : grid0.Coords) (k0_t3 : Fin (k0_t3_loop i).trips) : Fin 2 → Nat :=
  let c0_342 : Index := 0#32
  let c2_i32_264 : BitVec 32 := 2#32
  let c2_i32_262 : BitVec 32 := 2#32
  let c0_i32_26 : BitVec 32 := 0#32
  let arg1 : BitVec 32 := BitVec.ofNat 32 (i 1).val
  let c1_i32 : BitVec 32 := 1#32
  let v33 : BitVec 32 := Scalar.muli arg1 c1_i32
  let c0_i32_19 : BitVec 32 := 0#32
  let v35 : BitVec 1 := Scalar.cmpi .sgt v33 c0_i32_19
  let v36 : BitVec 32 := Scalar.extui v35
  let c0_i32_20 : BitVec 32 := 0#32
  let v37 : BitVec 1 := Scalar.cmpi .slt v33 c0_i32_20
  let v38 : BitVec 32 := Scalar.extui v37
  let v39 : BitVec 32 := Scalar.subi v36 v38
  let c2_i32 : BitVec 32 := 2#32
  let c0_i32_21 : BitVec 32 := 0#32
  let v40 : BitVec 1 := Scalar.cmpi .sgt c2_i32 c0_i32_21
  let v41 : BitVec 32 := Scalar.extui v40
  let c0_i32_22 : BitVec 32 := 0#32
  let v42 : BitVec 1 := Scalar.cmpi .slt c2_i32 c0_i32_22
  let v43 : BitVec 32 := Scalar.extui v42
  let v44 : BitVec 32 := Scalar.subi v41 v43
  let v45 : BitVec 1 := Scalar.cmpi .ne v39 v44
  let v46 : BitVec 32 := Scalar.remsi v33 c2_i32
  let c0_i32_23 : BitVec 32 := 0#32
  let v47 : BitVec 1 := Scalar.cmpi .ne v46 c0_i32_23
  let v48 : BitVec 1 := Scalar.andi v45 v47
  let v34 : BitVec 32 := Scalar.divsi v33 c2_i32
  let c1_i32_24 : BitVec 32 := 1#32
  let v49 : BitVec 32 := Scalar.subi v34 c1_i32_24
  let v50 : BitVec 32 := Scalar.select v48 v49 v34
  let v51 : BitVec 32 := Scalar.subi v50 c0_i32_26
  let c1_i32_27 : BitVec 32 := 1#32
  let v53 : BitVec 32 := Scalar.divsi v51 c1_i32_27
  let v54 : BitVec 32 := Scalar.muli v53 c1_i32_27
  let v55 : BitVec 32 := Scalar.addi c0_i32_26 v54
  let c1_i32_29 : BitVec 32 := 1#32
  let arg16 : BitVec 32 := Scf.iv v55 c1_i32_29 k0_t3
  let v526 : BitVec 32 := Scalar.muli c2_i32_262 arg16
  let c1_i32_263 : BitVec 32 := 1#32
  let v527 : BitVec 32 := Scalar.addi v526 c1_i32_263
  let v528 : BitVec 32 := Scalar.muli c2_i32_264 v527
  let c1_i32_334 : BitVec 32 := 1#32
  let v660 : BitVec 32 := Scalar.addi v528 c1_i32_334
  let c512_i32_335 : BitVec 32 := 512#32
  let v661 : BitVec 32 := Scalar.muli v660 c512_i32_335
  let v662 : BitVec 32 := v661
  let v678 : Index := Scalar.indexCast v662
  ![0, v678.toNat]
def k0_cond2 (i : grid0.Coords) : BitVec 1 :=
  let arg1 : BitVec 32 := BitVec.ofNat 32 (i 1).val
  let c1_i32 : BitVec 32 := 1#32
  let v33 : BitVec 32 := Scalar.muli arg1 c1_i32
  let c2_i32_30 : BitVec 32 := 2#32
  let c0_i32_31 : BitVec 32 := 0#32
  let v56 : BitVec 1 := Scalar.cmpi .eq c2_i32_30 c0_i32_31
  let c1_i32_32 : BitVec 32 := 1#32
  let v57 : BitVec 32 := Scalar.select v56 c1_i32_32 c2_i32_30
  let v58 : BitVec 32 := Scalar.remsi v33 v57
  let c0_i32_34 : BitVec 32 := 0#32
  let v60 : BitVec 1 := Scalar.cmpi .slt v58 c0_i32_34
  let c0_i32_35 : BitVec 32 := 0#32
  let v61 : BitVec 1 := Scalar.cmpi .slt v57 c0_i32_35
  let v62 : BitVec 1 := Scalar.xori v60 v61
  let c0_i32_33 : BitVec 32 := 0#32
  let v59 : BitVec 1 := Scalar.cmpi .ne v58 c0_i32_33
  let v63 : BitVec 1 := Scalar.andi v62 v59
  let v64 : BitVec 32 := Scalar.addi v58 v57
  let v65 : BitVec 32 := Scalar.select v63 v64 v58
  let c1_i32_36 : BitVec 32 := 1#32
  let v66 : BitVec 1 := Scalar.cmpi .eq v65 c1_i32_36
  let v67 : BitVec 32 := Scalar.extui v66
  let c0_i32_37 : BitVec 32 := 0#32
  let v68 : BitVec 1 := Scalar.cmpi .ne v67 c0_i32_37
  v68

def k0_mult28 (i : grid0.Coords) : BitVec 32 :=
  let c2_i32_140 : BitVec 32 := 2#32
  let arg1 : BitVec 32 := BitVec.ofNat 32 (i 1).val
  let c1_i32 : BitVec 32 := 1#32
  let v33 : BitVec 32 := Scalar.muli arg1 c1_i32
  let c1_i32_139 : BitVec 32 := 1#32
  let v287 : BitVec 32 := Scalar.subi v33 c1_i32_139
  let v288 : BitVec 32 := Scalar.muli c2_i32_140 v287
  let c1_i32_141 : BitVec 32 := 1#32
  let v289 : BitVec 32 := Scalar.addi v288 c1_i32_141
  let c512_i32_142 : BitVec 32 := 512#32
  let v290 : BitVec 32 := Scalar.muli v289 c512_i32_142
  v290
def k0_off24 (i : grid0.Coords) (c1_i32_141 : BitVec 32) : Fin 2 → Nat :=
  let c2_i32_140 : BitVec 32 := 2#32
  let arg1 : BitVec 32 := BitVec.ofNat 32 (i 1).val
  let c1_i32 : BitVec 32 := 1#32
  let v33 : BitVec 32 := Scalar.muli arg1 c1_i32
  let c1_i32_139 : BitVec 32 := 1#32
  let v287 : BitVec 32 := Scalar.subi v33 c1_i32_139
  let v288 : BitVec 32 := Scalar.muli c2_i32_140 v287
  let v289 : BitVec 32 := Scalar.addi v288 c1_i32_141
  let c512_i32_142 : BitVec 32 := 512#32
  let v290 : BitVec 32 := Scalar.muli v289 c512_i32_142
  let v291 : BitVec 32 := v290
  let v292 : Index := Scalar.indexCast v291
  let c0_143 : Index := 0#32
  ![v292.toNat, 0]
def k0_mult29 (i : grid0.Coords) : BitVec 32 :=
  let c2_i32_140 : BitVec 32 := 2#32
  let arg1 : BitVec 32 := BitVec.ofNat 32 (i 1).val
  let c1_i32 : BitVec 32 := 1#32
  let v33 : BitVec 32 := Scalar.muli arg1 c1_i32
  let c1_i32_139 : BitVec 32 := 1#32
  let v287 : BitVec 32 := Scalar.subi v33 c1_i32_139
  let v288 : BitVec 32 := Scalar.muli c2_i32_140 v287
  let c512_i32_150 : BitVec 32 := 512#32
  let v302 : BitVec 32 := Scalar.muli v288 c512_i32_150
  v302
def k0_mult30 (i : grid0.Coords) : BitVec 32 :=
  let arg1 : BitVec 32 := BitVec.ofNat 32 (i 1).val
  let c0_i32_151 : BitVec 32 := 0#32
  let v304 : BitVec 32 := Scalar.minsi arg1 c0_i32_151
  let c8_i32_152 : BitVec 32 := 8#32
  let v305 : BitVec 32 := Scalar.muli v304 c8_i32_152
  v305
def k0_off25 (i : grid0.Coords) : Fin 2 → Nat :=
  let arg1 : BitVec 32 := BitVec.ofNat 32 (i 1).val
  let c0_i32_151 : BitVec 32 := 0#32
  let v304 : BitVec 32 := Scalar.minsi arg1 c0_i32_151
  let c8_i32_152 : BitVec 32 := 8#32
  let v305 : BitVec 32 := Scalar.muli v304 c8_i32_152
  let v306 : BitVec 32 := v305
  let v307 : Index := Scalar.indexCast v306
  let c0_153 : Index := 0#32
  ![v307.toNat, 0]
def k0_off26 (i : grid0.Coords) : Fin 2 → Nat :=
  let c0_157 : Index := 0#32
  let c2_i32_140 : BitVec 32 := 2#32
  let arg1 : BitVec 32 := BitVec.ofNat 32 (i 1).val
  let c1_i32 : BitVec 32 := 1#32
  let v33 : BitVec 32 := Scalar.muli arg1 c1_i32
  let c1_i32_139 : BitVec 32 := 1#32
  let v287 : BitVec 32 := Scalar.subi v33 c1_i32_139
  let v288 : BitVec 32 := Scalar.muli c2_i32_140 v287
  let c512_i32_150 : BitVec 32 := 512#32
  let v302 : BitVec 32 := Scalar.muli v288 c512_i32_150
  let v303 : BitVec 32 := v302
  let v319 : Index := Scalar.indexCast v303
  ![0, v319.toNat]
def k0_off27 (i : grid0.Coords) : Fin 2 → Nat :=
  let arg1 : BitVec 32 := BitVec.ofNat 32 (i 1).val
  let c0_i32_151 : BitVec 32 := 0#32
  let v304 : BitVec 32 := Scalar.minsi arg1 c0_i32_151
  let c8_i32_152 : BitVec 32 := 8#32
  let v305 : BitVec 32 := Scalar.muli v304 c8_i32_152
  let v306 : BitVec 32 := v305
  let v332 : Index := Scalar.indexCast v306
  let c256_165 : Index := 256#32
  ![v332.toNat, 256]
def k0_off28 (i : grid0.Coords) : Fin 2 → Nat :=
  let arg1 : BitVec 32 := BitVec.ofNat 32 (i 1).val
  let c0_i32_151 : BitVec 32 := 0#32
  let v304 : BitVec 32 := Scalar.minsi arg1 c0_i32_151
  let c8_i32_152 : BitVec 32 := 8#32
  let v305 : BitVec 32 := Scalar.muli v304 c8_i32_152
  let v306 : BitVec 32 := v305
  let v357 : Index := Scalar.indexCast v306
  let c512_177 : Index := 512#32
  ![v357.toNat, 512]
def k0_off29 (i : grid0.Coords) : Fin 2 → Nat :=
  let arg1 : BitVec 32 := BitVec.ofNat 32 (i 1).val
  let c0_i32_151 : BitVec 32 := 0#32
  let v304 : BitVec 32 := Scalar.minsi arg1 c0_i32_151
  let c8_i32_152 : BitVec 32 := 8#32
  let v305 : BitVec 32 := Scalar.muli v304 c8_i32_152
  let v306 : BitVec 32 := v305
  let v382 : Index := Scalar.indexCast v306
  let c768_189 : Index := 768#32
  ![v382.toNat, 768]
def k0_mult31 (i : grid0.Coords) : BitVec 32 :=
  let c2_i32_140 : BitVec 32 := 2#32
  let arg1 : BitVec 32 := BitVec.ofNat 32 (i 1).val
  let c1_i32 : BitVec 32 := 1#32
  let v33 : BitVec 32 := Scalar.muli arg1 c1_i32
  let c1_i32_139 : BitVec 32 := 1#32
  let v287 : BitVec 32 := Scalar.subi v33 c1_i32_139
  let v288 : BitVec 32 := Scalar.muli c2_i32_140 v287
  let c2_i32_201 : BitVec 32 := 2#32
  let v407 : BitVec 32 := Scalar.addi v288 c2_i32_201
  let c512_i32_202 : BitVec 32 := 512#32
  let v408 : BitVec 32 := Scalar.muli v407 c512_i32_202
  v408
def k0_mult32 (i : grid0.Coords) : BitVec 32 :=
  let c2_i32_140 : BitVec 32 := 2#32
  let arg1 : BitVec 32 := BitVec.ofNat 32 (i 1).val
  let c1_i32 : BitVec 32 := 1#32
  let v33 : BitVec 32 := Scalar.muli arg1 c1_i32
  let c1_i32_139 : BitVec 32 := 1#32
  let v287 : BitVec 32 := Scalar.subi v33 c1_i32_139
  let v288 : BitVec 32 := Scalar.muli c2_i32_140 v287
  let c1_i32_210 : BitVec 32 := 1#32
  let v420 : BitVec 32 := Scalar.addi v288 c1_i32_210
  let c512_i32_211 : BitVec 32 := 512#32
  let v421 : BitVec 32 := Scalar.muli v420 c512_i32_211
  v421
def k0_mult33 (i : grid0.Coords) : BitVec 32 :=
  let arg1 : BitVec 32 := BitVec.ofNat 32 (i 1).val
  let c0_i32_212 : BitVec 32 := 0#32
  let v423 : BitVec 32 := Scalar.minsi arg1 c0_i32_212
  let c8_i32_213 : BitVec 32 := 8#32
  let v424 : BitVec 32 := Scalar.muli v423 c8_i32_213
  v424
def k0_off30 (i : grid0.Coords) : Fin 2 → Nat :=
  let c0_218 : Index := 0#32
  let c2_i32_140 : BitVec 32 := 2#32
  let arg1 : BitVec 32 := BitVec.ofNat 32 (i 1).val
  let c1_i32 : BitVec 32 := 1#32
  let v33 : BitVec 32 := Scalar.muli arg1 c1_i32
  let c1_i32_139 : BitVec 32 := 1#32
  let v287 : BitVec 32 := Scalar.subi v33 c1_i32_139
  let v288 : BitVec 32 := Scalar.muli c2_i32_140 v287
  let c1_i32_210 : BitVec 32 := 1#32
  let v420 : BitVec 32 := Scalar.addi v288 c1_i32_210
  let c512_i32_211 : BitVec 32 := 512#32
  let v421 : BitVec 32 := Scalar.muli v420 c512_i32_211
  let v422 : BitVec 32 := v421
  let v438 : Index := Scalar.indexCast v422
  ![0, v438.toNat]
def k0_mult34 (i : grid0.Coords) : BitVec 32 :=
  let c2_i32_38 : BitVec 32 := 2#32
  let arg1 : BitVec 32 := BitVec.ofNat 32 (i 1).val
  let v69 : BitVec 32 := Scalar.muli c2_i32_38 arg1
  let c0_i32_39 : BitVec 32 := 0#32
  let v70 : BitVec 32 := Scalar.addi v69 c0_i32_39
  let c1_i32_40 : BitVec 32 := 1#32
  let v71 : BitVec 32 := Scalar.addi v70 c1_i32_40
  let c512_i32 : BitVec 32 := 512#32
  let v72 : BitVec 32 := Scalar.muli v71 c512_i32
  v72
def k0_off31 (i : grid0.Coords) : Fin 2 → Nat :=
  let c2_i32_38 : BitVec 32 := 2#32
  let arg1 : BitVec 32 := BitVec.ofNat 32 (i 1).val
  let v69 : BitVec 32 := Scalar.muli c2_i32_38 arg1
  let c0_i32_39 : BitVec 32 := 0#32
  let v70 : BitVec 32 := Scalar.addi v69 c0_i32_39
  let c1_i32_40 : BitVec 32 := 1#32
  let v71 : BitVec 32 := Scalar.addi v70 c1_i32_40
  let c512_i32 : BitVec 32 := 512#32
  let v72 : BitVec 32 := Scalar.muli v71 c512_i32
  let v73 : BitVec 32 := v72
  let v74 : Index := Scalar.indexCast v73
  let c0_41 : Index := 0#32
  ![v74.toNat, 0]
def k0_mult35 (i : grid0.Coords) : BitVec 32 :=
  let c2_i32_47 : BitVec 32 := 2#32
  let arg1 : BitVec 32 := BitVec.ofNat 32 (i 1).val
  let v84 : BitVec 32 := Scalar.muli c2_i32_47 arg1
  let c0_i32_48 : BitVec 32 := 0#32
  let v85 : BitVec 32 := Scalar.addi v84 c0_i32_48
  let c512_i32_49 : BitVec 32 := 512#32
  let v86 : BitVec 32 := Scalar.muli v85 c512_i32_49
  v86
def k0_mult36 (i : grid0.Coords) : BitVec 32 :=
  let arg1 : BitVec 32 := BitVec.ofNat 32 (i 1).val
  let c0_i32_50 : BitVec 32 := 0#32
  let v88 : BitVec 32 := Scalar.minsi arg1 c0_i32_50
  let c8_i32 : BitVec 32 := 8#32
  let v89 : BitVec 32 := Scalar.muli v88 c8_i32
  v89
def k0_off32 (i : grid0.Coords) : Fin 2 → Nat :=
  let arg1 : BitVec 32 := BitVec.ofNat 32 (i 1).val
  let c0_i32_50 : BitVec 32 := 0#32
  let v88 : BitVec 32 := Scalar.minsi arg1 c0_i32_50
  let c8_i32 : BitVec 32 := 8#32
  let v89 : BitVec 32 := Scalar.muli v88 c8_i32
  let v90 : BitVec 32 := v89
  let v91 : Index := Scalar.indexCast v90
  let c0_51 : Index := 0#32
  ![v91.toNat, 0]
def k0_off33 (i : grid0.Coords) (c0_i32_48 : BitVec 32) : Fin 2 → Nat :=
  let c0_57 : Index := 0#32
  let c2_i32_47 : BitVec 32 := 2#32
  let arg1 : BitVec 32 := BitVec.ofNat 32 (i 1).val
  let v84 : BitVec 32 := Scalar.muli c2_i32_47 arg1
  let v85 : BitVec 32 := Scalar.addi v84 c0_i32_48
  let c512_i32_49 : BitVec 32 := 512#32
  let v86 : BitVec 32 := Scalar.muli v85 c512_i32_49
  let v87 : BitVec 32 := v86
  let v110 : Index := Scalar.indexCast v87
  ![0, v110.toNat]
def k0_off34 (i : grid0.Coords) : Fin 2 → Nat :=
  let arg1 : BitVec 32 := BitVec.ofNat 32 (i 1).val
  let c0_i32_50 : BitVec 32 := 0#32
  let v88 : BitVec 32 := Scalar.minsi arg1 c0_i32_50
  let c8_i32 : BitVec 32 := 8#32
  let v89 : BitVec 32 := Scalar.muli v88 c8_i32
  let v90 : BitVec 32 := v89
  let v123 : Index := Scalar.indexCast v90
  let c256 : Index := 256#32
  ![v123.toNat, 256]
def k0_off35 (i : grid0.Coords) : Fin 2 → Nat :=
  let arg1 : BitVec 32 := BitVec.ofNat 32 (i 1).val
  let c0_i32_50 : BitVec 32 := 0#32
  let v88 : BitVec 32 := Scalar.minsi arg1 c0_i32_50
  let c8_i32 : BitVec 32 := 8#32
  let v89 : BitVec 32 := Scalar.muli v88 c8_i32
  let v90 : BitVec 32 := v89
  let v155 : Index := Scalar.indexCast v90
  let c512_77 : Index := 512#32
  ![v155.toNat, 512]
def k0_off36 (i : grid0.Coords) : Fin 2 → Nat :=
  let arg1 : BitVec 32 := BitVec.ofNat 32 (i 1).val
  let c0_i32_50 : BitVec 32 := 0#32
  let v88 : BitVec 32 := Scalar.minsi arg1 c0_i32_50
  let c8_i32 : BitVec 32 := 8#32
  let v89 : BitVec 32 := Scalar.muli v88 c8_i32
  let v90 : BitVec 32 := v89
  let v180 : Index := Scalar.indexCast v90
  let c768 : Index := 768#32
  ![v180.toNat, 768]
def k0_mult37 (i : grid0.Coords) : BitVec 32 :=
  let c2_i32_100 : BitVec 32 := 2#32
  let arg1 : BitVec 32 := BitVec.ofNat 32 (i 1).val
  let v205 : BitVec 32 := Scalar.muli c2_i32_100 arg1
  let c1_i32_101 : BitVec 32 := 1#32
  let v206 : BitVec 32 := Scalar.addi v205 c1_i32_101
  let c512_i32_102 : BitVec 32 := 512#32
  let v207 : BitVec 32 := Scalar.muli v206 c512_i32_102
  v207
def k0_mult38 (i : grid0.Coords) : BitVec 32 :=
  let arg1 : BitVec 32 := BitVec.ofNat 32 (i 1).val
  let c0_i32_103 : BitVec 32 := 0#32
  let v209 : BitVec 32 := Scalar.minsi arg1 c0_i32_103
  let c8_i32_104 : BitVec 32 := 8#32
  let v210 : BitVec 32 := Scalar.muli v209 c8_i32_104
  v210
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel8Ideal.lean ====
variable {F : FTy → Type} [FloatOps F] [Named F]
def κ : String → Option EReal := fun
  | "log2e" => some (((Real.log 2)⁻¹ : ℝ) : EReal)
  | "mask" => some ⊥
  | _ => none
-- ==== Reference8Ideal.lean ====
abbrev S8192x4096 : Shape := ⟨2, ![8192, 4096]⟩
abbrev S2048x8192 : Shape := ⟨2, ![2048, 8192]⟩
abbrev S16x8192 : Shape := ⟨2, ![16, 8192]⟩
abbrev S8192x2048 : Shape := ⟨2, ![8192, 2048]⟩
abbrev S8192x16x128 : Shape := ⟨3, ![8192, 16, 128]⟩
abbrev S16x128x8192 : Shape := ⟨3, ![16, 128, 8192]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 55
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2048x8192, .bf16⟩
  | .hbm, ⟨2, _⟩ => ⟨S8192x4096, .bf16⟩
  | .hbm, ⟨3, _⟩ => ⟨S16x8192, .f32⟩
  | .hbm, ⟨4, _⟩ => ⟨S8192x2048, .bf16⟩
  | .hbm, ⟨5, _⟩ => ⟨S8192x2048, .f32⟩
  | .hbm, ⟨6, _⟩ => ⟨S8192x16x128, .f32⟩
  | .hbm, ⟨7, _⟩ => ⟨S8192x2048, .bf16⟩
  | .hbm, ⟨8, _⟩ => ⟨S8192x2048, .f32⟩
  | .hbm, ⟨9, _⟩ => ⟨S8192x16x128, .f32⟩
  | .hbm, ⟨10, _⟩ => ⟨S2048x8192, .f32⟩
  | .hbm, ⟨11, _⟩ => ⟨S16x128x8192, .f32⟩
  | .hbm, ⟨12, _⟩ => ⟨S16x8192x8192, .f32⟩
  | .hbm, ⟨13, _⟩ => ⟨S_, .f32⟩
  | .hbm, ⟨14, _⟩ => ⟨S_, .f32⟩
  | .hbm, ⟨15, _⟩ => ⟨S16x8192x8192, .f32⟩
  | .hbm, ⟨16, _⟩ => ⟨S16x8192x8192, .f32⟩
  | .hbm, ⟨17, _⟩ => ⟨S16x8192x1, .f32⟩
  | .hbm, ⟨18, _⟩ => ⟨S16x1x8192, .f32⟩
  | .hbm, ⟨19, _⟩ => ⟨S16x8192x8192, .f32⟩
  | .hbm, ⟨20, _⟩ => ⟨S16x8192x8192, .f32⟩
  | .hbm, ⟨21, _⟩ => ⟨S16x8192x8192, .f32⟩
  | .hbm, ⟨22, _⟩ => ⟨S16x8192x8192, .f32⟩
  | .hbm, ⟨23, _⟩ => ⟨S8192, .i32⟩
  | .hbm, ⟨24, _⟩ => ⟨S8192x1, .i32⟩
  | .hbm, ⟨25, _⟩ => ⟨S1x8192, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S_, .f32⟩
  | .hbm, ⟨30, _⟩ => ⟨S_, .f32⟩
  | .hbm, ⟨31, _⟩ => ⟨S16x8192x8192, .i1⟩
  | .hbm, ⟨32, _⟩ => ⟨S16x8192x8192, .f32⟩
  | .hbm, ⟨33, _⟩ => ⟨S16x8192x8192, .f32⟩
  | .hbm, ⟨34, _⟩ => ⟨S_, .f32⟩
  | .hbm, ⟨35, _⟩ => ⟨S16x8192, .f32⟩
  | .hbm, ⟨36, _⟩ => ⟨S_, .f32⟩
  | .hbm, ⟨37, _⟩ => ⟨S16x8192, .f32⟩
  | .hbm, ⟨38, _⟩ => ⟨S16x8192, .f32⟩
  | .hbm, ⟨39, _⟩ => ⟨S16x8192x1, .f32⟩
  | .hbm, ⟨40, _⟩ => ⟨S16x8192x8192, .f32⟩
  | .hbm, ⟨41, _⟩ => ⟨S16x8192x8192, .f32⟩
  | .hbm, ⟨42, _⟩ => ⟨S16x8192x8192, .f32⟩
  | .hbm, ⟨43, _⟩ => ⟨S_, .f32⟩
  | .hbm, ⟨44, _⟩ => ⟨S16x8192, .f32⟩
  | .hbm, ⟨45, _⟩ => ⟨S16x8192x1, .f32⟩
  | .hbm, ⟨46, _⟩ => ⟨S16x8192x8192, .f32⟩
  | .hbm, ⟨47, _⟩ => ⟨S16x8192x8192, .f32⟩
  | .hbm, ⟨48, _⟩ => ⟨S16x128x8192, .f32⟩
  | .hbm, ⟨49, _⟩ => ⟨S8192x16x128, .f32⟩
  | .hbm, ⟨50, _⟩ => ⟨S8192x2048, .f32⟩
  | .hbm, ⟨51, _⟩ => ⟨S8192x2048, .bf16⟩
  | .hbm, ⟨52, _⟩ => ⟨S8192x2048, .f32⟩
  | .hbm, ⟨53, _⟩ => ⟨S8192x2048, .f32⟩
  | .hbm, ⟨54, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Kernel9.lean ====
abbrev S8192x4096 : Shape := ⟨2, ![8192, 4096]⟩
abbrev S4096 : Shape := ⟨1, ![4096]⟩
abbrev S1x4096 : Shape := ⟨2, ![1, 4096]⟩
abbrev S4096x12304 : Shape := ⟨2, ![4096, 12304]⟩
abbrev S16 : Shape := ⟨1, ![16]⟩
abbrev S12304x4096 : Shape := ⟨2, ![12304, 4096]⟩
abbrev S_ : Shape := ⟨0, ![]⟩
abbrev S128 : Shape := ⟨1, ![128]⟩
abbrev S1x128 : Shape := ⟨2, ![1, 128]⟩
abbrev S8192x128 : Shape := ⟨2, ![8192, 128]⟩
abbrev S512x4096 : Shape := ⟨2, ![512, 4096]⟩
abbrev S128x4096 : Shape := ⟨2, ![128, 4096]⟩
abbrev S512x128 : Shape := ⟨2, ![512, 128]⟩
abbrev S512 : Shape := ⟨1, ![512]⟩
abbrev S512x1 : Shape := ⟨2, ![512, 1]⟩

abbrev nBuf : Space → Nat
  | .hbm => 14
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S1x4096, .f32⟩
  | .hbm, ⟨4, _⟩ => ⟨S4096x12304, .f32⟩
  | .hbm, ⟨5, _⟩ => ⟨S16, .f32⟩
  | .hbm, ⟨6, _⟩ => ⟨S12304x4096, .f32⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S1x4096, .f32⟩
  | .hbm, ⟨12, _⟩ => ⟨S8192x4096, .bf16⟩
  | .hbm, ⟨13, _⟩ => ⟨S8192x128, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S128x4096, .f32⟩
  | .local _ .vmem, ⟨6, _⟩ => ⟨S1x128, .f32⟩
  | .local _ .vmem, ⟨7, _⟩ => ⟨S512x4096, .bf16⟩
  | .local _ .vmem, ⟨8, _⟩ => ⟨S512x4096, .bf16⟩
  | .local _ .vmem, ⟨9, _⟩ => ⟨S512x128, .f32⟩
  | .local _ .vmem, ⟨10, _⟩ => ⟨S512x128, .f32⟩
  | .local _ .vmem, ⟨11, _⟩ => ⟨S128x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8192_i32 : BitVec 32 := 8192#32
  let c0_i32 : BitVec 32 := 0#32
  let c0_i32_0 : BitVec 32 := 0#32
  ![c8192_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S8192x4096 : Shape := ⟨2, ![8192, 4096]⟩
abbrev S4096 : Shape := ⟨1, ![4096]⟩
abbrev S1x4096 : Shape := ⟨2, ![1, 4096]⟩
abbrev S4096x12304 : Shape := ⟨2, ![4096, 12304]⟩
abbrev S16 : Shape := ⟨1, ![16]⟩
abbrev S_ : Shape := ⟨0, ![]⟩
abbrev S8192 : Shape := ⟨1, ![8192]⟩
abbrev S8192x1 : Shape := ⟨2, ![8192, 1]⟩
abbrev S4096x128 : Shape := ⟨2, ![4096, 128]⟩
abbrev S8192x128 : Shape := ⟨2, ![8192, 128]⟩
abbrev S112 : Shape := ⟨1, ![112]⟩
abbrev S128 : Shape := ⟨1, ![128]⟩
abbrev S1x128 : Shape := ⟨2, ![1, 128]⟩

abbrev nBuf : Space → Nat
  | .hbm => 55
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S1x4096, .f32⟩
  | .hbm, ⟨4, _⟩ => ⟨S4096x12304, .f32⟩
  | .hbm, ⟨5, _⟩ => ⟨S16, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S1x4096, .f32⟩
  | .hbm, ⟨24, _⟩ => ⟨S1x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .bf16⟩
  | .hbm, ⟨30, _⟩ => ⟨S8192x4096, .f32⟩
  | .hbm, ⟨31, _⟩ => ⟨S4096x128, .f32⟩
  | .hbm, ⟨32, _⟩ => ⟨S8192x128, .f32⟩
  | .hbm, ⟨33, _⟩ => ⟨S_, .f32⟩
  | .hbm, ⟨34, _⟩ => ⟨S112, .f32⟩
  | .hbm, ⟨35, _⟩ => ⟨S128, .f32⟩
  | .hbm, ⟨36, _⟩ => ⟨S1x128, .f32⟩
  | .hbm, ⟨37, _⟩ => ⟨S8192x128, .f32⟩
  | .hbm, ⟨38, _⟩ => ⟨S8192x128, .f32⟩
  | .hbm, ⟨39, _⟩ => ⟨S8192x128, .f32⟩
  | .hbm, ⟨40, _⟩ => ⟨S_, .f32⟩
  | .hbm, ⟨41, _⟩ => ⟨S8192x128, .f32⟩
  | .hbm, ⟨42, _⟩ => ⟨S8192x128, .f32⟩
  | .hbm, ⟨43, _⟩ => ⟨S8192x128, .f32⟩
  | .hbm, ⟨44, _⟩ => ⟨S8192x128, .f32⟩
  | .hbm, ⟨45, _⟩ => ⟨S8192x128, .i1⟩
  | .hbm, ⟨46, _⟩ => ⟨S8192x128, .f32⟩
  | .hbm, ⟨47, _⟩ => ⟨S8192x128, .f32⟩
  | .hbm, ⟨48, _⟩ => ⟨S8192x128, .f32⟩
  | .hbm, ⟨49, _⟩ => ⟨S8192x128, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S8192x128, .f32⟩
  | .hbm, ⟨54, _⟩ => ⟨S8192x128, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_v0 : Ref sig .tc := ⟨.hbm, 39, rfl⟩
abbrev main_call0_call0_cst : Ref sig .tc := ⟨.hbm, 40, rfl⟩
abbrev main_call0_call0_v0 : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_v7 : Ref sig .tc := ⟨.hbm, 48, rfl⟩
abbrev main_call0_call0_v8 : Ref sig .tc := ⟨.hbm, 49, rfl⟩
abbrev main_call0_call0_v9 : Ref sig .tc := ⟨.hbm, 50, rfl⟩
abbrev main_call0_call0_v10 : Ref sig .tc := ⟨.hbm, 51, rfl⟩
abbrev main_call0_call0_v11 : Ref sig .tc := ⟨.hbm, 52, rfl⟩
abbrev main_call0_v1 : Ref sig .tc := ⟨.hbm, 53, rfl⟩
abbrev main_v28 : Ref sig .tc := ⟨.hbm, 54, rfl⟩

abbrev nD : Nat := 1
abbrev τ : Topo := Topo.v7x

variable {F : FTy → Type} [FloatOps F]
-- ==== Proof.Stream.Tiles.lean ====
/- The two-slot weight buffer of a streamed projection: one slot holds the tile in use, the other receives the
   next tile chunk by chunk. What is known of the buffer before each grid point, and how one store changes it. -/
module

public import Idealize.ShloMosaic.Lib.VecWindow

@[expose] public section

namespace Cert.Stream

open Idealize.ShloMosaic

variable {α : Type} {R C : ℕ}

/-- Two slots of `R` rows and `C` columns. -/
abbrev Slots (R C : ℕ) : Shape := ⟨3, ![2, R, C]⟩

/-- Slot `s` holds the first `b` rows of tile `j` of `T` (tile, row, column). -/
def Holds (T : ℕ → ℕ → ℕ → α) (d : (Slots R C).Idx → α) (s j b : ℕ) : Prop :=
  ∀ y : (Slots R C).Idx, (y 0).val = s → (y 1).val < b → d y = T j (y 1).val (y 2).val

/-- The buffer before point `n`: during the first `nc` points the chunks of tile 0 arrive in slot 0; afterwards the
    point is the `i`-th of tile `j`'s `ni` points, slot `j % 2` holds tile `j`, and the other slot holds the chunks of
    tile `j + 1` that arrived so far. Chunks have `ch` rows, there are `nj` tiles. -/
def Inv (ni nj nc ch : ℕ) (T : ℕ → ℕ → ℕ → α) (n : ℕ) (d : (Slots R C).Idx → α) : Prop :=
  (n ≤ nc → Holds T d 0 0 (ch * n)) ∧
  (nc ≤ n → ((n - nc) / ni < nj → Holds T d ((n - nc) / ni % 2) ((n - nc) / ni) (ch * nc)) ∧
    ((n - nc) / ni + 1 < nj → Holds T d (((n - nc) / ni + 1) % 2) ((n - nc) / ni + 1) (ch * min ((n - nc) % ni) nc)))

theorem Holds.zero (T : ℕ → ℕ → ℕ → α) (d : (Slots R C).Idx → α) (s j : ℕ) : Holds T d s j 0 :=
  fun _ _ h => absurd h (Nat.not_lt_zero _)

theorem Inv.zero {ni nj nc ch : ℕ} (T : ℕ → ℕ → ℕ → α) (d : (Slots R C).Idx → α) (hnc : 0 < nc) :
    Inv ni nj nc ch T 0 d :=
  ⟨fun _ => Holds.zero T d 0 0, fun h => absurd hnc (by omega)⟩

/-- A store into another slot keeps what a slot holds. -/
theorem Holds.put_other {T : ℕ → ℕ → ℕ → α} {d : (Slots R C).Idx → α} {s s' lo ch j b : ℕ}
    (h : Holds T d s j b) (hs : s ≠ s') (w : ((a : Fin 3) → Fin ((![1, ch, C] : Fin 3 → ℕ) a)) → α) :
    Holds T (VecWindow.put (s := Slots R C) d ![s', lo, 0] ![1, ch, C] w) s j b := by
  intro y h0 h1
  unfold VecWindow.put
  rw [dif_neg, h y h0 h1]
  intro hy
  have := hy 0
  simp only [Matrix.cons_val_zero] at this
  omega

/-- A store of the chunk of rows `lo … lo + ch` of tile `j` extends the rows held up to `lo + ch`. -/
theorem Holds.put_same {T : ℕ → ℕ → ℕ → α} {d : (Slots R C).Idx → α} {s lo ch j b b' : ℕ}
    (h : Holds T d s j b) (hlo : lo ≤ b) (hb : b' ≤ lo + ch)
    (w : ((a : Fin 3) → Fin ((![1, ch, C] : Fin 3 → ℕ) a)) → α)
    (hw : ∀ x, w x = T j (lo + (x 1).val) (x 2).val) :
    Holds T (VecWindow.put (s := Slots R C) d ![s, lo, 0] ![1, ch, C] w) s j b' := by
  intro y h0 h1
  unfold VecWindow.put
  by_cases hy : ∀ a, (![s, lo, 0] : Fin 3 → ℕ) a ≤ (y a).val ∧ (y a).val < (![s, lo, 0] : Fin 3 → ℕ) a + (![1, ch, C] : Fin 3 → ℕ) a
  · rw [dif_pos hy, hw]
    have h1' := hy 1
    simp only [Matrix.cons_val_one, Matrix.cons_val_zero] at h1'
    have e1 : lo + (Rect.unitLocal (s := Slots R C) (off := ![s, lo, 0]) (size := ![1, ch, C]) y hy 1).val = (y 1).val := by
      rw [Rect.unitLocal_val]; simp only [Matrix.cons_val_one, Matrix.cons_val_zero]; omega
    have e2 : (Rect.unitLocal (s := Slots R C) (off := ![s, lo, 0]) (size := ![1, ch, C]) y hy 2).val = (y 2).val := by
      rw [Rect.unitLocal_val]; simp
    exact congrArg₂ (T j) e1 e2
  · rw [dif_neg hy]
    refine h y h0 ?_
    by_contra hlt
    refine hy fun a => ?_
    have hc : (y 2).val < C := (y 2).isLt
    match a with
    | 0 => simp only [Matrix.cons_val_zero]; omega
    | 1 => simp only [Matrix.cons_val_one, Matrix.cons_val_zero]; omega
    | 2 =>
      show (0 : ℕ) ≤ (y 2).val ∧ (y 2).val < 0 + C
      omega

/-- A point that only receives a chunk of tile 0. -/
theorem Inv.put_first {ni nj nc ch n : ℕ} {T : ℕ → ℕ → ℕ → α} {d : (Slots R C).Idx → α}
    (h : Inv ni nj nc ch T n d) (hn : n < nc) (hj : 0 < nj) (hni : 0 < ni)
    (w : ((a : Fin 3) → Fin ((![1, ch, C] : Fin 3 → ℕ) a)) → α)
    (hw : ∀ x, w x = T 0 (ch * n + (x 1).val) (x 2).val) :
    Inv ni nj nc ch T (n + 1) (VecWindow.put (s := Slots R C) d ![0, ch * n, 0] ![1, ch, C] w) := by
  have key : Holds T (VecWindow.put (s := Slots R C) d ![0, ch * n, 0] ![1, ch, C] w) 0 0 (ch * (n + 1)) :=
    (h.1 hn.le).put_same le_rfl (by rw [Nat.mul_add, Nat.mul_one]) w hw
  refine ⟨fun _ => key, fun hle => ?_⟩
  have e : n + 1 = nc := by omega
  have e' : n + 1 - nc = 0 := by omega
  rw [e', Nat.zero_div, Nat.zero_mod, Nat.zero_mod, Nat.min_eq_left (Nat.zero_le _), Nat.mul_zero, ← e]
  exact ⟨fun _ => key, fun _ => Holds.zero _ _ _ _⟩

/-- A point that uses tile `j` and receives a chunk of tile `j + 1` into the other slot (after the last chunk has
    arrived, the last chunk again; beyond the last tile anything). -/
theorem Inv.put_next {ni nj nc ch n : ℕ} {T : ℕ → ℕ → ℕ → α} {d : (Slots R C).Idx → α}
    (h : Inv ni nj nc ch T n d) (hn : nc ≤ n) (hnc : 0 < nc) (hni : nc ≤ ni)
    (w : ((a : Fin 3) → Fin ((![1, ch, C] : Fin 3 → ℕ) a)) → α)
    (hw : (n - nc) / ni + 1 < nj → ∀ x, w x = T ((n - nc) / ni + 1) (ch * min ((n - nc) % ni) (nc - 1) + (x 1).val) (x 2).val) :
    Inv ni nj nc ch T (n + 1)
      (VecWindow.put (s := Slots R C) d ![((n - nc) / ni + 1) % 2, ch * min ((n - nc) % ni) (nc - 1), 0] ![1, ch, C] w) := by
  refine ⟨fun hle => absurd hle (by omega), fun _ => ?_⟩
  obtain ⟨hcur, hnext⟩ := h.2 hn
  have hu : n + 1 - nc = (n - nc) + 1 := by omega
  rw [hu]
  generalize n - nc = u at *
  have hni0 : 0 < ni := by omega
  have hmod := Nat.mod_lt u hni0
  have hnext' : u / ni + 1 < nj → Holds T (VecWindow.put (s := Slots R C) d ![(u / ni + 1) % 2, ch * min (u % ni) (nc - 1), 0] ![1, ch, C] w)
      ((u / ni + 1) % 2) (u / ni + 1) (ch * min (u % ni + 1) nc) := fun hj =>
    (hnext hj).put_same (Nat.mul_le_mul_left _ (by omega))
      (by rw [← Nat.mul_add_one]; exact Nat.mul_le_mul_left _ (by omega)) w (hw hj)
  by_cases hlast : u % ni + 1 < ni
  · have ed : (u + 1) / ni = u / ni := by
      rw [Nat.succ_div, if_neg, Nat.add_zero]
      intro hd
      have := Nat.mod_eq_zero_of_dvd hd
      rw [Nat.add_mod, Nat.mod_eq_of_lt (show 1 < ni by omega), Nat.mod_eq_of_lt hlast] at this
      omega
    have em : (u + 1) % ni = u % ni + 1 := by
      rw [Nat.add_mod, Nat.mod_eq_of_lt (show 1 < ni by omega), Nat.mod_eq_of_lt hlast]
    rw [ed, em]
    exact ⟨fun hj => (hcur hj).put_other (by omega) w, hnext'⟩
  · have hl : u % ni + 1 = ni := by omega
    have hdvd : ni ∣ u + 1 := ⟨u / ni + 1, by
      have := Nat.div_add_mod u ni
      rw [Nat.mul_add, Nat.mul_one]; omega⟩
    have ed : (u + 1) / ni = u / ni + 1 := by rw [Nat.succ_div, if_pos hdvd]
    have em : (u + 1) % ni = 0 := Nat.mod_eq_zero_of_dvd hdvd
    rw [ed, em]
    refine ⟨fun hj => ?_, fun _ => ?_⟩
    · have := hnext' hj
      rwa [hl, Nat.min_eq_right hni] at this
    · rw [Nat.min_eq_left (Nat.zero_le _), Nat.mul_zero]
      exact Holds.zero _ _ _ _

/-- The whole tile read back from its slot. -/
theorem Inv.window {ni nj nc ch n : ℕ} {T : ℕ → ℕ → ℕ → α} {d : (Slots R C).Idx → α}
    (h : Inv ni nj nc ch T n d) (hn : nc ≤ n) (hj : (n - nc) / ni < nj) (hR : R = ch * nc)
    {off : Fin 3 → ℕ} (hoff : off = ![(n - nc) / ni % 2, 0, 0])
    (inb : ∀ a, off a + (![1, R, C] : Fin 3 → ℕ) a ≤ (Slots R C).size a)
    (x : (⟨3, ![1, R, C]⟩ : Shape).Idx) :
    VecWindow.window (s := Slots R C) d off ![1, R, C] inb x
      = T ((n - nc) / ni) (x 1).val (x 2).val := by
  subst hoff
  have h0 : (x 0).val < 1 := (x 0).isLt
  have h1 : (x 1).val < R := (x 1).isLt
  refine ((h.2 hn).1 hj _ ?_ ?_).trans (congrArg₂ (T _) ?_ ?_)
  · show (n - nc) / ni % 2 + 1 * (x 0).val = _
    omega
  · show 0 + 1 * (x 1).val < _
    omega
  · show 0 + 1 * (x 1).val = _
    omega
  · show 0 + 1 * (x 2).val = _
    omega

end Cert.Stream
-- ==== Proof.Z.Body.lean ====
/- One grid point of the z projection: the body run, in the points that only receive a chunk of the first weight tile
   and in the points that compute a block of the result, over any values. -/
module

public import proofs.«01_k».proof.Proof.Gen.KernelIdeal.Frame
public import proofs.«01_k».proof.Proof.Gen.KernelIdeal.Skeleton
public import proofs.«01_k».proof.Proof.Stream.Tiles
public import Idealize.ShloMosaic.Lib.VecWindow

@[expose] public section

set_option maxRecDepth 16384

noncomputable section

namespace Cert.KernelIdeal.Z

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- A point that only receives a chunk: the chunk, narrowed, lands in the scratch; the rest stays. -/
theorem body_fill (c : Dev nD) (i : grid0.Coords) (arg1 : Memref sig .tc .vmem S1024x4096 .bf16) (harg1 : arg1.IsWhole)
    (arg2 : Memref sig .tc .vmem S256x4096 .f32) (harg2 : arg2.IsWhole)
    (arg3 : Memref sig .tc .vmem S1024x1024 .bf16) (harg3 : arg3.IsWhole)
    (arg4 : Memref sig .tc .vmem S2x1024x4096 .bf16) (harg4 : arg4.IsWhole)
    (hc1 : k0_cond1 i = 1#1) (hc2 : ¬ k0_cond2 i = 1#1)
    (x1 : Vec F S256x4096 .f32) (xs : Vec F S2x1024x4096 .bf16) (E : Set ℕ) (K : PUnit → sProp 𝕄) :
    iprop(owns (c : Thread nD τ) arg2 fullShare x1 ∗ owns (c : Thread nD τ) arg4 fullShare xs
        ∗ (iprop(owns (c : Thread nD τ) arg2 fullShare x1
            ∗ owns (c : Thread nD τ) arg4 fullShare (VecWindow.put xs (k0_off1 i) S1x256x4096.size (k0_pay1 x1))) -∗ K ⟨⟩))
      ⊢ wp frame (wpE (defs₀ (F := F)) Variants.none c none) E (cc0_proj_z i arg1 harg1 arg2 harg2 arg3 harg3 arg4 harg4) K := by
  simp only [cc0_proj_z_eq_skeleton]; unfold cc0_proj_z_skel
  unfold owns
  iintro ⟨⟨%f1, %hf1, H1⟩, ⟨%fs, %hfs, HS⟩, Hk⟩
  obtain rfl := harg2.eq_unread hf1; obtain rfl := harg4.eq_unread hfs
  sl_exec (disch := first | sl_exact hc1 | sl_exact hc2)
  sl_step
  iapply Hk
  isplitl [H1]
  · iexists _; isplitr; · ipureintro; exact harg2.read_unread _
    iexact H1
  iexists _; isplitr; swap; · iexact HS
  ipureintro
  rw [View.read_writes_cons_put _ _ _ _ _ rfl]
  rw [View.writes_nil, harg4.read_unread]
  exact congrArg (fun w => VecWindow.put xs (k0_off1 i) S1x256x4096.size (k0_pay1 w)) ((View.readAt_full _ _ _).trans (harg2.read_unread _))

set_option maxHeartbeats 1000000 in
/-- A point that computes: the slot in use times the staged rows, the activation applied, lands in the result's
    buffer, and the chunk lands in the scratch. -/
theorem body_use (c : Dev nD) (i : grid0.Coords) (arg1 : Memref sig .tc .vmem S1024x4096 .bf16) (harg1 : arg1.IsWhole)
    (arg2 : Memref sig .tc .vmem S256x4096 .f32) (harg2 : arg2.IsWhole)
    (arg3 : Memref sig .tc .vmem S1024x1024 .bf16) (harg3 : arg3.IsWhole)
    (arg4 : Memref sig .tc .vmem S2x1024x4096 .bf16) (harg4 : arg4.IsWhole)
    (hc1 : ¬ k0_cond1 i = 1#1) (hc2 : k0_cond2 i = 1#1)
    (x0 : Vec F S1024x4096 .bf16) (x1 : Vec F S256x4096 .f32) (xs : Vec F S2x1024x4096 .bf16) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare
                (k0_pay3 (VecWindow.window xs (k0_off2 i) S1x1024x4096.size (k0_off2_inb i hc2)) x0)
            ∗ owns (c : Thread nD τ) arg4 fullShare (VecWindow.put xs (k0_off3 i) S1x256x4096.size (k0_pay2 x1))) -∗ K ⟨⟩))
      ⊢ wp frame (wpE (defs₀ (F := F)) Variants.none c none) E (cc0_proj_z i arg1 harg1 arg2 harg2 arg3 harg3 arg4 harg4) K := by
  simp only [cc0_proj_z_eq_skeleton]; unfold cc0_proj_z_skel
  rw [k0_part1_eq_skeleton]; unfold k0_part1_skel
  unfold owns
  iintro ⟨⟨%f0, %hf0, H0⟩, ⟨%f1, %hf1, H1⟩, ⟨%d2, %f2, -, H2⟩, ⟨%fs, %hfs, HS⟩, Hk⟩
  obtain rfl := harg1.eq_unread hf0; obtain rfl := harg2.eq_unread hf1; obtain rfl := harg4.eq_unread hfs
  sl_exec (disch := first | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    rw [View.read_writes_full]
    exact congrArg₂ k0_pay3
      ((View.readAt_unit _ _ _ rfl (k0_off2_inb i hc2)).trans
        (by rw [harg4.read_unread]))
      ((View.readAt_full _ _ _).trans (harg1.read_unread _))
  iexists _; isplitr; swap; · iexact HS
  ipureintro
  rw [View.read_writes_cons_put _ _ _ _ _ rfl]
  rw [View.writes_nil, harg4.read_unread]
  exact congrArg (fun w => VecWindow.put xs (k0_off3 i) S1x256x4096.size (k0_pay2 w)) ((View.readAt_full _ _ _).trans (harg2.read_unread _))

end Cert.KernelIdeal.Z

end
-- ==== Proof.Z.Run.lean ====
/- The z projection's grid: the weight tiles the scratch holds, the proof data, and the run, over any values. -/
module

public import proofs.«01_k».proof.Proof.Z.Body
public import proofs.«01_k».proof.Proof.Gen.KernelIdeal.Points
public import proofs.«01_k».proof.Proof.Gen.KernelIdeal.Launch
public import Idealize.ShloMosaic.Lib.Pipeline.ValueKit
public import Idealize.ShloMosaic.Lib.PointwiseCore

@[expose] public section

set_option maxRecDepth 16384

noncomputable section

namespace Cert.KernelIdeal.Z

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- The first weight row of each tile. -/
def start : ℕ → ℕ
  | 0 => 6144
  | 1 => 7168
  | 2 => 10256
  | _ => 11280

/-- Which points receive only, and which compute. -/
theorem conds : ∀ t : Fin cfg0.N, (k0_cond1 (grid0.coords t) = 1#1 ↔ t.val < 4) ∧ (k0_cond2 (grid0.coords t) = 1#1 ↔ 4 ≤ t.val) :=
  (by decide +kernel : ∀ t : Fin grid0.N, (k0_cond1 (grid0.coords t) = 1#1 ↔ t.val < 4) ∧ (k0_cond2 (grid0.coords t) = 1#1 ↔ 4 ≤ t.val))

theorem offs : ∀ t : Fin cfg0.N, (t.val < 4 → k0_off1 (grid0.coords t) = ![0, 256 * t.val, 0])
    ∧ (4 ≤ t.val → k0_off2 (grid0.coords t) = ![(t.val - 4) / 8 % 2, 0, 0]
      ∧ k0_off3 (grid0.coords t) = ![((t.val - 4) / 8 + 1) % 2, 256 * min ((t.val - 4) % 8) (4 - 1), 0]) :=
  (by decide +kernel : ∀ t : Fin grid0.N, (t.val < 4 → k0_off1 (grid0.coords t) = ![0, 256 * t.val, 0])
    ∧ (4 ≤ t.val → k0_off2 (grid0.coords t) = ![(t.val - 4) / 8 % 2, 0, 0]
      ∧ k0_off3 (grid0.coords t) = ![((t.val - 4) / 8 + 1) % 2, 256 * min ((t.val - 4) % 8) (4 - 1), 0]))

/-- Where each window stands. -/
theorem idx : ∀ t : Fin cfg0.N, (t.val < 4 → win0_1.index t = ![start 0 + 256 * t.val, 0])
    ∧ (4 ≤ t.val → win0_0.index t = ![(t.val - 4) % 8, 0] ∧ win0_2.index t = ![(t.val - 4) % 8, (t.val - 4) / 8]
      ∧ ((t.val - 4) / 8 + 1 < 4 → win0_1.index t = ![start ((t.val - 4) / 8 + 1) + 256 * min ((t.val - 4) % 8) (4 - 1), 0])) :=
  (by decide +kernel : ∀ t : Fin grid0.N, (t.val < 4 → win0_1.index t = ![start 0 + 256 * t.val, 0])
    ∧ (4 ≤ t.val → win0_0.index t = ![(t.val - 4) % 8, 0] ∧ win0_2.index t = ![(t.val - 4) % 8, (t.val - 4) / 8]
      ∧ ((t.val - 4) / 8 + 1 < 4 → win0_1.index t = ![start ((t.val - 4) / 8 + 1) + 256 * min ((t.val - 4) % 8) (4 - 1), 0])))

theorem idle2 : ∀ t : Fin cfg0.N, (t.val < 4 → cfg0.idle 2 (grid0.coords t) = true ∧ (cfg0.win 2).flush t = false)
    ∧ (4 ≤ t.val → cfg0.idle 2 (grid0.coords t) = false) :=
  (by decide +kernel : ∀ t : Fin grid0.N, (t.val < 4 → idle0 2 (grid0.coords t) = true ∧ win0_2.flush t = false)
    ∧ (4 ≤ t.val → idle0 2 (grid0.coords t) = false))

/-! ## The tiles -/

/-- Row `r`, column `q` of weight tile `j`, narrowed, as the region finds the weights. -/
def T (c : Dev nD) (j r q : ℕ) : Elt F .bf16 :=
  (truncf .bf16 (V m c main_v0 : FVec F S12304x4096 .f32) bitsLt_bf16_f32 : FVec F S12304x4096 .bf16)
    (ix2 ⟨(start j + r) % 12304, Nat.mod_lt _ (by decide)⟩ ⟨q % 4096, Nat.mod_lt _ (by decide)⟩)

/-- Weight tile `j` as the body loads it. -/
def tile (c : Dev nD) (j : ℕ) : Vec F S1x1024x4096 .bf16 := fun x => T m c j (x 1).val (x 2).val

theorem start_le (j : ℕ) : start j + 1024 ≤ 12304 := by
  unfold start; split <;> omega

/-- An element of the weight window stands in the weights at the window's first row plus its own row. -/
theorem chunk_place (t : Fin cfg0.N) (y : S256x4096.Idx) (a : Fin 2) :
    ((win0_1.blk t).view.emb y a).val = win0_1.index t a + (y a).val :=
  win0_1.rect_emb_val_off t y a

/-- The weight window at a point whose first row is row `r` of tile `j`. -/
theorem chunk_read (c : Dev nD) (t : Fin cfg0.N) (j r : ℕ) (hr : r + 256 ≤ 1024) (e : win0_1.index t = ![start j + r, 0])
    (y : S256x4096.Idx) :
    truncf .bf16 (iblk m c 1 t : FVec F S256x4096 .f32) bitsLt_bf16_f32 y = T m c j (r + (y 0).val) (y 1).val := by
  have hs := start_le j
  have h0 : (y 0).val < 256 := (y 0).isLt
  have h1 : (y 1).val < 4096 := (y 1).isLt
  unfold T
  pointwise
  blk_simp [iblk]
  refine congrArg (FloatOps.truncf .bf16 bitsLt_bf16_f32) (congrArg (V m c main_v0) (funext fun a => Fin.ext ?_))
  refine (chunk_place t y a).trans ?_
  rw [e]
  match a with
  | 0 => show start j + r + (y 0).val = (start j + (r + (y 0).val)) % 12304; omega
  | 1 => show 0 + (y 1).val = (y 1).val % 4096; omega

theorem chunk_fill (c : Dev nD) (t : Fin cfg0.N) (ht : t.val < 4) (x : S1x256x4096.Idx) :
    k0_pay1 (iblk m c 1 t) x = T m c 0 (256 * t.val + (x 1).val) (x 2).val := by
  refine Eq.trans ?_ (chunk_read m c t 0 (256 * t.val) (by omega) ((idx t).1 ht) (ix2 (x 1) (x 2)))
  pointwise [k0_pay1]

theorem chunk_use (c : Dev nD) (t : Fin cfg0.N) (ht : 4 ≤ t.val) (hj : (t.val - 4) / 8 + 1 < 4) (x : S1x256x4096.Idx) :
    k0_pay2 (iblk m c 1 t) x = T m c ((t.val - 4) / 8 + 1) (256 * min ((t.val - 4) % 8) (4 - 1) + (x 1).val) (x 2).val := by
  refine Eq.trans ?_ (chunk_read m c t _ _ (by omega) (((idx t).2 ht).2.2 hj) (ix2 (x 1) (x 2)))
  pointwise [k0_pay2]

/-! ## The proof data -/

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev scM : Memref sig .tc .vmem S2x1024x4096 .bf16 := Memref.whole cc0_scratch0

/-- What the launch hands the region: the scratch at anything and the generator register at some state. -/
theorem launched_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The invariant before point `n`: the scratch holds what the schedule says. -/
def Phi (c : Dev nD) (n : ℕ) : sProp 𝕄 :=
  iprop(iprop((∃ d, iprop(⌜Stream.Inv 8 4 4 256 (T m c) n d⌝ ∗ owns (c : Thread nD τ) scM fullShare d))) ∗ (∃ r, prngReg c r))

/-- The block of the result that point `t` computes. -/
def block (c : Dev nD) (t : Fin cfg0.N) : Vec F S1024x1024 .bf16 := k0_pay3 (tile m c ((t.val - 4) / 8)) (iblk m c 0 t)

/-- The proof data: the inputs' buffers stay at their blocks, the result's ends at the computed block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => block m c t
  Φ t := Phi m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = block m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl,
    show (dats m 0 c).Φ t.castSucc = Phi m c t.val from rfl, show (dats m 0 c).Φ t.succ = Phi m c (t.val + 1) from rfl,
    show (dats m 0 c).leavesExact 0 t = owns (c : Thread nD τ) (ms0 t) fullShare (iblk m c 0 t) from by
      unfold Dat.leavesExact; rw [show cfg0.idle 0 (grid0.coords t) = false from rfl, after0],
    show (dats m 0 c).leavesExact 1 t = owns (c : Thread nD τ) (ms1 t) fullShare (iblk m c 1 t) from by
      unfold Dat.leavesExact; rw [show cfg0.idle 1 (grid0.coords t) = false from rfl, after1]]
  have hN : t.val < 36 := lt_of_lt_of_eq t.isLt (show cfg0.N = 36 from N_0)
  unfold Phi
  by_cases ht : t.val < 4
  · rw [(dats m 0 c).leavesExact_idle 2 t ((idle2 t).1 ht).1 ((idle2 t).1 ht).2]
    iintro ⟨⟨⟨%d, %hd, HS⟩, Hg⟩, Ho, ⟨%d0, H0⟩, ⟨%d1, H1⟩, ⟨%d2, H2⟩⟩
    iapply (body_fill c (grid0.coords t) _ _ _ _ _ _ _ _ ((conds t).1.mpr ht) (fun h => absurd ((conds t).2.mp h) (by omega))
      (iblk m c 1 t) d Set.univ _)
    isplitl [H1]; · iexact H1
    isplitl [HS]; · iexact HS
    iintro ⟨H1, HS⟩
    isplitl [HS Hg]
    · isplitl [HS]
      · iexists _; isplitr; swap; · iexact HS
        ipureintro
        rw [(offs t).1 ht]
        exact hd.put_first ht (by omega) (by omega) _ (chunk_fill m c t ht)
      iexact Hg
    isplitl [Ho]; · iexact Ho
    isplitl [H0]; · iexact H0
    isplitl [H1]; · iexact H1
    iexists _; iexact H2
  · have ht : 4 ≤ t.val := by omega
    rw [show (dats m 0 c).leavesExact 2 t = owns (c : Thread nD τ) (ms2 t) fullShare (block m c t) from by
      unfold Dat.leavesExact; rw [(idle2 t).2 ht, after2]]
    iintro ⟨⟨⟨%d, %hd, HS⟩, Hg⟩, Ho, ⟨%d0, H0⟩, ⟨%d1, H1⟩, ⟨%d2, H2⟩⟩
    have hw : VecWindow.window d (k0_off2 (grid0.coords t)) S1x1024x4096.size (k0_off2_inb _ ((conds t).2.mpr ht))
        = tile m c ((t.val - 4) / 8) :=
      funext fun x => hd.window ht (by omega) rfl ((offs t).2 ht).1 _ x
    iapply (body_use c (grid0.coords t) _ _ _ _ _ _ _ _ (fun h => absurd ((conds t).1.mp h) (by omega)) ((conds t).2.mpr ht)
      (iblk m c 0 t) (iblk m c 1 t) d Set.univ _)
    rw [hw]
    isplitl [H0]; · iexact H0
    isplitl [H1]; · iexact H1
    isplitl [H2]; · iexists _; iexact H2
    isplitl [HS]; · iexact HS
    iintro ⟨H0, H1, H2, HS⟩
    isplitl [HS Hg]
    · isplitl [HS]
      · iexists _; isplitr; swap; · iexact HS
        ipureintro
        rw [((offs t).2 ht).2]
        exact hd.put_next ht (by omega) (by omega) _ (chunk_use m c t ht)
      iexact Hg
    isplitl [Ho]; · iexact Ho
    isplitl [H0]; · iexact H0
    isplitl [H1]; · iexact H1
    iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, launched_eq]
  unfold Phi
  iintro ⟨⟨%d, HS⟩, Hg⟩
  isplitl [HS]
  · iexists d; isplitr; swap; · iexact HS
    ipureintro; exact Stream.Inv.zero _ _ (by omega)
  iexact Hg

theorem hout (c : Dev nD) : (dats m 0 c).Φ (Fin.last cfg0.N) ⊢ Pipeline.ΦA spec0 c := by
  rw [show (dats m 0 c).Φ (Fin.last cfg0.N) = Phi m c (Fin.last cfg0.N).val from rfl, launched_eq]
  unfold Phi
  iintro ⟨⟨%d, -, HS⟩, Hg⟩
  isplitl [HS]
  · iexists _; iexact HS
  iexact Hg

/-! ## The run -/

set_option backward.isDefEq.respectTransparency.types false in
/-- Every weakly fair execution ends, the arrays as the proof data says and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiet m ρ))

end Cert.KernelIdeal.Z

end
-- ==== Proof.Z.Frames.lean ====
/- The z projection's two programs: the same text, so the one run serves both frames. -/
module

public import proofs.«01_k».proof.Defs
public import proofs.«01_k».proof.Proof.Z.Run
public import proofs.«01_k».proof.Proof.Gen.Kernel

@[expose] public section

noncomputable section

namespace Cert.Proof

open Idealize.ShloMosaic Idealize.SL.Sem

theorem z_bodies : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

theorem z_defs : Cert.Kernel.defs (F := Bits) = Cert.KernelIdeal.defs (F := Bits) := by
  unfold Cert.Kernel.defs Cert.KernelIdeal.defs
  rw [z_bodies]; rfl

theorem frame_kernel : Cert.quiescent_Kernel := fun m g _ => by
  rw [z_defs]
  exact Cert.KernelIdeal.Z.frame (F := Bits) m g

theorem frame_ideal : Cert.quiescent_KernelIdeal := fun m g _ => Cert.KernelIdeal.Z.frame (F := Ideal) m g

end Cert.Proof

end
-- ==== Proof.Stream.Gates.lean ====
/- The kernels write the logistic function as half of one plus a hyperbolic tangent: the two agree on the extended reals. -/
module

public import Idealize.ShloMosaic.Lib.IdealHost
public import Mathlib.Analysis.SpecialFunctions.Trigonometric.DerivHyp

@[expose] public section

namespace Cert.Stream

open Idealize.ShloMosaic

theorem ofBits_half : Ideal.ofBits .f32 0x3F000000#32 = (((1 : ℝ) / 2 : ℝ) : EReal) := by
  simp [Ideal.ofBits, Ideal.ieee, -EReal.coe_mul]
  norm_num

theorem half_add_half : (((1 : ℝ) / 2 : ℝ) : EReal) + (((1 : ℝ) / 2 : ℝ) : EReal) = 1 := by
  rw [← EReal.coe_add, ← EReal.coe_one]; norm_num

/-- `1/2 · tanh (y/2) + 1/2 = 1 / (1 + e^(-y))`. -/
theorem half_tanh (y : EReal) :
    Ideal.ofBits .f32 0x3F000000#32 * Ideal.tanh (Ideal.ofBits .f32 0x3F000000#32 * y) + Ideal.ofBits .f32 0x3F000000#32
      = Ideal.logistic y := by
  rw [ofBits_half]
  have hpos : (0 : ℝ) < 1 / 2 := by norm_num
  induction y with
  | bot =>
    rw [EReal.coe_mul_bot_of_pos hpos, Ideal.tanh_bot, Ideal.logistic_bot, mul_neg, mul_one, ← EReal.coe_neg, ← EReal.coe_add, ← EReal.coe_zero]
    norm_num
  | top =>
    rw [EReal.coe_mul_top_of_pos hpos, Ideal.tanh_top, Ideal.logistic_top, mul_one]
    exact half_add_half
  | coe r =>
    rw [← EReal.coe_mul, Ideal.tanh_coe, ← EReal.coe_mul, ← EReal.coe_add, Ideal.logistic_coe]
    refine congrArg _ ?_
    have e1 : Real.exp (-r) = Real.exp (-(1 / 2 * r)) * Real.exp (-(1 / 2 * r)) := by
      rw [← Real.exp_add]; ring_nf
    have e2 : Real.exp (1 / 2 * r) * Real.exp (-(1 / 2 * r)) = 1 := by
      rw [← Real.exp_add]; simp
    rw [Real.tanh_eq_sinh_div_cosh, Real.sinh_eq, Real.cosh_eq, e1]
    have h1 := Real.exp_pos (1 / 2 * r)
    have h2 := Real.exp_pos (-(1 / 2 * r))
    generalize Real.exp (1 / 2 * r) = a at *
    generalize Real.exp (-(1 / 2 * r)) = b at *
    have h3 : a + b ≠ 0 := by positivity
    have h4 : 1 + b * b ≠ 0 := by positivity
    field_simp
    nlinarith [e2]

end Cert.Stream
-- ==== Proof.Z.Value.lean ====
/- The z projection's result over the extended reals: the array after the run is the reference's. -/
module

public import proofs.«01_k».proof.Proof.Z.Run
public import proofs.«01_k».proof.Proof.Stream.Gates
public import proofs.«01_k».proof.Proof.Gen.ReferenceIdeal.Run
public import Idealize.ShloMosaic.Lib.Pipeline.ValueKit

@[expose] public section

set_option maxRecDepth 16384

noncomputable section

namespace Cert.KernelIdeal.Z

open Idealize.ShloMosaic Idealize.ShloMosaic.TcCoe Idealize.SL.Sem
open Idealize.ShloMosaic.Pipeline (Dat)
open Cert.KernelIdeal Cert.KernelIdeal.Gen

/-- `y` times the logistic function of `y`. -/
def act (y : EReal) : EReal := y * Ideal.logistic y

/-- Row `a` of `X` times column `b` of `W`. -/
def dot (X : FVec Ideal S8192x4096 .bf16) (W : FVec Ideal S4096x12304 .f32) (a : Fin 8192) (b : Fin 12304) : EReal :=
  ∑ k : Fin 4096, X (ix2 a k) * W (ix2 k b)

/-- The reference's result over its arguments. -/
abbrev REF (X : FVec Ideal S8192x4096 .bf16) (W : FVec Ideal S4096x12304 .f32) : FVec Ideal S8192x4096 .bf16 :=
  truncf .bf16 (concatenate Cert.ReferenceIdeal.S8192x4096 1 [⟨Cert.ReferenceIdeal.S8192x2048, (mulf (extractStridedSlice Cert.ReferenceIdeal.S8192x2048 ![0, 6144] (Host.dotGeneral Cert.ReferenceIdeal.dot_S8192x4096_S4096x12304_S8192x12304_1_0_0_1_n_n none (extf .f32 X Cert.ReferenceIdeal.Gen.bitsLt_bf16_f32) W) Cert.ReferenceIdeal.Gen.slices_S8192x12304_S8192x2048_0_6144) (Host.divf (broadcastInDim Cert.ReferenceIdeal.S8192x2048 ![] Cert.ReferenceIdeal.Gen.bcast_S_S8192x2048 (constant Cert.ReferenceIdeal.S_ .f32 0x3F800000#32)) (addf (broadcastInDim Cert.ReferenceIdeal.S8192x2048 ![] Cert.ReferenceIdeal.Gen.bcast_S_S8192x2048 (constant Cert.ReferenceIdeal.S_ .f32 0x3F800000#32)) (Host.exp (Host.negf (extractStridedSlice Cert.ReferenceIdeal.S8192x2048 ![0, 6144] (Host.dotGeneral Cert.ReferenceIdeal.dot_S8192x4096_S4096x12304_S8192x12304_1_0_0_1_n_n none (extf .f32 X Cert.ReferenceIdeal.Gen.bitsLt_bf16_f32) W) Cert.ReferenceIdeal.Gen.slices_S8192x12304_S8192x2048_0_6144))))))⟩, ⟨Cert.ReferenceIdeal.S8192x2048, (mulf (extractStridedSlice Cert.ReferenceIdeal.S8192x2048 ![0, 10256] (Host.dotGeneral Cert.ReferenceIdeal.dot_S8192x4096_S4096x12304_S8192x12304_1_0_0_1_n_n none (extf .f32 X Cert.ReferenceIdeal.Gen.bitsLt_bf16_f32) W) Cert.ReferenceIdeal.Gen.slices_S8192x12304_S8192x2048_0_10256) (Host.divf (broadcastInDim Cert.ReferenceIdeal.S8192x2048 ![] Cert.ReferenceIdeal.Gen.bcast_S_S8192x2048 (constant Cert.ReferenceIdeal.S_ .f32 0x3F800000#32)) (addf (broadcastInDim Cert.ReferenceIdeal.S8192x2048 ![] Cert.ReferenceIdeal.Gen.bcast_S_S8192x2048 (constant Cert.ReferenceIdeal.S_ .f32 0x3F800000#32)) (Host.exp (Host.negf (extractStridedSlice Cert.ReferenceIdeal.S8192x2048 ![0, 10256] (Host.dotGeneral Cert.ReferenceIdeal.dot_S8192x4096_S4096x12304_S8192x12304_1_0_0_1_n_n none (extf .f32 X Cert.ReferenceIdeal.Gen.bitsLt_bf16_f32) W) Cert.ReferenceIdeal.Gen.slices_S8192x12304_S8192x2048_0_10256))))))⟩] Cert.ReferenceIdeal.Gen.concatenates_S8192x2048_S8192x2048_S8192x4096_d1) Cert.ReferenceIdeal.Gen.bitsLt_bf16_f32

theorem ref_apply (X : FVec Ideal S8192x4096 .bf16) (W : FVec Ideal S4096x12304 .f32) (a : Fin 8192) (b : Fin 4096) (e : Fin 12304)
    (he : e.val = if b.val < 2048 then 6144 + b.val else 10256 + (b.val - 2048)) :
    REF X W (ix2 a b) = act (dot X W a e) := by
  unfold act dot Ideal.logistic
  pointwise [REF]
  split at he
  · rw [dif_pos ‹_›, show e = ⟨6144 + b.val, by omega⟩ from Fin.ext he]
  · rw [dif_neg ‹_›, show e = ⟨10256 + (b.val - 2048), by omega⟩ from Fin.ext he]

variable (m : (ℓ : Loc nD τ sig) → Buf (Elt Ideal) ℓ)

/-- The weights as the region finds them are the argument transposed. -/
theorem weights (c : Dev nD) (a : Fin 12304) (k : Fin 4096) :
    (V m c main_v0 : FVec Ideal S12304x4096 .f32) (ix2 a k) = m ((c : Thread nD τ).loc main_arg1) (ix2 k a) := by
  entry_read
  pointwise

theorem weights_tile (c : Dev nD) (j : ℕ) (y : Fin 1024) (k : Fin 4096) (e : Fin 12304) (he : e.val = start j + y.val)
    (h0 : (start j + y.val) % 12304 < 12304) (h1 : k.val % 4096 < 4096) :
    (V m c main_v0 : FVec Ideal S12304x4096 .f32) (ix2 ⟨(start j + y.val) % 12304, h0⟩ ⟨k.val % 4096, h1⟩)
      = m ((c : Thread nD τ).loc main_arg1) (ix2 k e) := by
  have hs := start_le j
  rw [weights, show (⟨(start j + y.val) % 12304, h0⟩ : Fin 12304) = e from Fin.ext (by show (start j + y.val) % 12304 = e.val; omega),
    show (⟨k.val % 4096, h1⟩ : Fin 4096) = k from Fin.ext (Nat.mod_eq_of_lt k.isLt)]

/-- The activations' block. -/
theorem rows (c : Dev nD) (t : Fin cfg0.N) (ht : 4 ≤ t.val) (y : Fin 1024) (k : Fin 4096) (a : Fin 8192)
    (ha : a.val = (t.val - 4) % 8 * 1024 + y.val) :
    (iblk m c 0 t : FVec Ideal S1024x4096 .bf16) (ix2 y k) = m ((c : Thread nD τ).loc main_arg0) (ix2 a k) := by
  have e := ((idx t).2 ht).1
  blk_ext [iblk, V, e, ha]

theorem block_apply (c : Dev nD) (t : Fin cfg0.N) (ht : 4 ≤ t.val) (y0 y1 : Fin 1024) (a : Fin 8192) (e : Fin 12304)
    (ha : a.val = (t.val - 4) % 8 * 1024 + y0.val) (he : e.val = start ((t.val - 4) / 8) + y1.val) :
    block m c t (ix2 y0 y1) = act (dot (m ((c : Thread nD τ).loc main_arg0)) (m ((c : Thread nD τ).loc main_arg1)) a e) := by
  unfold act
  rw [← Stream.half_tanh]
  unfold dot block
  pointwise [k0_pay3, tile, T]
  simp only [weights_tile m c _ y1 _ e he, rows m c t ht y0 _ a ha]

/-- The result array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  have hN : t.val < 36 := lt_of_lt_of_eq t.isLt (show cfg0.N = 36 from N_0)
  have ht : 4 ≤ t.val := by
    by_contra h
    rw [((idle2 t).1 (by omega)).2] at hf
    exact absurd hf (by decide)
  have e := ((idx t).2 ht).2.1
  have hs := start_le ((t.val - 4) / 8)
  rw [after2]
  idx_vars y
  rw [show ((View.whole main_v1).slice ((win0 2).rect t)).emb (ix2 y0 y1)
      = ix2 (⟨(t.val - 4) % 8 * 1024 + y0.val, by omega⟩ : Fin 8192) (⟨(t.val - 4) / 8 * 1024 + y1.val, by omega⟩ : Fin 4096) from by
    blk_ext [e]]
  rw [ref_apply _ _ _ _ (⟨start ((t.val - 4) / 8) + y1.val, by omega⟩ : Fin 12304) ?_]
  · refine Eq.trans ?_ (block_apply m c t ht y0 y1 _ _ rfl rfl)
    blk_simp
  · show start ((t.val - 4) / 8) + y1.val = if (t.val - 4) / 8 * 1024 + y1.val < 2048 then 6144 + ((t.val - 4) / 8 * 1024 + y1.val)
      else 10256 + ((t.val - 4) / 8 * 1024 + y1.val - 2048)
    have hj : (t.val - 4) / 8 < 4 := by omega
    generalize (t.val - 4) / 8 = j at hj
    match j, hj with
    | 0, _ => rw [if_pos (by omega)]; show 6144 + y1.val = _; omega
    | 1, _ => rw [if_pos (by omega)]; show 7168 + y1.val = _; omega
    | 2, _ => rw [if_neg (by omega)]; show 10256 + y1.val = _; omega
    | 3, _ => rw [if_neg (by omega)]; show 11280 + y1.val = _; omega

/-- The run, its result array at the reference's result. -/
theorem result (ρ : Dev nD → PrngReg) : θ_run defs (onTc (τ := τ) (main (F := Ideal))) ⟨m, fun _ => 0, ρ⟩ (fun r => ∀ c : Dev nD,
      r.2.mem ((c.tc : Thread nD τ).loc main_v1) = REF (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.2 c).1 2).trans (final m c), h.1.1 c⟩) (θ_run_and (frame m ρ) (run_main m ρ))

end Cert.KernelIdeal.Z

end
-- ==== Proof.Gate.Body.lean ====
/- One grid point of the gate: the body run, in the points that only receive a chunk of the first weight tile and in
   the points that compute a block of the result, over any values. -/
module

public import proofs.«01_k».proof.Proof.Gen.Kernel2Ideal.Frame
public import proofs.«01_k».proof.Proof.Gen.Kernel2Ideal.Skeleton
public import proofs.«01_k».proof.Proof.Stream.Tiles
public import Idealize.ShloMosaic.Lib.VecWindow

@[expose] public section

set_option maxRecDepth 16384

noncomputable section

namespace Cert.Kernel2Ideal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (c : Dev nD) (i : grid0.Coords) (arg1 : Memref sig .tc .vmem S1024x4096 .bf16) (harg1 : arg1.IsWhole)
    (arg2 : Memref sig .tc .vmem S1024x1024 .f32) (harg2 : arg2.IsWhole)
    (arg3 : Memref sig .tc .vmem S1x1024 .f32) (harg3 : arg3.IsWhole)
    (arg4 : Memref sig .tc .vmem S1024x1024 .bf16) (harg4 : arg4.IsWhole)
    (arg5 : Memref sig .tc .vmem S2x4096x1024 .bf16) (harg5 : arg5.IsWhole)

set_option maxHeartbeats 1000000 in
/-- A point that only receives a chunk: the chunk, narrowed, lands in the scratch; the rest stays. -/
theorem body_fill (hc1 : k0_cond1 i = 1#1) (hc2 : ¬ k0_cond2 i = 1#1)
    (x1 : Vec F S1024x1024 .f32) (xs : Vec F S2x4096x1024 .bf16) (E : Set ℕ) (K : PUnit → sProp 𝕄) :
    iprop(owns (c : Thread nD τ) arg2 fullShare x1 ∗ owns (c : Thread nD τ) arg5 fullShare xs
        ∗ (iprop(owns (c : Thread nD τ) arg2 fullShare x1
            ∗ owns (c : Thread nD τ) arg5 fullShare (VecWindow.put xs (k0_off1 i) S1x1024x1024.size (k0_pay1 x1))) -∗ K ⟨⟩))
      ⊢ wp frame (wpE (defs₀ (F := F)) Variants.none c none) E (cc0_gate i arg1 harg1 arg2 harg2 arg3 harg3 arg4 harg4 arg5 harg5) K := by
  simp only [cc0_gate_eq_skeleton]; unfold cc0_gate_skel
  unfold owns
  iintro ⟨⟨%f1, %hf1, H1⟩, ⟨%fs, %hfs, HS⟩, Hk⟩
  obtain rfl := harg2.eq_unread hf1; obtain rfl := harg5.eq_unread hfs
  sl_exec (disch := first | sl_exact hc1 | sl_exact hc2)
  sl_step
  iapply Hk
  isplitl [H1]
  · iexists _; isplitr; · ipureintro; exact harg2.read_unread _
    iexact H1
  iexists _; isplitr; swap; · iexact HS
  ipureintro
  rw [View.read_writes_cons_put _ _ _ _ _ rfl, View.writes_nil, harg5.read_unread]
  exact congrArg (fun w => VecWindow.put xs (k0_off1 i) S1x1024x1024.size (k0_pay1 w)) ((View.readAt_full _ _ _).trans (harg2.read_unread _))

set_option maxHeartbeats 1000000 in
/-- A point that computes: the staged rows times the slot in use, the bias added and the logistic function applied,
    land in the result's buffer, and the chunk lands in the scratch. -/
theorem body_use (hc1 : ¬ k0_cond1 i = 1#1) (hc2 : k0_cond2 i = 1#1)
    (x0 : Vec F S1024x4096 .bf16) (x1 : Vec F S1024x1024 .f32) (x2 : Vec F S1x1024 .f32) (xs : Vec F S2x4096x1024 .bf16)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare
                (k0_pay3 (VecWindow.window xs (k0_off2 i) S1x4096x1024.size (k0_off2_inb i hc2)) x0 x2)
            ∗ owns (c : Thread nD τ) arg5 fullShare (VecWindow.put xs (k0_off3 i) S1x1024x1024.size (k0_pay2 x1))) -∗ K ⟨⟩))
      ⊢ wp frame (wpE (defs₀ (F := F)) Variants.none c none) E (cc0_gate i arg1 harg1 arg2 harg2 arg3 harg3 arg4 harg4 arg5 harg5) K := by
  simp only [cc0_gate_eq_skeleton]; unfold cc0_gate_skel
  rw [k0_part1_eq_skeleton]; unfold k0_part1_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg1.eq_unread hf0; obtain rfl := harg2.eq_unread hf1; obtain rfl := harg3.eq_unread hf2
  obtain rfl := harg5.eq_unread hfs
  sl_exec (disch := first | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    rw [View.read_writes_full]
    refine congr (congrArg₂ k0_pay3 ((View.readAt_unit _ _ _ rfl (k0_off2_inb i hc2)).trans (by rw [harg5.read_unread])) ?_) ?_
    · exact (View.readAt_full _ _ _).trans (harg1.read_unread _)
    · exact (View.readAt_full _ _ _).trans (harg3.read_unread _)
  iexists _; isplitr; swap; · iexact HS
  ipureintro
  rw [View.read_writes_cons_put _ _ _ _ _ rfl, View.writes_nil, harg5.read_unread]
  exact congrArg (fun w => VecWindow.put xs (k0_off3 i) S1x1024x1024.size (k0_pay2 w)) ((View.readAt_full _ _ _).trans (harg2.read_unread _))

end Cert.Kernel2Ideal.Gate

end
-- ==== Proof.Gate.Run.lean ====
/- The gate's grid: the weight tiles the scratch holds, the proof data, and the run, over any values. -/
module

public import proofs.«01_k».proof.Proof.Gate.Body
public import proofs.«01_k».proof.Proof.Gen.Kernel2Ideal.Points
public import proofs.«01_k».proof.Proof.Gen.Kernel2Ideal.Launch
public import Idealize.ShloMosaic.Lib.Pipeline.ValueKit
public import Idealize.ShloMosaic.Lib.PointwiseCore

@[expose] public section

set_option maxRecDepth 16384

noncomputable section

namespace Cert.Kernel2Ideal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- Which points receive only, and which compute. -/
theorem conds : ∀ t : Fin cfg0.N, (k0_cond1 (grid0.coords t) = 1#1 ↔ t.val < 4) ∧ (k0_cond2 (grid0.coords t) = 1#1 ↔ 4 ≤ t.val) :=
  (by decide +kernel : ∀ t : Fin grid0.N, (k0_cond1 (grid0.coords t) = 1#1 ↔ t.val < 4) ∧ (k0_cond2 (grid0.coords t) = 1#1 ↔ 4 ≤ t.val))

theorem offs : ∀ t : Fin cfg0.N, (t.val < 4 → k0_off1 (grid0.coords t) = ![0, 1024 * t.val, 0])
    ∧ (4 ≤ t.val → k0_off2 (grid0.coords t) = ![(t.val - 4) / 8 % 2, 0, 0]
      ∧ k0_off3 (grid0.coords t) = ![((t.val - 4) / 8 + 1) % 2, 1024 * min ((t.val - 4) % 8) (4 - 1), 0]) :=
  (by decide +kernel : ∀ t : Fin grid0.N, (t.val < 4 → k0_off1 (grid0.coords t) = ![0, 1024 * t.val, 0])
    ∧ (4 ≤ t.val → k0_off2 (grid0.coords t) = ![(t.val - 4) / 8 % 2, 0, 0]
      ∧ k0_off3 (grid0.coords t) = ![((t.val - 4) / 8 + 1) % 2, 1024 * min ((t.val - 4) % 8) (4 - 1), 0]))

/-- Where each window stands. -/
theorem idx : ∀ t : Fin cfg0.N, (t.val < 4 → win0_1.index t = ![t.val, 0])
    ∧ (4 ≤ t.val → win0_0.index t = ![(t.val - 4) % 8, 0] ∧ win0_2.index t = ![0, (t.val - 4) / 8]
      ∧ win0_3.index t = ![(t.val - 4) % 8, (t.val - 4) / 8]
      ∧ ((t.val - 4) / 8 + 1 < 8 → win0_1.index t = ![min ((t.val - 4) % 8) (4 - 1), (t.val - 4) / 8 + 1])) :=
  (by decide +kernel : ∀ t : Fin grid0.N, (t.val < 4 → win0_1.index t = ![t.val, 0])
    ∧ (4 ≤ t.val → win0_0.index t = ![(t.val - 4) % 8, 0] ∧ win0_2.index t = ![0, (t.val - 4) / 8]
      ∧ win0_3.index t = ![(t.val - 4) % 8, (t.val - 4) / 8]
      ∧ ((t.val - 4) / 8 + 1 < 8 → win0_1.index t = ![min ((t.val - 4) % 8) (4 - 1), (t.val - 4) / 8 + 1])))

theorem idle3 : ∀ t : Fin cfg0.N, (t.val < 4 → cfg0.idle 3 (grid0.coords t) = true ∧ (cfg0.win 3).flush t = false)
    ∧ (4 ≤ t.val → cfg0.idle 3 (grid0.coords t) = false) :=
  (by decide +kernel : ∀ t : Fin grid0.N, (t.val < 4 → idle0 3 (grid0.coords t) = true ∧ win0_3.flush t = false)
    ∧ (4 ≤ t.val → idle0 3 (grid0.coords t) = false))

/-! ## The tiles -/

/-- Row `r`, column `q` of weight tile `j`, narrowed, as the region finds the weights. -/
def T (c : Dev nD) (j r q : ℕ) : Elt F .bf16 :=
  (truncf .bf16 (V m c main_arg1 : FVec F S4096x8192 .f32) bitsLt_bf16_f32 : FVec F S4096x8192 .bf16)
    (ix2 ⟨r % 4096, Nat.mod_lt _ (by decide)⟩ ⟨(j * 1024 + q) % 8192, Nat.mod_lt _ (by decide)⟩)

/-- Weight tile `j` as the body loads it. -/
def tile (c : Dev nD) (j : ℕ) : Vec F S1x4096x1024 .bf16 := fun x => T m c j (x 1).val (x 2).val

/-- The weight window at a point where it stands at chunk `r` of tile `j`. -/
theorem chunk_read (c : Dev nD) (t : Fin cfg0.N) (j r : ℕ) (hj : j < 8) (hr : r < 4) (e : win0_1.index t = ![r, j])
    (y : S1024x1024.Idx) :
    truncf .bf16 (iblk m c 1 t : FVec F S1024x1024 .f32) bitsLt_bf16_f32 y = T m c j (1024 * r + (y 0).val) (y 1).val := by
  have h0 : (y 0).val < 1024 := (y 0).isLt
  have h1 : (y 1).val < 1024 := (y 1).isLt
  unfold T
  pointwise
  refine congrArg (FloatOps.truncf .bf16 bitsLt_bf16_f32) ?_
  have e0 : (1024 * r + (y 0).val) % 4096 = r * 1024 + (y 0).val := by omega
  have e1 : (j * 1024 + (y 1).val) % 8192 = j * 1024 + (y 1).val := by omega
  blk_ext [iblk, V, e, e0, e1]

theorem chunk_fill (c : Dev nD) (t : Fin cfg0.N) (ht : t.val < 4) (x : S1x1024x1024.Idx) :
    k0_pay1 (iblk m c 1 t) x = T m c 0 (1024 * t.val + (x 1).val) (x 2).val := by
  refine Eq.trans ?_ (chunk_read m c t 0 t.val (by omega) ht ((idx t).1 ht) (ix2 (x 1) (x 2)))
  pointwise [k0_pay1]

theorem chunk_use (c : Dev nD) (t : Fin cfg0.N) (ht : 4 ≤ t.val) (hj : (t.val - 4) / 8 + 1 < 8) (x : S1x1024x1024.Idx) :
    k0_pay2 (iblk m c 1 t) x = T m c ((t.val - 4) / 8 + 1) (1024 * min ((t.val - 4) % 8) (4 - 1) + (x 1).val) (x 2).val := by
  refine Eq.trans ?_ (chunk_read m c t _ _ hj (by omega) (((idx t).2 ht).2.2.2 hj) (ix2 (x 1) (x 2)))
  pointwise [k0_pay2]

/-! ## The proof data -/

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev scM : Memref sig .tc .vmem S2x4096x1024 .bf16 := Memref.whole cc0_scratch0

/-- What the launch hands the region: the scratch at anything and the generator register at some state. -/
theorem launched_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The invariant before point `n`: the scratch holds what the schedule says. -/
def Phi (c : Dev nD) (n : ℕ) : sProp 𝕄 :=
  iprop(iprop((∃ d, iprop(⌜Stream.Inv 8 8 4 1024 (T m c) n d⌝ ∗ owns (c : Thread nD τ) scM fullShare d))) ∗ (∃ r, prngReg c r))

/-- The block of the result that point `t` computes. -/
def block (c : Dev nD) (t : Fin cfg0.N) : Vec F S1024x1024 .bf16 :=
  k0_pay3 (tile m c ((t.val - 4) / 8)) (iblk m c 0 t) (iblk m c 2 t)

/-- The proof data: the inputs' buffers stay at their blocks, the result's ends at the computed block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => block m c t
  Φ t := Phi m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = block m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl,
    show (dats m 0 c).Φ t.castSucc = Phi m c t.val from rfl, show (dats m 0 c).Φ t.succ = Phi m c (t.val + 1) from rfl,
    show (dats m 0 c).leavesExact 0 t = owns (c : Thread nD τ) (ms0 t) fullShare (iblk m c 0 t) from by
      unfold Dat.leavesExact; rw [show cfg0.idle 0 (grid0.coords t) = false from rfl, after0],
    show (dats m 0 c).leavesExact 1 t = owns (c : Thread nD τ) (ms1 t) fullShare (iblk m c 1 t) from by
      unfold Dat.leavesExact; rw [show cfg0.idle 1 (grid0.coords t) = false from rfl, after1],
    show (dats m 0 c).leavesExact 2 t = owns (c : Thread nD τ) (ms2 t) fullShare (iblk m c 2 t) from by
      unfold Dat.leavesExact; rw [show cfg0.idle 2 (grid0.coords t) = false from rfl, after2]]
  have hN : t.val < 68 := lt_of_lt_of_eq t.isLt (show cfg0.N = 68 from N_0)
  unfold Phi
  by_cases ht : t.val < 4
  · rw [(dats m 0 c).leavesExact_idle 3 t ((idle3 t).1 ht).1 ((idle3 t).1 ht).2]
    iintro ⟨⟨⟨%d, %hd, HS⟩, Hg⟩, Ho, ⟨%d0, H0⟩, ⟨%d1, H1⟩, ⟨%d2, H2⟩, ⟨%d3, H3⟩⟩
    iapply (body_fill c (grid0.coords t) _ _ _ _ _ _ _ _ _ _ ((conds t).1.mpr ht) (fun h => absurd ((conds t).2.mp h) (by omega))
      (iblk m c 1 t) d Set.univ _)
    isplitl [H1]; · iexact H1
    isplitl [HS]; · iexact HS
    iintro ⟨H1, HS⟩
    isplitl [HS Hg]
    · isplitl [HS]
      · iexists _; isplitr; swap; · iexact HS
        ipureintro
        rw [(offs t).1 ht]
        exact hd.put_first ht (by omega) (by omega) _ (chunk_fill m c t ht)
      iexact Hg
    isplitl [Ho]; · iexact Ho
    isplitl [H0]; · iexact H0
    isplitl [H1]; · iexact H1
    isplitl [H2]; · iexact H2
    iexists _; iexact H3
  · have ht : 4 ≤ t.val := by omega
    rw [show (dats m 0 c).leavesExact 3 t = owns (c : Thread nD τ) (ms3 t) fullShare (block m c t) from by
      unfold Dat.leavesExact; rw [(idle3 t).2 ht, after3]]
    iintro ⟨⟨⟨%d, %hd, HS⟩, Hg⟩, Ho, ⟨%d0, H0⟩, ⟨%d1, H1⟩, ⟨%d2, H2⟩, ⟨%d3, H3⟩⟩
    have hw : VecWindow.window d (k0_off2 (grid0.coords t)) S1x4096x1024.size (k0_off2_inb _ ((conds t).2.mpr ht))
        = tile m c ((t.val - 4) / 8) :=
      funext fun x => hd.window ht (by omega) rfl ((offs t).2 ht).1 _ x
    iapply (body_use c (grid0.coords t) _ _ _ _ _ _ _ _ _ _ (fun h => absurd ((conds t).1.mp h) (by omega)) ((conds t).2.mpr ht)
      (iblk m c 0 t) (iblk m c 1 t) (iblk m c 2 t) d Set.univ _)
    rw [hw]
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]
      · iexists _; isplitr; swap; · iexact HS
        ipureintro
        rw [((offs t).2 ht).2]
        exact hd.put_next ht (by omega) (by omega) _ (chunk_use m c t ht)
      iexact Hg
    isplitl [Ho]; · iexact Ho
    isplitl [H0]; · iexact H0
    isplitl [H1]; · iexact H1
    isplitl [H2]; · iexact H2
    iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, launched_eq]
  unfold Phi
  iintro ⟨⟨%d, HS⟩, Hg⟩
  isplitl [HS]
  · iexists d; isplitr; swap; · iexact HS
    ipureintro; exact Stream.Inv.zero _ _ (by omega)
  iexact Hg

theorem hout (c : Dev nD) : (dats m 0 c).Φ (Fin.last cfg0.N) ⊢ Pipeline.ΦA spec0 c := by
  rw [show (dats m 0 c).Φ (Fin.last cfg0.N) = Phi m c (Fin.last cfg0.N).val from rfl, launched_eq]
  unfold Phi
  iintro ⟨⟨%d, -, HS⟩, Hg⟩
  isplitl [HS]
  · iexists _; iexact HS
  iexact Hg

/-! ## The run -/

set_option backward.isDefEq.respectTransparency.types false in
/-- Every weakly fair execution ends, the arrays as the proof data says and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_quiet m ρ)))
    ((θ_run defs _ _).mono (fun _ h => h.2) (run_quiet m ρ))

end Cert.Kernel2Ideal.Gate

end
-- ==== Proof.Gate.Value.lean ====
/- The gate's result over the extended reals: the logistic function of the product plus the bias, from the kernel and
   from the reference. -/
module

public import proofs.«01_k».proof.Defs
public import proofs.«01_k».proof.Proof.Gate.Run
public import proofs.«01_k».proof.Proof.Stream.Gates
public import proofs.«01_k».proof.Proof.Gen.Kernel2
public import proofs.«01_k».proof.Proof.Gen.Reference2Ideal.Run
public import Idealize.ShloMosaic.Lib.Pipeline.ValueKit
public import Idealize.ShloMosaic.Lib.Quiescent

@[expose] public section

set_option maxRecDepth 16384

noncomputable section

namespace Cert.Kernel2Ideal.Gate

open Idealize.ShloMosaic Idealize.ShloMosaic.TcCoe Idealize.SL.Sem
open Idealize.ShloMosaic.Pipeline (Dat)
open Cert.Kernel2Ideal Cert.Kernel2Ideal.Gen

/-- The gate at row `a`, column `b`. -/
def entry (X : FVec Ideal S8192x4096 .bf16) (W : FVec Ideal S4096x8192 .f32) (B : FVec Ideal S8192 .f32) (a b : Fin 8192) : EReal :=
  Ideal.logistic ((∑ k : Fin 4096, X (ix2 a k) * W (ix2 k b)) + B (ix1 b))

/-- The gate. -/
def G (X : FVec Ideal S8192x4096 .bf16) (W : FVec Ideal S4096x8192 .f32) (B : FVec Ideal S8192 .f32) : FVec Ideal S8192x8192 .bf16 :=
  fun y => entry X W B (y 0) (y 1)

variable (m : (ℓ : Loc nD τ sig) → Buf (Elt Ideal) ℓ)

/-- The activations' block. -/
theorem rows (c : Dev nD) (t : Fin cfg0.N) (ht : 4 ≤ t.val) (y : Fin 1024) (k : Fin 4096) (a : Fin 8192)
    (ha : a.val = (t.val - 4) % 8 * 1024 + y.val) :
    (iblk m c 0 t : FVec Ideal S1024x4096 .bf16) (ix2 y k) = m ((c : Thread nD τ).loc main_arg0) (ix2 a k) := by
  have e := ((idx t).2 ht).1
  blk_ext [iblk, V, e, ha]

/-- The bias's block. -/
theorem bias (c : Dev nD) (t : Fin cfg0.N) (ht : 4 ≤ t.val) (z : Fin 1) (y : Fin 1024) (b : Fin 8192)
    (hb : b.val = (t.val - 4) / 8 * 1024 + y.val) :
    (iblk m c 2 t : FVec Ideal S1x1024 .f32) (ix2 z y) = m ((c : Thread nD τ).loc main_arg2) (ix1 b) := by
  have e := ((idx t).2 ht).2.1
  blk_simp [iblk]
  entry_read
  pointwise
  blk_ext [e, hb]

theorem weights (c : Dev nD) (j : ℕ) (y : Fin 1024) (k : Fin 4096) (b : Fin 8192) (hb : b.val = j * 1024 + y.val)
    (h0 : k.val % 4096 < 4096) (h1 : (j * 1024 + y.val) % 8192 < 8192) :
    (V m c main_arg1 : FVec Ideal S4096x8192 .f32) (ix2 ⟨k.val % 4096, h0⟩ ⟨(j * 1024 + y.val) % 8192, h1⟩)
      = m ((c : Thread nD τ).loc main_arg1) (ix2 k b) := by
  rw [V_main_arg1, show (⟨(j * 1024 + y.val) % 8192, h1⟩ : Fin 8192) = b from Fin.ext (by show (j * 1024 + y.val) % 8192 = b.val; omega),
    show (⟨k.val % 4096, h0⟩ : Fin 4096) = k from Fin.ext (Nat.mod_eq_of_lt k.isLt)]

theorem block_apply (c : Dev nD) (t : Fin cfg0.N) (ht : 4 ≤ t.val) (y0 y1 : Fin 1024) (a b : Fin 8192)
    (ha : a.val = (t.val - 4) % 8 * 1024 + y0.val) (hb : b.val = (t.val - 4) / 8 * 1024 + y1.val) :
    block m c t (ix2 y0 y1) = entry (m ((c : Thread nD τ).loc main_arg0)) (m ((c : Thread nD τ).loc main_arg1))
      (m ((c : Thread nD τ).loc main_arg2)) a b := by
  unfold entry
  rw [← Stream.half_tanh]
  unfold block
  pointwise [k0_pay3, tile, T]
  simp only [weights m c _ y1 _ b hb, rows m c t ht y0 _ a ha, bias m c t ht _ y1 b hb]

/-- The result array after the run. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  have hN : t.val < 68 := lt_of_lt_of_eq t.isLt (show cfg0.N = 68 from N_0)
  have ht : 4 ≤ t.val := by
    by_contra h
    rw [((idle3 t).1 (by omega)).2] at hf
    exact absurd hf (by decide)
  have e := ((idx t).2 ht).2.2.1
  rw [after3]
  idx_vars y
  rw [show ((View.whole main_v1).slice ((win0 3).rect t)).emb (ix2 y0 y1)
      = ix2 (⟨(t.val - 4) % 8 * 1024 + y0.val, by omega⟩ : Fin 8192) (⟨(t.val - 4) / 8 * 1024 + y1.val, by omega⟩ : Fin 8192) from by
    blk_ext [e]]
  refine Eq.trans ?_ (block_apply m c t ht y0 y1 _ _ rfl rfl)
  blk_simp

/-- The run, its result array at the gate. -/
theorem result (ρ : Dev nD → PrngReg) : θ_run defs (onTc (τ := τ) (main (F := Ideal))) ⟨m, fun _ => 0, ρ⟩ (fun r => ∀ c : Dev nD,
      r.2.mem ((c.tc : Thread nD τ).loc main_v1)
        = G (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.2.1 c).1 3).trans (final m c), h.1.1 c⟩) (θ_run_and (frame m ρ) (run_quiet m ρ))

end Cert.Kernel2Ideal.Gate

/-! ## The claims -/

namespace Cert.Proof

open Idealize.ShloMosaic Idealize.SL.Sem

theorem gate_defs : Cert.Kernel2.defs (F := Bits) = Cert.Kernel2Ideal.defs (F := Bits) := by
  have h : Cert.Kernel2.defs₀ (F := Bits) = Cert.Kernel2Ideal.defs₀ (F := Bits) := by
    unfold Cert.Kernel2.defs₀ Cert.Kernel2Ideal.defs₀
    refine congrArg Defs.onTc (funext fun l => funext fun a => ?_)
    match l, a with
    | 0, (t, s) => rfl
  unfold Cert.Kernel2.defs Cert.Kernel2Ideal.defs
  rw [h]; rfl

theorem frame_kernel2 : Cert.quiescent_Kernel2 := fun m g _ => by
  rw [gate_defs]
  exact Cert.Kernel2Ideal.Gate.frame (F := Bits) m g

theorem frame_ideal2 : Cert.quiescent_Kernel2Ideal := fun m g _ => Cert.Kernel2Ideal.Gate.frame (F := Ideal) m g

theorem frame_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

theorem algebraic2 : Cert.algebraic_Kernel2Ideal_Reference2Ideal := by
  intro m g m' g' _ hagree
  refine ⟨_, Cert.Kernel2Ideal.Gate.result m g, ?_⟩
  refine (θ_run Cert.Reference2Ideal.defs _ _).mono (fun r h c => ⟨(h c).1.trans ?_, (h c).2⟩) (Cert.Reference2Ideal.Value.run (F := Ideal) m' g')
  rw [(hagree c).1, (hagree c).2.1, (hagree c).2.2]
  refine funext fun y => ?_
  idx_vars y
  show _ = Cert.Kernel2Ideal.Gate.entry _ _ _ y0 y1
  unfold Cert.Kernel2Ideal.Gate.entry Ideal.logistic
  pointwise

end Cert.Proof

end
-- ==== Proof.Out.Body.lean ====
/- One grid point of the output projection: the body run, in the points that only receive a chunk of the first weight tile and in
   the points that compute a block of the result, over any values. -/
module

public import proofs.«01_k».proof.Proof.Gen.Kernel3Ideal.Frame
public import proofs.«01_k».proof.Proof.Gen.Kernel3Ideal.Skeleton
public import proofs.«01_k».proof.Proof.Stream.Tiles
public import Idealize.ShloMosaic.Lib.VecWindow

@[expose] public section

set_option maxRecDepth 16384

noncomputable section

namespace Cert.Kernel3Ideal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (c : Dev nD) (i : grid0.Coords) (arg1 : Memref sig .tc .vmem S1024x4096 .bf16) (harg1 : arg1.IsWhole)
    (arg2 : Memref sig .tc .vmem S512x1024 .f32) (harg2 : arg2.IsWhole)
    (arg3 : Memref sig .tc .vmem S1024x1024 .f32) (harg3 : arg3.IsWhole)
    (arg4 : Memref sig .tc .vmem S1x1024 .f32) (harg4 : arg4.IsWhole)
    (arg5 : Memref sig .tc .vmem S1024x1024 .f32) (harg5 : arg5.IsWhole)
    (arg6 : Memref sig .tc .vmem S2x4096x1024 .bf16) (harg6 : arg6.IsWhole)

set_option maxHeartbeats 1000000 in
/-- A point that only receives a chunk: the chunk, narrowed, lands in the scratch; the rest stays. -/
theorem body_fill (hc1 : k0_cond1 i = 1#1) (hc2 : ¬ k0_cond2 i = 1#1)
    (x1 : Vec F S512x1024 .f32) (xs : Vec F S2x4096x1024 .bf16) (E : Set ℕ) (K : PUnit → sProp 𝕄) :
    iprop(owns (c : Thread nD τ) arg2 fullShare x1 ∗ owns (c : Thread nD τ) arg6 fullShare xs
        ∗ (iprop(owns (c : Thread nD τ) arg2 fullShare x1
            ∗ owns (c : Thread nD τ) arg6 fullShare (VecWindow.put xs (k0_off1 i) S1x512x1024.size (k0_pay1 x1))) -∗ K ⟨⟩))
      ⊢ wp frame (wpE (defs₀ (F := F)) Variants.none c none) E (cc0_out i arg1 harg1 arg2 harg2 arg3 harg3 arg4 harg4 arg5 harg5 arg6 harg6) K := by
  simp only [cc0_out_eq_skeleton]; unfold cc0_out_skel
  unfold owns
  iintro ⟨⟨%f1, %hf1, H1⟩, ⟨%fs, %hfs, HS⟩, Hk⟩
  obtain rfl := harg2.eq_unread hf1; obtain rfl := harg6.eq_unread hfs
  sl_exec (disch := first | sl_exact hc1 | sl_exact hc2)
  sl_step
  iapply Hk
  isplitl [H1]
  · iexists _; isplitr; · ipureintro; exact harg2.read_unread _
    iexact H1
  iexists _; isplitr; swap; · iexact HS
  ipureintro
  rw [View.read_writes_cons_put _ _ _ _ _ rfl, View.writes_nil, harg6.read_unread]
  exact congrArg (fun w => VecWindow.put xs (k0_off1 i) S1x512x1024.size (k0_pay1 w)) ((View.readAt_full _ _ _).trans (harg2.read_unread _))

set_option maxHeartbeats 1000000 in
/-- A point that computes: the staged rows times the slot in use, scaled by the gate row and added to the staged
    input, land in the result's buffer, and the chunk lands in the scratch. -/
theorem body_use (hc1 : ¬ k0_cond1 i = 1#1) (hc2 : k0_cond2 i = 1#1)
    (x0 : Vec F S1024x4096 .bf16) (x1 : Vec F S512x1024 .f32) (x2 : Vec F S1024x1024 .f32) (x3 : Vec F S1x1024 .f32) (xs : Vec F S2x4096x1024 .bf16)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare
                (k0_pay3 (VecWindow.window xs (k0_off2 i) S1x4096x1024.size (k0_off2_inb i hc2)) x0 x2 x3)
            ∗ owns (c : Thread nD τ) arg6 fullShare (VecWindow.put xs (k0_off3 i) S1x512x1024.size (k0_pay2 x1))) -∗ K ⟨⟩))
      ⊢ wp frame (wpE (defs₀ (F := F)) Variants.none c none) E (cc0_out i arg1 harg1 arg2 harg2 arg3 harg3 arg4 harg4 arg5 harg5 arg6 harg6) K := by
  simp only [cc0_out_eq_skeleton]; unfold cc0_out_skel
  rw [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg1.eq_unread hf0; obtain rfl := harg2.eq_unread hf1; obtain rfl := harg3.eq_unread hf2; obtain rfl := harg4.eq_unread hf3
  obtain rfl := harg6.eq_unread hfs
  sl_exec (disch := first | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    rw [View.read_writes_full]
    refine congr (congr (congrArg₂ k0_pay3 ((View.readAt_unit _ _ _ rfl (k0_off2_inb i hc2)).trans (by rw [harg6.read_unread])) ?_) ?_) ?_
    · exact (View.readAt_full _ _ _).trans (harg1.read_unread _)
    · exact (View.readAt_full _ _ _).trans (harg3.read_unread _)
    · exact (View.readAt_full _ _ _).trans (harg4.read_unread _)
  iexists _; isplitr; swap; · iexact HS
  ipureintro
  rw [View.read_writes_cons_put _ _ _ _ _ rfl, View.writes_nil, harg6.read_unread]
  exact congrArg (fun w => VecWindow.put xs (k0_off3 i) S1x512x1024.size (k0_pay2 w)) ((View.readAt_full _ _ _).trans (harg2.read_unread _))

end Cert.Kernel3Ideal.Out

end
-- ==== Proof.Out.Run.lean ====
/- The output projection's grid: the weight tiles the scratch holds, the proof data, and the run, over any values. -/
module

public import proofs.«01_k».proof.Proof.Out.Body
public import proofs.«01_k».proof.Proof.Gen.Kernel3Ideal.Points
public import proofs.«01_k».proof.Proof.Gen.Kernel3Ideal.Launch
public import Idealize.ShloMosaic.Lib.Pipeline.ValueKit
public import Idealize.ShloMosaic.Lib.PointwiseCore

@[expose] public section

set_option maxRecDepth 16384

noncomputable section

namespace Cert.Kernel3Ideal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- Which points receive only, and which compute. -/
theorem conds : ∀ t : Fin cfg0.N, (k0_cond1 (grid0.coords t) = 1#1 ↔ t.val < 8) ∧ (k0_cond2 (grid0.coords t) = 1#1 ↔ 8 ≤ t.val) :=
  (by decide +kernel : ∀ t : Fin grid0.N, (k0_cond1 (grid0.coords t) = 1#1 ↔ t.val < 8) ∧ (k0_cond2 (grid0.coords t) = 1#1 ↔ 8 ≤ t.val))

theorem offs : ∀ t : Fin cfg0.N, (t.val < 8 → k0_off1 (grid0.coords t) = ![0, 512 * t.val, 0])
    ∧ (8 ≤ t.val → k0_off2 (grid0.coords t) = ![(t.val - 8) / 8 % 2, 0, 0]
      ∧ k0_off3 (grid0.coords t) = ![((t.val - 8) / 8 + 1) % 2, 512 * min ((t.val - 8) % 8) (8 - 1), 0]) :=
  (by decide +kernel : ∀ t : Fin grid0.N, (t.val < 8 → k0_off1 (grid0.coords t) = ![0, 512 * t.val, 0])
    ∧ (8 ≤ t.val → k0_off2 (grid0.coords t) = ![(t.val - 8) / 8 % 2, 0, 0]
      ∧ k0_off3 (grid0.coords t) = ![((t.val - 8) / 8 + 1) % 2, 512 * min ((t.val - 8) % 8) (8 - 1), 0]))

/-- Where each window stands. -/
theorem idx : ∀ t : Fin cfg0.N, (t.val < 8 → win0_1.index t = ![t.val, 0])
    ∧ (8 ≤ t.val → win0_0.index t = ![(t.val - 8) % 8, 0] ∧ win0_2.index t = ![(t.val - 8) % 8, (t.val - 8) / 8]
      ∧ win0_3.index t = ![0, (t.val - 8) / 8] ∧ win0_4.index t = ![(t.val - 8) % 8, (t.val - 8) / 8]
      ∧ ((t.val - 8) / 8 + 1 < 4 → win0_1.index t = ![min ((t.val - 8) % 8) (8 - 1), (t.val - 8) / 8 + 1])) :=
  (by decide +kernel : ∀ t : Fin grid0.N, (t.val < 8 → win0_1.index t = ![t.val, 0])
    ∧ (8 ≤ t.val → win0_0.index t = ![(t.val - 8) % 8, 0] ∧ win0_2.index t = ![(t.val - 8) % 8, (t.val - 8) / 8]
      ∧ win0_3.index t = ![0, (t.val - 8) / 8] ∧ win0_4.index t = ![(t.val - 8) % 8, (t.val - 8) / 8]
      ∧ ((t.val - 8) / 8 + 1 < 4 → win0_1.index t = ![min ((t.val - 8) % 8) (8 - 1), (t.val - 8) / 8 + 1])))

theorem idle4 : ∀ t : Fin cfg0.N, (t.val < 8 → cfg0.idle 4 (grid0.coords t) = true ∧ (cfg0.win 4).flush t = false)
    ∧ (8 ≤ t.val → cfg0.idle 4 (grid0.coords t) = false) :=
  (by decide +kernel : ∀ t : Fin grid0.N, (t.val < 8 → idle0 4 (grid0.coords t) = true ∧ win0_4.flush t = false)
    ∧ (8 ≤ t.val → idle0 4 (grid0.coords t) = false))

/-! ## The tiles -/

/-- Row `r`, column `q` of weight tile `j`, narrowed, as the region finds the weights. -/
def T (c : Dev nD) (j r q : ℕ) : Elt F .bf16 :=
  (truncf .bf16 (V m c main_arg1 : FVec F S4096x4096 .f32) bitsLt_bf16_f32 : FVec F S4096x4096 .bf16)
    (ix2 ⟨r % 4096, Nat.mod_lt _ (by decide)⟩ ⟨(j * 1024 + q) % 4096, Nat.mod_lt _ (by decide)⟩)

/-- Weight tile `j` as the body loads it. -/
def tile (c : Dev nD) (j : ℕ) : Vec F S1x4096x1024 .bf16 := fun x => T m c j (x 1).val (x 2).val

/-- The weight window at a point where it stands at chunk `r` of tile `j`. -/
theorem chunk_read (c : Dev nD) (t : Fin cfg0.N) (j r : ℕ) (hj : j < 4) (hr : r < 8) (e : win0_1.index t = ![r, j])
    (y : S512x1024.Idx) :
    truncf .bf16 (iblk m c 1 t : FVec F S512x1024 .f32) bitsLt_bf16_f32 y = T m c j (512 * r + (y 0).val) (y 1).val := by
  have h0 : (y 0).val < 512 := (y 0).isLt
  have h1 : (y 1).val < 1024 := (y 1).isLt
  unfold T
  pointwise
  refine congrArg (FloatOps.truncf .bf16 bitsLt_bf16_f32) ?_
  have e0 : (512 * r + (y 0).val) % 4096 = r * 512 + (y 0).val := by omega
  have e1 : (j * 1024 + (y 1).val) % 4096 = j * 1024 + (y 1).val := by omega
  blk_ext [iblk, V, e, e0, e1]

theorem chunk_fill (c : Dev nD) (t : Fin cfg0.N) (ht : t.val < 8) (x : S1x512x1024.Idx) :
    k0_pay1 (iblk m c 1 t) x = T m c 0 (512 * t.val + (x 1).val) (x 2).val := by
  refine Eq.trans ?_ (chunk_read m c t 0 t.val (by omega) ht ((idx t).1 ht) (ix2 (x 1) (x 2)))
  pointwise [k0_pay1]

theorem chunk_use (c : Dev nD) (t : Fin cfg0.N) (ht : 8 ≤ t.val) (hj : (t.val - 8) / 8 + 1 < 4) (x : S1x512x1024.Idx) :
    k0_pay2 (iblk m c 1 t) x = T m c ((t.val - 8) / 8 + 1) (512 * min ((t.val - 8) % 8) (8 - 1) + (x 1).val) (x 2).val := by
  refine Eq.trans ?_ (chunk_read m c t _ _ hj (by omega) (((idx t).2 ht).2.2.2.2 hj) (ix2 (x 1) (x 2)))
  pointwise [k0_pay2]

/-! ## The proof data -/

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev scM : Memref sig .tc .vmem S2x4096x1024 .bf16 := Memref.whole cc0_scratch0

/-- What the launch hands the region: the scratch at anything and the generator register at some state. -/
theorem launched_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The invariant before point `n`: the scratch holds what the schedule says. -/
def Phi (c : Dev nD) (n : ℕ) : sProp 𝕄 :=
  iprop(iprop((∃ d, iprop(⌜Stream.Inv 8 4 8 512 (T m c) n d⌝ ∗ owns (c : Thread nD τ) scM fullShare d))) ∗ (∃ r, prngReg c r))

/-- The block of the result that point `t` computes. -/
def block (c : Dev nD) (t : Fin cfg0.N) : Vec F S1024x1024 .f32 :=
  k0_pay3 (tile m c ((t.val - 8) / 8)) (iblk m c 0 t) (iblk m c 2 t) (iblk m c 3 t)

/-- The proof data: the inputs' buffers stay at their blocks, the result's ends at the computed block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => block m c t
  Φ t := Phi m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = block m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl,
    show (dats m 0 c).Φ t.castSucc = Phi m c t.val from rfl, show (dats m 0 c).Φ t.succ = Phi m c (t.val + 1) from rfl,
    show (dats m 0 c).leavesExact 0 t = owns (c : Thread nD τ) (ms0 t) fullShare (iblk m c 0 t) from by
      unfold Dat.leavesExact; rw [show cfg0.idle 0 (grid0.coords t) = false from rfl, after0],
    show (dats m 0 c).leavesExact 1 t = owns (c : Thread nD τ) (ms1 t) fullShare (iblk m c 1 t) from by
      unfold Dat.leavesExact; rw [show cfg0.idle 1 (grid0.coords t) = false from rfl, after1],
    show (dats m 0 c).leavesExact 2 t = owns (c : Thread nD τ) (ms2 t) fullShare (iblk m c 2 t) from by
      unfold Dat.leavesExact; rw [show cfg0.idle 2 (grid0.coords t) = false from rfl, after2],
    show (dats m 0 c).leavesExact 3 t = owns (c : Thread nD τ) (ms3 t) fullShare (iblk m c 3 t) from by
      unfold Dat.leavesExact; rw [show cfg0.idle 3 (grid0.coords t) = false from rfl, after3]]
  have hN : t.val < 40 := lt_of_lt_of_eq t.isLt (show cfg0.N = 40 from N_0)
  unfold Phi
  by_cases ht : t.val < 8
  · rw [(dats m 0 c).leavesExact_idle 4 t ((idle4 t).1 ht).1 ((idle4 t).1 ht).2]
    iintro ⟨⟨⟨%d, %hd, HS⟩, Hg⟩, Ho, ⟨%d0, H0⟩, ⟨%d1, H1⟩, ⟨%d2, H2⟩, ⟨%d3, H3⟩, ⟨%d4, H4⟩⟩
    iapply (body_fill c (grid0.coords t) _ _ _ _ _ _ _ _ _ _ _ _ ((conds t).1.mpr ht) (fun h => absurd ((conds t).2.mp h) (by omega))
      (iblk m c 1 t) d Set.univ _)
    isplitl [H1]; · iexact H1
    isplitl [HS]; · iexact HS
    iintro ⟨H1, HS⟩
    isplitl [HS Hg]
    · isplitl [HS]
      · iexists _; isplitr; swap; · iexact HS
        ipureintro
        rw [(offs t).1 ht]
        exact hd.put_first ht (by omega) (by omega) _ (chunk_fill m c t ht)
      iexact Hg
    isplitl [Ho]; · iexact Ho
    isplitl [H0]; · iexact H0
    isplitl [H1]; · iexact H1
    isplitl [H2]; · iexact H2
    isplitl [H3]; · iexact H3
    iexists _; iexact H4
  · have ht : 8 ≤ t.val := by omega
    rw [show (dats m 0 c).leavesExact 4 t = owns (c : Thread nD τ) (ms4 t) fullShare (block m c t) from by
      unfold Dat.leavesExact; rw [(idle4 t).2 ht, after4]]
    iintro ⟨⟨⟨%d, %hd, HS⟩, Hg⟩, Ho, ⟨%d0, H0⟩, ⟨%d1, H1⟩, ⟨%d2, H2⟩, ⟨%d3, H3⟩, ⟨%d4, H4⟩⟩
    have hw : VecWindow.window d (k0_off2 (grid0.coords t)) S1x4096x1024.size (k0_off2_inb _ ((conds t).2.mpr ht))
        = tile m c ((t.val - 8) / 8) :=
      funext fun x => hd.window ht (by omega) rfl ((offs t).2 ht).1 _ x
    iapply (body_use c (grid0.coords t) _ _ _ _ _ _ _ _ _ _ _ _ (fun h => absurd ((conds t).1.mp h) (by omega)) ((conds t).2.mpr ht)
      (iblk m c 0 t) (iblk m c 1 t) (iblk m c 2 t) (iblk m c 3 t) d Set.univ _)
    rw [hw]
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]
      · iexists _; isplitr; swap; · iexact HS
        ipureintro
        rw [((offs t).2 ht).2]
        exact hd.put_next ht (by omega) (by omega) _ (chunk_use m c t ht)
      iexact Hg
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, launched_eq]
  unfold Phi
  iintro ⟨⟨%d, HS⟩, Hg⟩
  isplitl [HS]
  · iexists d; isplitr; swap; · iexact HS
    ipureintro; exact Stream.Inv.zero _ _ (by omega)
  iexact Hg

theorem hout (c : Dev nD) : (dats m 0 c).Φ (Fin.last cfg0.N) ⊢ Pipeline.ΦA spec0 c := by
  rw [show (dats m 0 c).Φ (Fin.last cfg0.N) = Phi m c (Fin.last cfg0.N).val from rfl, launched_eq]
  unfold Phi
  iintro ⟨⟨%d, -, HS⟩, Hg⟩
  isplitl [HS]
  · iexists _; iexact HS
  iexact Hg

/-! ## The run -/

set_option backward.isDefEq.respectTransparency.types false in
/-- Every weakly fair execution ends, the arrays as the proof data says and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_quiet m ρ)))
    ((θ_run defs _ _).mono (fun _ h => h.2) (run_quiet m ρ))

end Cert.Kernel3Ideal.Out

end
-- ==== Proof.Out.Value.lean ====
/- The output projection's result over the extended reals: the input plus the gate row times the product, from the
   kernel and from the reference. -/
module

public import proofs.«01_k».proof.Defs
public import proofs.«01_k».proof.Proof.Out.Run
public import proofs.«01_k».proof.Proof.Stream.Gates
public import proofs.«01_k».proof.Proof.Gen.Kernel3
public import proofs.«01_k».proof.Proof.Gen.Reference3Ideal.Run
public import Idealize.ShloMosaic.Lib.Pipeline.ValueKit
public import Idealize.ShloMosaic.Lib.Quiescent

@[expose] public section

set_option maxRecDepth 16384

noncomputable section

namespace Cert.Kernel3Ideal.Out

open Idealize.ShloMosaic Idealize.ShloMosaic.TcCoe Idealize.SL.Sem
open Idealize.ShloMosaic.Pipeline (Dat)
open Cert.Kernel3Ideal Cert.Kernel3Ideal.Gen

/-- The layer's result at row `a`, column `b`: the input plus the gate row's entry times the product's. -/
def entry (M : FVec Ideal S8192x4096 .bf16) (W : FVec Ideal S4096x4096 .f32) (X : FVec Ideal S8192x4096 .f32) (R : FVec Ideal S1x4096 .f32)
    (a : Fin 8192) (b : Fin 4096) : EReal :=
  X (ix2 a b) + R (ix2 0 b) * ∑ k : Fin 4096, M (ix2 a k) * W (ix2 k b)

/-- The layer's result. -/
def G (M : FVec Ideal S8192x4096 .bf16) (W : FVec Ideal S4096x4096 .f32) (X : FVec Ideal S8192x4096 .f32) (R : FVec Ideal S1x4096 .f32) :
    FVec Ideal S8192x4096 .f32 :=
  fun y => entry M W X R (y 0) (y 1)

variable (m : (ℓ : Loc nD τ sig) → Buf (Elt Ideal) ℓ)

/-- The branches' block. -/
theorem rows (c : Dev nD) (t : Fin cfg0.N) (ht : 8 ≤ t.val) (y : Fin 1024) (k : Fin 4096) (a : Fin 8192)
    (ha : a.val = (t.val - 8) % 8 * 1024 + y.val) :
    (iblk m c 0 t : FVec Ideal S1024x4096 .bf16) (ix2 y k) = m ((c : Thread nD τ).loc main_arg0) (ix2 a k) := by
  have e := ((idx t).2 ht).1
  blk_ext [iblk, V, e, ha]

/-- The input's block. -/
theorem input (c : Dev nD) (t : Fin cfg0.N) (ht : 8 ≤ t.val) (y0 y1 : Fin 1024) (a : Fin 8192) (b : Fin 4096)
    (ha : a.val = (t.val - 8) % 8 * 1024 + y0.val) (hb : b.val = (t.val - 8) / 8 * 1024 + y1.val) :
    (iblk m c 2 t : FVec Ideal S1024x1024 .f32) (ix2 y0 y1) = m ((c : Thread nD τ).loc main_arg2) (ix2 a b) := by
  have e := ((idx t).2 ht).2.1
  blk_ext [iblk, V, e, ha, hb]

/-- The gate row's block. -/
theorem gain (c : Dev nD) (t : Fin cfg0.N) (ht : 8 ≤ t.val) (z : Fin 1) (y : Fin 1024) (b : Fin 4096)
    (hb : b.val = (t.val - 8) / 8 * 1024 + y.val) :
    (iblk m c 3 t : FVec Ideal S1x1024 .f32) (ix2 z y) = m ((c : Thread nD τ).loc main_arg3) (ix2 0 b) := by
  have e := ((idx t).2 ht).2.2.1
  blk_simp [iblk]
  entry_read
  pointwise
  blk_ext [e, hb]

theorem weights (c : Dev nD) (j : ℕ) (y : Fin 1024) (k : Fin 4096) (b : Fin 4096) (hb : b.val = j * 1024 + y.val)
    (h0 : k.val % 4096 < 4096) (h1 : (j * 1024 + y.val) % 4096 < 4096) :
    (V m c main_arg1 : FVec Ideal S4096x4096 .f32) (ix2 ⟨k.val % 4096, h0⟩ ⟨(j * 1024 + y.val) % 4096, h1⟩)
      = m ((c : Thread nD τ).loc main_arg1) (ix2 k b) := by
  rw [V_main_arg1, show (⟨(j * 1024 + y.val) % 4096, h1⟩ : Fin 4096) = b from Fin.ext (by show (j * 1024 + y.val) % 4096 = b.val; omega),
    show (⟨k.val % 4096, h0⟩ : Fin 4096) = k from Fin.ext (Nat.mod_eq_of_lt k.isLt)]

theorem block_apply (c : Dev nD) (t : Fin cfg0.N) (ht : 8 ≤ t.val) (y0 y1 : Fin 1024) (a : Fin 8192) (b : Fin 4096)
    (ha : a.val = (t.val - 8) % 8 * 1024 + y0.val) (hb : b.val = (t.val - 8) / 8 * 1024 + y1.val) :
    block m c t (ix2 y0 y1) = entry (m ((c : Thread nD τ).loc main_arg0)) (m ((c : Thread nD τ).loc main_arg1))
      (m ((c : Thread nD τ).loc main_arg2)) (m ((c : Thread nD τ).loc main_arg3)) a b := by
  unfold entry
  unfold block
  pointwise [k0_pay3, tile, T]
  simp only [weights m c _ y1 _ b hb, rows m c t ht y0 _ a ha, input m c t ht y0 y1 a b ha hb, gain m c t ht _ y1 b hb]

/-- The result array after the run. -/
theorem final (c : Dev nD) : (dats m 0 c).arrAt 4 cfg0.N
    = G (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t hf y => ?_
  have hN : t.val < 40 := lt_of_lt_of_eq t.isLt (show cfg0.N = 40 from N_0)
  have ht : 8 ≤ t.val := by
    by_contra h
    rw [((idle4 t).1 (by omega)).2] at hf
    exact absurd hf (by decide)
  have e := ((idx t).2 ht).2.2.2.1
  rw [after4]
  idx_vars y
  rw [show ((View.whole main_v2).slice ((win0 4).rect t)).emb (ix2 y0 y1)
      = ix2 (⟨(t.val - 8) % 8 * 1024 + y0.val, by omega⟩ : Fin 8192) (⟨(t.val - 8) / 8 * 1024 + y1.val, by omega⟩ : Fin 4096) from by
    blk_ext [e]]
  refine Eq.trans ?_ (block_apply m c t ht y0 y1 _ _ rfl rfl)
  blk_simp

/-- The run, its result array at the layer's. -/
theorem result (ρ : Dev nD → PrngReg) : θ_run defs (onTc (τ := τ) (main (F := Ideal))) ⟨m, fun _ => 0, ρ⟩ (fun r => ∀ c : Dev nD,
      r.2.mem ((c.tc : Thread nD τ).loc main_v2)
        = G (m ((c : Thread nD τ).loc main_arg0)) (m ((c : Thread nD τ).loc main_arg1)) (m ((c : Thread nD τ).loc main_arg2))
          (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.2.1 c).1 4).trans (final m c), h.1.1 c⟩) (θ_run_and (frame m ρ) (run_quiet m ρ))

end Cert.Kernel3Ideal.Out

/-! ## The claims -/

namespace Cert.Proof

open Idealize.ShloMosaic Idealize.SL.Sem

theorem out_defs : Cert.Kernel3.defs (F := Bits) = Cert.Kernel3Ideal.defs (F := Bits) := by
  have h : Cert.Kernel3.defs₀ (F := Bits) = Cert.Kernel3Ideal.defs₀ (F := Bits) := by
    unfold Cert.Kernel3.defs₀ Cert.Kernel3Ideal.defs₀
    refine congrArg Defs.onTc (funext fun l => funext fun a => ?_)
    match l, a with
    | 0, (t, s) => rfl
  unfold Cert.Kernel3.defs Cert.Kernel3Ideal.defs
  rw [h]; rfl

theorem frame_kernel3 : Cert.quiescent_Kernel3 := fun m g _ => by
  rw [out_defs]
  exact Cert.Kernel3Ideal.Out.frame (F := Bits) m g

theorem frame_ideal3 : Cert.quiescent_Kernel3Ideal := fun m g _ => Cert.Kernel3Ideal.Out.frame (F := Ideal) m g

theorem frame_reference3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

theorem algebraic3 : Cert.algebraic_Kernel3Ideal_Reference3Ideal := by
  intro m g m' g' _ hagree
  refine ⟨_, Cert.Kernel3Ideal.Out.result m g, ?_⟩
  refine (θ_run Cert.Reference3Ideal.defs _ _).mono (fun r h c => ⟨(h c).1.trans ?_, (h c).2⟩) (Cert.Reference3Ideal.Value.run (F := Ideal) m' g')
  rw [(hagree c).1, (hagree c).2.1, (hagree c).2.2.1, (hagree c).2.2.2]
  refine funext fun y => ?_
  idx_vars y
  show _ = Cert.Kernel3Ideal.Out.entry _ _ _ _ y0 y1
  unfold Cert.Kernel3Ideal.Out.entry
  pointwise

end Cert.Proof

end
-- ==== Proof.Merge.Body.lean ====
/- One grid point of the merge: the body run, in the points that only receive a chunk of the first weight tiles and in
   the points that compute a block of the result, over any values. -/
module

public import proofs.«01_k».proof.Proof.Gen.Kernel4Ideal.Frame
public import proofs.«01_k».proof.Proof.Gen.Kernel4Ideal.Skeleton
public import proofs.«01_k».proof.Proof.Stream.Tiles
public import Idealize.ShloMosaic.Lib.VecWindow

@[expose] public section

set_option maxRecDepth 16384

noncomputable section

namespace Cert.Kernel4Ideal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (c : Dev nD) (i : grid0.Coords) (arg1 : Memref sig .tc .vmem S1024x2048 .bf16) (harg1 : arg1.IsWhole)
    (arg2 : Memref sig .tc .vmem S1024x2048 .bf16) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S256x1024 .f32) (harg5 : arg5.IsWhole)
    (arg6 : Memref sig .tc .vmem S256x1024 .f32) (harg6 : arg6.IsWhole)
    (arg7 : Memref sig .tc .vmem S1024x1024 .bf16) (harg7 : arg7.IsWhole)
    (arg8 : Memref sig .tc .vmem S2x2048x1024 .bf16) (harg8 : arg8.IsWhole)
    (arg9 : Memref sig .tc .vmem S2x2048x1024 .bf16) (harg9 : arg9.IsWhole)

set_option maxHeartbeats 1000000 in
/-- A point that only receives: one chunk of each branch's weights, narrowed, lands in that branch's scratch. -/
theorem body_fill (hc1 : k0_cond1 i = 1#1) (hc2 : ¬ k0_cond2 i = 1#1)
    (x4 x5 : Vec F S256x1024 .f32) (xa xr : Vec F S2x2048x1024 .bf16) (E : Set ℕ) (K : PUnit → sProp 𝕄) :
    iprop(owns (c : Thread nD τ) arg5 fullShare x4 ∗ owns (c : Thread nD τ) arg6 fullShare x5
        ∗ owns (c : Thread nD τ) arg8 fullShare xa ∗ owns (c : Thread nD τ) arg9 fullShare xr
        ∗ (iprop(owns (c : Thread nD τ) arg5 fullShare x4 ∗ owns (c : Thread nD τ) arg6 fullShare x5
            ∗ owns (c : Thread nD τ) arg8 fullShare (VecWindow.put xa (k0_off1 i) S1x256x1024.size (k0_pay1 x4))
            ∗ owns (c : Thread nD τ) arg9 fullShare (VecWindow.put xr (k0_off1 i) S1x256x1024.size (k0_pay2 x5))) -∗ K ⟨⟩))
      ⊢ wp frame (wpE (defs₀ (F := F)) Variants.none c none) E
          (cc0_merge i arg1 harg1 arg2 harg2 arg3 harg3 arg4 harg4 arg5 harg5 arg6 harg6 arg7 harg7 arg8 harg8 arg9 harg9) K := by
  simp only [cc0_merge_eq_skeleton]; unfold cc0_merge_skel
  unfold owns
  iintro ⟨⟨%f4, %hf4, H4⟩, ⟨%f5, %hf5, H5⟩, ⟨%fa, %hfa, HA⟩, ⟨%fr, %hfr, HR⟩, Hk⟩
  obtain rfl := harg5.eq_unread hf4; obtain rfl := harg6.eq_unread hf5
  obtain rfl := harg8.eq_unread hfa; obtain rfl := harg9.eq_unread hfr
  sl_exec (disch := first | sl_exact hc1 | sl_exact hc2)
  sl_step
  iapply Hk
  isplitl [H4]
  · iexists _; isplitr; · ipureintro; exact harg5.read_unread _
    iexact H4
  isplitl [H5]
  · iexists _; isplitr; · ipureintro; exact harg6.read_unread _
    iexact H5
  isplitl [HA]
  · iexists _; isplitr; swap; · iexact HA
    ipureintro
    rw [View.read_writes_cons_put _ _ _ _ _ rfl, View.writes_nil, harg8.read_unread]
    exact congrArg (fun w => VecWindow.put xa (k0_off1 i) S1x256x1024.size (k0_pay1 w)) ((View.readAt_full _ _ _).trans (harg5.read_unread _))
  iexists _; isplitr; swap; · iexact HR
  ipureintro
  rw [View.read_writes_cons_put _ _ _ _ _ rfl, View.writes_nil, harg9.read_unread]
  exact congrArg (fun w => VecWindow.put xr (k0_off1 i) S1x256x1024.size (k0_pay2 w)) ((View.readAt_full _ _ _).trans (harg6.read_unread _))

set_option maxHeartbeats 1000000 in
/-- A point that computes: each branch's rows times its slot in use, scaled by its gate, their sum lands in the
    result's buffer, and the chunks land in the scratches. -/
theorem body_use (hc1 : ¬ k0_cond1 i = 1#1) (hc2 : k0_cond2 i = 1#1)
    (x0 x1 : Vec F S1024x2048 .bf16) (x2 x3 : Vec F S1024x1024 .bf16) (x4 x5 : Vec F S256x1024 .f32)
    (xa xr : Vec F S2x2048x1024 .bf16) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ owns (c : Thread nD τ) arg8 fullShare xa ∗ owns (c : Thread nD τ) arg9 fullShare xr
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare
                (k0_pay3 (k0_pay6 x0 (VecWindow.window xa (k0_off2 i) S1x2048x1024.size (k0_off2_inb i hc2)) x2)
                  (k0_pay7 x1 (VecWindow.window xr (k0_off2 i) S1x2048x1024.size (k0_off2_inb i hc2))) x3)
            ∗ owns (c : Thread nD τ) arg8 fullShare (VecWindow.put xa (k0_off3 i) S1x256x1024.size (k0_pay4 x4))
            ∗ owns (c : Thread nD τ) arg9 fullShare (VecWindow.put xr (k0_off3 i) S1x256x1024.size (k0_pay5 x5))) -∗ K ⟨⟩))
      ⊢ wp frame (wpE (defs₀ (F := F)) Variants.none c none) E
          (cc0_merge i arg1 harg1 arg2 harg2 arg3 harg3 arg4 harg4 arg5 harg5 arg6 harg6 arg7 harg7 arg8 harg8 arg9 harg9) K := by
  simp only [cc0_merge_eq_skeleton]; unfold cc0_merge_skel
  rw [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fa, %hfa, HA⟩, ⟨%fr, %hfr, HR⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hfa; obtain rfl := harg9.eq_unread hfr
  sl_exec (disch := first | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    rw [View.read_writes_full]
    refine congr (congrArg₂ k0_pay3 (congr (congrArg₂ k0_pay6 ?_ ?_) ?_) (congrArg₂ k0_pay7 ?_ ?_)) ?_
    · exact (View.readAt_full _ _ _).trans (harg1.read_unread _)
    · exact (View.readAt_unit _ _ _ rfl (k0_off2_inb i hc2)).trans (by rw [harg8.read_unread])
    · exact (View.readAt_full _ _ _).trans (harg3.read_unread _)
    · exact (View.readAt_full _ _ _).trans (harg2.read_unread _)
    · exact (View.readAt_unit _ _ _ rfl (k0_off2_inb i hc2)).trans (by rw [harg9.read_unread])
    · exact (View.readAt_full _ _ _).trans (harg4.read_unread _)
  isplitl [HA]
  · iexists _; isplitr; swap; · iexact HA
    ipureintro
    rw [View.read_writes_cons_put _ _ _ _ _ rfl, View.writes_nil, harg8.read_unread]
    exact congrArg (fun w => VecWindow.put xa (k0_off3 i) S1x256x1024.size (k0_pay4 w)) ((View.readAt_full _ _ _).trans (harg5.read_unread _))
  iexists _; isplitr; swap; · iexact HR
  ipureintro
  rw [View.read_writes_cons_put _ _ _ _ _ rfl, View.writes_nil, harg9.read_unread]
  exact congrArg (fun w => VecWindow.put xr (k0_off3 i) S1x256x1024.size (k0_pay5 w)) ((View.readAt_full _ _ _).trans (harg6.read_unread _))

end Cert.Kernel4Ideal.Merge

end
-- ==== Proof.Merge.Run.lean ====
/- The merge's grid: the weight tiles the two scratches hold, the proof data, and the run, over any values. -/
module

public import proofs.«01_k».proof.Proof.Merge.Body
public import proofs.«01_k».proof.Proof.Gen.Kernel4Ideal.Points
public import proofs.«01_k».proof.Proof.Gen.Kernel4Ideal.Launch
public import Idealize.ShloMosaic.Lib.Pipeline.ValueKit
public import Idealize.ShloMosaic.Lib.PointwiseCore

@[expose] public section

set_option maxRecDepth 16384

noncomputable section

namespace Cert.Kernel4Ideal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- Which points receive only, and which compute. -/
theorem conds : ∀ t : Fin cfg0.N, (k0_cond1 (grid0.coords t) = 1#1 ↔ t.val < 8) ∧ (k0_cond2 (grid0.coords t) = 1#1 ↔ 8 ≤ t.val) :=
  (by decide +kernel : ∀ t : Fin grid0.N, (k0_cond1 (grid0.coords t) = 1#1 ↔ t.val < 8) ∧ (k0_cond2 (grid0.coords t) = 1#1 ↔ 8 ≤ t.val))

theorem offs : ∀ t : Fin cfg0.N, (t.val < 8 → k0_off1 (grid0.coords t) = ![0, 256 * t.val, 0])
    ∧ (8 ≤ t.val → k0_off2 (grid0.coords t) = ![(t.val - 8) / 8 % 2, 0, 0]
      ∧ k0_off3 (grid0.coords t) = ![((t.val - 8) / 8 + 1) % 2, 256 * min ((t.val - 8) % 8) (8 - 1), 0]) :=
  (by decide +kernel : ∀ t : Fin grid0.N, (t.val < 8 → k0_off1 (grid0.coords t) = ![0, 256 * t.val, 0])
    ∧ (8 ≤ t.val → k0_off2 (grid0.coords t) = ![(t.val - 8) / 8 % 2, 0, 0]
      ∧ k0_off3 (grid0.coords t) = ![((t.val - 8) / 8 + 1) % 2, 256 * min ((t.val - 8) % 8) (8 - 1), 0]))

/-- Where each window stands. -/
theorem idx : ∀ t : Fin cfg0.N, (t.val < 8 → win0_4.index t = ![t.val, 0] ∧ win0_5.index t = ![t.val, 0])
    ∧ (8 ≤ t.val → win0_0.index t = ![(t.val - 8) % 8, 0] ∧ win0_1.index t = ![(t.val - 8) % 8, 0]
      ∧ win0_2.index t = ![(t.val - 8) % 8, (t.val - 8) / 8] ∧ win0_3.index t = ![(t.val - 8) % 8, 4 + (t.val - 8) / 8]
      ∧ win0_6.index t = ![(t.val - 8) % 8, (t.val - 8) / 8]
      ∧ ((t.val - 8) / 8 + 1 < 4 → win0_4.index t = ![min ((t.val - 8) % 8) (8 - 1), (t.val - 8) / 8 + 1]
        ∧ win0_5.index t = ![min ((t.val - 8) % 8) (8 - 1), (t.val - 8) / 8 + 1])) :=
  (by decide +kernel : ∀ t : Fin grid0.N, (t.val < 8 → win0_4.index t = ![t.val, 0] ∧ win0_5.index t = ![t.val, 0])
    ∧ (8 ≤ t.val → win0_0.index t = ![(t.val - 8) % 8, 0] ∧ win0_1.index t = ![(t.val - 8) % 8, 0]
      ∧ win0_2.index t = ![(t.val - 8) % 8, (t.val - 8) / 8] ∧ win0_3.index t = ![(t.val - 8) % 8, 4 + (t.val - 8) / 8]
      ∧ win0_6.index t = ![(t.val - 8) % 8, (t.val - 8) / 8]
      ∧ ((t.val - 8) / 8 + 1 < 4 → win0_4.index t = ![min ((t.val - 8) % 8) (8 - 1), (t.val - 8) / 8 + 1]
        ∧ win0_5.index t = ![min ((t.val - 8) % 8) (8 - 1), (t.val - 8) / 8 + 1])))

theorem idle6 : ∀ t : Fin cfg0.N, (t.val < 8 → cfg0.idle 6 (grid0.coords t) = true ∧ (cfg0.win 6).flush t = false)
    ∧ (8 ≤ t.val → cfg0.idle 6 (grid0.coords t) = false) :=
  (by decide +kernel : ∀ t : Fin grid0.N, (t.val < 8 → idle0 6 (grid0.coords t) = true ∧ win0_6.flush t = false)
    ∧ (8 ≤ t.val → idle0 6 (grid0.coords t) = false))

/-! ## The tiles -/

/-- Row `r`, column `q` of tile `j` of the weights `W`, narrowed. -/
def T (W : FVec F S2048x4096 .f32) (j r q : ℕ) : Elt F .bf16 :=
  (truncf .bf16 W bitsLt_bf16_f32 : FVec F S2048x4096 .bf16)
    (ix2 ⟨r % 2048, Nat.mod_lt _ (by decide)⟩ ⟨(j * 1024 + q) % 4096, Nat.mod_lt _ (by decide)⟩)

/-- Tile `j` of the weights `W` as the body loads it. -/
def tile (W : FVec F S2048x4096 .f32) (j : ℕ) : Vec F S1x2048x1024 .bf16 := fun x => T W j (x 1).val (x 2).val

/-- The attention branch's weights, as the region finds them. -/
abbrev WA (c : Dev nD) : FVec F S2048x4096 .f32 := V m c main_arg3
/-- The recurrent branch's weights, as the region finds them. -/
abbrev WR (c : Dev nD) : FVec F S2048x4096 .f32 := V m c main_arg4

/-- The attention branch's weight window at a point where it stands at chunk `r` of tile `j`. -/
theorem chunk_readA (c : Dev nD) (t : Fin cfg0.N) (j r : ℕ) (hj : j < 4) (hr : r < 8) (e : win0_4.index t = ![r, j])
    (y : S256x1024.Idx) :
    truncf .bf16 (iblk m c 4 t : FVec F S256x1024 .f32) bitsLt_bf16_f32 y = T (WA m c) j (256 * r + (y 0).val) (y 1).val := by
  have h0 : (y 0).val < 256 := (y 0).isLt
  have h1 : (y 1).val < 1024 := (y 1).isLt
  unfold T
  pointwise
  refine congrArg (FloatOps.truncf .bf16 bitsLt_bf16_f32) ?_
  have e0 : (256 * r + (y 0).val) % 2048 = r * 256 + (y 0).val := by omega
  have e1 : (j * 1024 + (y 1).val) % 4096 = j * 1024 + (y 1).val := by omega
  blk_ext [iblk, V, e, e0, e1]

/-- The recurrent branch's weight window at a point where it stands at chunk `r` of tile `j`. -/
theorem chunk_readR (c : Dev nD) (t : Fin cfg0.N) (j r : ℕ) (hj : j < 4) (hr : r < 8) (e : win0_5.index t = ![r, j])
    (y : S256x1024.Idx) :
    truncf .bf16 (iblk m c 5 t : FVec F S256x1024 .f32) bitsLt_bf16_f32 y = T (WR m c) j (256 * r + (y 0).val) (y 1).val := by
  have h0 : (y 0).val < 256 := (y 0).isLt
  have h1 : (y 1).val < 1024 := (y 1).isLt
  unfold T
  pointwise
  refine congrArg (FloatOps.truncf .bf16 bitsLt_bf16_f32) ?_
  have e0 : (256 * r + (y 0).val) % 2048 = r * 256 + (y 0).val := by omega
  have e1 : (j * 1024 + (y 1).val) % 4096 = j * 1024 + (y 1).val := by omega
  blk_ext [iblk, V, e, e0, e1]

theorem chunk_fill (c : Dev nD) (t : Fin cfg0.N) (ht : t.val < 8) :
    (∀ x : S1x256x1024.Idx, k0_pay1 (iblk m c 4 t) x = T (WA m c) 0 (256 * t.val + (x 1).val) (x 2).val)
      ∧ ∀ x : S1x256x1024.Idx, k0_pay2 (iblk m c 5 t) x = T (WR m c) 0 (256 * t.val + (x 1).val) (x 2).val := by
  refine ⟨fun x => ?_, fun x => ?_⟩
  · refine Eq.trans ?_ (chunk_readA m c t 0 t.val (by omega) ht ((idx t).1 ht).1 (ix2 (x 1) (x 2)))
    pointwise [k0_pay1]
  · refine Eq.trans ?_ (chunk_readR m c t 0 t.val (by omega) ht ((idx t).1 ht).2 (ix2 (x 1) (x 2)))
    pointwise [k0_pay2]

theorem chunk_use (c : Dev nD) (t : Fin cfg0.N) (ht : 8 ≤ t.val) (hj : (t.val - 8) / 8 + 1 < 4) :
    (∀ x : S1x256x1024.Idx, k0_pay4 (iblk m c 4 t) x
        = T (WA m c) ((t.val - 8) / 8 + 1) (256 * min ((t.val - 8) % 8) (8 - 1) + (x 1).val) (x 2).val)
      ∧ ∀ x : S1x256x1024.Idx, k0_pay5 (iblk m c 5 t) x
        = T (WR m c) ((t.val - 8) / 8 + 1) (256 * min ((t.val - 8) % 8) (8 - 1) + (x 1).val) (x 2).val := by
  have e := ((idx t).2 ht).2.2.2.2.2 hj
  refine ⟨fun x => ?_, fun x => ?_⟩
  · refine Eq.trans ?_ (chunk_readA m c t _ _ hj (by omega) e.1 (ix2 (x 1) (x 2)))
    pointwise [k0_pay4]
  · refine Eq.trans ?_ (chunk_readR m c t _ _ hj (by omega) e.2 (ix2 (x 1) (x 2)))
    pointwise [k0_pay5]

/-! ## The proof data -/

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)
abbrev scA : Memref sig .tc .vmem S2x2048x1024 .bf16 := Memref.whole cc0_scratch0
abbrev scR : Memref sig .tc .vmem S2x2048x1024 .bf16 := Memref.whole cc0_scratch1

/-- What the launch hands the region: the scratches at anything and the generator register at some state. -/
theorem launched_eq (c : Dev nD) :
    (Pipeline.ΦA spec0 c : sProp 𝕄) = iprop(iprop((∃ d, owns (c : Thread nD τ) scA fullShare d) ∗ (∃ d, owns (c : Thread nD τ) scR fullShare d))
      ∗ (∃ r, prngReg c r)) := by
  unfold Pipeline.ΦA; rw [scopedRest0_eq]; simp only [scA, scR, owns_whole]; try rfl

/-- The invariant before point `n`: each scratch holds what the schedule says. -/
def Phi (c : Dev nD) (n : ℕ) : sProp 𝕄 :=
  iprop(iprop((∃ d, iprop(⌜Stream.Inv 8 4 8 256 (T (WA m c)) n d⌝ ∗ owns (c : Thread nD τ) scA fullShare d))
    ∗ (∃ d, iprop(⌜Stream.Inv 8 4 8 256 (T (WR m c)) n d⌝ ∗ owns (c : Thread nD τ) scR fullShare d))) ∗ (∃ r, prngReg c r))

/-- The block of the result that point `t` computes. -/
def block (c : Dev nD) (t : Fin cfg0.N) : Vec F S1024x1024 .bf16 :=
  k0_pay3 (k0_pay6 (iblk m c 0 t) (tile (WA m c) ((t.val - 8) / 8)) (iblk m c 2 t))
    (k0_pay7 (iblk m c 1 t) (tile (WR m c) ((t.val - 8) / 8))) (iblk m c 3 t)

/-- The proof data: the inputs' buffers stay at their blocks, the result's ends at the computed block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => block m c t
  Φ t := Phi m c t.val
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = block m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    show (dats m 0 c).Φ t.castSucc = Phi m c t.val from rfl, show (dats m 0 c).Φ t.succ = Phi m c (t.val + 1) from rfl,
    show (dats m 0 c).leavesExact 0 t = owns (c : Thread nD τ) (ms0 t) fullShare (iblk m c 0 t) from by
      unfold Dat.leavesExact; rw [show cfg0.idle 0 (grid0.coords t) = false from rfl, after0],
    show (dats m 0 c).leavesExact 1 t = owns (c : Thread nD τ) (ms1 t) fullShare (iblk m c 1 t) from by
      unfold Dat.leavesExact; rw [show cfg0.idle 1 (grid0.coords t) = false from rfl, after1],
    show (dats m 0 c).leavesExact 2 t = owns (c : Thread nD τ) (ms2 t) fullShare (iblk m c 2 t) from by
      unfold Dat.leavesExact; rw [show cfg0.idle 2 (grid0.coords t) = false from rfl, after2],
    show (dats m 0 c).leavesExact 3 t = owns (c : Thread nD τ) (ms3 t) fullShare (iblk m c 3 t) from by
      unfold Dat.leavesExact; rw [show cfg0.idle 3 (grid0.coords t) = false from rfl, after3],
    show (dats m 0 c).leavesExact 4 t = owns (c : Thread nD τ) (ms4 t) fullShare (iblk m c 4 t) from by
      unfold Dat.leavesExact; rw [show cfg0.idle 4 (grid0.coords t) = false from rfl, after4],
    show (dats m 0 c).leavesExact 5 t = owns (c : Thread nD τ) (ms5 t) fullShare (iblk m c 5 t) from by
      unfold Dat.leavesExact; rw [show cfg0.idle 5 (grid0.coords t) = false from rfl, after5]]
  have hN : t.val < 40 := lt_of_lt_of_eq t.isLt (show cfg0.N = 40 from N_0)
  unfold Phi
  by_cases ht : t.val < 8
  · rw [(dats m 0 c).leavesExact_idle 6 t ((idle6 t).1 ht).1 ((idle6 t).1 ht).2]
    iintro ⟨⟨⟨⟨%a, %ha, HA⟩, ⟨%b, %hb, HR⟩⟩, Hg⟩, Ho, ⟨%d0, H0⟩, ⟨%d1, H1⟩, ⟨%d2, H2⟩, ⟨%d3, H3⟩, ⟨%d4, H4⟩, ⟨%d5, H5⟩, ⟨%d6, H6⟩⟩
    iapply (body_fill c (grid0.coords t) _ _ _ _ _ _ _ _ _ _ _ _ _ _ _ _ _ _ ((conds t).1.mpr ht) (fun h => absurd ((conds t).2.mp h) (by omega))
      (iblk m c 4 t) (iblk m c 5 t) a b Set.univ _)
    isplitl [H4]; · iexact H4
    isplitl [H5]; · iexact H5
    isplitl [HA]; · iexact HA
    isplitl [HR]; · iexact HR
    iintro ⟨H4, H5, HA, HR⟩
    isplitl [HA HR Hg]
    · isplitl [HA HR]
      · rw [(offs t).1 ht]
        isplitl [HA]
        · iexists _; isplitr; swap; · iexact HA
          ipureintro
          exact ha.put_first ht (by omega) (by omega) _ (chunk_fill m c t ht).1
        iexists _; isplitr; swap; · iexact HR
        ipureintro
        exact hb.put_first ht (by omega) (by omega) _ (chunk_fill m c t ht).2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have ht : 8 ≤ t.val := by omega
    rw [show (dats m 0 c).leavesExact 6 t = owns (c : Thread nD τ) (ms6 t) fullShare (block m c t) from by
      unfold Dat.leavesExact; rw [(idle6 t).2 ht, after6]]
    iintro ⟨⟨⟨⟨%a, %ha, HA⟩, ⟨%b, %hb, HR⟩⟩, Hg⟩, Ho, ⟨%d0, H0⟩, ⟨%d1, H1⟩, ⟨%d2, H2⟩, ⟨%d3, H3⟩, ⟨%d4, H4⟩, ⟨%d5, H5⟩, ⟨%d6, H6⟩⟩
    have hwa : VecWindow.window a (k0_off2 (grid0.coords t)) S1x2048x1024.size (k0_off2_inb _ ((conds t).2.mpr ht))
        = tile (WA m c) ((t.val - 8) / 8) :=
      funext fun x => ha.window ht (by omega) rfl ((offs t).2 ht).1 _ x
    have hwr : VecWindow.window b (k0_off2 (grid0.coords t)) S1x2048x1024.size (k0_off2_inb _ ((conds t).2.mpr ht))
        = tile (WR m c) ((t.val - 8) / 8) :=
      funext fun x => hb.window ht (by omega) rfl ((offs t).2 ht).1 _ x
    iapply (body_use c (grid0.coords t) _ _ _ _ _ _ _ _ _ _ _ _ _ _ _ _ _ _ (fun h => absurd ((conds t).1.mp h) (by omega)) ((conds t).2.mpr ht)
      (iblk m c 0 t) (iblk m c 1 t) (iblk m c 2 t) (iblk m c 3 t) (iblk m c 4 t) (iblk m c 5 t) a b Set.univ _)
    rw [hwa, hwr]
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HA]; · iexact HA
    isplitl [HR]; · iexact HR
    iintro ⟨H0, H1, H2, H3, H4, H5, H6, HA, HR⟩
    isplitl [HA HR Hg]
    · isplitl [HA HR]
      · rw [((offs t).2 ht).2]
        isplitl [HA]
        · iexists _; isplitr; swap; · iexact HA
          ipureintro
          exact ha.put_next ht (by omega) (by omega) _ fun hj => (chunk_use m c t ht hj).1
        iexists _; isplitr; swap; · iexact HR
        ipureintro
        exact hb.put_next ht (by omega) (by omega) _ fun hj => (chunk_use m c t ht hj).2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, launched_eq]
  unfold Phi
  iintro ⟨⟨⟨%a, HA⟩, ⟨%b, HR⟩⟩, Hg⟩
  isplitl [HA HR]
  · isplitl [HA]
    · iexists a; isplitr; swap; · iexact HA
      ipureintro; exact Stream.Inv.zero _ _ (by omega)
    iexists b; isplitr; swap; · iexact HR
    ipureintro; exact Stream.Inv.zero _ _ (by omega)
  iexact Hg

theorem hout (c : Dev nD) : (dats m 0 c).Φ (Fin.last cfg0.N) ⊢ Pipeline.ΦA spec0 c := by
  rw [show (dats m 0 c).Φ (Fin.last cfg0.N) = Phi m c (Fin.last cfg0.N).val from rfl, launched_eq]
  unfold Phi
  iintro ⟨⟨⟨%a, -, HA⟩, ⟨%b, -, HR⟩⟩, Hg⟩
  isplitl [HA HR]
  · isplitl [HA]
    · iexists _; iexact HA
    iexists _; iexact HR
  iexact Hg

/-! ## The run -/

set_option backward.isDefEq.respectTransparency.types false in
/-- Every weakly fair execution ends, the arrays as the proof data says and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_quiet m ρ)))
    ((θ_run defs _ _).mono (fun _ h => h.2) (run_quiet m ρ))

end Cert.Kernel4Ideal.Merge

end
-- ==== Proof.Merge.Value.lean ====
/- The merge's result over the extended reals: the two branches' products, each scaled by its gate, added; from the
   kernel and from the reference. -/
module

public import proofs.«01_k».proof.Defs
public import proofs.«01_k».proof.Proof.Merge.Run
public import proofs.«01_k».proof.Proof.Stream.Gates
public import proofs.«01_k».proof.Proof.Gen.Kernel4
public import proofs.«01_k».proof.Proof.Gen.Reference4Ideal.Run
public import Idealize.ShloMosaic.Lib.Pipeline.ValueKit
public import Idealize.ShloMosaic.Lib.Quiescent

@[expose] public section

set_option maxRecDepth 16384

noncomputable section

namespace Cert.Kernel4Ideal.Merge

open Idealize.ShloMosaic Idealize.ShloMosaic.TcCoe Idealize.SL.Sem
open Idealize.ShloMosaic.Pipeline (Dat)
open Cert.Kernel4Ideal Cert.Kernel4Ideal.Gen

/-- The merge at row `a`, column `b`: each branch's product times that branch's gate, added. -/
def entry (YA YR : FVec Ideal S8192x2048 .bf16) (G : FVec Ideal S8192x8192 .bf16) (WA WR : FVec Ideal S2048x4096 .f32)
    (a : Fin 8192) (b : Fin 4096) : EReal :=
  G (ix2 a (⟨b.val, by omega⟩ : Fin 8192)) * (∑ k : Fin 2048, YA (ix2 a k) * WA (ix2 k b))
    + G (ix2 a (⟨4096 + b.val, by omega⟩ : Fin 8192)) * (∑ k : Fin 2048, YR (ix2 a k) * WR (ix2 k b))

/-- The merge. -/
def M (YA YR : FVec Ideal S8192x2048 .bf16) (G : FVec Ideal S8192x8192 .bf16) (WA WR : FVec Ideal S2048x4096 .f32) :
    FVec Ideal S8192x4096 .bf16 :=
  fun y => entry YA YR G WA WR (y 0) (y 1)

variable (m : (ℓ : Loc nD τ sig) → Buf (Elt Ideal) ℓ)

/-- The attention branch's block. -/
theorem rowsA (c : Dev nD) (t : Fin cfg0.N) (ht : 8 ≤ t.val) (y : Fin 1024) (k : Fin 2048) (a : Fin 8192)
    (ha : a.val = (t.val - 8) % 8 * 1024 + y.val) :
    (iblk m c 0 t : FVec Ideal S1024x2048 .bf16) (ix2 y k) = m ((c : Thread nD τ).loc main_arg0) (ix2 a k) := by
  have e := ((idx t).2 ht).1
  blk_ext [iblk, V, e, ha]

/-- The recurrent branch's block. -/
theorem rowsR (c : Dev nD) (t : Fin cfg0.N) (ht : 8 ≤ t.val) (y : Fin 1024) (k : Fin 2048) (a : Fin 8192)
    (ha : a.val = (t.val - 8) % 8 * 1024 + y.val) :
    (iblk m c 1 t : FVec Ideal S1024x2048 .bf16) (ix2 y k) = m ((c : Thread nD τ).loc main_arg1) (ix2 a k) := by
  have e := ((idx t).2 ht).2.1
  blk_ext [iblk, V, e, ha]

/-- The attention branch's gate block: the gate array's first half of the columns. -/
theorem gateA (c : Dev nD) (t : Fin cfg0.N) (ht : 8 ≤ t.val) (y0 y1 : Fin 1024) (a : Fin 8192) (b : Fin 8192)
    (ha : a.val = (t.val - 8) % 8 * 1024 + y0.val) (hb : b.val = (t.val - 8) / 8 * 1024 + y1.val) :
    (iblk m c 2 t : FVec Ideal S1024x1024 .bf16) (ix2 y0 y1) = m ((c : Thread nD τ).loc main_arg2) (ix2 a b) := by
  have e := ((idx t).2 ht).2.2.1
  blk_ext [iblk, V, e, ha, hb]

/-- The recurrent branch's gate block: the gate array's second half of the columns. -/
theorem gateR (c : Dev nD) (t : Fin cfg0.N) (ht : 8 ≤ t.val) (y0 y1 : Fin 1024) (a : Fin 8192) (b : Fin 8192)
    (ha : a.val = (t.val - 8) % 8 * 1024 + y0.val) (hb : b.val = (4 + (t.val - 8) / 8) * 1024 + y1.val) :
    (iblk m c 3 t : FVec Ideal S1024x1024 .bf16) (ix2 y0 y1) = m ((c : Thread nD τ).loc main_arg2) (ix2 a b) := by
  have e := ((idx t).2 ht).2.2.2.1
  blk_ext [iblk, V, e, ha, hb]

/-- An entry of a weight tile is the weights' entry at the tile's column. -/
theorem weights (W : FVec Ideal S2048x4096 .f32) (j : ℕ) (y : Fin 1024) (k : Fin 2048) (b : Fin 4096) (hb : b.val = j * 1024 + y.val)
    (h0 : k.val % 2048 < 2048) (h1 : (j * 1024 + y.val) % 4096 < 4096) :
    W (ix2 ⟨k.val % 2048, h0⟩ ⟨(j * 1024 + y.val) % 4096, h1⟩) = W (ix2 k b) := by
  rw [show (⟨(j * 1024 + y.val) % 4096, h1⟩ : Fin 4096) = b from Fin.ext (by show (j * 1024 + y.val) % 4096 = b.val; omega),
    show (⟨k.val % 2048, h0⟩ : Fin 2048) = k from Fin.ext (Nat.mod_eq_of_lt k.isLt)]

theorem block_apply (c : Dev nD) (t : Fin cfg0.N) (ht : 8 ≤ t.val) (y0 y1 : Fin 1024) (a : Fin 8192) (b : Fin 4096)
    (ha : a.val = (t.val - 8) % 8 * 1024 + y0.val) (hb : b.val = (t.val - 8) / 8 * 1024 + y1.val) :
    block m c t (ix2 y0 y1) = entry (m ((c : Thread nD τ).loc main_arg0)) (m ((c : Thread nD τ).loc main_arg1))
      (m ((c : Thread nD τ).loc main_arg2)) (m ((c : Thread nD τ).loc main_arg3)) (m ((c : Thread nD τ).loc main_arg4)) a b := by
  unfold entry block
  pointwise [k0_pay3, k0_pay6, k0_pay7, tile, T]
  simp only [weights _ _ y1 _ b hb, rowsA m c t ht y0 _ a ha, rowsR m c t ht y0 _ a ha,
    gateA m c t ht y0 y1 a (⟨b.val, by omega⟩ : Fin 8192) ha hb,
    gateR m c t ht y0 y1 a (⟨4096 + b.val, by omega⟩ : Fin 8192) ha (by show 4096 + b.val = _; omega), WA, WR, V_main_arg3, V_main_arg4]

/-- The result array after the run. -/
theorem final (c : Dev nD) : (dats m 0 c).arrAt 6 cfg0.N
    = M (m ((c : Thread nD τ).loc main_arg0)) (m ((c : Thread nD τ).loc main_arg1)) (m ((c : Thread nD τ).loc main_arg2)) (m ((c : Thread nD τ).loc main_arg3))
      (m ((c : Thread nD τ).loc main_arg4)) := by
  refine (dats m 0 c).arrAt_eq_of_covers 6 _ (by decide +kernel) fun t hf y => ?_
  have hN : t.val < 40 := lt_of_lt_of_eq t.isLt (show cfg0.N = 40 from N_0)
  have ht : 8 ≤ t.val := by
    by_contra h
    rw [((idle6 t).1 (by omega)).2] at hf
    exact absurd hf (by decide)
  have e := ((idx t).2 ht).2.2.2.2.1
  rw [after6]
  idx_vars y
  rw [show ((View.whole main_v0).slice ((win0 6).rect t)).emb (ix2 y0 y1)
      = ix2 (⟨(t.val - 8) % 8 * 1024 + y0.val, by omega⟩ : Fin 8192) (⟨(t.val - 8) / 8 * 1024 + y1.val, by omega⟩ : Fin 4096) from by
    blk_ext [e]]
  refine Eq.trans ?_ (block_apply m c t ht y0 y1 _ _ rfl rfl)
  blk_simp

/-- The run, its result array at the merge. -/
theorem result (ρ : Dev nD → PrngReg) : θ_run defs (onTc (τ := τ) (main (F := Ideal))) ⟨m, fun _ => 0, ρ⟩ (fun r => ∀ c : Dev nD,
      r.2.mem ((c.tc : Thread nD τ).loc main_v0)
        = M (m ((c : Thread nD τ).loc main_arg0)) (m ((c : Thread nD τ).loc main_arg1)) (m ((c : Thread nD τ).loc main_arg2)) (m ((c : Thread nD τ).loc main_arg3))
          (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.2.1 c).1 6).trans (final m c), h.1.1 c⟩) (θ_run_and (frame m ρ) (run_quiet m ρ))

end Cert.Kernel4Ideal.Merge

/-! ## The claims -/

namespace Cert.Proof

open Idealize.ShloMosaic Idealize.SL.Sem

theorem merge_defs : Cert.Kernel4.defs (F := Bits) = Cert.Kernel4Ideal.defs (F := Bits) := by
  have h : Cert.Kernel4.defs₀ (F := Bits) = Cert.Kernel4Ideal.defs₀ (F := Bits) := by
    unfold Cert.Kernel4.defs₀ Cert.Kernel4Ideal.defs₀
    refine congrArg Defs.onTc (funext fun l => funext fun a => ?_)
    match l, a with
    | 0, (t, s) => rfl
  unfold Cert.Kernel4.defs Cert.Kernel4Ideal.defs
  rw [h]; rfl

theorem frame_kernel4 : Cert.quiescent_Kernel4 := fun m g _ => by
  rw [merge_defs]
  exact Cert.Kernel4Ideal.Merge.frame (F := Bits) m g

theorem frame_ideal4 : Cert.quiescent_Kernel4Ideal := fun m g _ => Cert.Kernel4Ideal.Merge.frame (F := Ideal) m g

theorem frame_reference4 : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

theorem algebraic4 : Cert.algebraic_Kernel4Ideal_Reference4Ideal := by
  intro m g m' g' _ hagree
  refine ⟨_, Cert.Kernel4Ideal.Merge.result m g, ?_⟩
  refine (θ_run Cert.Reference4Ideal.defs _ _).mono (fun r h c => ⟨(h c).1.trans ?_, (h c).2⟩) (Cert.Reference4Ideal.Value.run (F := Ideal) m' g')
  rw [(hagree c).1, (hagree c).2.1, (hagree c).2.2.1, (hagree c).2.2.2.1, (hagree c).2.2.2.2]
  refine funext fun y => ?_
  idx_vars y
  show _ = Cert.Kernel4Ideal.Merge.entry _ _ _ _ _ y0 y1
  unfold Cert.Kernel4Ideal.Merge.entry
  pointwise

end Cert.Proof

end
-- ==== Proof.Vp.Body.lean ====
/- One grid point of the value projection: the body run, in the points that only receive a chunk of the first weight tile and
   in the points that compute a block of the result, over any values. -/
module

public import proofs.«01_k».proof.Proof.Gen.Kernel5Ideal.Frame
public import proofs.«01_k».proof.Proof.Gen.Kernel5Ideal.Skeleton
public import proofs.«01_k».proof.Proof.Stream.Tiles
public import Idealize.ShloMosaic.Lib.VecWindow

@[expose] public section

set_option maxRecDepth 16384

noncomputable section

namespace Cert.Kernel5Ideal.Vp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

set_option maxHeartbeats 1000000 in
/-- A point that only receives a chunk: the chunk, narrowed, lands in the scratch; the rest stays. -/
theorem body_fill (c : Dev nD) (i : grid0.Coords) (arg1 : Memref sig .tc .vmem S1024x4096 .bf16) (harg1 : arg1.IsWhole)
    (arg2 : Memref sig .tc .vmem S256x4096 .f32) (harg2 : arg2.IsWhole)
    (arg3 : Memref sig .tc .vmem S1024x1024 .bf16) (harg3 : arg3.IsWhole)
    (arg4 : Memref sig .tc .vmem S2x1024x4096 .bf16) (harg4 : arg4.IsWhole)
    (hc1 : k0_cond1 i = 1#1) (hc2 : ¬ k0_cond2 i = 1#1)
    (x1 : Vec F S256x4096 .f32) (xs : Vec F S2x1024x4096 .bf16) (E : Set ℕ) (K : PUnit → sProp 𝕄) :
    iprop(owns (c : Thread nD τ) arg2 fullShare x1 ∗ owns (c : Thread nD τ) arg4 fullShare xs
        ∗ (iprop(owns (c : Thread nD τ) arg2 fullShare x1
            ∗ owns (c : Thread nD τ) arg4 fullShare (VecWindow.put xs (k0_off1 i) S1x256x4096.size (k0_pay1 x1))) -∗ K ⟨⟩))
      ⊢ wp frame (wpE (defs₀ (F := F)) Variants.none c none) E (cc0_proj_v i arg1 harg1 arg2 harg2 arg3 harg3 arg4 harg4) K := by
  simp only [cc0_proj_v_eq_skeleton]; unfold cc0_proj_v_skel
  unfold owns
  iintro ⟨⟨%f1, %hf1, H1⟩, ⟨%fs, %hfs, HS⟩, Hk⟩
  obtain rfl := harg2.eq_unread hf1; obtain rfl := harg4.eq_unread hfs
  sl_exec (disch := first | sl_exact hc1 | sl_exact hc2)
  sl_step
  iapply Hk
  isplitl [H1]
  · iexists _; isplitr; · ipureintro; exact harg2.read_unread _
    iexact H1
  iexists _; isplitr; swap; · iexact HS
  ipureintro
  rw [View.read_writes_cons_put _ _ _ _ _ rfl]
  rw [View.writes_nil, harg4.read_unread]
  exact congrArg (fun w => VecWindow.put xs (k0_off1 i) S1x256x4096.size (k0_pay1 w)) ((View.readAt_full _ _ _).trans (harg2.read_unread _))

set_option maxHeartbeats 1000000 in
/-- A point that computes: the slot in use times the staged rows lands in the result's
    buffer, and the chunk lands in the scratch. -/
theorem body_use (c : Dev nD) (i : grid0.Coords) (arg1 : Memref sig .tc .vmem S1024x4096 .bf16) (harg1 : arg1.IsWhole)
    (arg2 : Memref sig .tc .vmem S256x4096 .f32) (harg2 : arg2.IsWhole)
    (arg3 : Memref sig .tc .vmem S1024x1024 .bf16) (harg3 : arg3.IsWhole)
    (arg4 : Memref sig .tc .vmem S2x1024x4096 .bf16) (harg4 : arg4.IsWhole)
    (hc1 : ¬ k0_cond1 i = 1#1) (hc2 : k0_cond2 i = 1#1)
    (x0 : Vec F S1024x4096 .bf16) (x1 : Vec F S256x4096 .f32) (xs : Vec F S2x1024x4096 .bf16) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare
                (k0_pay3 (VecWindow.window xs (k0_off2 i) S1x1024x4096.size (k0_off2_inb i hc2)) x0)
            ∗ owns (c : Thread nD τ) arg4 fullShare (VecWindow.put xs (k0_off3 i) S1x256x4096.size (k0_pay2 (k0_pay4 x1)))) -∗ K ⟨⟩))
      ⊢ wp frame (wpE (defs₀ (F := F)) Variants.none c none) E (cc0_proj_v i arg1 harg1 arg2 harg2 arg3 harg3 arg4 harg4) K := by
  simp only [cc0_proj_v_eq_skeleton]; unfold cc0_proj_v_skel
  rw [k0_part1_eq_skeleton]; unfold k0_part1_skel
  unfold owns
  iintro ⟨⟨%f0, %hf0, H0⟩, ⟨%f1, %hf1, H1⟩, ⟨%d2, %f2, -, H2⟩, ⟨%fs, %hfs, HS⟩, Hk⟩
  obtain rfl := harg1.eq_unread hf0; obtain rfl := harg2.eq_unread hf1; obtain rfl := harg4.eq_unread hfs
  sl_exec (disch := first | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    rw [View.read_writes_full]
    exact congrArg₂ k0_pay3
      ((View.readAt_unit _ _ _ rfl (k0_off2_inb i hc2)).trans
        (by rw [harg4.read_unread]))
      ((View.readAt_full _ _ _).trans (harg1.read_unread _))
  iexists _; isplitr; swap; · iexact HS
  ipureintro
  rw [View.read_writes_cons_put _ _ _ _ _ rfl]
  rw [View.writes_nil, harg4.read_unread]
  exact congrArg (fun w => VecWindow.put xs (k0_off3 i) S1x256x4096.size (k0_pay2 (k0_pay4 w))) ((View.readAt_full _ _ _).trans (harg2.read_unread _))

end Cert.Kernel5Ideal.Vp

end
-- ==== Proof.Vp.Run.lean ====
/- The grid of the value projection: the weight tiles the scratch holds, the proof data, and the run, over any values. -/
module

public import proofs.«01_k».proof.Proof.Vp.Body
public import proofs.«01_k».proof.Proof.Gen.Kernel5Ideal.Points
public import proofs.«01_k».proof.Proof.Gen.Kernel5Ideal.Launch
public import Idealize.ShloMosaic.Lib.Pipeline.ValueKit
public import Idealize.ShloMosaic.Lib.PointwiseCore

@[expose] public section

set_option maxRecDepth 16384

noncomputable section

namespace Cert.Kernel5Ideal.Vp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- The first weight row of each tile. -/
def start (j : ℕ) : ℕ := 4096 + 1024 * min j 1

/-- Which points receive only, and which compute. -/
theorem conds : ∀ t : Fin cfg0.N, (k0_cond1 (grid0.coords t) = 1#1 ↔ t.val < 4) ∧ (k0_cond2 (grid0.coords t) = 1#1 ↔ 4 ≤ t.val) :=
  (by decide +kernel : ∀ t : Fin grid0.N, (k0_cond1 (grid0.coords t) = 1#1 ↔ t.val < 4) ∧ (k0_cond2 (grid0.coords t) = 1#1 ↔ 4 ≤ t.val))

theorem offs : ∀ t : Fin cfg0.N, (t.val < 4 → k0_off1 (grid0.coords t) = ![0, 256 * t.val, 0])
    ∧ (4 ≤ t.val → k0_off2 (grid0.coords t) = ![(t.val - 4) / 8 % 2, 0, 0]
      ∧ k0_off3 (grid0.coords t) = ![((t.val - 4) / 8 + 1) % 2, 256 * min ((t.val - 4) % 8) (4 - 1), 0]) :=
  (by decide +kernel : ∀ t : Fin grid0.N, (t.val < 4 → k0_off1 (grid0.coords t) = ![0, 256 * t.val, 0])
    ∧ (4 ≤ t.val → k0_off2 (grid0.coords t) = ![(t.val - 4) / 8 % 2, 0, 0]
      ∧ k0_off3 (grid0.coords t) = ![((t.val - 4) / 8 + 1) % 2, 256 * min ((t.val - 4) % 8) (4 - 1), 0]))

/-- Where each window stands. -/
theorem idx : ∀ t : Fin cfg0.N, (t.val < 4 → win0_1.index t = ![start 0 + 256 * t.val, 0])
    ∧ (4 ≤ t.val → win0_0.index t = ![(t.val - 4) % 8, 0] ∧ win0_2.index t = ![(t.val - 4) / 8, (t.val - 4) % 8]
      ∧ ((t.val - 4) / 8 + 1 < 2 → win0_1.index t = ![start ((t.val - 4) / 8 + 1) + 256 * min ((t.val - 4) % 8) (4 - 1), 0])) :=
  (by decide +kernel : ∀ t : Fin grid0.N, (t.val < 4 → win0_1.index t = ![start 0 + 256 * t.val, 0])
    ∧ (4 ≤ t.val → win0_0.index t = ![(t.val - 4) % 8, 0] ∧ win0_2.index t = ![(t.val - 4) / 8, (t.val - 4) % 8]
      ∧ ((t.val - 4) / 8 + 1 < 2 → win0_1.index t = ![start ((t.val - 4) / 8 + 1) + 256 * min ((t.val - 4) % 8) (4 - 1), 0])))

theorem idle2 : ∀ t : Fin cfg0.N, (t.val < 4 → cfg0.idle 2 (grid0.coords t) = true ∧ (cfg0.win 2).flush t = false)
    ∧ (4 ≤ t.val → cfg0.idle 2 (grid0.coords t) = false) :=
  (by decide +kernel : ∀ t : Fin grid0.N, (t.val < 4 → idle0 2 (grid0.coords t) = true ∧ win0_2.flush t = false)
    ∧ (4 ≤ t.val → idle0 2 (grid0.coords t) = false))

/-! ## The tiles -/

/-- Row `r`, column `q` of weight tile `j`, narrowed, as the region finds the weights. -/
def T (c : Dev nD) (j r q : ℕ) : Elt F .bf16 :=
  (truncf .bf16 (V m c main_v0 : FVec F S12304x4096 .f32) bitsLt_bf16_f32 : FVec F S12304x4096 .bf16)
    (ix2 ⟨(start j + r) % 12304, Nat.mod_lt _ (by decide)⟩ ⟨q % 4096, Nat.mod_lt _ (by decide)⟩)

/-- Weight tile `j` as the body loads it. -/
def tile (c : Dev nD) (j : ℕ) : Vec F S1x1024x4096 .bf16 := fun x => T m c j (x 1).val (x 2).val

theorem start_le (j : ℕ) : start j + 1024 ≤ 12304 := by
  unfold start; omega

/-- An element of the weight window stands in the weights at the window's first row plus its own row. -/
theorem chunk_place (t : Fin cfg0.N) (y : S256x4096.Idx) (a : Fin 2) :
    ((win0_1.blk t).view.emb y a).val = win0_1.index t a + (y a).val :=
  win0_1.rect_emb_val_off t y a

/-- The weight window at a point whose first row is row `r` of tile `j`. -/
theorem chunk_read (c : Dev nD) (t : Fin cfg0.N) (j r : ℕ) (hr : r + 256 ≤ 1024) (e : win0_1.index t = ![start j + r, 0])
    (y : S256x4096.Idx) :
    truncf .bf16 (iblk m c 1 t : FVec F S256x4096 .f32) bitsLt_bf16_f32 y = T m c j (r + (y 0).val) (y 1).val := by
  have hs := start_le j
  have h0 : (y 0).val < 256 := (y 0).isLt
  have h1 : (y 1).val < 4096 := (y 1).isLt
  unfold T
  pointwise
  blk_simp [iblk]
  refine congrArg (FloatOps.truncf .bf16 bitsLt_bf16_f32) (congrArg (V m c main_v0) (funext fun a => Fin.ext ?_))
  refine (chunk_place t y a).trans ?_
  rw [e]
  match a with
  | 0 => show start j + r + (y 0).val = (start j + (r + (y 0).val)) % 12304; omega
  | 1 => show 0 + (y 1).val = (y 1).val % 4096; omega

theorem chunk_fill (c : Dev nD) (t : Fin cfg0.N) (ht : t.val < 4) (x : S1x256x4096.Idx) :
    k0_pay1 (iblk m c 1 t) x = T m c 0 (256 * t.val + (x 1).val) (x 2).val := by
  refine Eq.trans ?_ (chunk_read m c t 0 (256 * t.val) (by omega) ((idx t).1 ht) (ix2 (x 1) (x 2)))
  pointwise [k0_pay1]

theorem chunk_use (c : Dev nD) (t : Fin cfg0.N) (ht : 4 ≤ t.val) (hj : (t.val - 4) / 8 + 1 < 2) (x : S1x256x4096.Idx) :
    k0_pay2 (k0_pay4 (iblk m c 1 t)) x = T m c ((t.val - 4) / 8 + 1) (256 * min ((t.val - 4) % 8) (4 - 1) + (x 1).val) (x 2).val := by
  refine Eq.trans ?_ (chunk_read m c t _ _ (by omega) (((idx t).2 ht).2.2 hj) (ix2 (x 1) (x 2)))
  pointwise [k0_pay2, k0_pay4]

/-! ## The proof data -/

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev scM : Memref sig .tc .vmem S2x1024x4096 .bf16 := Memref.whole cc0_scratch0

/-- What the launch hands the region: the scratch at anything and the generator register at some state. -/
theorem launched_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The invariant before point `n`: the scratch holds what the schedule says. -/
def Phi (c : Dev nD) (n : ℕ) : sProp 𝕄 :=
  iprop(iprop((∃ d, iprop(⌜Stream.Inv 8 2 4 256 (T m c) n d⌝ ∗ owns (c : Thread nD τ) scM fullShare d))) ∗ (∃ r, prngReg c r))

/-- The block of the result that point `t` computes. -/
def block (c : Dev nD) (t : Fin cfg0.N) : Vec F S1024x1024 .bf16 := k0_pay3 (tile m c ((t.val - 4) / 8)) (iblk m c 0 t)

/-- The proof data: the inputs' buffers stay at their blocks, the result's ends at the computed block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => block m c t
  Φ t := Phi m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = block m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl,
    show (dats m 0 c).Φ t.castSucc = Phi m c t.val from rfl, show (dats m 0 c).Φ t.succ = Phi m c (t.val + 1) from rfl,
    show (dats m 0 c).leavesExact 0 t = owns (c : Thread nD τ) (ms0 t) fullShare (iblk m c 0 t) from by
      unfold Dat.leavesExact; rw [show cfg0.idle 0 (grid0.coords t) = false from rfl, after0],
    show (dats m 0 c).leavesExact 1 t = owns (c : Thread nD τ) (ms1 t) fullShare (iblk m c 1 t) from by
      unfold Dat.leavesExact; rw [show cfg0.idle 1 (grid0.coords t) = false from rfl, after1]]
  have hN : t.val < 20 := lt_of_lt_of_eq t.isLt (show cfg0.N = 20 from N_0)
  unfold Phi
  by_cases ht : t.val < 4
  · rw [(dats m 0 c).leavesExact_idle 2 t ((idle2 t).1 ht).1 ((idle2 t).1 ht).2]
    iintro ⟨⟨⟨%d, %hd, HS⟩, Hg⟩, Ho, ⟨%d0, H0⟩, ⟨%d1, H1⟩, ⟨%d2, H2⟩⟩
    iapply (body_fill c (grid0.coords t) _ _ _ _ _ _ _ _ ((conds t).1.mpr ht) (fun h => absurd ((conds t).2.mp h) (by omega))
      (iblk m c 1 t) d Set.univ _)
    isplitl [H1]; · iexact H1
    isplitl [HS]; · iexact HS
    iintro ⟨H1, HS⟩
    isplitl [HS Hg]
    · isplitl [HS]
      · iexists _; isplitr; swap; · iexact HS
        ipureintro
        rw [(offs t).1 ht]
        exact hd.put_first ht (by omega) (by omega) _ (chunk_fill m c t ht)
      iexact Hg
    isplitl [Ho]; · iexact Ho
    isplitl [H0]; · iexact H0
    isplitl [H1]; · iexact H1
    iexists _; iexact H2
  · have ht : 4 ≤ t.val := by omega
    rw [show (dats m 0 c).leavesExact 2 t = owns (c : Thread nD τ) (ms2 t) fullShare (block m c t) from by
      unfold Dat.leavesExact; rw [(idle2 t).2 ht, after2]]
    iintro ⟨⟨⟨%d, %hd, HS⟩, Hg⟩, Ho, ⟨%d0, H0⟩, ⟨%d1, H1⟩, ⟨%d2, H2⟩⟩
    have hw : VecWindow.window d (k0_off2 (grid0.coords t)) S1x1024x4096.size (k0_off2_inb _ ((conds t).2.mpr ht))
        = tile m c ((t.val - 4) / 8) :=
      funext fun x => hd.window ht (by omega) rfl ((offs t).2 ht).1 _ x
    iapply (body_use c (grid0.coords t) _ _ _ _ _ _ _ _ (fun h => absurd ((conds t).1.mp h) (by omega)) ((conds t).2.mpr ht)
      (iblk m c 0 t) (iblk m c 1 t) d Set.univ _)
    rw [hw]
    isplitl [H0]; · iexact H0
    isplitl [H1]; · iexact H1
    isplitl [H2]; · iexists _; iexact H2
    isplitl [HS]; · iexact HS
    iintro ⟨H0, H1, H2, HS⟩
    isplitl [HS Hg]
    · isplitl [HS]
      · iexists _; isplitr; swap; · iexact HS
        ipureintro
        rw [((offs t).2 ht).2]
        exact hd.put_next ht (by omega) (by omega) _ (chunk_use m c t ht)
      iexact Hg
    isplitl [Ho]; · iexact Ho
    isplitl [H0]; · iexact H0
    isplitl [H1]; · iexact H1
    iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, launched_eq]
  unfold Phi
  iintro ⟨⟨%d, HS⟩, Hg⟩
  isplitl [HS]
  · iexists d; isplitr; swap; · iexact HS
    ipureintro; exact Stream.Inv.zero _ _ (by omega)
  iexact Hg

theorem hout (c : Dev nD) : (dats m 0 c).Φ (Fin.last cfg0.N) ⊢ Pipeline.ΦA spec0 c := by
  rw [show (dats m 0 c).Φ (Fin.last cfg0.N) = Phi m c (Fin.last cfg0.N).val from rfl, launched_eq]
  unfold Phi
  iintro ⟨⟨%d, -, HS⟩, Hg⟩
  isplitl [HS]
  · iexists _; iexact HS
  iexact Hg

/-! ## The run -/

set_option backward.isDefEq.respectTransparency.types false in
/-- Every weakly fair execution ends, the arrays as the proof data says and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiet m ρ))

end Cert.Kernel5Ideal.Vp

end
-- ==== Proof.Vp.Value.lean ====
/- The value projection's result, transposed, over the extended reals: from the kernel and from the reference. -/
module

public import proofs.«01_k».proof.Defs
public import proofs.«01_k».proof.Proof.Vp.Run
public import proofs.«01_k».proof.Proof.Stream.Gates
public import proofs.«01_k».proof.Proof.Gen.Kernel5
public import proofs.«01_k».proof.Proof.Gen.Reference5Ideal.Run
public import Idealize.ShloMosaic.Lib.Pipeline.ValueKit
public import Idealize.ShloMosaic.Lib.Quiescent

@[expose] public section

set_option maxRecDepth 16384

noncomputable section

namespace Cert.Kernel5Ideal.Vp

open Idealize.ShloMosaic Idealize.ShloMosaic.TcCoe Idealize.SL.Sem
open Idealize.ShloMosaic.Pipeline (Dat)
open Cert.Kernel5Ideal Cert.Kernel5Ideal.Gen

/-- Row `a` of the activations times column `4096 + b` of the weights. -/
def entry (X : FVec Ideal S8192x4096 .bf16) (W : FVec Ideal S4096x12304 .f32) (a : Fin 8192) (b : Fin 2048) : EReal :=
  ∑ k : Fin 4096, X (ix2 a k) * W (ix2 k (⟨4096 + b.val, by omega⟩ : Fin 12304))

/-- The projection, transposed. -/
def G (X : FVec Ideal S8192x4096 .bf16) (W : FVec Ideal S4096x12304 .f32) : FVec Ideal S2048x8192 .bf16 :=
  fun y => entry X W (y 1) (y 0)

variable (m : (ℓ : Loc nD τ sig) → Buf (Elt Ideal) ℓ)

/-- The weights as the region finds them are the argument transposed. -/
theorem weights (c : Dev nD) (a : Fin 12304) (k : Fin 4096) :
    (V m c main_v0 : FVec Ideal S12304x4096 .f32) (ix2 a k) = m ((c : Thread nD τ).loc main_arg1) (ix2 k a) := by
  entry_read
  pointwise

theorem weights_tile (c : Dev nD) (j : ℕ) (hj : j < 2) (y : Fin 1024) (k : Fin 4096) (e : Fin 12304) (he : e.val = 4096 + (j * 1024 + y.val))
    (h0 : (start j + y.val) % 12304 < 12304) (h1 : k.val % 4096 < 4096) :
    (V m c main_v0 : FVec Ideal S12304x4096 .f32) (ix2 ⟨(start j + y.val) % 12304, h0⟩ ⟨k.val % 4096, h1⟩)
      = m ((c : Thread nD τ).loc main_arg1) (ix2 k e) := by
  have hs : start j = 4096 + 1024 * j := by unfold start; omega
  rw [weights, show (⟨(start j + y.val) % 12304, h0⟩ : Fin 12304) = e from Fin.ext (by show (start j + y.val) % 12304 = e.val; omega),
    show (⟨k.val % 4096, h1⟩ : Fin 4096) = k from Fin.ext (Nat.mod_eq_of_lt k.isLt)]

/-- The activations' block. -/
theorem rows (c : Dev nD) (t : Fin cfg0.N) (ht : 4 ≤ t.val) (y : Fin 1024) (k : Fin 4096) (a : Fin 8192)
    (ha : a.val = (t.val - 4) % 8 * 1024 + y.val) :
    (iblk m c 0 t : FVec Ideal S1024x4096 .bf16) (ix2 y k) = m ((c : Thread nD τ).loc main_arg0) (ix2 a k) := by
  have e := ((idx t).2 ht).1
  blk_ext [iblk, V, e, ha]

theorem block_apply (c : Dev nD) (t : Fin cfg0.N) (ht : 4 ≤ t.val) (y0 y1 : Fin 1024) (a : Fin 8192) (b : Fin 2048)
    (ha : a.val = (t.val - 4) % 8 * 1024 + y1.val) (hb : b.val = (t.val - 4) / 8 * 1024 + y0.val) :
    block m c t (ix2 y0 y1) = entry (m ((c : Thread nD τ).loc main_arg0)) (m ((c : Thread nD τ).loc main_arg1)) a b := by
  have hN : t.val < 20 := lt_of_lt_of_eq t.isLt (show cfg0.N = 20 from N_0)
  unfold entry block
  pointwise [k0_pay3, tile, T]
  exact Finset.sum_congr rfl fun k _ => (mul_comm _ _).trans (congrArg₂ (· * ·) (rows m c t ht y1 k a ha)
    (weights_tile m c _ (show (t.val - 4) / 8 < 2 by omega) y0 k (⟨4096 + b.val, by omega⟩ : Fin 12304) (congrArg (4096 + ·) hb) _ _))

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  have hN : t.val < 20 := lt_of_lt_of_eq t.isLt (show cfg0.N = 20 from N_0)
  have ht : 4 ≤ t.val := by
    by_contra h
    rw [((idle2 t).1 (by omega)).2] at hf
    exact absurd hf (by decide)
  have e := ((idx t).2 ht).2.1
  rw [after2]
  idx_vars y
  rw [show ((View.whole main_v1).slice ((win0 2).rect t)).emb (ix2 y0 y1)
      = ix2 (⟨(t.val - 4) / 8 * 1024 + y0.val, by omega⟩ : Fin 2048) (⟨(t.val - 4) % 8 * 1024 + y1.val, by omega⟩ : Fin 8192) from by
    blk_ext [e]]
  refine Eq.trans ?_ (block_apply m c t ht y0 y1 _ _ rfl rfl)
  blk_simp

/-- The run, its result array at the product. -/
theorem result (ρ : Dev nD → PrngReg) : θ_run defs (onTc (τ := τ) (main (F := Ideal))) ⟨m, fun _ => 0, ρ⟩ (fun r => ∀ c : Dev nD,
      r.2.mem ((c.tc : Thread nD τ).loc main_v1)
        = G (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.2.1 c).1 2).trans (final m c), h.1.1 c⟩) (θ_run_and (frame m ρ) (run_quiet m ρ))

end Cert.Kernel5Ideal.Vp

/-! ## The claims -/

namespace Cert.Proof

open Idealize.ShloMosaic Idealize.SL.Sem

theorem vp_defs : Cert.Kernel5.defs (F := Bits) = Cert.Kernel5Ideal.defs (F := Bits) := by
  have h : Cert.Kernel5.defs₀ (F := Bits) = Cert.Kernel5Ideal.defs₀ (F := Bits) := by
    unfold Cert.Kernel5.defs₀ Cert.Kernel5Ideal.defs₀
    refine congrArg Defs.onTc (funext fun l => funext fun a => ?_)
    match l, a with
    | 0, (t, s) => rfl
  unfold Cert.Kernel5.defs Cert.Kernel5Ideal.defs
  rw [h]; rfl

theorem frame_kernel5 : Cert.quiescent_Kernel5 := fun m g _ => by
  rw [vp_defs]
  exact Cert.Kernel5Ideal.Vp.frame (F := Bits) m g

theorem frame_ideal5 : Cert.quiescent_Kernel5Ideal := fun m g _ => Cert.Kernel5Ideal.Vp.frame (F := Ideal) m g

theorem frame_reference5 : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

theorem algebraic5 : Cert.algebraic_Kernel5Ideal_Reference5Ideal := by
  intro m g m' g' _ hagree
  refine ⟨_, Cert.Kernel5Ideal.Vp.result m g, ?_⟩
  refine (θ_run Cert.Reference5Ideal.defs _ _).mono (fun r h c => ⟨(h c).1.trans ?_, (h c).2⟩) (Cert.Reference5Ideal.Value.run (F := Ideal) m' g')
  rw [(hagree c).1, (hagree c).2]
  refine funext fun y => ?_
  idx_vars y
  show _ = Cert.Kernel5Ideal.Vp.entry _ _ y1 y0
  unfold Cert.Kernel5Ideal.Vp.entry
  pointwise

end Cert.Proof

end
-- ==== Proof.Xr.Body.lean ====
/- One grid point of the recurrent input projection: the body run, in the points that only receive a chunk of the first weight tile and
   in the points that compute a block of the result, over any values. -/
module

public import proofs.«01_k».proof.Proof.Gen.Kernel6Ideal.Frame
public import proofs.«01_k».proof.Proof.Gen.Kernel6Ideal.Skeleton
public import proofs.«01_k».proof.Proof.Stream.Tiles
public import Idealize.ShloMosaic.Lib.VecWindow

@[expose] public section

set_option maxRecDepth 16384

noncomputable section

namespace Cert.Kernel6Ideal.Xr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

set_option maxHeartbeats 1000000 in
/-- A point that only receives a chunk: the chunk, narrowed, lands in the scratch; the rest stays. -/
theorem body_fill (c : Dev nD) (i : grid0.Coords) (arg1 : Memref sig .tc .vmem S1024x4096 .bf16) (harg1 : arg1.IsWhole)
    (arg2 : Memref sig .tc .vmem S256x4096 .f32) (harg2 : arg2.IsWhole)
    (arg3 : Memref sig .tc .vmem S1024x1024 .f32) (harg3 : arg3.IsWhole)
    (arg4 : Memref sig .tc .vmem S2x1024x4096 .bf16) (harg4 : arg4.IsWhole)
    (hc1 : k0_cond1 i = 1#1) (hc2 : ¬ k0_cond2 i = 1#1)
    (x1 : Vec F S256x4096 .f32) (xs : Vec F S2x1024x4096 .bf16) (E : Set ℕ) (K : PUnit → sProp 𝕄) :
    iprop(owns (c : Thread nD τ) arg2 fullShare x1 ∗ owns (c : Thread nD τ) arg4 fullShare xs
        ∗ (iprop(owns (c : Thread nD τ) arg2 fullShare x1
            ∗ owns (c : Thread nD τ) arg4 fullShare (VecWindow.put xs (k0_off1 i) S1x256x4096.size (k0_pay1 x1))) -∗ K ⟨⟩))
      ⊢ wp frame (wpE (defs₀ (F := F)) Variants.none c none) E (cc0_proj_xr i arg1 harg1 arg2 harg2 arg3 harg3 arg4 harg4) K := by
  simp only [cc0_proj_xr_eq_skeleton]; unfold cc0_proj_xr_skel
  unfold owns
  iintro ⟨⟨%f1, %hf1, H1⟩, ⟨%fs, %hfs, HS⟩, Hk⟩
  obtain rfl := harg2.eq_unread hf1; obtain rfl := harg4.eq_unread hfs
  sl_exec (disch := first | sl_exact hc1 | sl_exact hc2)
  sl_step
  iapply Hk
  isplitl [H1]
  · iexists _; isplitr; · ipureintro; exact harg2.read_unread _
    iexact H1
  iexists _; isplitr; swap; · iexact HS
  ipureintro
  rw [View.read_writes_cons_put _ _ _ _ _ rfl]
  rw [View.writes_nil, harg4.read_unread]
  exact congrArg (fun w => VecWindow.put xs (k0_off1 i) S1x256x4096.size (k0_pay1 w)) ((View.readAt_full _ _ _).trans (harg2.read_unread _))

set_option maxHeartbeats 1000000 in
/-- A point that computes: the slot in use times the staged rows lands in the result's
    buffer, and the chunk lands in the scratch. -/
theorem body_use (c : Dev nD) (i : grid0.Coords) (arg1 : Memref sig .tc .vmem S1024x4096 .bf16) (harg1 : arg1.IsWhole)
    (arg2 : Memref sig .tc .vmem S256x4096 .f32) (harg2 : arg2.IsWhole)
    (arg3 : Memref sig .tc .vmem S1024x1024 .f32) (harg3 : arg3.IsWhole)
    (arg4 : Memref sig .tc .vmem S2x1024x4096 .bf16) (harg4 : arg4.IsWhole)
    (hc1 : ¬ k0_cond1 i = 1#1) (hc2 : k0_cond2 i = 1#1)
    (x0 : Vec F S1024x4096 .bf16) (x1 : Vec F S256x4096 .f32) (xs : Vec F S2x1024x4096 .bf16) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare
                (k0_pay3 (VecWindow.window xs (k0_off2 i) S1x1024x4096.size (k0_off2_inb i hc2)) x0)
            ∗ owns (c : Thread nD τ) arg4 fullShare (VecWindow.put xs (k0_off3 i) S1x256x4096.size (k0_pay2 (k0_pay4 x1)))) -∗ K ⟨⟩))
      ⊢ wp frame (wpE (defs₀ (F := F)) Variants.none c none) E (cc0_proj_xr i arg1 harg1 arg2 harg2 arg3 harg3 arg4 harg4) K := by
  simp only [cc0_proj_xr_eq_skeleton]; unfold cc0_proj_xr_skel
  rw [k0_part1_eq_skeleton]; unfold k0_part1_skel
  unfold owns
  iintro ⟨⟨%f0, %hf0, H0⟩, ⟨%f1, %hf1, H1⟩, ⟨%d2, %f2, -, H2⟩, ⟨%fs, %hfs, HS⟩, Hk⟩
  obtain rfl := harg1.eq_unread hf0; obtain rfl := harg2.eq_unread hf1; obtain rfl := harg4.eq_unread hfs
  sl_exec (disch := first | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    rw [View.read_writes_full]
    exact congrArg₂ k0_pay3
      ((View.readAt_unit _ _ _ rfl (k0_off2_inb i hc2)).trans
        (by rw [harg4.read_unread]))
      ((View.readAt_full _ _ _).trans (harg1.read_unread _))
  iexists _; isplitr; swap; · iexact HS
  ipureintro
  rw [View.read_writes_cons_put _ _ _ _ _ rfl]
  rw [View.writes_nil, harg4.read_unread]
  exact congrArg (fun w => VecWindow.put xs (k0_off3 i) S1x256x4096.size (k0_pay2 (k0_pay4 w))) ((View.readAt_full _ _ _).trans (harg2.read_unread _))

end Cert.Kernel6Ideal.Xr

end
-- ==== Proof.Xr.Run.lean ====
/- The grid of the recurrent input projection: the weight tiles the scratch holds, the proof data, and the run, over any values. -/
module

public import proofs.«01_k».proof.Proof.Xr.Body
public import proofs.«01_k».proof.Proof.Gen.Kernel6Ideal.Points
public import proofs.«01_k».proof.Proof.Gen.Kernel6Ideal.Launch
public import Idealize.ShloMosaic.Lib.Pipeline.ValueKit
public import Idealize.ShloMosaic.Lib.PointwiseCore

@[expose] public section

set_option maxRecDepth 16384

noncomputable section

namespace Cert.Kernel6Ideal.Xr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- The first weight row of each tile. -/
def start (j : ℕ) : ℕ := 8208 + 1024 * min j 1

/-- Which points receive only, and which compute. -/
theorem conds : ∀ t : Fin cfg0.N, (k0_cond1 (grid0.coords t) = 1#1 ↔ t.val < 4) ∧ (k0_cond2 (grid0.coords t) = 1#1 ↔ 4 ≤ t.val) :=
  (by decide +kernel : ∀ t : Fin grid0.N, (k0_cond1 (grid0.coords t) = 1#1 ↔ t.val < 4) ∧ (k0_cond2 (grid0.coords t) = 1#1 ↔ 4 ≤ t.val))

theorem offs : ∀ t : Fin cfg0.N, (t.val < 4 → k0_off1 (grid0.coords t) = ![0, 256 * t.val, 0])
    ∧ (4 ≤ t.val → k0_off2 (grid0.coords t) = ![(t.val - 4) / 8 % 2, 0, 0]
      ∧ k0_off3 (grid0.coords t) = ![((t.val - 4) / 8 + 1) % 2, 256 * min ((t.val - 4) % 8) (4 - 1), 0]) :=
  (by decide +kernel : ∀ t : Fin grid0.N, (t.val < 4 → k0_off1 (grid0.coords t) = ![0, 256 * t.val, 0])
    ∧ (4 ≤ t.val → k0_off2 (grid0.coords t) = ![(t.val - 4) / 8 % 2, 0, 0]
      ∧ k0_off3 (grid0.coords t) = ![((t.val - 4) / 8 + 1) % 2, 256 * min ((t.val - 4) % 8) (4 - 1), 0]))

/-- Where each window stands. -/
theorem idx : ∀ t : Fin cfg0.N, (t.val < 4 → win0_1.index t = ![start 0 + 256 * t.val, 0])
    ∧ (4 ≤ t.val → win0_0.index t = ![(t.val - 4) % 8, 0] ∧ win0_2.index t = ![(t.val - 4) % 8, (t.val - 4) / 8]
      ∧ ((t.val - 4) / 8 + 1 < 2 → win0_1.index t = ![start ((t.val - 4) / 8 + 1) + 256 * min ((t.val - 4) % 8) (4 - 1), 0])) :=
  (by decide +kernel : ∀ t : Fin grid0.N, (t.val < 4 → win0_1.index t = ![start 0 + 256 * t.val, 0])
    ∧ (4 ≤ t.val → win0_0.index t = ![(t.val - 4) % 8, 0] ∧ win0_2.index t = ![(t.val - 4) % 8, (t.val - 4) / 8]
      ∧ ((t.val - 4) / 8 + 1 < 2 → win0_1.index t = ![start ((t.val - 4) / 8 + 1) + 256 * min ((t.val - 4) % 8) (4 - 1), 0])))

theorem idle2 : ∀ t : Fin cfg0.N, (t.val < 4 → cfg0.idle 2 (grid0.coords t) = true ∧ (cfg0.win 2).flush t = false)
    ∧ (4 ≤ t.val → cfg0.idle 2 (grid0.coords t) = false) :=
  (by decide +kernel : ∀ t : Fin grid0.N, (t.val < 4 → idle0 2 (grid0.coords t) = true ∧ win0_2.flush t = false)
    ∧ (4 ≤ t.val → idle0 2 (grid0.coords t) = false))

/-! ## The tiles -/

/-- Row `r`, column `q` of weight tile `j`, narrowed, as the region finds the weights. -/
def T (c : Dev nD) (j r q : ℕ) : Elt F .bf16 :=
  (truncf .bf16 (V m c main_v0 : FVec F S12304x4096 .f32) bitsLt_bf16_f32 : FVec F S12304x4096 .bf16)
    (ix2 ⟨(start j + r) % 12304, Nat.mod_lt _ (by decide)⟩ ⟨q % 4096, Nat.mod_lt _ (by decide)⟩)

/-- Weight tile `j` as the body loads it. -/
def tile (c : Dev nD) (j : ℕ) : Vec F S1x1024x4096 .bf16 := fun x => T m c j (x 1).val (x 2).val

theorem start_le (j : ℕ) : start j + 1024 ≤ 12304 := by
  unfold start; omega

/-- An element of the weight window stands in the weights at the window's first row plus its own row. -/
theorem chunk_place (t : Fin cfg0.N) (y : S256x4096.Idx) (a : Fin 2) :
    ((win0_1.blk t).view.emb y a).val = win0_1.index t a + (y a).val :=
  win0_1.rect_emb_val_off t y a

/-- The weight window at a point whose first row is row `r` of tile `j`. -/
theorem chunk_read (c : Dev nD) (t : Fin cfg0.N) (j r : ℕ) (hr : r + 256 ≤ 1024) (e : win0_1.index t = ![start j + r, 0])
    (y : S256x4096.Idx) :
    truncf .bf16 (iblk m c 1 t : FVec F S256x4096 .f32) bitsLt_bf16_f32 y = T m c j (r + (y 0).val) (y 1).val := by
  have hs := start_le j
  have h0 : (y 0).val < 256 := (y 0).isLt
  have h1 : (y 1).val < 4096 := (y 1).isLt
  unfold T
  pointwise
  blk_simp [iblk]
  refine congrArg (FloatOps.truncf .bf16 bitsLt_bf16_f32) (congrArg (V m c main_v0) (funext fun a => Fin.ext ?_))
  refine (chunk_place t y a).trans ?_
  rw [e]
  match a with
  | 0 => show start j + r + (y 0).val = (start j + (r + (y 0).val)) % 12304; omega
  | 1 => show 0 + (y 1).val = (y 1).val % 4096; omega

theorem chunk_fill (c : Dev nD) (t : Fin cfg0.N) (ht : t.val < 4) (x : S1x256x4096.Idx) :
    k0_pay1 (iblk m c 1 t) x = T m c 0 (256 * t.val + (x 1).val) (x 2).val := by
  refine Eq.trans ?_ (chunk_read m c t 0 (256 * t.val) (by omega) ((idx t).1 ht) (ix2 (x 1) (x 2)))
  pointwise [k0_pay1]

theorem chunk_use (c : Dev nD) (t : Fin cfg0.N) (ht : 4 ≤ t.val) (hj : (t.val - 4) / 8 + 1 < 2) (x : S1x256x4096.Idx) :
    k0_pay2 (k0_pay4 (iblk m c 1 t)) x = T m c ((t.val - 4) / 8 + 1) (256 * min ((t.val - 4) % 8) (4 - 1) + (x 1).val) (x 2).val := by
  refine Eq.trans ?_ (chunk_read m c t _ _ (by omega) (((idx t).2 ht).2.2 hj) (ix2 (x 1) (x 2)))
  pointwise [k0_pay2, k0_pay4]

/-! ## The proof data -/

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev scM : Memref sig .tc .vmem S2x1024x4096 .bf16 := Memref.whole cc0_scratch0

/-- What the launch hands the region: the scratch at anything and the generator register at some state. -/
theorem launched_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The invariant before point `n`: the scratch holds what the schedule says. -/
def Phi (c : Dev nD) (n : ℕ) : sProp 𝕄 :=
  iprop(iprop((∃ d, iprop(⌜Stream.Inv 8 2 4 256 (T m c) n d⌝ ∗ owns (c : Thread nD τ) scM fullShare d))) ∗ (∃ r, prngReg c r))

/-- The block of the result that point `t` computes. -/
def block (c : Dev nD) (t : Fin cfg0.N) : Vec F S1024x1024 .f32 := k0_pay3 (tile m c ((t.val - 4) / 8)) (iblk m c 0 t)

/-- The proof data: the inputs' buffers stay at their blocks, the result's ends at the computed block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => block m c t
  Φ t := Phi m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = block m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl,
    show (dats m 0 c).Φ t.castSucc = Phi m c t.val from rfl, show (dats m 0 c).Φ t.succ = Phi m c (t.val + 1) from rfl,
    show (dats m 0 c).leavesExact 0 t = owns (c : Thread nD τ) (ms0 t) fullShare (iblk m c 0 t) from by
      unfold Dat.leavesExact; rw [show cfg0.idle 0 (grid0.coords t) = false from rfl, after0],
    show (dats m 0 c).leavesExact 1 t = owns (c : Thread nD τ) (ms1 t) fullShare (iblk m c 1 t) from by
      unfold Dat.leavesExact; rw [show cfg0.idle 1 (grid0.coords t) = false from rfl, after1]]
  have hN : t.val < 20 := lt_of_lt_of_eq t.isLt (show cfg0.N = 20 from N_0)
  unfold Phi
  by_cases ht : t.val < 4
  · rw [(dats m 0 c).leavesExact_idle 2 t ((idle2 t).1 ht).1 ((idle2 t).1 ht).2]
    iintro ⟨⟨⟨%d, %hd, HS⟩, Hg⟩, Ho, ⟨%d0, H0⟩, ⟨%d1, H1⟩, ⟨%d2, H2⟩⟩
    iapply (body_fill c (grid0.coords t) _ _ _ _ _ _ _ _ ((conds t).1.mpr ht) (fun h => absurd ((conds t).2.mp h) (by omega))
      (iblk m c 1 t) d Set.univ _)
    isplitl [H1]; · iexact H1
    isplitl [HS]; · iexact HS
    iintro ⟨H1, HS⟩
    isplitl [HS Hg]
    · isplitl [HS]
      · iexists _; isplitr; swap; · iexact HS
        ipureintro
        rw [(offs t).1 ht]
        exact hd.put_first ht (by omega) (by omega) _ (chunk_fill m c t ht)
      iexact Hg
    isplitl [Ho]; · iexact Ho
    isplitl [H0]; · iexact H0
    isplitl [H1]; · iexact H1
    iexists _; iexact H2
  · have ht : 4 ≤ t.val := by omega
    rw [show (dats m 0 c).leavesExact 2 t = owns (c : Thread nD τ) (ms2 t) fullShare (block m c t) from by
      unfold Dat.leavesExact; rw [(idle2 t).2 ht, after2]]
    iintro ⟨⟨⟨%d, %hd, HS⟩, Hg⟩, Ho, ⟨%d0, H0⟩, ⟨%d1, H1⟩, ⟨%d2, H2⟩⟩
    have hw : VecWindow.window d (k0_off2 (grid0.coords t)) S1x1024x4096.size (k0_off2_inb _ ((conds t).2.mpr ht))
        = tile m c ((t.val - 4) / 8) :=
      funext fun x => hd.window ht (by omega) rfl ((offs t).2 ht).1 _ x
    iapply (body_use c (grid0.coords t) _ _ _ _ _ _ _ _ (fun h => absurd ((conds t).1.mp h) (by omega)) ((conds t).2.mpr ht)
      (iblk m c 0 t) (iblk m c 1 t) d Set.univ _)
    rw [hw]
    isplitl [H0]; · iexact H0
    isplitl [H1]; · iexact H1
    isplitl [H2]; · iexists _; iexact H2
    isplitl [HS]; · iexact HS
    iintro ⟨H0, H1, H2, HS⟩
    isplitl [HS Hg]
    · isplitl [HS]
      · iexists _; isplitr; swap; · iexact HS
        ipureintro
        rw [((offs t).2 ht).2]
        exact hd.put_next ht (by omega) (by omega) _ (chunk_use m c t ht)
      iexact Hg
    isplitl [Ho]; · iexact Ho
    isplitl [H0]; · iexact H0
    isplitl [H1]; · iexact H1
    iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, launched_eq]
  unfold Phi
  iintro ⟨⟨%d, HS⟩, Hg⟩
  isplitl [HS]
  · iexists d; isplitr; swap; · iexact HS
    ipureintro; exact Stream.Inv.zero _ _ (by omega)
  iexact Hg

theorem hout (c : Dev nD) : (dats m 0 c).Φ (Fin.last cfg0.N) ⊢ Pipeline.ΦA spec0 c := by
  rw [show (dats m 0 c).Φ (Fin.last cfg0.N) = Phi m c (Fin.last cfg0.N).val from rfl, launched_eq]
  unfold Phi
  iintro ⟨⟨%d, -, HS⟩, Hg⟩
  isplitl [HS]
  · iexists _; iexact HS
  iexact Hg

/-! ## The run -/

set_option backward.isDefEq.respectTransparency.types false in
/-- Every weakly fair execution ends, the arrays as the proof data says and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiet m ρ))

end Cert.Kernel6Ideal.Xr

end
-- ==== Proof.Xr.Value.lean ====
/- The recurrent input projection's result over the extended reals: from the kernel and from the reference. -/
module

public import proofs.«01_k».proof.Defs
public import proofs.«01_k».proof.Proof.Xr.Run
public import proofs.«01_k».proof.Proof.Stream.Gates
public import proofs.«01_k».proof.Proof.Gen.Kernel6
public import proofs.«01_k».proof.Proof.Gen.Reference6Ideal.Run
public import Idealize.ShloMosaic.Lib.Pipeline.ValueKit
public import Idealize.ShloMosaic.Lib.Quiescent

@[expose] public section

set_option maxRecDepth 16384

noncomputable section

namespace Cert.Kernel6Ideal.Xr

open Idealize.ShloMosaic Idealize.ShloMosaic.TcCoe Idealize.SL.Sem
open Idealize.ShloMosaic.Pipeline (Dat)
open Cert.Kernel6Ideal Cert.Kernel6Ideal.Gen

/-- Row `a` of the activations times column `8208 + b` of the weights. -/
def entry (X : FVec Ideal S8192x4096 .bf16) (W : FVec Ideal S4096x12304 .f32) (a : Fin 8192) (b : Fin 2048) : EReal :=
  ∑ k : Fin 4096, X (ix2 a k) * W (ix2 k (⟨8208 + b.val, by omega⟩ : Fin 12304))

/-- The projection. -/
def G (X : FVec Ideal S8192x4096 .bf16) (W : FVec Ideal S4096x12304 .f32) : FVec Ideal S8192x2048 .f32 :=
  fun y => entry X W (y 0) (y 1)

variable (m : (ℓ : Loc nD τ sig) → Buf (Elt Ideal) ℓ)

/-- The weights as the region finds them are the argument transposed. -/
theorem weights (c : Dev nD) (a : Fin 12304) (k : Fin 4096) :
    (V m c main_v0 : FVec Ideal S12304x4096 .f32) (ix2 a k) = m ((c : Thread nD τ).loc main_arg1) (ix2 k a) := by
  entry_read
  pointwise

theorem weights_tile (c : Dev nD) (j : ℕ) (hj : j < 2) (y : Fin 1024) (k : Fin 4096) (e : Fin 12304) (he : e.val = 8208 + (j * 1024 + y.val))
    (h0 : (start j + y.val) % 12304 < 12304) (h1 : k.val % 4096 < 4096) :
    (V m c main_v0 : FVec Ideal S12304x4096 .f32) (ix2 ⟨(start j + y.val) % 12304, h0⟩ ⟨k.val % 4096, h1⟩)
      = m ((c : Thread nD τ).loc main_arg1) (ix2 k e) := by
  have hs : start j = 8208 + 1024 * j := by unfold start; omega
  rw [weights, show (⟨(start j + y.val) % 12304, h0⟩ : Fin 12304) = e from Fin.ext (by show (start j + y.val) % 12304 = e.val; omega),
    show (⟨k.val % 4096, h1⟩ : Fin 4096) = k from Fin.ext (Nat.mod_eq_of_lt k.isLt)]

/-- The activations' block. -/
theorem rows (c : Dev nD) (t : Fin cfg0.N) (ht : 4 ≤ t.val) (y : Fin 1024) (k : Fin 4096) (a : Fin 8192)
    (ha : a.val = (t.val - 4) % 8 * 1024 + y.val) :
    (iblk m c 0 t : FVec Ideal S1024x4096 .bf16) (ix2 y k) = m ((c : Thread nD τ).loc main_arg0) (ix2 a k) := by
  have e := ((idx t).2 ht).1
  blk_ext [iblk, V, e, ha]

theorem block_apply (c : Dev nD) (t : Fin cfg0.N) (ht : 4 ≤ t.val) (y0 y1 : Fin 1024) (a : Fin 8192) (b : Fin 2048)
    (ha : a.val = (t.val - 4) % 8 * 1024 + y0.val) (hb : b.val = (t.val - 4) / 8 * 1024 + y1.val) :
    block m c t (ix2 y0 y1) = entry (m ((c : Thread nD τ).loc main_arg0)) (m ((c : Thread nD τ).loc main_arg1)) a b := by
  have hN : t.val < 20 := lt_of_lt_of_eq t.isLt (show cfg0.N = 20 from N_0)
  unfold entry block
  pointwise [k0_pay3, tile, T]
  simp only [weights_tile m c _ (show (t.val - 4) / 8 < 2 by omega) y1 _ (⟨8208 + b.val, by omega⟩ : Fin 12304) (congrArg (8208 + ·) hb), rows m c t ht y0 _ a ha]

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  have hN : t.val < 20 := lt_of_lt_of_eq t.isLt (show cfg0.N = 20 from N_0)
  have ht : 4 ≤ t.val := by
    by_contra h
    rw [((idle2 t).1 (by omega)).2] at hf
    exact absurd hf (by decide)
  have e := ((idx t).2 ht).2.1
  rw [after2]
  idx_vars y
  rw [show ((View.whole main_v1).slice ((win0 2).rect t)).emb (ix2 y0 y1)
      = ix2 (⟨(t.val - 4) % 8 * 1024 + y0.val, by omega⟩ : Fin 8192) (⟨(t.val - 4) / 8 * 1024 + y1.val, by omega⟩ : Fin 2048) from by
    blk_ext [e]]
  refine Eq.trans ?_ (block_apply m c t ht y0 y1 _ _ rfl rfl)
  blk_simp

/-- The run, its result array at the product. -/
theorem result (ρ : Dev nD → PrngReg) : θ_run defs (onTc (τ := τ) (main (F := Ideal))) ⟨m, fun _ => 0, ρ⟩ (fun r => ∀ c : Dev nD,
      r.2.mem ((c.tc : Thread nD τ).loc main_v1)
        = G (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.2.1 c).1 2).trans (final m c), h.1.1 c⟩) (θ_run_and (frame m ρ) (run_quiet m ρ))

end Cert.Kernel6Ideal.Xr

/-! ## The claims -/

namespace Cert.Proof

open Idealize.ShloMosaic Idealize.SL.Sem

theorem xr_defs : Cert.Kernel6.defs (F := Bits) = Cert.Kernel6Ideal.defs (F := Bits) := by
  have h : Cert.Kernel6.defs₀ (F := Bits) = Cert.Kernel6Ideal.defs₀ (F := Bits) := by
    unfold Cert.Kernel6.defs₀ Cert.Kernel6Ideal.defs₀
    refine congrArg Defs.onTc (funext fun l => funext fun a => ?_)
    match l, a with
    | 0, (t, s) => rfl
  unfold Cert.Kernel6.defs Cert.Kernel6Ideal.defs
  rw [h]; rfl

theorem frame_kernel6 : Cert.quiescent_Kernel6 := fun m g _ => by
  rw [xr_defs]
  exact Cert.Kernel6Ideal.Xr.frame (F := Bits) m g

theorem frame_ideal6 : Cert.quiescent_Kernel6Ideal := fun m g _ => Cert.Kernel6Ideal.Xr.frame (F := Ideal) m g

theorem frame_reference6 : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

theorem algebraic6 : Cert.algebraic_Kernel6Ideal_Reference6Ideal := by
  intro m g m' g' _ hagree
  refine ⟨_, Cert.Kernel6Ideal.Xr.result m g, ?_⟩
  refine (θ_run Cert.Reference6Ideal.defs _ _).mono (fun r h c => ⟨(h c).1.trans ?_, (h c).2⟩) (Cert.Reference6Ideal.Value.run (F := Ideal) m' g')
  rw [(hagree c).1, (hagree c).2]
  refine funext fun y => ?_
  idx_vars y
  show _ = Cert.Kernel6Ideal.Xr.entry _ _ y0 y1
  unfold Cert.Kernel6Ideal.Xr.entry
  pointwise

end Cert.Proof

end
-- ==== Proof.Qk.Body.lean ====
/- One grid point of the query and key projection: the body run, in the points that only receive a chunk of the first weight tile and in
   the points that compute a block of the result, over any values. -/
module

public import proofs.«01_k».proof.Proof.Gen.Kernel7Ideal.Frame
public import proofs.«01_k».proof.Proof.Gen.Kernel7Ideal.Skeleton
public import proofs.«01_k».proof.Proof.Stream.Tiles
public import Idealize.ShloMosaic.Lib.VecWindow
public import Idealize.ShloMosaic.Lib.PointwiseCore

@[expose] public section

set_option maxRecDepth 16384

noncomputable section

namespace Cert.Kernel7Ideal.Qk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

/-- One head: its 128 columns over the root of their mean square, times the gain. -/
def head (z : FVec F S1024x128 .f32) (g : FVec F S1x128 .f32) : FVec F S1024x128 .bf16 :=
  truncf .bf16
    (mulf
      (mulf z (broadcastTo S1024x128
        (rsqrt (addf (divf (shapeCast S1024x1 (multiReduction .add [1] S1024 (mulf z z) 0x00000000#32 reduces_S1024x128_S1024 (.inl rfl) rfl)
            shapeCasts_S1024_S1024x1) (broadcast S1024x1 (Scalar.ofBits .f32 0x43000000#32)))
          (broadcast S1024x1 (Scalar.ofBits .f32 0x358637BD#32)))) broadcasts_S1024x1_S1024x128))
      (broadcastTo S1024x128 (shapeCast S1x128 g shapeCasts_S1x128_S1x128) broadcasts_S1x128_S1024x128)) bitsLt_bf16_f32

theorem inb_y (k : Fin 8) : ∀ a, ![0, 128 * k.val] a + S1024x128.size a ≤ S1024x1024.size a := by
  intro a; match a with
  | 0 => show 0 + 1024 ≤ 1024; omega
  | 1 => show 128 * k.val + 128 ≤ 1024; omega

theorem inb_g (k : Fin 8) : ∀ a, ![0, 128 * k.val] a + S1x128.size a ≤ S1x1024.size a := by
  intro a; match a with
  | 0 => show 0 + 1 ≤ 1; omega
  | 1 => show 128 * k.val + 128 ≤ 1024; omega

/-- Head `k` of a block of eight. -/
def headOf (y : FVec F S1024x1024 .f32) (g : Vec F S1x1024 .f32) (k : Fin 8) : FVec F S1024x128 .bf16 :=
  head (VecWindow.window y ![0, 128 * k.val] S1024x128.size (inb_y k)) (VecWindow.window g ![0, 128 * k.val] S1x128.size (inb_g k))

/-- The eight heads side by side. -/
def heads (y : FVec F S1024x1024 .f32) (g : Vec F S1x1024 .f32) : Vec F S1024x1024 .bf16 := fun x =>
  headOf y g ⟨(x 1).val / 128, by have h : (x 1).val < 1024 := (x 1).isLt; omega⟩ (ix2 (x 0) ⟨(x 1).val % 128, Nat.mod_lt _ (by decide)⟩)

/-- The first `n` heads stored one after the other, each over its own columns. -/
def stored (w : ℕ → S1024x128.Idx → Elt F .bf16) (d : S1024x1024.Idx → Elt F .bf16) : ℕ → S1024x1024.Idx → Elt F .bf16
  | 0 => d
  | n + 1 => VecWindow.put (stored w d n) ![0, 128 * n] S1024x128.size (w n)

theorem stored_apply (w : ℕ → S1024x128.Idx → Elt F .bf16) (d : S1024x1024.Idx → Elt F .bf16) (n : ℕ) (x : S1024x1024.Idx)
    (h : (x 1).val < 128 * n) : stored w d n x = w ((x 1).val / 128) (ix2 (x 0) ⟨(x 1).val % 128, Nat.mod_lt _ (by decide)⟩) := by
  induction n with
  | zero => omega
  | succ n ih =>
    have h0 : (x 0).val < 1024 := (x 0).isLt
    show VecWindow.put (stored w d n) ![0, 128 * n] S1024x128.size (w n) x = _
    unfold VecWindow.put
    by_cases hx : (x 1).val < 128 * n
    · rw [dif_neg fun hp => absurd (hp 1).1 (by show ¬ 128 * n ≤ (x 1).val; omega)]
      exact ih hx
    · have hd : (x 1).val / 128 = n := by omega
      rw [dif_pos (fun a => by
        match a with
        | 0 => show 0 ≤ (x 0).val ∧ (x 0).val < 0 + 1024; omega
        | 1 => show 128 * n ≤ (x 1).val ∧ (x 1).val < 128 * n + 128; omega), hd]
      refine congrArg (w n) (funext fun a => Fin.ext ?_)
      match a with
      | 0 => show (x 0).val - 0 = (x 0).val; omega
      | 1 => show (x 1).val - 128 * n = (x 1).val % 128; omega

/-- The eight payloads, stored one after the other over anything, are the eight heads. -/
theorem stored_heads (y : FVec F S1024x1024 .f32) (g : Vec F S1x1024 .f32) (d : S1024x1024.Idx → Elt F .bf16) :
    stored (fun k => headOf y g ⟨k % 8, Nat.mod_lt _ (by decide)⟩) d 8 = heads y g := by
  funext x
  have h1 : (x 1).val < 1024 := (x 1).isLt
  rw [stored_apply _ _ _ _ (by omega)]
  exact congrArg (fun k => headOf y g k _) (Fin.ext (by show (x 1).val / 128 % 8 = (x 1).val / 128; omega))

variable (c : Dev nD) (i : grid0.Coords) (arg1 : Memref sig .tc .vmem S1024x4096 .bf16) (harg1 : arg1.IsWhole)
    (arg2 : Memref sig .tc .vmem S256x4096 .f32) (harg2 : arg2.IsWhole)
    (arg3 : Memref sig .tc .vmem S1x1024 .f32) (harg3 : arg3.IsWhole)
    (arg4 : Memref sig .tc .vmem S1024x1024 .bf16) (harg4 : arg4.IsWhole)
    (arg5 : Memref sig .tc .vmem S2x1024x4096 .bf16) (harg5 : arg5.IsWhole)

/-- One more head stored. -/
theorem store_step {arg4 : Memref sig .tc .vmem S1024x1024 .bf16} {f : arg4.view.ty.Contents (Elt F)} {L : List (View.Piece (Elt F) S1024x1024 .bf16)}
    {w : ℕ → S1024x128.Idx → Elt F .bf16} (d : S1024x1024.Idx → Elt F .bf16) (n : ℕ) {off : Fin 2 → ℕ} (hoff : off = ![0, 128 * n])
    (inb : ∀ a, off a + S1024x128.size a ≤ S1024x1024.size a) {v : S1024x128.Idx → Elt F .bf16} (hv : v = w n)
    (ih : arg4.view.read (Elt F) (arg4.view.writes (Elt F) f L) = stored w d n) :
    arg4.view.read (Elt F) (arg4.view.writes (Elt F) f (⟨Rect.unit off S1024x128.size inb, v⟩ :: L)) = stored w d (n + 1) :=
  (View.read_writes_cons_put _ _ _ _ _ hoff).trans (by rw [ih, hv]; rfl)

/-- The payload of a head, its gain read from its columns of the row. -/
theorem head_stored (arg3 : Memref sig .tc .vmem S1x1024 .f32) (harg3 : arg3.IsWhole) (y : FVec F S1024x1024 .f32) (g : Vec F S1x1024 .f32)
    (k : Fin 8) {off : Fin 2 → ℕ} (hoff : off = ![0, 128 * k.val]) (hs : S1024x1024.Slices off S1024x128)
    (inb : ∀ a, off a + S1x128.size a ≤ S1x1024.size a) :
    head (extractStridedSlice S1024x128 off y hs) (arg3.view.readAt (Elt F) (Rect.unit (s := S1x1024) off S1x128.size inb).toLoadRect (harg3.unread g))
      = headOf y g k := by
  subst hoff
  refine congrArg₂ head ?_ ((View.readAt_unit _ _ inb rfl (inb_g k)).trans (by rw [harg3.read_unread]))
  funext x
  refine congrArg y (funext fun a => Fin.ext ?_)
  show _ + (x a).val = _ + 1 * (x a).val
  rw [one_mul]
  rfl

set_option maxHeartbeats 1000000 in
/-- A point that only receives a chunk: the chunk, narrowed, lands in the scratch; the rest stays. -/
theorem body_fill (hc1 : k0_cond1 i = 1#1) (hc2 : ¬ k0_cond2 i = 1#1)
    (x1 : Vec F S256x4096 .f32) (xs : Vec F S2x1024x4096 .bf16) (E : Set ℕ) (K : PUnit → sProp 𝕄) :
    iprop(owns (c : Thread nD τ) arg2 fullShare x1 ∗ owns (c : Thread nD τ) arg5 fullShare xs
        ∗ (iprop(owns (c : Thread nD τ) arg2 fullShare x1
            ∗ owns (c : Thread nD τ) arg5 fullShare (VecWindow.put xs (k0_off1 i) S1x256x4096.size (k0_pay1 x1))) -∗ K ⟨⟩))
      ⊢ wp frame (wpE (defs₀ (F := F)) Variants.none c none) E (cc0_proj_qk i arg1 harg1 arg2 harg2 arg3 harg3 arg4 harg4 arg5 harg5) K := by
  simp only [cc0_proj_qk_eq_skeleton]; unfold cc0_proj_qk_skel
  unfold owns
  iintro ⟨⟨%f1, %hf1, H1⟩, ⟨%fs, %hfs, HS⟩, Hk⟩
  obtain rfl := harg2.eq_unread hf1; obtain rfl := harg5.eq_unread hfs
  sl_exec (disch := first | sl_exact hc1 | sl_exact hc2)
  sl_step
  iapply Hk
  isplitl [H1]
  · iexists _; isplitr; · ipureintro; exact harg2.read_unread _
    iexact H1
  iexists _; isplitr; swap; · iexact HS
  ipureintro
  rw [View.read_writes_cons_put _ _ _ _ _ rfl, View.writes_nil, harg5.read_unread]
  exact congrArg (fun w => VecWindow.put xs (k0_off1 i) S1x256x4096.size (k0_pay1 w)) ((View.readAt_full _ _ _).trans (harg2.read_unread _))

set_option maxHeartbeats 1000000 in
/-- A point that computes: the staged rows times the slot in use, each head over the root of its mean square and times
    its gain, land in the result's buffer, and the chunk lands in the scratch. -/
theorem body_use (hc1 : ¬ k0_cond1 i = 1#1) (hc2 : k0_cond2 i = 1#1)
    (x0 : Vec F S1024x4096 .bf16) (x1 : Vec F S256x4096 .f32) (x2 : Vec F S1x1024 .f32) (xs : Vec F S2x1024x4096 .bf16)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare
                (heads (k0_pay3 (VecWindow.window xs (k0_off2 i) S1x1024x4096.size (k0_off2_inb i hc2)) x0) x2)
            ∗ owns (c : Thread nD τ) arg5 fullShare (VecWindow.put xs (k0_off3 i) S1x256x4096.size (k0_pay2 x1))) -∗ K ⟨⟩))
      ⊢ wp frame (wpE (defs₀ (F := F)) Variants.none c none) E (cc0_proj_qk i arg1 harg1 arg2 harg2 arg3 harg3 arg4 harg4 arg5 harg5) K := by
  simp only [cc0_proj_qk_eq_skeleton]; unfold cc0_proj_qk_skel
  rw [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg1.eq_unread hf0; obtain rfl := harg2.eq_unread hf1; obtain rfl := harg3.eq_unread hf2
  obtain rfl := harg5.eq_unread hfs
  sl_exec (disch := first | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    have e1 : arg1.view.readAt (Elt F) (Rect.unit ![0, 0] S1024x4096.size inb_S1024x4096_S1024x4096_0_0).toLoadRect (harg1.unread x0) = x0 :=
      (View.readAt_full _ _ _).trans (harg1.read_unread _)
    have e5 : arg5.view.readAt (Elt F) (Rect.unit (s := S2x1024x4096) (k0_off2 i) S1x1024x4096.size (k0_off2_inb i hc2)).toLoadRect (harg5.unread xs)
        = VecWindow.window xs (k0_off2 i) S1x1024x4096.size (k0_off2_inb i hc2) :=
      (View.readAt_unit _ _ _ rfl (k0_off2_inb i hc2)).trans (by rw [harg5.read_unread])
    rw [e1, e5]
    refine Eq.trans ?_ (stored_heads (k0_pay3 (VecWindow.window xs (k0_off2 i) S1x1024x4096.size (k0_off2_inb i hc2)) x0) x2
      (arg4.view.read (Elt F) f3))
    exact store_step _ 7 rfl _ (head_stored arg3 harg3 _ x2 7 rfl slices_S1024x1024_o0_896_S1024x128 _) <| store_step _ 6 rfl _ (head_stored arg3 harg3 _ x2 6 rfl slices_S1024x1024_o0_768_S1024x128 _) <|
      store_step _ 5 rfl _ (head_stored arg3 harg3 _ x2 5 rfl slices_S1024x1024_o0_640_S1024x128 _) <| store_step _ 4 rfl _ (head_stored arg3 harg3 _ x2 4 rfl slices_S1024x1024_o0_512_S1024x128 _) <|
      store_step _ 3 rfl _ (head_stored arg3 harg3 _ x2 3 rfl slices_S1024x1024_o0_384_S1024x128 _) <| store_step _ 2 rfl _ (head_stored arg3 harg3 _ x2 2 rfl slices_S1024x1024_o0_256_S1024x128 _) <|
      store_step _ 1 rfl _ (head_stored arg3 harg3 _ x2 1 rfl slices_S1024x1024_o0_128_S1024x128 _) <| store_step _ 0 rfl _ (head_stored arg3 harg3 _ x2 0 rfl slices_S1024x1024_o0_0_S1024x128 _) <| rfl
  iexists _; isplitr; swap; · iexact HS
  ipureintro
  rw [View.read_writes_cons_put _ _ _ _ _ rfl, View.writes_nil, harg5.read_unread]
  exact congrArg (fun w => VecWindow.put xs (k0_off3 i) S1x256x4096.size (k0_pay2 w)) ((View.readAt_full _ _ _).trans (harg2.read_unread _))

end Cert.Kernel7Ideal.Qk

end
-- ==== Proof.Qk.Run.lean ====
/- The grid of the query and key projection: the weight tiles the scratch holds, the proof data, and the run, over any values. -/
module

public import proofs.«01_k».proof.Proof.Qk.Body
public import proofs.«01_k».proof.Proof.Gen.Kernel7Ideal.Points
public import proofs.«01_k».proof.Proof.Gen.Kernel7Ideal.Launch
public import Idealize.ShloMosaic.Lib.Pipeline.ValueKit
public import Idealize.ShloMosaic.Lib.PointwiseCore

@[expose] public section

set_option maxRecDepth 16384

noncomputable section

namespace Cert.Kernel7Ideal.Qk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- The first weight row of each tile. -/
def start (j : ℕ) : ℕ := 1024 * min j 3

/-- Which points receive only, and which compute. -/
theorem conds : ∀ t : Fin cfg0.N, (k0_cond1 (grid0.coords t) = 1#1 ↔ t.val < 4) ∧ (k0_cond2 (grid0.coords t) = 1#1 ↔ 4 ≤ t.val) :=
  (by decide +kernel : ∀ t : Fin grid0.N, (k0_cond1 (grid0.coords t) = 1#1 ↔ t.val < 4) ∧ (k0_cond2 (grid0.coords t) = 1#1 ↔ 4 ≤ t.val))

theorem offs : ∀ t : Fin cfg0.N, (t.val < 4 → k0_off1 (grid0.coords t) = ![0, 256 * t.val, 0])
    ∧ (4 ≤ t.val → k0_off2 (grid0.coords t) = ![(t.val - 4) / 8 % 2, 0, 0]
      ∧ k0_off3 (grid0.coords t) = ![((t.val - 4) / 8 + 1) % 2, 256 * min ((t.val - 4) % 8) (4 - 1), 0]) :=
  (by decide +kernel : ∀ t : Fin grid0.N, (t.val < 4 → k0_off1 (grid0.coords t) = ![0, 256 * t.val, 0])
    ∧ (4 ≤ t.val → k0_off2 (grid0.coords t) = ![(t.val - 4) / 8 % 2, 0, 0]
      ∧ k0_off3 (grid0.coords t) = ![((t.val - 4) / 8 + 1) % 2, 256 * min ((t.val - 4) % 8) (4 - 1), 0]))

/-- Where each window stands. -/
theorem idx : ∀ t : Fin cfg0.N, (t.val < 4 → win0_1.index t = ![start 0 + 256 * t.val, 0])
    ∧ (4 ≤ t.val → win0_0.index t = ![(t.val - 4) % 8, 0] ∧ win0_2.index t = ![0, (t.val - 4) / 8]
      ∧ win0_3.index t = ![(t.val - 4) % 8, (t.val - 4) / 8]
      ∧ ((t.val - 4) / 8 + 1 < 4 → win0_1.index t = ![start ((t.val - 4) / 8 + 1) + 256 * min ((t.val - 4) % 8) (4 - 1), 0])) :=
  (by decide +kernel : ∀ t : Fin grid0.N, (t.val < 4 → win0_1.index t = ![start 0 + 256 * t.val, 0])
    ∧ (4 ≤ t.val → win0_0.index t = ![(t.val - 4) % 8, 0] ∧ win0_2.index t = ![0, (t.val - 4) / 8]
      ∧ win0_3.index t = ![(t.val - 4) % 8, (t.val - 4) / 8]
      ∧ ((t.val - 4) / 8 + 1 < 4 → win0_1.index t = ![start ((t.val - 4) / 8 + 1) + 256 * min ((t.val - 4) % 8) (4 - 1), 0])))

theorem idle3 : ∀ t : Fin cfg0.N, (t.val < 4 → cfg0.idle 3 (grid0.coords t) = true ∧ (cfg0.win 3).flush t = false)
    ∧ (4 ≤ t.val → cfg0.idle 3 (grid0.coords t) = false) :=
  (by decide +kernel : ∀ t : Fin grid0.N, (t.val < 4 → idle0 3 (grid0.coords t) = true ∧ win0_3.flush t = false)
    ∧ (4 ≤ t.val → idle0 3 (grid0.coords t) = false))

/-! ## The tiles -/

/-- Row `r`, column `q` of weight tile `j`, narrowed, as the region finds the weights. -/
def T (c : Dev nD) (j r q : ℕ) : Elt F .bf16 :=
  (truncf .bf16 (V m c main_v9 : FVec F S12304x4096 .f32) bitsLt_bf16_f32 : FVec F S12304x4096 .bf16)
    (ix2 ⟨(start j + r) % 12304, Nat.mod_lt _ (by decide)⟩ ⟨q % 4096, Nat.mod_lt _ (by decide)⟩)

/-- Weight tile `j` as the body loads it. -/
def tile (c : Dev nD) (j : ℕ) : Vec F S1x1024x4096 .bf16 := fun x => T m c j (x 1).val (x 2).val

theorem start_le (j : ℕ) : start j + 1024 ≤ 12304 := by
  unfold start; omega

/-- An element of the weight window stands in the weights at the window's first row plus its own row. -/
theorem chunk_place (t : Fin cfg0.N) (y : S256x4096.Idx) (a : Fin 2) :
    ((win0_1.blk t).view.emb y a).val = win0_1.index t a + (y a).val :=
  win0_1.rect_emb_val_off t y a

/-- The weight window at a point whose first row is row `r` of tile `j`. -/
theorem chunk_read (c : Dev nD) (t : Fin cfg0.N) (j r : ℕ) (hr : r + 256 ≤ 1024) (e : win0_1.index t = ![start j + r, 0])
    (y : S256x4096.Idx) :
    truncf .bf16 (iblk m c 1 t : FVec F S256x4096 .f32) bitsLt_bf16_f32 y = T m c j (r + (y 0).val) (y 1).val := by
  have hs := start_le j
  have h0 : (y 0).val < 256 := (y 0).isLt
  have h1 : (y 1).val < 4096 := (y 1).isLt
  unfold T
  pointwise
  blk_simp [iblk]
  refine congrArg (FloatOps.truncf .bf16 bitsLt_bf16_f32) (congrArg (V m c main_v9) (funext fun a => Fin.ext ?_))
  refine (chunk_place t y a).trans ?_
  rw [e]
  match a with
  | 0 => show start j + r + (y 0).val = (start j + (r + (y 0).val)) % 12304; omega
  | 1 => show 0 + (y 1).val = (y 1).val % 4096; omega

theorem chunk_fill (c : Dev nD) (t : Fin cfg0.N) (ht : t.val < 4) (x : S1x256x4096.Idx) :
    k0_pay1 (iblk m c 1 t) x = T m c 0 (256 * t.val + (x 1).val) (x 2).val := by
  refine Eq.trans ?_ (chunk_read m c t 0 (256 * t.val) (by omega) ((idx t).1 ht) (ix2 (x 1) (x 2)))
  pointwise [k0_pay1]

theorem chunk_use (c : Dev nD) (t : Fin cfg0.N) (ht : 4 ≤ t.val) (hj : (t.val - 4) / 8 + 1 < 4) (x : S1x256x4096.Idx) :
    k0_pay2 (iblk m c 1 t) x = T m c ((t.val - 4) / 8 + 1) (256 * min ((t.val - 4) % 8) (4 - 1) + (x 1).val) (x 2).val := by
  refine Eq.trans ?_ (chunk_read m c t _ _ (by omega) (((idx t).2 ht).2.2.2 hj) (ix2 (x 1) (x 2)))
  pointwise [k0_pay2]

/-! ## The proof data -/

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev scM : Memref sig .tc .vmem S2x1024x4096 .bf16 := Memref.whole cc0_scratch0

/-- What the launch hands the region: the scratch at anything and the generator register at some state. -/
theorem launched_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The invariant before point `n`: the scratch holds what the schedule says. -/
def Phi (c : Dev nD) (n : ℕ) : sProp 𝕄 :=
  iprop(iprop((∃ d, iprop(⌜Stream.Inv 8 4 4 256 (T m c) n d⌝ ∗ owns (c : Thread nD τ) scM fullShare d))) ∗ (∃ r, prngReg c r))

/-- The block of the result that point `t` computes. -/
def block (c : Dev nD) (t : Fin cfg0.N) : Vec F S1024x1024 .bf16 :=
  heads (k0_pay3 (tile m c ((t.val - 4) / 8)) (iblk m c 0 t)) (iblk m c 2 t)

/-- The proof data: the inputs' buffers stay at their blocks, the result's ends at the computed block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => block m c t
  Φ t := Phi m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = block m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl,
    show (dats m 0 c).Φ t.castSucc = Phi m c t.val from rfl, show (dats m 0 c).Φ t.succ = Phi m c (t.val + 1) from rfl,
    show (dats m 0 c).leavesExact 0 t = owns (c : Thread nD τ) (ms0 t) fullShare (iblk m c 0 t) from by
      unfold Dat.leavesExact; rw [show cfg0.idle 0 (grid0.coords t) = false from rfl, after0],
    show (dats m 0 c).leavesExact 1 t = owns (c : Thread nD τ) (ms1 t) fullShare (iblk m c 1 t) from by
      unfold Dat.leavesExact; rw [show cfg0.idle 1 (grid0.coords t) = false from rfl, after1],
    show (dats m 0 c).leavesExact 2 t = owns (c : Thread nD τ) (ms2 t) fullShare (iblk m c 2 t) from by
      unfold Dat.leavesExact; rw [show cfg0.idle 2 (grid0.coords t) = false from rfl, after2]]
  have hN : t.val < 36 := lt_of_lt_of_eq t.isLt (show cfg0.N = 36 from N_0)
  unfold Phi
  by_cases ht : t.val < 4
  · rw [(dats m 0 c).leavesExact_idle 3 t ((idle3 t).1 ht).1 ((idle3 t).1 ht).2]
    iintro ⟨⟨⟨%d, %hd, HS⟩, Hg⟩, Ho, ⟨%d0, H0⟩, ⟨%d1, H1⟩, ⟨%d2, H2⟩, ⟨%d3, H3⟩⟩
    iapply (body_fill c (grid0.coords t) _ _ _ _ _ _ _ _ _ _ ((conds t).1.mpr ht) (fun h => absurd ((conds t).2.mp h) (by omega))
      (iblk m c 1 t) d Set.univ _)
    isplitl [H1]; · iexact H1
    isplitl [HS]; · iexact HS
    iintro ⟨H1, HS⟩
    isplitl [HS Hg]
    · isplitl [HS]
      · iexists _; isplitr; swap; · iexact HS
        ipureintro
        rw [(offs t).1 ht]
        exact hd.put_first ht (by omega) (by omega) _ (chunk_fill m c t ht)
      iexact Hg
    isplitl [Ho]; · iexact Ho
    isplitl [H0]; · iexact H0
    isplitl [H1]; · iexact H1
    isplitl [H2]; · iexact H2
    iexists _; iexact H3
  · have ht : 4 ≤ t.val := by omega
    rw [show (dats m 0 c).leavesExact 3 t = owns (c : Thread nD τ) (ms3 t) fullShare (block m c t) from by
      unfold Dat.leavesExact; rw [(idle3 t).2 ht, after3]]
    iintro ⟨⟨⟨%d, %hd, HS⟩, Hg⟩, Ho, ⟨%d0, H0⟩, ⟨%d1, H1⟩, ⟨%d2, H2⟩, ⟨%d3, H3⟩⟩
    have hw : VecWindow.window d (k0_off2 (grid0.coords t)) S1x1024x4096.size (k0_off2_inb _ ((conds t).2.mpr ht))
        = tile m c ((t.val - 4) / 8) :=
      funext fun x => hd.window ht (by omega) rfl ((offs t).2 ht).1 _ x
    iapply (body_use c (grid0.coords t) _ _ _ _ _ _ _ _ _ _ (fun h => absurd ((conds t).1.mp h) (by omega)) ((conds t).2.mpr ht)
      (iblk m c 0 t) (iblk m c 1 t) (iblk m c 2 t) d Set.univ _)
    rw [hw]
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]
      · iexists _; isplitr; swap; · iexact HS
        ipureintro
        rw [((offs t).2 ht).2]
        exact hd.put_next ht (by omega) (by omega) _ (chunk_use m c t ht)
      iexact Hg
    isplitl [Ho]; · iexact Ho
    isplitl [H0]; · iexact H0
    isplitl [H1]; · iexact H1
    isplitl [H2]; · iexact H2
    iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, launched_eq]
  unfold Phi
  iintro ⟨⟨%d, HS⟩, Hg⟩
  isplitl [HS]
  · iexists d; isplitr; swap; · iexact HS
    ipureintro; exact Stream.Inv.zero _ _ (by omega)
  iexact Hg

theorem hout (c : Dev nD) : (dats m 0 c).Φ (Fin.last cfg0.N) ⊢ Pipeline.ΦA spec0 c := by
  rw [show (dats m 0 c).Φ (Fin.last cfg0.N) = Phi m c (Fin.last cfg0.N).val from rfl, launched_eq]
  unfold Phi
  iintro ⟨⟨%d, -, HS⟩, Hg⟩
  isplitl [HS]
  · iexists _; iexact HS
  iexact Hg

/-! ## The run -/

set_option backward.isDefEq.respectTransparency.types false in
/-- Every weakly fair execution ends, the arrays as the proof data says and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_quiet m ρ)))
    ((θ_run defs _ _).mono (fun _ h => h.2) (run_quiet m ρ))

end Cert.Kernel7Ideal.Qk

end
-- ==== Proof.Qk.Value.lean ====
/- The query and key projection's result over the extended reals: each head of 128 columns over the root of its mean
   square and times its gain, from the kernel and from the reference. -/
module

public import proofs.«01_k».proof.Defs
public import proofs.«01_k».proof.Proof.Qk.Run
public import proofs.«01_k».proof.Proof.Gen.Kernel7
public import proofs.«01_k».proof.Proof.Gen.Reference7Ideal.Run
public import Idealize.ShloMosaic.Lib.Pipeline.ValueKit
public import Idealize.ShloMosaic.Lib.Quiescent

@[expose] public section

set_option maxRecDepth 16384

noncomputable section

namespace Cert.Kernel7Ideal.Qk

open Idealize.ShloMosaic Idealize.ShloMosaic.TcCoe Idealize.SL.Sem
open Idealize.ShloMosaic.Pipeline (Dat)
open Cert.Kernel7Ideal Cert.Kernel7Ideal.Gen

/-- Row `a` of the activations times column `e` of the weights. -/
def prod (X : FVec Ideal S8192x4096 .bf16) (W : FVec Ideal S4096x12304 .f32) (a : Fin 8192) (e : ℕ) : EReal :=
  ∑ k : Fin 4096, X (ix2 a k) * W (ix2 k (⟨e % 12304, Nat.mod_lt _ (by decide)⟩ : Fin 12304))

/-- The root that divides a head: of its mean square plus the small constant. -/
def scale (X : FVec Ideal S8192x4096 .bf16) (W : FVec Ideal S4096x12304 .f32) (a : Fin 8192) (h : ℕ) : EReal :=
  Ideal.rsqrt (Ideal.div (∑ j : Fin 128, prod X W a (128 * h + j.val) * prod X W a (128 * h + j.val)) (Ideal.ofBits .f32 0x43000000#32)
    + Ideal.ofBits .f32 0x358637BD#32)

/-- The gain of column `b`: a query's weight times the fixed factor, a key's weight. -/
def gain (Q K : FVec Ideal S128 .f32) (b : ℕ) : EReal :=
  if b < 2048 then Q (ix1 ⟨b % 128, Nat.mod_lt _ (by decide)⟩) * Ideal.ofBits .f32 0x3E0293EE#32 else K (ix1 ⟨b % 128, Nat.mod_lt _ (by decide)⟩)

/-- The normed queries and keys at row `a`, column `b`. -/
def entry (X : FVec Ideal S8192x4096 .bf16) (W : FVec Ideal S4096x12304 .f32) (Q K : FVec Ideal S128 .f32) (a : Fin 8192) (b : ℕ) : EReal :=
  prod X W a b * scale X W a (b / 128) * gain Q K b

/-- The normed queries and keys. -/
def G (X : FVec Ideal S8192x4096 .bf16) (W : FVec Ideal S4096x12304 .f32) (Q K : FVec Ideal S128 .f32) : FVec Ideal S8192x4096 .bf16 :=
  fun y => entry X W Q K (y 0) (y 1).val

/-- A head's payload at a row and a column. -/
theorem headOf_apply (y : FVec Ideal S1024x1024 .f32) (g : Vec Ideal S1x1024 .f32) (k : Fin 8) (r : Fin 1024) (q : Fin 128) :
    headOf y g k (ix2 r q)
      = y (ix2 r (⟨128 * k.val + q.val, by omega⟩ : Fin 1024))
        * Ideal.rsqrt (Ideal.div (∑ j : Fin 128, y (ix2 r (⟨128 * k.val + j.val, by omega⟩ : Fin 1024)) * y (ix2 r (⟨128 * k.val + j.val, by omega⟩ : Fin 1024)))
            (Ideal.ofBits .f32 0x43000000#32) + Ideal.ofBits .f32 0x358637BD#32)
        * g (ix2 0 (⟨128 * k.val + q.val, by omega⟩ : Fin 1024)) := by
  have hy : ∀ j : Fin 128, VecWindow.window y ![0, 128 * k.val] S1024x128.size (inb_y k) (ix2 r j) = y (ix2 r (⟨128 * k.val + j.val, by omega⟩ : Fin 1024)) :=
    fun j => congrArg y (funext fun a => Fin.ext (by
      match a with
      | 0 => show 0 + 1 * r.val = r.val; omega
      | 1 => show 128 * k.val + 1 * j.val = 128 * k.val + j.val; omega))
  have hg : ∀ z : Fin 1, VecWindow.window g ![0, 128 * k.val] S1x128.size (inb_g k) (ix2 z q) = g (ix2 0 (⟨128 * k.val + q.val, by omega⟩ : Fin 1024)) :=
    fun z => congrArg g (funext fun a => Fin.ext (by
      match a with
      | 0 => show 0 + 1 * z.val = 0; omega
      | 1 => show 128 * k.val + 1 * q.val = 128 * k.val + q.val; omega))
  unfold headOf head
  pointwise
  exact congrArg₂ (· * ·) (congrArg₂ (· * ·) (hy q) (congrArg Ideal.rsqrt (congrArg (· + _) (congrArg (Ideal.div · _)
    (Finset.sum_congr rfl fun j _ => congrArg₂ (· * ·) (hy j) (hy j)))))) (hg 0)

variable (m : (ℓ : Loc nD τ sig) → Buf (Elt Ideal) ℓ)

/-- The weights as the region finds them are the argument transposed. -/
theorem weights (c : Dev nD) (a : Fin 12304) (k : Fin 4096) :
    (V m c main_v9 : FVec Ideal S12304x4096 .f32) (ix2 a k) = m ((c : Thread nD τ).loc main_arg1) (ix2 k a) := by
  entry_read
  pointwise

theorem weights_tile (c : Dev nD) (j : ℕ) (hj : j < 4) (y : Fin 1024) (k : Fin 4096) (b : ℕ) (hb : b = j * 1024 + y.val)
    (h0 : (start j + y.val) % 12304 < 12304) (h1 : k.val % 4096 < 4096) :
    (V m c main_v9 : FVec Ideal S12304x4096 .f32) (ix2 ⟨(start j + y.val) % 12304, h0⟩ ⟨k.val % 4096, h1⟩)
      = m ((c : Thread nD τ).loc main_arg1) (ix2 k (⟨b % 12304, Nat.mod_lt _ (by decide)⟩ : Fin 12304)) := by
  have hs : start j = 1024 * j := by unfold start; omega
  rw [weights, show (⟨(start j + y.val) % 12304, h0⟩ : Fin 12304) = ⟨b % 12304, Nat.mod_lt _ (by decide)⟩ from
      Fin.ext (by show (start j + y.val) % 12304 = b % 12304; omega),
    show (⟨k.val % 4096, h1⟩ : Fin 4096) = k from Fin.ext (Nat.mod_eq_of_lt k.isLt)]

/-- The activations' block. -/
theorem rows (c : Dev nD) (t : Fin cfg0.N) (ht : 4 ≤ t.val) (y : Fin 1024) (k : Fin 4096) (a : Fin 8192)
    (ha : a.val = (t.val - 4) % 8 * 1024 + y.val) :
    (iblk m c 0 t : FVec Ideal S1024x4096 .bf16) (ix2 y k) = m ((c : Thread nD τ).loc main_arg0) (ix2 a k) := by
  have e := ((idx t).2 ht).1
  blk_ext [iblk, V, e, ha]

/-- The gains' row as the region finds it. -/
theorem gains (c : Dev nD) (z : Fin 1) (b : Fin 4096) :
    (V m c main_v10 : FVec Ideal S1x4096 .f32) (ix2 z b)
      = gain (m ((c : Thread nD τ).loc main_arg2)) (m ((c : Thread nD τ).loc main_arg3)) b.val := by
  unfold gain
  entry_read
  pointwise
  by_cases hb : b.val < 2048
  · simp only [hb, if_true, dite_true]
  · have e : (b.val - 2048) % 128 = b.val % 128 := by omega
    simp only [hb, if_false, dite_false, e]

/-- The product at a row and a column. -/
theorem prod_apply (c : Dev nD) (t : Fin cfg0.N) (ht : 4 ≤ t.val) (y0 y1 : Fin 1024) (a : Fin 8192) (b : ℕ)
    (ha : a.val = (t.val - 4) % 8 * 1024 + y0.val) (hb : b = (t.val - 4) / 8 * 1024 + y1.val) :
    k0_pay3 (tile m c ((t.val - 4) / 8)) (iblk m c 0 t) (ix2 y0 y1)
      = prod (m ((c : Thread nD τ).loc main_arg0)) (m ((c : Thread nD τ).loc main_arg1)) a b := by
  have hN : t.val < 36 := lt_of_lt_of_eq t.isLt (show cfg0.N = 36 from N_0)
  unfold prod
  pointwise [k0_pay3, tile, T]
  simp only [weights_tile m c _ (show (t.val - 4) / 8 < 4 by omega) y1 _ b hb, rows m c t ht y0 _ a ha]

/-- The gains' block. -/
theorem gains_block (c : Dev nD) (t : Fin cfg0.N) (ht : 4 ≤ t.val) (z : Fin 1) (y : Fin 1024) (b : ℕ)
    (hb : b = (t.val - 4) / 8 * 1024 + y.val) :
    (iblk m c 2 t : FVec Ideal S1x1024 .f32) (ix2 z y)
      = gain (m ((c : Thread nD τ).loc main_arg2)) (m ((c : Thread nD τ).loc main_arg3)) b := by
  have hN : t.val < 36 := lt_of_lt_of_eq t.isLt (show cfg0.N = 36 from N_0)
  have e := ((idx t).2 ht).2.1
  refine Eq.trans ?_ (gains m c z (⟨b, by omega⟩ : Fin 4096))
  blk_ext [iblk, e, hb]

theorem block_apply (c : Dev nD) (t : Fin cfg0.N) (ht : 4 ≤ t.val) (y0 y1 : Fin 1024) (a : Fin 8192) (b : ℕ)
    (ha : a.val = (t.val - 4) % 8 * 1024 + y0.val) (hb : b = (t.val - 4) / 8 * 1024 + y1.val) :
    block m c t (ix2 y0 y1) = entry (m ((c : Thread nD τ).loc main_arg0)) (m ((c : Thread nD τ).loc main_arg1))
      (m ((c : Thread nD τ).loc main_arg2)) (m ((c : Thread nD τ).loc main_arg3)) a b := by
  unfold entry scale block
  refine (headOf_apply _ _ _ _ _).trans ?_
  refine congrArg₂ (· * ·) (congrArg₂ (· * ·) ?_ (congrArg Ideal.rsqrt (congrArg (· + _) (congrArg (Ideal.div · _)
    (Finset.sum_congr rfl fun j _ => congrArg₂ (· * ·) ?_ ?_))))) ?_
  · exact prod_apply m c t ht y0 _ a b ha (by show b = _ + (128 * (y1.val / 128) + y1.val % 128); omega)
  · exact prod_apply m c t ht y0 _ a _ ha (by show _ = _ + (128 * (y1.val / 128) + j.val); omega)
  · exact prod_apply m c t ht y0 _ a _ ha (by show _ = _ + (128 * (y1.val / 128) + j.val); omega)
  · exact gains_block m c t ht _ _ b (by show b = _ + (128 * (y1.val / 128) + y1.val % 128); omega)

/-- The result array after the run. -/
theorem final (c : Dev nD) : (dats m 0 c).arrAt 3 cfg0.N
    = G (m ((c : Thread nD τ).loc main_arg0)) (m ((c : Thread nD τ).loc main_arg1))
          (m ((c : Thread nD τ).loc main_arg2)) (m ((c : Thread nD τ).loc main_arg3)) := by
  refine (dats m 0 c).arrAt_eq_of_covers 3 _ (by decide +kernel) fun t hf y => ?_
  have hN : t.val < 36 := lt_of_lt_of_eq t.isLt (show cfg0.N = 36 from N_0)
  have ht : 4 ≤ t.val := by
    by_contra h
    rw [((idle3 t).1 (by omega)).2] at hf
    exact absurd hf (by decide)
  have e := ((idx t).2 ht).2.2.1
  rw [after3]
  idx_vars y
  rw [show ((View.whole main_v11).slice ((win0 3).rect t)).emb (ix2 y0 y1)
      = ix2 (⟨(t.val - 4) % 8 * 1024 + y0.val, by omega⟩ : Fin 8192) (⟨(t.val - 4) / 8 * 1024 + y1.val, by omega⟩ : Fin 4096) from by
    blk_ext [e]]
  refine Eq.trans ?_ (block_apply m c t ht y0 y1 _ _ rfl rfl)
  blk_simp

/-- The run, its result array at the normed heads. -/
theorem result (ρ : Dev nD → PrngReg) : θ_run defs (onTc (τ := τ) (main (F := Ideal))) ⟨m, fun _ => 0, ρ⟩ (fun r => ∀ c : Dev nD,
      r.2.mem ((c.tc : Thread nD τ).loc main_v11)
        = G (m ((c : Thread nD τ).loc main_arg0)) (m ((c : Thread nD τ).loc main_arg1))
          (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.2.1 c).1 3).trans (final m c), h.1.1 c⟩) (θ_run_and (frame m ρ) (run_quiet m ρ))

end Cert.Kernel7Ideal.Qk

/-! ## The claims -/

namespace Cert.Proof

open Idealize.ShloMosaic Idealize.SL.Sem

theorem qk_defs : Cert.Kernel7.defs (F := Bits) = Cert.Kernel7Ideal.defs (F := Bits) := by
  have h : Cert.Kernel7.defs₀ (F := Bits) = Cert.Kernel7Ideal.defs₀ (F := Bits) := by
    unfold Cert.Kernel7.defs₀ Cert.Kernel7Ideal.defs₀
    refine congrArg Defs.onTc (funext fun l => funext fun a => ?_)
    match l, a with
    | 0, (t, s) => rfl
  unfold Cert.Kernel7.defs Cert.Kernel7Ideal.defs
  rw [h]; rfl

theorem frame_kernel7 : Cert.quiescent_Kernel7 := fun m g _ => by
  rw [qk_defs]
  exact Cert.Kernel7Ideal.Qk.frame (F := Bits) m g

theorem frame_ideal7 : Cert.quiescent_Kernel7Ideal := fun m g _ => Cert.Kernel7Ideal.Qk.frame (F := Ideal) m g

theorem frame_reference7 : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

theorem algebraic7 : Cert.algebraic_Kernel7Ideal_Reference7Ideal := by
  intro m g m' g' _ hagree
  refine ⟨_, Cert.Kernel7Ideal.Qk.result m g, ?_⟩
  refine (θ_run Cert.Reference7Ideal.defs _ _).mono (fun r h c => ⟨(h c).1.trans ?_, (h c).2⟩) (Cert.Reference7Ideal.Value.run (F := Ideal) m' g')
  rw [(hagree c).1, (hagree c).2.1, (hagree c).2.2.1, (hagree c).2.2.2]
  refine funext fun y => ?_
  idx_vars y
  show _ = Cert.Kernel7Ideal.Qk.entry _ _ _ _ y0 y1.val
  unfold Cert.Kernel7Ideal.Qk.entry Cert.Kernel7Ideal.Qk.scale Cert.Kernel7Ideal.Qk.gain Cert.Kernel7Ideal.Qk.prod
  pointwise
  have hy := y1.isLt
  by_cases hb : y1.val < 2048
  · have e : y1.val / 128 * 128 + y1.val % 128 = y1.val % 12304 := by omega
    have es : ∀ x : Fin 128, y1.val / 128 * 128 + x.val = (128 * (y1.val / 128) + x.val) % 12304 := by
      intro x
      have hx := x.isLt
      omega
    simp only [hb, if_true, dite_true, e, es, mul_assoc]
  · have e : 2048 + ((y1.val - 2048) / 128 * 128 + y1.val % 128) = y1.val % 12304 := by omega
    have es : ∀ x : Fin 128, 2048 + ((y1.val - 2048) / 128 * 128 + x.val)
        = (128 * (y1.val / 128) + x.val) % 12304 := by
      intro x
      have hx := x.isLt
      omega
    have em : (y1.val - 2048) % 128 = y1.val % 128 := by omega
    simp only [hb, if_false, dite_false, e, es, em]

end Cert.Proof

end
-- ==== Proof.Attn.Body.lean ====
/- The pieces of one attention point: the scores of a block of keys, and a block taken into the running maxima and sums. -/
module

public import proofs.«01_k».proof.Proof.Gen.Kernel8Ideal.Frame
public import proofs.«01_k».proof.Proof.Gen.Kernel8Ideal.Skeleton
public import Idealize.ShloMosaic.Lib.VecWindow
public import Idealize.ShloMosaic.Lib.PointwiseCore

@[expose] public section

set_option maxRecDepth 16384

noncomputable section

namespace Cert.Kernel8Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel8Ideal Cert.Kernel8Ideal.Gen

variable {F : FTy → Type} [FloatOps F] [Named F]

local notation "𝕄" => MT nD τ sig Unit (Elt F) ℕ (UR sig nD τ) ℕ

/-! ## The values -/

/-- The 512 rows from row `n` on. -/
def rowsAt (K : Vec F S8192x128 .bf16) (n : ℕ) : Vec F S512x128 .bf16 := fun x => K (ix2 ⟨(n + (x 0).val) % 8192, Nat.mod_lt _ (by decide)⟩ (x 1))

/-- The 512 columns from column `n` on. -/
def colsAt (v : Vec F S144x8192 .bf16) (n : ℕ) : Vec F S144x512 .bf16 := fun x => v (ix2 (x 0) ⟨(n + (x 1).val) % 8192, Nat.mod_lt _ (by decide)⟩)

/-- The second half of the queries. -/
def lowerRows (q : Vec F S1024x256 .bf16) : Vec F S512x256 .bf16 := fun x => q (ix2 ⟨(512 + (x 0).val) % 1024, Nat.mod_lt _ (by decide)⟩ (x 1))

/-- Column `p` of quarter `q`. -/
def qcol (q : Fin 4) (p : Fin 256) : Fin 1024 := ⟨256 * q.val + p.val, by omega⟩

def qS (s : Vec F S512x1024 .f32) (q : Fin 4) : Vec F S512x256 .f32 := fun x => s (ix2 (x 0) (qcol q (x 1)))
def qM (s : Vec F S1x1024 .f32) (q : Fin 4) : Vec F S1x256 .f32 := fun x => s (ix2 (x 0) (qcol q (x 1)))
def qA (s : Vec F S144x1024 .f32) (q : Fin 4) : Vec F S144x256 .f32 := fun x => s (ix2 (x 0) (qcol q (x 1)))

def setM (s : Vec F S1x1024 .f32) (q : Fin 4) (v : Vec F S1x256 .f32) : Vec F S1x1024 .f32 := fun x =>
  if (x 1).val / 256 = q.val then v (ix2 (x 0) ⟨(x 1).val % 256, Nat.mod_lt _ (by decide)⟩) else s x
def setA (s : Vec F S144x1024 .f32) (q : Fin 4) (v : Vec F S144x256 .f32) : Vec F S144x1024 .f32 := fun x =>
  if (x 1).val / 256 = q.val then v (ix2 (x 0) ⟨(x 1).val % 256, Nat.mod_lt _ (by decide)⟩) else s x
/-- The second half of the columns replaced. -/
def setHalf (s : Vec F S512x1024 .f32) (v : Vec F S512x512 .f32) : Vec F S512x1024 .f32 := fun x =>
  if 512 ≤ (x 1).val then v (ix2 (x 0) ⟨(x 1).val % 512, Nat.mod_lt _ (by decide)⟩) else s x

/-- The maxima and the sums. -/
structure Run (F : FTy → Type) where
  m : Vec F S1x1024 .f32
  ac : Vec F S144x1024 .f32

/-- One quarter of the queries meets a block of keys. -/
def chunk (g : Vec F S512x256 .f32 → Vec F S512x256 .f32) (vb : Vec F S144x512 .bf16) (s : Vec F S512x1024 .f32) (q : Fin 4) (y : Run F) : Run F :=
  ⟨setM y.m q (k0_pay19 (g (qS s q)) (qM y.m q)), setA y.ac q (k0_pay18 (g (qS s q)) (qM y.m q) vb (qA y.ac q))⟩

/-- All four quarters meet a block of keys. -/
def consume (vb : Vec F S144x512 .bf16) (s : Vec F S512x1024 .f32) (y : Run F) : Run F :=
  chunk id vb s 3 (chunk id vb s 2 (chunk id vb s 1 (chunk id vb s 0 y)))

theorem window_unit {s : Shape} {e : EltTy} (x : s.Idx → Elt F e) (off size : Fin s.rank → ℕ) (inb : ∀ a, off a + size a ≤ s.size a)
    (y : (Rect.unit off size inb).shape.Idx) (z : s.Idx) (h : ∀ a, (z a).val = off a + (y a).val) : VecWindow.window x off size inb y = x z := by
  refine congrArg x (funext fun a => Fin.ext ?_)
  rw [h a]
  show off a + 1 * (y a).val = _
  rw [one_mul]

theorem rowsAt_window (K : Vec F S8192x128 .bf16) (n : ℕ) (hn : n + 512 ≤ 8192) (inb : ∀ a, ![n, 0] a + S512x128.size a ≤ S8192x128.size a) :
    VecWindow.window K ![n, 0] S512x128.size inb = rowsAt K n := by
  funext x
  have h0 : (x 0).val < 512 := (x 0).isLt
  refine window_unit K ![n, 0] S512x128.size inb x _ fun a => ?_
  match a with
  | 0 => show (n + (x 0).val) % 8192 = n + (x 0).val; omega
  | 1 => show (x 1).val = 0 + (x 1).val; omega

theorem colsAt_window (v : Vec F S144x8192 .bf16) (n : ℕ) (hn : n + 512 ≤ 8192) (inb : ∀ a, ![0, n] a + S144x512.size a ≤ S144x8192.size a) :
    VecWindow.window v ![0, n] S144x512.size inb = colsAt v n := by
  funext x
  have h0 : (x 1).val < 512 := (x 1).isLt
  refine window_unit v ![0, n] S144x512.size inb x _ fun a => ?_
  match a with
  | 0 => show (x 0).val = 0 + (x 0).val; omega
  | 1 => show (n + (x 1).val) % 8192 = n + (x 1).val; omega

theorem lowerRows_window (q : Vec F S1024x256 .bf16) (inb : ∀ a, ![512, 0] a + S512x256.size a ≤ S1024x256.size a) :
    VecWindow.window q ![512, 0] S512x256.size inb = lowerRows q := by
  funext x
  have h0 : (x 0).val < 512 := (x 0).isLt
  refine window_unit q ![512, 0] S512x256.size inb x _ fun a => ?_
  match a with
  | 0 => show (512 + (x 0).val) % 1024 = 512 + (x 0).val; omega
  | 1 => show (x 1).val = 0 + (x 1).val; omega

theorem qS_window (s : Vec F S512x1024 .f32) (q : Fin 4) (inb : ∀ a, ![0, 256 * q.val] a + S512x256.size a ≤ S512x1024.size a) :
    VecWindow.window s ![0, 256 * q.val] S512x256.size inb = qS s q := by
  funext x
  refine window_unit s _ S512x256.size inb x _ fun a => ?_
  match a with
  | 0 => show (x 0).val = 0 + (x 0).val; omega
  | 1 => rfl

theorem qM_window (s : Vec F S1x1024 .f32) (q : Fin 4) (inb : ∀ a, ![0, 256 * q.val] a + S1x256.size a ≤ S1x1024.size a) :
    VecWindow.window s ![0, 256 * q.val] S1x256.size inb = qM s q := by
  funext x
  refine window_unit s _ S1x256.size inb x _ fun a => ?_
  match a with
  | 0 => show (x 0).val = 0 + (x 0).val; omega
  | 1 => rfl

theorem qA_window (s : Vec F S144x1024 .f32) (q : Fin 4) (inb : ∀ a, ![0, 256 * q.val] a + S144x256.size a ≤ S144x1024.size a) :
    VecWindow.window s ![0, 256 * q.val] S144x256.size inb = qA s q := by
  funext x
  refine window_unit s _ S144x256.size inb x _ fun a => ?_
  match a with
  | 0 => show (x 0).val = 0 + (x 0).val; omega
  | 1 => rfl

theorem setM_put (s : Vec F S1x1024 .f32) (q : Fin 4) (v : Vec F S1x256 .f32) :
    VecWindow.put s ![0, 256 * q.val] S1x256.size v = setM s q v := by
  funext x
  have h0 : (x 0).val < 1 := (x 0).isLt
  unfold VecWindow.put setM
  by_cases hx : (x 1).val / 256 = q.val
  · rw [dif_pos (fun a => by
      match a with
      | 0 => show 0 ≤ (x 0).val ∧ (x 0).val < 0 + 1; omega
      | 1 => show 256 * q.val ≤ (x 1).val ∧ (x 1).val < 256 * q.val + 256; omega), if_pos hx]
    refine congrArg v (funext fun a => Fin.ext ?_)
    match a with
    | 0 => show (x 0).val - 0 = (x 0).val; omega
    | 1 => show (x 1).val - 256 * q.val = (x 1).val % 256; omega
  · rw [dif_neg fun hp => hx (by
      have h1 : 256 * q.val ≤ (x 1).val ∧ (x 1).val < 256 * q.val + 256 := hp 1
      omega), if_neg hx]

theorem setA_put (s : Vec F S144x1024 .f32) (q : Fin 4) (v : Vec F S144x256 .f32) :
    VecWindow.put s ![0, 256 * q.val] S144x256.size v = setA s q v := by
  funext x
  have h0 : (x 0).val < 144 := (x 0).isLt
  unfold VecWindow.put setA
  by_cases hx : (x 1).val / 256 = q.val
  · rw [dif_pos (fun a => by
      match a with
      | 0 => show 0 ≤ (x 0).val ∧ (x 0).val < 0 + 144; omega
      | 1 => show 256 * q.val ≤ (x 1).val ∧ (x 1).val < 256 * q.val + 256; omega), if_pos hx]
    refine congrArg v (funext fun a => Fin.ext ?_)
    match a with
    | 0 => show (x 0).val - 0 = (x 0).val; omega
    | 1 => show (x 1).val - 256 * q.val = (x 1).val % 256; omega
  · rw [dif_neg fun hp => hx (by
      have h1 : 256 * q.val ≤ (x 1).val ∧ (x 1).val < 256 * q.val + 256 := hp 1
      omega), if_neg hx]

theorem setHalf_put (s : Vec F S512x1024 .f32) (v : Vec F S512x512 .f32) :
    VecWindow.put s ![0, 512] S512x512.size v = setHalf s v := by
  funext x
  have h0 : (x 0).val < 512 := (x 0).isLt
  have h1 : (x 1).val < 1024 := (x 1).isLt
  unfold VecWindow.put setHalf
  by_cases hx : 512 ≤ (x 1).val
  · rw [dif_pos (fun a => by
      match a with
      | 0 => show 0 ≤ (x 0).val ∧ (x 0).val < 0 + 512; omega
      | 1 => show 512 ≤ (x 1).val ∧ (x 1).val < 512 + 512; omega), if_pos hx]
    refine congrArg v (funext fun a => Fin.ext ?_)
    match a with
    | 0 => show (x 0).val - 0 = (x 0).val; omega
    | 1 => show (x 1).val - 512 = (x 1).val % 512; omega
  · rw [dif_neg fun hp => hx (by
      have h1 : 512 ≤ (x 1).val ∧ (x 1).val < 512 + 512 := hp 1
      omega), if_neg hx]

/-! ## The pieces as programs -/

/-- The scores of the keys at an offset against every query, stored over the whole of a buffer. -/
def scoresP (k kf : Memref sig .tc .vmem S8192x128 .bf16) (qa : Memref sig .tc .vmem S1024x256 .bf16) (dst : Memref sig .tc .vmem S512x1024 .f32)
    (o : Fin 2 → ℕ) (ho : ∀ a, o a + S512x128.size a ≤ S8192x128.size a) : Prog (TpuEff nD τ sig (Elt F) Λ₀ .tc) PUnit := do
  let a : Vec F S512x128 .bf16 ← Prog.lift (.load k (Rect.unit (s := S8192x128) o S512x128.size ho).toLoadRect (View.loadsAt_vmem h_S512x128))
  let b : Vec F S512x128 .bf16 ← Prog.lift (.load kf (Rect.unit (s := S8192x128) o S512x128.size ho).toLoadRect (View.loadsAt_vmem h_S512x128))
  let q : Vec F S1024x256 .bf16 ← Prog.lift (.load qa (Rect.unit (s := S1024x256) ![0, 0] S1024x256.size inb_S1024x256_S1024x256_0_0).toLoadRect (View.loadsAt_vmem h_S1024x256))
  let _ : Vec F S512x1024 .f32 ← Prog.lift (.load dst (Rect.unit (s := S512x1024) ![0, 0] S512x1024.size inb_S512x1024_S512x1024_0_0).toLoadRect (View.loadsAt_vmem h_S512x1024))
  Prog.lift (.store dst (Rect.unit (s := S512x1024) ![0, 0] S512x1024.size inb_S512x1024_S512x1024_0_0) (k0_pay11 a b q) Finset.univ (View.stores_vmem_bits_univ h_S512x1024 rfl) (.inl rfl))

/-- The scores of the keys at an offset against the second half of the queries, stored over the second half of a buffer. -/
def scoresHalfP (k kf : Memref sig .tc .vmem S8192x128 .bf16) (qa : Memref sig .tc .vmem S1024x256 .bf16) (dst : Memref sig .tc .vmem S512x1024 .f32)
    (o : Fin 2 → ℕ) (ho : ∀ a, o a + S512x128.size a ≤ S8192x128.size a) : Prog (TpuEff nD τ sig (Elt F) Λ₀ .tc) PUnit := do
  let a : Vec F S512x128 .bf16 ← Prog.lift (.load k (Rect.unit (s := S8192x128) o S512x128.size ho).toLoadRect (View.loadsAt_vmem h_S512x128))
  let b : Vec F S512x128 .bf16 ← Prog.lift (.load kf (Rect.unit (s := S8192x128) o S512x128.size ho).toLoadRect (View.loadsAt_vmem h_S512x128))
  let q : Vec F S512x256 .bf16 ← Prog.lift (.load qa (Rect.unit (s := S1024x256) ![512, 0] S512x256.size inb_S1024x256_S512x256_512_0).toLoadRect (View.loadsAt_vmem h_S512x256))
  let _ : Vec F S512x512 .f32 ← Prog.lift (.load dst (Rect.unit (s := S512x1024) ![0, 512] S512x512.size inb_S512x1024_S512x512_0_512).toLoadRect (View.loadsAt_vmem h_S512x512))
  Prog.lift (.store dst (Rect.unit (s := S512x1024) ![0, 512] S512x512.size inb_S512x1024_S512x512_0_512) (k0_pay181 a b q) Finset.univ (View.stores_vmem_bits_univ h_S512x512 rfl) (.inl rfl))

/-- A block of scores for 256 queries taken into their maxima and sums; `g` is what is done to the scores first. -/
def chunkP (va : Memref sig .tc .vmem S144x8192 .bf16) (src : Memref sig .tc .vmem S512x1024 .f32) (mm : Memref sig .tc .vmem S1x1024 .f32)
    (ac : Memref sig .tc .vmem S144x1024 .f32) (g : Vec F S512x256 .f32 → Vec F S512x256 .f32)
    (so : Fin 2 → ℕ) (hs : ∀ a, so a + S512x256.size a ≤ S512x1024.size a) (vo : Fin 2 → ℕ) (hv : ∀ a, vo a + S144x512.size a ≤ S144x8192.size a)
    (qo : Fin 2 → ℕ) (hm : ∀ a, qo a + S1x256.size a ≤ S1x1024.size a) (ha : ∀ a, qo a + S144x256.size a ≤ S144x1024.size a) :
    Prog (TpuEff nD τ sig (Elt F) Λ₀ .tc) PUnit := do
  let s : Vec F S512x256 .f32 ← Prog.lift (.load src (Rect.unit (s := S512x1024) so S512x256.size hs).toLoadRect (View.loadsAt_vmem h_S512x256))
  let m : Vec F S1x256 .f32 ← Prog.lift (.load mm (Rect.unit (s := S1x1024) qo S1x256.size hm).toLoadRect (View.loadsAt_vmem h_S1x256))
  let v : Vec F S144x512 .bf16 ← Prog.lift (.load va (Rect.unit (s := S144x8192) vo S144x512.size hv).toLoadRect (View.loadsAt_vmem h_S144x512))
  let a : Vec F S144x256 .f32 ← Prog.lift (.load ac (Rect.unit (s := S144x1024) qo S144x256.size ha).toLoadRect (View.loadsAt_vmem h_S144x256))
  let _ : Vec F S144x256 .f32 ← Prog.lift (.load ac (Rect.unit (s := S144x1024) qo S144x256.size ha).toLoadRect (View.loadsAt_vmem h_S144x256))
  Prog.lift (.store ac (Rect.unit (s := S144x1024) qo S144x256.size ha) (k0_pay18 (g s) m v a) Finset.univ (View.stores_vmem_bits_univ h_S144x256 rfl) (.inl rfl))
  let _ : Vec F S1x256 .f32 ← Prog.lift (.load mm (Rect.unit (s := S1x1024) qo S1x256.size hm).toLoadRect (View.loadsAt_vmem h_S1x256))
  Prog.lift (.store mm (Rect.unit (s := S1x1024) qo S1x256.size hm) (k0_pay19 (g s) m) Finset.univ (View.stores_vmem_bits_univ h_S1x256 rfl) (.inl rfl))

variable (i : grid0.Coords)
    (arg2 : Memref sig .tc .vmem S1024x128 .bf16) (harg2 : arg2.IsWhole) (arg3 : Memref sig .tc .vmem S8192x128 .bf16) (harg3 : arg3.IsWhole)
    (arg4 : Memref sig .tc .vmem S128x8192 .bf16) (harg4 : arg4.IsWhole) (arg5 : Memref sig .tc .vmem S1x1x8192 .f32) (harg5 : arg5.IsWhole)
    (arg6 : Memref sig .tc .vmem S1024x128 .bf16) (harg6 : arg6.IsWhole) (arg7 : Memref sig .tc .vmem S1024x128 .bf16) (harg7 : arg7.IsWhole)
    (arg8 : Memref sig .tc .vmem S8192x128 .bf16) (harg8 : arg8.IsWhole) (arg9 : Memref sig .tc .vmem S8192x128 .bf16) (harg9 : arg9.IsWhole)
    (arg10 : Memref sig .tc .vmem S144x8192 .bf16) (harg10 : arg10.IsWhole) (arg11 : Memref sig .tc .vmem S1024x256 .bf16) (harg11 : arg11.IsWhole)
    (arg12 : Memref sig .tc .vmem S512x1024 .f32) (harg12 : arg12.IsWhole) (arg13 : Memref sig .tc .vmem S512x1024 .f32) (harg13 : arg13.IsWhole)
    (arg14 : Memref sig .tc .vmem S1x1024 .f32) (harg14 : arg14.IsWhole) (arg15 : Memref sig .tc .vmem S144x1024 .f32) (harg15 : arg15.IsWhole)

/-- A whole block taken in: the four quarters of the queries. -/
def consumeP (va : Memref sig .tc .vmem S144x8192 .bf16) (src : Memref sig .tc .vmem S512x1024 .f32) (mm : Memref sig .tc .vmem S1x1024 .f32)
    (ac : Memref sig .tc .vmem S144x1024 .f32) (vo : Fin 2 → ℕ) (hv : ∀ a, vo a + S144x512.size a ≤ S144x8192.size a) :
    Prog (TpuEff nD τ sig (Elt F) Λ₀ .tc) PUnit := do
  chunkP va src mm ac id (k0_off5 i) (k0_off5_inb i) vo hv ![0, 0] inb_S1x1024_S1x256_0_0 inb_S144x1024_S144x256_0_0
  chunkP va src mm ac id (k0_off7 i) (k0_off7_inb i) vo hv ![0, 256] inb_S1x1024_S1x256_0_256 inb_S144x1024_S144x256_0_256
  chunkP va src mm ac id (k0_off8 i) (k0_off8_inb i) vo hv ![0, 512] inb_S1x1024_S1x256_0_512 inb_S144x1024_S144x256_0_512
  chunkP va src mm ac id (k0_off9 i) (k0_off9_inb i) vo hv ![0, 768] inb_S1x1024_S1x256_0_768 inb_S144x1024_S144x256_0_768

/-- One trip of the main loop. -/
def quadP (t : Fin (k0_t2_loop i).trips) : Prog (TpuEff nD τ sig (Elt F) Λ₀ .tc) PUnit := do
  scoresP arg3 arg9 arg11 arg13 (k0_off4 i t 1#32) (k0_off4_inb i t 0)
  consumeP i arg10 arg12 arg14 arg15 (k0_off6 i t) (k0_off6_inb i t)
  scoresP arg3 arg9 arg11 arg12 (k0_off4 i t 2#32) (k0_off4_inb i t 1)
  consumeP i arg10 arg13 arg14 arg15 (k0_off10 i t) (k0_off10_inb i t)
  scoresP arg3 arg9 arg11 arg13 (k0_off11 i t 1#32) (k0_off11_inb i t 0)
  consumeP i arg10 arg12 arg14 arg15 (k0_off12 i t) (k0_off12_inb i t)
  scoresP arg3 arg9 arg11 arg12 (k0_off11 i t 2#32) (k0_off11_inb i t 1)
  consumeP i arg10 arg13 arg14 arg15 (k0_off13 i t) (k0_off13_inb i t)

theorem t2_body_eq (arg1 : BitVec 32) (v29 : FVec F S512x1024 .f32) (t : Fin (k0_t2_loop i).trips) (u : Unit) :
    k0_t2_body i arg2 harg2 arg3 harg3 arg4 harg4 arg5 harg5 arg6 harg6 arg7 harg7 arg8 harg8 arg9 harg9 arg10 harg10 arg11 harg11 arg12 harg12 arg13 harg13 arg14 harg14 arg15 harg15 arg1 v29 t u
      = quadP i arg3 arg9 arg10 arg11 arg12 arg13 arg14 arg15 t := rfl

/-! ## What the pieces do -/

variable (c : Dev nD)

/-- What a load of a window reads of a whole buffer holding `x`. -/
theorem readAt_window {s : Shape} {e : EltTy} {a : Memref sig .tc .vmem s e} (h : a.IsWhole) (x : s.Idx → Elt F e) {off size : Fin s.rank → ℕ}
    (inb : ∀ a, off a + size a ≤ s.size a) :
    a.view.readAt (Elt F) (Rect.unit off size inb).toLoadRect (h.unread x) = VecWindow.window x off size inb :=
  (View.readAt_unit _ _ inb rfl inb).trans (by rw [h.read_unread])

/-- A store over the whole buffer leaves what is stored. -/
theorem put_whole {s : Shape} {α : Type} (x : s.Idx → α) (off : Fin s.rank → ℕ) (h : ∀ a, off a = 0) (w : s.Idx → α) :
    VecWindow.put x off s.size w = w := by
  funext y
  unfold VecWindow.put
  rw [dif_pos fun a => ⟨by rw [h a]; exact Nat.zero_le _, by rw [h a, Nat.zero_add]; exact (y a).isLt⟩]
  refine congrArg w (funext fun a => Fin.ext ?_)
  show (y a).val - off a = (y a).val
  rw [h a, Nat.sub_zero]

theorem zero2 : ∀ a : Fin 2, ![0, 0] a = 0
  | 0 => rfl
  | 1 => rfl

set_option maxHeartbeats 1000000 in
theorem wp_scores (hk : arg3.IsWhole) (hf : arg9.IsWhole) (hq : arg11.IsWhole) (hd : arg12.IsWhole) {o : Fin 2 → ℕ}
    (ho : ∀ a, o a + S512x128.size a ≤ S8192x128.size a) {n : ℕ} (e : o = ![n, 0]) (hn : n + 512 ≤ 8192)
    (k kf : Vec F S8192x128 .bf16) (q : Vec F S1024x256 .bf16) (E : Set ℕ) (K : PUnit → sProp 𝕄) :
    iprop(owns (c : Thread nD τ) arg3 fullShare k ∗ owns (c : Thread nD τ) arg9 fullShare kf ∗ owns (c : Thread nD τ) arg11 fullShare q
        ∗ (∃ d, owns (c : Thread nD τ) arg12 fullShare d)
        ∗ (iprop(owns (c : Thread nD τ) arg3 fullShare k ∗ owns (c : Thread nD τ) arg9 fullShare kf ∗ owns (c : Thread nD τ) arg11 fullShare q
            ∗ owns (c : Thread nD τ) arg12 fullShare (k0_pay11 (rowsAt k n) (rowsAt kf n) q)) -∗ K ⟨⟩))
      ⊢ wp frame (wpE (defs₀ (F := F)) Variants.none c none) E (scoresP arg3 arg9 arg11 arg12 o ho) K := by
  subst e
  unfold scoresP owns
  iintro ⟨⟨%f0, %hf0, H0⟩, ⟨%f1, %hf1, H1⟩, ⟨%f2, %hf2, H2⟩, ⟨%d3, %f3, -, H3⟩, Hk⟩
  obtain rfl := hk.eq_unread hf0; obtain rfl := hf.eq_unread hf1; obtain rfl := hq.eq_unread hf2
  sl_exec
  sl_step
  iapply Hk
  isplitl [H0]
  · iexists _; isplitr; · ipureintro; exact hk.read_unread _
    iexact H0
  isplitl [H1]
  · iexists _; isplitr; · ipureintro; exact hf.read_unread _
    iexact H1
  isplitl [H2]
  · iexists _; isplitr; · ipureintro; exact hq.read_unread _
    iexact H2
  iexists _; isplitr; swap; · iexact H3
  ipureintro
  rw [View.read_writes_cons_put _ _ _ _ _ rfl, readAt_window hk, readAt_window hf, rowsAt_window _ _ hn, rowsAt_window _ _ hn,
    (View.readAt_full _ _ _).trans (hq.read_unread _)]
  exact put_whole _ _ zero2 _

set_option maxHeartbeats 1000000 in
theorem wp_scoresHalf (hk : arg3.IsWhole) (hf : arg9.IsWhole) (hq : arg11.IsWhole) (hd : arg12.IsWhole) {o : Fin 2 → ℕ}
    (ho : ∀ a, o a + S512x128.size a ≤ S8192x128.size a) {n : ℕ} (e : o = ![n, 0]) (hn : n + 512 ≤ 8192)
    (k kf : Vec F S8192x128 .bf16) (q : Vec F S1024x256 .bf16) (d : Vec F S512x1024 .f32) (E : Set ℕ) (K : PUnit → sProp 𝕄) :
    iprop(owns (c : Thread nD τ) arg3 fullShare k ∗ owns (c : Thread nD τ) arg9 fullShare kf ∗ owns (c : Thread nD τ) arg11 fullShare q
        ∗ owns (c : Thread nD τ) arg12 fullShare d
        ∗ (iprop(owns (c : Thread nD τ) arg3 fullShare k ∗ owns (c : Thread nD τ) arg9 fullShare kf ∗ owns (c : Thread nD τ) arg11 fullShare q
            ∗ owns (c : Thread nD τ) arg12 fullShare (setHalf d (k0_pay181 (rowsAt k n) (rowsAt kf n) (lowerRows q)))) -∗ K ⟨⟩))
      ⊢ wp frame (wpE (defs₀ (F := F)) Variants.none c none) E (scoresHalfP arg3 arg9 arg11 arg12 o ho) K := by
  subst e
  unfold scoresHalfP owns
  iintro ⟨⟨%f0, %hf0, H0⟩, ⟨%f1, %hf1, H1⟩, ⟨%f2, %hf2, H2⟩, ⟨%f3, %hf3, H3⟩, Hk⟩
  obtain rfl := hk.eq_unread hf0; obtain rfl := hf.eq_unread hf1; obtain rfl := hq.eq_unread hf2; obtain rfl := hd.eq_unread hf3
  sl_exec
  sl_step
  iapply Hk
  isplitl [H0]
  · iexists _; isplitr; · ipureintro; exact hk.read_unread _
    iexact H0
  isplitl [H1]
  · iexists _; isplitr; · ipureintro; exact hf.read_unread _
    iexact H1
  isplitl [H2]
  · iexists _; isplitr; · ipureintro; exact hq.read_unread _
    iexact H2
  iexists _; isplitr; swap; · iexact H3
  ipureintro
  rw [View.read_writes_cons_put _ _ _ _ _ rfl, readAt_window hk, readAt_window hf, rowsAt_window _ _ hn, rowsAt_window _ _ hn, readAt_window hq,
    lowerRows_window, View.writes_nil, hd.read_unread, setHalf_put]

set_option maxHeartbeats 1000000 in
theorem wp_chunk (hv : arg10.IsWhole) (hs : arg12.IsWhole) (hm : arg14.IsWhole) (ha : arg15.IsWhole)
    (g : Vec F S512x256 .f32 → Vec F S512x256 .f32) (q : Fin 4) {so vo qo : Fin 2 → ℕ}
    (hso : ∀ a, so a + S512x256.size a ≤ S512x1024.size a) (hvo : ∀ a, vo a + S144x512.size a ≤ S144x8192.size a)
    (hmo : ∀ a, qo a + S1x256.size a ≤ S1x1024.size a) (hao : ∀ a, qo a + S144x256.size a ≤ S144x1024.size a)
    {n : ℕ} (hn : n + 512 ≤ 8192) (es : so = ![0, 256 * q.val]) (ev : vo = ![0, n]) (eq : qo = ![0, 256 * q.val])
    (v : Vec F S144x8192 .bf16) (s : Vec F S512x1024 .f32) (y : Run F) (E : Set ℕ) (K : PUnit → sProp 𝕄) :
    iprop(owns (c : Thread nD τ) arg10 fullShare v ∗ owns (c : Thread nD τ) arg12 fullShare s ∗ owns (c : Thread nD τ) arg14 fullShare y.m
        ∗ owns (c : Thread nD τ) arg15 fullShare y.ac
        ∗ (iprop(owns (c : Thread nD τ) arg10 fullShare v ∗ owns (c : Thread nD τ) arg12 fullShare s
            ∗ owns (c : Thread nD τ) arg14 fullShare (chunk g (colsAt v n) s q y).m
            ∗ owns (c : Thread nD τ) arg15 fullShare (chunk g (colsAt v n) s q y).ac) -∗ K ⟨⟩))
      ⊢ wp frame (wpE (defs₀ (F := F)) Variants.none c none) E (chunkP arg10 arg12 arg14 arg15 g so hso vo hvo qo hmo hao) K := by
  subst es ev eq
  unfold chunkP owns
  iintro ⟨⟨%f0, %hf0, H0⟩, ⟨%f1, %hf1, H1⟩, ⟨%f2, %hf2, H2⟩, ⟨%f3, %hf3, H3⟩, Hk⟩
  obtain rfl := hv.eq_unread hf0; obtain rfl := hs.eq_unread hf1; obtain rfl := hm.eq_unread hf2; obtain rfl := ha.eq_unread hf3
  sl_exec
  sl_step
  iapply Hk
  isplitl [H0]
  · iexists _; isplitr; · ipureintro; exact hv.read_unread _
    iexact H0
  isplitl [H1]
  · iexists _; isplitr; · ipureintro; exact hs.read_unread _
    iexact H1
  isplitl [H2]
  · iexists _; isplitr; swap; · iexact H2
    ipureintro
    rw [View.read_writes_cons_put _ _ _ _ _ rfl, readAt_window hs, readAt_window hm, qS_window, qM_window, View.writes_nil, hm.read_unread, setM_put]
    rfl
  iexists _; isplitr; swap; · iexact H3
  ipureintro
  rw [View.read_writes_cons_put _ _ _ _ _ rfl, readAt_window hs, readAt_window hm, readAt_window ha, readAt_window hv, qS_window, qM_window, qA_window,
    colsAt_window _ _ hn, View.writes_nil, ha.read_unread, setA_put]
  rfl

/-! ## The whole body -/

/-- What the first point of a head does: the decay features and the value rows. -/
def fillP (h : k0_cond1 i = 1#1) : Prog (TpuEff nD τ sig (Elt F) Λ₀ .tc) PUnit := do
  Scf.Loop.for k0_t1_loop (k0_t1_ok i h) ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 h (iota .tc S128x4096 32 [0] iota_S128x4096_d0_w32))
  let v289 : Vec F S128x8192 .bf16 ← Prog.lift (.load arg4 (Rect.unit (s := S128x8192) ![0, 0] S128x8192.size inb_S128x8192_S128x8192_0_0).toLoadRect (View.loadsAt_vmem h_S128x8192))
  let _ : Vec F S128x8192 .bf16 ← Prog.lift (.load arg10 (Rect.unit (s := S144x8192) ![0, 0] S128x8192.size inb_S144x8192_S128x8192_0_0).toLoadRect (View.loadsAt_vmem h_S128x8192))
  Prog.lift (.store arg10 (Rect.unit (s := S144x8192) ![0, 0] S128x8192.size inb_S144x8192_S128x8192_0_0) (k0_pay163 v289) Finset.univ (View.stores_vmem h_S128x8192 (harg10.storeExact_slice rfl _ packedbf16_S144x8192_S128x8192_0_0) (fun _ => rfl)) (.inl rfl))
  let _ : Vec F S16x8192 .bf16 ← Prog.lift (.load arg10 (Rect.unit (s := S144x8192) ![128, 0] S16x8192.size inb_S144x8192_S16x8192_128_0).toLoadRect (View.loadsAt_vmem h_S16x8192))
  Prog.lift (.store arg10 (Rect.unit (s := S144x8192) ![128, 0] S16x8192.size inb_S144x8192_S16x8192_128_0) (k0_pay164 (F := F)) Finset.univ (View.stores_vmem h_S16x8192 (harg10.storeExact_slice rfl _ packedbf16_S144x8192_S16x8192_128_0) (fun _ => rfl)) (.inl rfl))

/-- The queries with their features, the maxima at the mask and the sums at zero. -/
def startP : Prog (TpuEff nD τ sig (Elt F) Λ₀ .tc) PUnit := do
  let v5 : Vec F S1024x128 .bf16 ← Prog.lift (.load arg2 (Rect.unit (s := S1024x128) ![0, 0] S1024x128.size inb_S1024x128_S1024x128_0_0).toLoadRect (View.loadsAt_vmem h_S1024x128))
  let _ : Vec F S1024x128 .bf16 ← Prog.lift (.load arg11 (Rect.unit (s := S1024x256) ![0, 0] S1024x128.size inb_S1024x256_S1024x128_0_0).toLoadRect (View.loadsAt_vmem h_S1024x128))
  Prog.lift (.store arg11 (Rect.unit (s := S1024x256) ![0, 0] S1024x128.size inb_S1024x256_S1024x128_0_0) (k0_pay165 v5) Finset.univ (View.stores_vmem h_S1024x128 (harg11.storeExact_slice rfl _ packedbf16_S1024x256_S1024x128_0_0) (fun _ => rfl)) (.inl rfl))
  let v10 : Vec F S1024x128 .bf16 ← Prog.lift (.load arg8 (Rect.unit (s := S8192x128) (k0_off3 i) S1024x128.size (k0_off3_inb i)).toLoadRect (View.loadsAt_vmem h_S1024x128))
  let _ : Vec F S1024x128 .bf16 ← Prog.lift (.load arg11 (Rect.unit (s := S1024x256) ![0, 128] S1024x128.size inb_S1024x256_S1024x128_0_128).toLoadRect (View.loadsAt_vmem h_S1024x128))
  Prog.lift (.store arg11 (Rect.unit (s := S1024x256) ![0, 128] S1024x128.size inb_S1024x256_S1024x128_0_128) (k0_pay166 v10) Finset.univ (View.stores_vmem h_S1024x128 (harg11.storeExact_slice rfl _ packedbf16_S1024x256_S1024x128_0_128) (fun _ => rfl)) (.inl rfl))
  let _ : Vec F S1x1024 .f32 ← Prog.lift (.load arg14 (Rect.unit (s := S1x1024) ![0, 0] S1x1024.size inb_S1x1024_S1x1024_0_0).toLoadRect (View.loadsAt_vmem h_S1x1024))
  Prog.lift (.store arg14 (Rect.unit (s := S1x1024) ![0, 0] S1x1024.size inb_S1x1024_S1x1024_0_0) (k0_pay167 (F := F)) Finset.univ (View.stores_vmem_bits_univ h_S1x1024 rfl) (.inl rfl))
  let _ : Vec F S144x1024 .f32 ← Prog.lift (.load arg15 (Rect.unit (s := S144x1024) ![0, 0] S144x1024.size inb_S144x1024_S144x1024_0_0).toLoadRect (View.loadsAt_vmem h_S144x1024))
  Prog.lift (.store arg15 (Rect.unit (s := S144x1024) ![0, 0] S144x1024.size inb_S144x1024_S144x1024_0_0) (k0_pay168 (F := F)) Finset.univ (View.stores_vmem_bits_univ h_S144x1024 rfl) (.inl rfl))

/-- The pair of blocks left over when their number is odd. -/
def pairP (h : k0_cond2 i = 1#1) : Prog (TpuEff nD τ sig (Elt F) Λ₀ .tc) PUnit := do
  scoresP arg3 arg9 arg11 arg13 (k0_off24 i 1#32) (k0_off24_inb i h 0)
  consumeP i arg10 arg12 arg14 arg15 (k0_off26 i) (k0_off26_inb i h)
  scoresP arg3 arg9 arg11 arg12 (k0_off24 i 2#32) (k0_off24_inb i h 1)
  consumeP i arg10 arg13 arg14 arg15 (k0_off30 i) (k0_off30_inb i h)

/-- The two blocks on the diagonal. -/
def diagP : Prog (TpuEff nD τ sig (Elt F) Λ₀ .tc) PUnit := do
  scoresHalfP arg3 arg9 arg11 arg13 (k0_off31 i) (k0_off31_inb i)
  chunkP arg10 arg12 arg14 arg15 k0_pay182 (k0_off32 i) (k0_off32_inb i) (k0_off33 i 0#32) (k0_off33_inb i 0) ![0, 0] inb_S1x1024_S1x256_0_0 inb_S144x1024_S144x256_0_0
  chunkP arg10 arg12 arg14 arg15 k0_pay186 (k0_off34 i) (k0_off34_inb i) (k0_off33 i 0#32) (k0_off33_inb i 0) ![0, 256] inb_S1x1024_S1x256_0_256 inb_S144x1024_S144x256_0_256
  chunkP arg10 arg12 arg14 arg15 id (k0_off35 i) (k0_off35_inb i) (k0_off33 i 0#32) (k0_off33_inb i 0) ![0, 512] inb_S1x1024_S1x256_0_512 inb_S144x1024_S144x256_0_512
  chunkP arg10 arg12 arg14 arg15 id (k0_off36 i) (k0_off36_inb i) (k0_off33 i 0#32) (k0_off33_inb i 0) ![0, 768] inb_S1x1024_S1x256_0_768 inb_S144x1024_S144x256_0_768
  chunkP arg10 arg13 arg14 arg15 k0_pay182 (k0_off35 i) (k0_off35_inb i) (k0_off33 i 1#32) (k0_off33_inb i 1) ![0, 512] inb_S1x1024_S1x256_0_512 inb_S144x1024_S144x256_0_512
  chunkP arg10 arg13 arg14 arg15 k0_pay186 (k0_off36 i) (k0_off36_inb i) (k0_off33 i 1#32) (k0_off33_inb i 1) ![0, 768] inb_S1x1024_S1x256_0_768 inb_S144x1024_S144x256_0_768

/-- The sums over the weights' sum, times the gate. -/
def finishP : Prog (TpuEff nD τ sig (Elt F) Λ₀ .tc) PUnit := do
  let v276 : Vec F S144x1024 .f32 ← Prog.lift (.load arg15 (Rect.unit (s := S144x1024) ![0, 0] S144x1024.size inb_S144x1024_S144x1024_0_0).toLoadRect (View.loadsAt_vmem h_S144x1024))
  let v282 : Vec F S1024x128 .bf16 ← Prog.lift (.load arg6 (Rect.unit (s := S1024x128) ![0, 0] S1024x128.size inb_S1024x128_S1024x128_0_0).toLoadRect (View.loadsAt_vmem h_S1024x128))
  let _ : Vec F S1024x128 .bf16 ← Prog.lift (.load arg7 (Rect.unit (s := S1024x128) ![0, 0] S1024x128.size inb_S1024x128_S1024x128_0_0).toLoadRect (View.loadsAt_vmem h_S1024x128))
  Prog.lift (.store arg7 (Rect.unit (s := S1024x128) ![0, 0] S1024x128.size inb_S1024x128_S1024x128_0_0) (k0_pay3 v276 v282) Finset.univ (View.stores_vmem h_S1024x128 (harg7.storeExact_slice rfl _ packedbf16_S1024x128_S1024x128_0_0) (fun _ => rfl)) (.inl rfl))

/-- The body as its pieces. -/
def mainP : Prog (TpuEff nD τ sig (Elt F) Λ₀ .tc) PUnit :=
  (if h : k0_cond1 i = 1#1 then fillP i arg2 harg2 arg3 harg3 arg4 harg4 arg5 harg5 arg6 harg6 arg7 harg7 arg8 harg8 arg9 harg9 arg10 harg10 arg11 harg11 arg12 harg12 arg13 harg13 arg14 harg14 arg15 harg15 h
    else pure ⟨⟩) >>= fun _ =>
  startP i arg2 arg8 arg11 harg11 arg14 arg15 >>= fun _ =>
  scoresP arg3 arg9 arg11 arg12 ![0, 0] inb_S8192x128_S512x128_0_0 >>= fun _ =>
  Scf.Loop.for (k0_t2_loop i) (k0_t2_ok i) ⟨⟩ (fun t _ => quadP i arg3 arg9 arg10 arg11 arg12 arg13 arg14 arg15 t) >>= fun _ =>
  (if h : k0_cond2 i = 1#1 then pairP i arg3 arg9 arg10 arg11 arg12 arg13 arg14 arg15 h else pure ⟨⟩) >>= fun _ =>
  diagP i arg3 arg9 arg10 arg11 arg12 arg13 arg14 arg15 >>= fun _ =>
  finishP arg6 arg7 harg7 arg15

set_option maxHeartbeats 4000000 in
theorem body_eq (h3 : ∀ body : Fin (k0_t3_loop i).trips → Unit → Prog (TpuEff nD τ sig (Elt F) Λ₀ .tc) Unit,
      Scf.Loop.for (k0_t3_loop i) (k0_t3_ok i) ⟨⟩ body = pure ⟨⟩) :
    cc0_attn (F := F) i arg2 harg2 arg3 harg3 arg4 harg4 arg5 harg5 arg6 harg6 arg7 harg7 arg8 harg8 arg9 harg9 arg10 harg10 arg11 harg11 arg12 harg12 arg13 harg13 arg14 harg14 arg15 harg15
      = mainP i arg2 harg2 arg3 harg3 arg4 harg4 arg5 harg5 arg6 harg6 arg7 harg7 arg8 harg8 arg9 harg9 arg10 harg10 arg11 harg11 arg12 harg12 arg13 harg13 arg14 harg14 arg15 harg15 := by
  rw [cc0_attn_eq_skeleton]
  unfold cc0_attn_skel
  rw [k0_part32_eq_skeleton, k0_part33_eq_skeleton, k0_part34_eq_skeleton]
  unfold k0_part32_skel k0_part33_skel k0_part34_skel
  unfold mainP fillP
  by_cases h1 : k0_cond1 i = 1#1 <;> by_cases h2 : k0_cond2 i = 1#1
  · simp only [dif_pos h1, dif_pos h2, h3, Prog.bind_assoc]
    rfl
  · simp only [dif_pos h1, dif_neg h2, h3, Prog.bind_assoc]
    rfl
  · simp only [dif_neg h1, dif_pos h2, h3, Prog.bind_assoc]
    rfl
  · simp only [dif_neg h1, dif_neg h2, h3, Prog.bind_assoc]
    rfl

end Cert.Kernel8Ideal.Attn

end
-- ==== Proof.Attn.Steps.lean ====
/- One attention point from its pieces: the pairs of blocks before the diagonal, the diagonal, and the result. -/
module

public import proofs.«01_k».proof.Proof.Attn.Body
public import Idealize.ShloMosaic.Lib.LoopRemainder

@[expose] public section

set_option maxRecDepth 16384

noncomputable section

namespace Cert.Kernel8Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel8Ideal Cert.Kernel8Ideal.Gen

variable {F : FTy → Type} [FloatOps F] [Named F]

local notation "𝕄" => MT nD τ sig Unit (Elt F) ℕ (UR sig nD τ) ℕ

/-! ## Where each piece works -/

/-- Which query block a point is on. -/
abbrev qb (t : Fin grid0.N) : ℕ := t.val % 8

theorem at_quarters : ∀ t : Fin grid0.N, k0_off5 (grid0.coords t) = ![0, 256 * (0 : Fin 4).val] ∧ k0_off7 (grid0.coords t) = ![0, 256 * (1 : Fin 4).val]
    ∧ k0_off8 (grid0.coords t) = ![0, 256 * (2 : Fin 4).val] ∧ k0_off9 (grid0.coords t) = ![0, 256 * (3 : Fin 4).val] := by decide +kernel

theorem at_diag : ∀ t : Fin grid0.N, k0_off32 (grid0.coords t) = ![0, 256 * (0 : Fin 4).val] ∧ k0_off34 (grid0.coords t) = ![0, 256 * (1 : Fin 4).val]
    ∧ k0_off35 (grid0.coords t) = ![0, 256 * (2 : Fin 4).val] ∧ k0_off36 (grid0.coords t) = ![0, 256 * (3 : Fin 4).val]
    ∧ k0_off31 (grid0.coords t) = ![1024 * qb t + 512, 0] ∧ k0_off33 (grid0.coords t) 0#32 = ![0, 1024 * qb t]
    ∧ k0_off33 (grid0.coords t) 1#32 = ![0, 1024 * qb t + 512] ∧ k0_off3 (grid0.coords t) = ![1024 * qb t, 0] := by decide +kernel

theorem at_cond : ∀ t : Fin grid0.N, (k0_cond1 (grid0.coords t) = 1#1 ↔ qb t = 0) ∧ (k0_cond2 (grid0.coords t) = 1#1 ↔ qb t % 2 = 1)
    ∧ (k0_t2_loop (grid0.coords t)).trips = qb t / 2 ∧ (k0_t3_loop (grid0.coords t)).trips = 0 := by decide +kernel

theorem at_quad1 : ∀ (t : Fin grid0.N) (j : Fin (k0_t2_loop (grid0.coords t)).trips),
    k0_off4 (grid0.coords t) j 1#32 = ![1024 * (2 * j.val) + 512, 0] ∧ k0_off4 (grid0.coords t) j 2#32 = ![1024 * (2 * j.val + 1), 0]
    ∧ k0_off6 (grid0.coords t) j = ![0, 1024 * (2 * j.val)] ∧ k0_off10 (grid0.coords t) j = ![0, 1024 * (2 * j.val) + 512] := by decide +kernel

theorem at_quad2 : ∀ (t : Fin grid0.N) (j : Fin (k0_t2_loop (grid0.coords t)).trips),
    k0_off11 (grid0.coords t) j 1#32 = ![1024 * (2 * j.val + 1) + 512, 0]
    ∧ k0_off11 (grid0.coords t) j 2#32 = ![1024 * (2 * j.val + 1 + 1), 0]
    ∧ k0_off12 (grid0.coords t) j = ![0, 1024 * (2 * j.val + 1)] ∧ k0_off13 (grid0.coords t) j = ![0, 1024 * (2 * j.val + 1) + 512] := by decide +kernel

theorem at_pair : ∀ t : Fin grid0.N, qb t % 2 = 1 → k0_off24 (grid0.coords t) 1#32 = ![1024 * (qb t - 1) + 512, 0]
    ∧ k0_off24 (grid0.coords t) 2#32 = ![1024 * (qb t - 1 + 1), 0]
    ∧ k0_off26 (grid0.coords t) = ![0, 1024 * (qb t - 1)] ∧ k0_off30 (grid0.coords t) = ![0, 1024 * (qb t - 1) + 512] := by decide +kernel

/-! ## The values -/

section Values

variable (k kf : Vec F S8192x128 .bf16) (v : Vec F S144x8192 .bf16) (q : Vec F S1024x256 .bf16)

/-- The scores of the 512 keys from `n` on. -/
def scAt (n : ℕ) : Vec F S512x1024 .f32 := k0_pay11 (rowsAt k n) (rowsAt kf n) q

/-- Two blocks of keys taken in. -/
def pairStep (j : ℕ) (y : Run F) : Run F :=
  consume (colsAt v (1024 * j + 512)) (scAt k kf q (1024 * j + 512)) (consume (colsAt v (1024 * j)) (scAt k kf q (1024 * j)) y)

/-- Nothing taken in yet. -/
def start : Run F := ⟨k0_pay167, k0_pay168⟩

/-- The first `n` pairs of blocks taken in. -/
def pairs : ℕ → Run F
  | 0 => start
  | j + 1 => pairStep k kf v q j (pairs j)

/-- The first block on the diagonal: the first two quarters see a part of it. -/
def diag1 (n : ℕ) (y : Run F) : Run F :=
  chunk id (colsAt v n) (scAt k kf q n) 3 (chunk id (colsAt v n) (scAt k kf q n) 2
    (chunk k0_pay186 (colsAt v n) (scAt k kf q n) 1 (chunk k0_pay182 (colsAt v n) (scAt k kf q n) 0 y)))

/-- The second block on the diagonal: the last two quarters see a part of it; `d` is what stood in the buffer. -/
def diag2 (d : Vec F S512x1024 .f32) (n : ℕ) (y : Run F) : Run F :=
  chunk k0_pay186 (colsAt v n) (setHalf d (k0_pay181 (rowsAt k n) (rowsAt kf n) (lowerRows q))) 3
    (chunk k0_pay182 (colsAt v n) (setHalf d (k0_pay181 (rowsAt k n) (rowsAt kf n) (lowerRows q))) 2 y)

end Values

/-! ## The steps -/

variable (t : Fin grid0.N)
    (arg2 : Memref sig .tc .vmem S1024x128 .bf16) (harg2 : arg2.IsWhole) (arg3 : Memref sig .tc .vmem S8192x128 .bf16) (harg3 : arg3.IsWhole)
    (arg4 : Memref sig .tc .vmem S128x8192 .bf16) (harg4 : arg4.IsWhole) (arg5 : Memref sig .tc .vmem S1x1x8192 .f32) (harg5 : arg5.IsWhole)
    (arg6 : Memref sig .tc .vmem S1024x128 .bf16) (harg6 : arg6.IsWhole) (arg7 : Memref sig .tc .vmem S1024x128 .bf16) (harg7 : arg7.IsWhole)
    (arg8 : Memref sig .tc .vmem S8192x128 .bf16) (harg8 : arg8.IsWhole) (arg9 : Memref sig .tc .vmem S8192x128 .bf16) (harg9 : arg9.IsWhole)
    (arg10 : Memref sig .tc .vmem S144x8192 .bf16) (harg10 : arg10.IsWhole) (arg11 : Memref sig .tc .vmem S1024x256 .bf16) (harg11 : arg11.IsWhole)
    (arg12 : Memref sig .tc .vmem S512x1024 .f32) (harg12 : arg12.IsWhole) (arg13 : Memref sig .tc .vmem S512x1024 .f32) (harg13 : arg13.IsWhole)
    (arg14 : Memref sig .tc .vmem S1x1024 .f32) (harg14 : arg14.IsWhole) (arg15 : Memref sig .tc .vmem S144x1024 .f32) (harg15 : arg15.IsWhole)
    (c : Dev nD) (k kf : Vec F S8192x128 .bf16) (v : Vec F S144x8192 .bf16) (q : Vec F S1024x256 .bf16)

include harg10 harg12 harg14 harg15 in
theorem wp_consume {vo : Fin 2 → ℕ} (hvo : ∀ a, vo a + S144x512.size a ≤ S144x8192.size a) {n : ℕ} (hn : n + 512 ≤ 8192) (ev : vo = ![0, n])
    (s : Vec F S512x1024 .f32) (y : Run F) (E : Set ℕ) (K : PUnit → sProp 𝕄) :
    iprop(owns (c : Thread nD τ) arg10 fullShare v ∗ owns (c : Thread nD τ) arg12 fullShare s ∗ owns (c : Thread nD τ) arg14 fullShare y.m
        ∗ owns (c : Thread nD τ) arg15 fullShare y.ac
        ∗ (iprop(owns (c : Thread nD τ) arg10 fullShare v ∗ owns (c : Thread nD τ) arg12 fullShare s
            ∗ owns (c : Thread nD τ) arg14 fullShare (consume (colsAt v n) s y).m
            ∗ owns (c : Thread nD τ) arg15 fullShare (consume (colsAt v n) s y).ac) -∗ K ⟨⟩))
      ⊢ wp frame (wpE (defs₀ (F := F)) Variants.none c none) E (consumeP (grid0.coords t) arg10 arg12 arg14 arg15 vo hvo) K := by
  obtain ⟨e0, e1, e2, e3⟩ := at_quarters t
  unfold consumeP
  simp only [wp_bind]
  iintro ⟨Hv, Hs, Hm, Ha, Hk⟩
  iapply (wp_chunk arg10 arg12 arg14 arg15 c harg10 harg12 harg14 harg15 id 0 _ _ _ _ hn e0 ev rfl v s y E _)
  isplitl [Hv]; · iexact Hv
  isplitl [Hs]; · iexact Hs
  isplitl [Hm]; · iexact Hm
  isplitl [Ha]; · iexact Ha
  iintro ⟨Hv, Hs, Hm, Ha⟩
  iapply (wp_chunk arg10 arg12 arg14 arg15 c harg10 harg12 harg14 harg15 id 1 _ _ _ _ hn e1 ev rfl v s _ E _)
  isplitl [Hv]; · iexact Hv
  isplitl [Hs]; · iexact Hs
  isplitl [Hm]; · iexact Hm
  isplitl [Ha]; · iexact Ha
  iintro ⟨Hv, Hs, Hm, Ha⟩
  iapply (wp_chunk arg10 arg12 arg14 arg15 c harg10 harg12 harg14 harg15 id 2 _ _ _ _ hn e2 ev rfl v s _ E _)
  isplitl [Hv]; · iexact Hv
  isplitl [Hs]; · iexact Hs
  isplitl [Hm]; · iexact Hm
  isplitl [Ha]; · iexact Ha
  iintro ⟨Hv, Hs, Hm, Ha⟩
  iapply (wp_chunk arg10 arg12 arg14 arg15 c harg10 harg12 harg14 harg15 id 3 _ _ _ _ hn e3 ev rfl v s _ E _)
  isplitl [Hv]; · iexact Hv
  isplitl [Hs]; · iexact Hs
  isplitl [Hm]; · iexact Hm
  isplitl [Ha]; · iexact Ha
  iexact Hk

/-- What the steps work on: the keys, their features, the values and the queries, the scores standing ready, and what has been taken in. -/
def Mem (s : Vec F S512x1024 .f32) (y : Run F) : sProp 𝕄 :=
  iprop(owns (c : Thread nD τ) arg3 fullShare k ∗ owns (c : Thread nD τ) arg9 fullShare kf ∗ owns (c : Thread nD τ) arg10 fullShare v
    ∗ owns (c : Thread nD τ) arg11 fullShare q ∗ owns (c : Thread nD τ) arg12 fullShare s ∗ (∃ d, owns (c : Thread nD τ) arg13 fullShare d)
    ∗ owns (c : Thread nD τ) arg14 fullShare y.m ∗ owns (c : Thread nD τ) arg15 fullShare y.ac)

/-- A pair of blocks: each one's scores are made ready while the one before is taken in. -/
def duoP {o1 o2 v0 v1 : Fin 2 → ℕ} (h1 : ∀ a, o1 a + S512x128.size a ≤ S8192x128.size a) (h2 : ∀ a, o2 a + S512x128.size a ≤ S8192x128.size a)
    (hv0 : ∀ a, v0 a + S144x512.size a ≤ S144x8192.size a) (hv1 : ∀ a, v1 a + S144x512.size a ≤ S144x8192.size a) :
    Prog (TpuEff nD τ sig (Elt F) Λ₀ .tc) PUnit := do
  scoresP arg3 arg9 arg11 arg13 o1 h1
  consumeP (grid0.coords t) arg10 arg12 arg14 arg15 v0 hv0
  scoresP arg3 arg9 arg11 arg12 o2 h2
  consumeP (grid0.coords t) arg10 arg13 arg14 arg15 v1 hv1

include harg3 harg9 harg10 harg11 harg12 harg13 harg14 harg15 in
theorem wp_duo {o1 o2 v0 v1 : Fin 2 → ℕ} (h1 : ∀ a, o1 a + S512x128.size a ≤ S8192x128.size a) (h2 : ∀ a, o2 a + S512x128.size a ≤ S8192x128.size a)
    (hv0 : ∀ a, v0 a + S144x512.size a ≤ S144x8192.size a) (hv1 : ∀ a, v1 a + S144x512.size a ≤ S144x8192.size a)
    (j : ℕ) (hj : j + 1 < 8) (e1 : o1 = ![1024 * j + 512, 0]) (e2 : o2 = ![1024 * (j + 1), 0]) (e3 : v0 = ![0, 1024 * j]) (e4 : v1 = ![0, 1024 * j + 512])
    (y : Run F) (E : Set ℕ) (K : PUnit → sProp 𝕄) :
    iprop(Mem arg3 arg9 arg10 arg11 arg12 arg13 arg14 arg15 c k kf v q (scAt k kf q (1024 * j)) y
        ∗ (Mem arg3 arg9 arg10 arg11 arg12 arg13 arg14 arg15 c k kf v q (scAt k kf q (1024 * (j + 1))) (pairStep k kf v q j y) -∗ K ⟨⟩))
      ⊢ wp frame (wpE (defs₀ (F := F)) Variants.none c none) E (duoP t arg3 arg9 arg10 arg11 arg12 arg13 arg14 arg15 h1 h2 hv0 hv1) K := by
  unfold duoP Mem
  simp only [wp_bind]
  iintro ⟨⟨H3, H9, H10, H11, H12, H13, H14, H15⟩, Hk⟩
  iapply (wp_scores arg3 arg9 arg11 arg13 c harg3 harg9 harg11 harg13 h1 e1 (by omega) k kf q E _)
  isplitl [H3]; · iexact H3
  isplitl [H9]; · iexact H9
  isplitl [H11]; · iexact H11
  isplitl [H13]; · iexact H13
  iintro ⟨H3, H9, H11, H13⟩
  iapply (wp_consume t arg10 harg10 arg12 harg12 arg14 harg14 arg15 harg15 c v hv0 (by omega) e3 _ y E _)
  isplitl [H10]; · iexact H10
  isplitl [H12]; · iexact H12
  isplitl [H14]; · iexact H14
  isplitl [H15]; · iexact H15
  iintro ⟨H10, H12, H14, H15⟩
  iapply (wp_scores arg3 arg9 arg11 arg12 c harg3 harg9 harg11 harg12 h2 e2 (by omega) k kf q E _)
  isplitl [H3]; · iexact H3
  isplitl [H9]; · iexact H9
  isplitl [H11]; · iexact H11
  isplitl [H12]; · iexists _; iexact H12
  iintro ⟨H3, H9, H11, H12⟩
  iapply (wp_consume t arg10 harg10 arg13 harg13 arg14 harg14 arg15 harg15 c v hv1 (by omega) e4 _ _ E _)
  isplitl [H10]; · iexact H10
  isplitl [H13]; · iexact H13
  isplitl [H14]; · iexact H14
  isplitl [H15]; · iexact H15
  iintro ⟨H10, H13, H14, H15⟩
  iapply Hk
  isplitl [H3]; · iexact H3
  isplitl [H9]; · iexact H9
  isplitl [H10]; · iexact H10
  isplitl [H11]; · iexact H11
  isplitl [H12]; · iexact H12
  isplitl [H13]; · iexists _; iexact H13
  isplitl [H14]; · iexact H14
  iexact H15

theorem quad_eq (j : Fin (k0_t2_loop (grid0.coords t)).trips) :
    quadP (F := F) (grid0.coords t) arg3 arg9 arg10 arg11 arg12 arg13 arg14 arg15 j
      = (duoP t arg3 arg9 arg10 arg11 arg12 arg13 arg14 arg15 (k0_off4_inb _ j 0) (k0_off4_inb _ j 1) (k0_off6_inb _ j) (k0_off10_inb _ j)
          >>= fun _ => duoP t arg3 arg9 arg10 arg11 arg12 arg13 arg14 arg15 (k0_off11_inb _ j 0) (k0_off11_inb _ j 1) (k0_off12_inb _ j) (k0_off13_inb _ j)) := by
  unfold quadP duoP
  simp only [Prog.bind_assoc]
  rfl

include harg3 harg9 harg10 harg11 harg12 harg13 harg14 harg15 in
/-- The main loop: the pairs before the diagonal, two at a time. -/
theorem wp_loop (E : Set ℕ) (K : Unit → sProp 𝕄) :
    iprop(Mem arg3 arg9 arg10 arg11 arg12 arg13 arg14 arg15 c k kf v q (scAt k kf q (1024 * 0)) start
        ∗ (∀ u, Mem arg3 arg9 arg10 arg11 arg12 arg13 arg14 arg15 c k kf v q (scAt k kf q (1024 * (2 * (qb t / 2)))) (pairs k kf v q (2 * (qb t / 2))) -∗ K u))
      ⊢ wp frame (wpE (defs₀ (F := F)) Variants.none c none) E (Scf.Loop.for (k0_t2_loop (grid0.coords t)) (k0_t2_ok _) ⟨⟩
          (fun j _ => quadP (grid0.coords t) arg3 arg9 arg10 arg11 arg12 arg13 arg14 arg15 j)) K := by
  have ht := (at_cond t).2.2.1
  have hq : qb t < 8 := Nat.mod_lt _ (by decide)
  refine .trans ?_ (Scf.wp_for frame (wpE (defs₀ (F := F)) Variants.none c none) E _ _ _ (k0_t2_ok _) ⟨⟩
    (fun j _ => quadP (grid0.coords t) arg3 arg9 arg10 arg11 arg12 arg13 arg14 arg15 j)
    (fun n _ => Mem arg3 arg9 arg10 arg11 arg12 arg13 arg14 arg15 c k kf v q (scAt k kf q (1024 * (2 * n))) (pairs k kf v q (2 * n))) (fun j _ => ?_))
  · have ht' : Scf.trips (k0_t2_loop (grid0.coords t)).lb (k0_t2_loop (grid0.coords t)).ub (k0_t2_loop (grid0.coords t)).st = qb t / 2 := ht
    rw [ht']
    exact .rfl
  · have hj : j.val < qb t / 2 := lt_of_lt_of_eq j.isLt ht
    obtain ⟨a1, a2, a3, a4⟩ := at_quad1 t j
    obtain ⟨b1, b2, b3, b4⟩ := at_quad2 t j
    rw [quad_eq, wp_bind]
    refine .trans ?_ (wp_duo t arg3 harg3 arg9 harg9 arg10 harg10 arg11 harg11 arg12 harg12 arg13 harg13 arg14 harg14 arg15 harg15 c k kf v q
      _ _ _ _ (2 * j.val) (by omega) a1 a2 a3 a4 (pairs k kf v q (2 * j.val)) E _)
    iintro H
    isplitl [H]; · iexact H
    iintro H
    iapply (wp_duo t arg3 harg3 arg9 harg9 arg10 harg10 arg11 harg11 arg12 harg12 arg13 harg13 arg14 harg14 arg15 harg15 c k kf v q
      _ _ _ _ (2 * j.val + 1) (by omega) b1 b2 b3 b4 (pairs k kf v q (2 * j.val + 1)) E _)
    isplitl [H]; · iexact H
    iintro H
    iexact H

include harg3 harg9 harg10 harg11 harg12 harg13 harg14 harg15 in
/-- The pair left over, where there is one. -/
theorem wp_pair (E : Set ℕ) (K : PUnit → sProp 𝕄) :
    iprop(Mem arg3 arg9 arg10 arg11 arg12 arg13 arg14 arg15 c k kf v q (scAt k kf q (1024 * (2 * (qb t / 2)))) (pairs k kf v q (2 * (qb t / 2)))
        ∗ (Mem arg3 arg9 arg10 arg11 arg12 arg13 arg14 arg15 c k kf v q (scAt k kf q (1024 * qb t)) (pairs k kf v q (qb t)) -∗ K ⟨⟩))
      ⊢ wp frame (wpE (defs₀ (F := F)) Variants.none c none) E
          (if h : k0_cond2 (grid0.coords t) = 1#1 then pairP (grid0.coords t) arg3 arg9 arg10 arg11 arg12 arg13 arg14 arg15 h else pure ⟨⟩) K := by
  have hq : qb t < 8 := Nat.mod_lt _ (by decide)
  by_cases h : k0_cond2 (grid0.coords t) = 1#1
  · have ho := (at_cond t).2.1.mp h
    obtain ⟨a1, a2, a3, a4⟩ := at_pair t ho
    rw [dif_pos h, show 2 * (qb t / 2) = qb t - 1 by omega]
    refine .trans ?_ (wp_duo t arg3 harg3 arg9 harg9 arg10 harg10 arg11 harg11 arg12 harg12 arg13 harg13 arg14 harg14 arg15 harg15 c k kf v q
      (k0_off24_inb _ h 0) (k0_off24_inb _ h 1) (k0_off26_inb _ h) (k0_off30_inb _ h) (qb t - 1) (by omega) a1 a2 a3 a4 (pairs k kf v q (qb t - 1)) E K)
    rw [show pairStep k kf v q (qb t - 1) (pairs k kf v q (qb t - 1)) = pairs k kf v q (qb t - 1 + 1) from rfl, show qb t - 1 + 1 = qb t by omega]
  · have ho : ¬ qb t % 2 = 1 := fun ho => h ((at_cond t).2.1.mpr ho)
    rw [dif_neg h, show 2 * (qb t / 2) = qb t by omega]
    show _ ⊢ wp frame (wpE (defs₀ (F := F)) Variants.none c none) E (.ret ⟨⟩) K
    rw [wp_ret]
    iintro ⟨H, Hk⟩
    imodintro
    iapply Hk
    iexact H

theorem qS_setHalf (d d' : Vec F S512x1024 .f32) (w : Vec F S512x512 .f32) (p : Fin 4) (hp : 2 ≤ p.val) : qS (setHalf d w) p = qS (setHalf d' w) p := by
  funext x
  have h : 512 ≤ (qcol p (x 1)).val := by show 512 ≤ 256 * p.val + (x 1).val; omega
  show (if 512 ≤ (qcol p (x 1)).val then _ else _) = (if 512 ≤ (qcol p (x 1)).val then _ else _)
  rw [if_pos h, if_pos h]

/-- The second diagonal block does not see what stood in the buffer. -/
theorem diag2_any (d d' : Vec F S512x1024 .f32) (n : ℕ) (y : Run F) : diag2 k kf v q d n y = diag2 k kf v q d' n y := by
  unfold diag2 chunk
  rw [qS_setHalf d d' _ 2 (by decide), qS_setHalf d d' _ 3 (by decide)]

/-- Everything taken in at query block `j`. -/
def total (j : ℕ) : Run F :=
  diag2 k kf v q (scAt k kf q 0) (1024 * j + 512) (diag1 k kf v q (1024 * j) (pairs k kf v q j))

set_option maxHeartbeats 1000000 in
include harg3 harg9 harg10 harg11 harg12 harg13 harg14 harg15 in
/-- The two blocks on the diagonal. -/
theorem wp_diag (E : Set ℕ) (K : PUnit → sProp 𝕄) :
    iprop(Mem arg3 arg9 arg10 arg11 arg12 arg13 arg14 arg15 c k kf v q (scAt k kf q (1024 * qb t)) (pairs k kf v q (qb t))
        ∗ (iprop(∃ s, Mem arg3 arg9 arg10 arg11 arg12 arg13 arg14 arg15 c k kf v q s (total k kf v q (qb t))) -∗ K ⟨⟩))
      ⊢ wp frame (wpE (defs₀ (F := F)) Variants.none c none) E (diagP (grid0.coords t) arg3 arg9 arg10 arg11 arg12 arg13 arg14 arg15) K := by
  have hq : qb t < 8 := Nat.mod_lt _ (by decide)
  obtain ⟨e0, e1, e2, e3, ek, ev0, ev1, -⟩ := at_diag t
  unfold diagP Mem
  simp only [wp_bind]
  iintro ⟨⟨H3, H9, H10, H11, H12, ⟨%d, H13⟩, H14, H15⟩, Hk⟩
  iapply (wp_scoresHalf arg3 arg9 arg11 arg13 c harg3 harg9 harg11 harg13 _ ek (by omega) k kf q d E _)
  isplitl [H3]; · iexact H3
  isplitl [H9]; · iexact H9
  isplitl [H11]; · iexact H11
  isplitl [H13]; · iexact H13
  iintro ⟨H3, H9, H11, H13⟩
  iapply (wp_chunk arg10 arg12 arg14 arg15 c harg10 harg12 harg14 harg15 k0_pay182 0 _ _ _ _ (n := 1024 * qb t) (by omega) e0 ev0 rfl v _ (pairs k kf v q (qb t)) E _)
  isplitl [H10]; · iexact H10
  isplitl [H12]; · iexact H12
  isplitl [H14]; · iexact H14
  isplitl [H15]; · iexact H15
  iintro ⟨H10, H12, H14, H15⟩
  iapply (wp_chunk arg10 arg12 arg14 arg15 c harg10 harg12 harg14 harg15 k0_pay186 1 _ _ _ _ (n := 1024 * qb t) (by omega) e1 ev0 rfl v _ _ E _)
  isplitl [H10]; · iexact H10
  isplitl [H12]; · iexact H12
  isplitl [H14]; · iexact H14
  isplitl [H15]; · iexact H15
  iintro ⟨H10, H12, H14, H15⟩
  iapply (wp_chunk arg10 arg12 arg14 arg15 c harg10 harg12 harg14 harg15 id 2 _ _ _ _ (n := 1024 * qb t) (by omega) e2 ev0 rfl v _ _ E _)
  isplitl [H10]; · iexact H10
  isplitl [H12]; · iexact H12
  isplitl [H14]; · iexact H14
  isplitl [H15]; · iexact H15
  iintro ⟨H10, H12, H14, H15⟩
  iapply (wp_chunk arg10 arg12 arg14 arg15 c harg10 harg12 harg14 harg15 id 3 _ _ _ _ (n := 1024 * qb t) (by omega) e3 ev0 rfl v _ _ E _)
  isplitl [H10]; · iexact H10
  isplitl [H12]; · iexact H12
  isplitl [H14]; · iexact H14
  isplitl [H15]; · iexact H15
  iintro ⟨H10, H12, H14, H15⟩
  iapply (wp_chunk arg10 arg13 arg14 arg15 c harg10 harg13 harg14 harg15 k0_pay182 2 _ _ _ _ (n := 1024 * qb t + 512) (by omega) e2 ev1 rfl v _ _ E _)
  isplitl [H10]; · iexact H10
  isplitl [H13]; · iexact H13
  isplitl [H14]; · iexact H14
  isplitl [H15]; · iexact H15
  iintro ⟨H10, H13, H14, H15⟩
  iapply (wp_chunk arg10 arg13 arg14 arg15 c harg10 harg13 harg14 harg15 k0_pay186 3 _ _ _ _ (n := 1024 * qb t + 512) (by omega) e3 ev1 rfl v _ _ E _)
  isplitl [H10]; · iexact H10
  isplitl [H13]; · iexact H13
  isplitl [H14]; · iexact H14
  isplitl [H15]; · iexact H15
  iintro ⟨H10, H13, H14, H15⟩
  unfold total
  rw [diag2_any k kf v q (scAt k kf q 0) d]
  iapply Hk
  iexists _
  isplitl [H3]; · iexact H3
  isplitl [H9]; · iexact H9
  isplitl [H10]; · iexact H10
  isplitl [H11]; · iexact H11
  isplitl [H12]; · iexact H12
  isplitl [H13]; · iexists _; iexact H13
  isplitl [H14]; · iexact H14
  iexact H15

theorem pay165_eq (x : Vec F S1024x128 .bf16) : k0_pay165 x = x := shapeCast_self _ _
theorem pay166_eq (x : Vec F S1024x128 .bf16) : k0_pay166 x = x := shapeCast_self _ _

/-- The queries with their features beside them. -/
def withFeatures (a : Vec F S1024x128 .bf16) (qf : Vec F S8192x128 .bf16) (n : ℕ) : Vec F S1024x256 .bf16 := fun x =>
  if (x 1).val < 128 then a (ix2 (x 0) ⟨(x 1).val % 128, Nat.mod_lt _ (by decide)⟩)
  else qf (ix2 ⟨(n + (x 0).val) % 8192, Nat.mod_lt _ (by decide)⟩ ⟨(x 1).val % 128, Nat.mod_lt _ (by decide)⟩)

theorem withFeatures_put (d : Vec F S1024x256 .bf16) (a : Vec F S1024x128 .bf16) (qf : Vec F S8192x128 .bf16) (n : ℕ) (hn : n + 1024 ≤ 8192)
    {off : Fin 2 → ℕ} (e : off = ![n, 0]) (inb : ∀ a, off a + S1024x128.size a ≤ S8192x128.size a) :
    VecWindow.put (VecWindow.put d ![0, 0] S1024x128.size (k0_pay165 a)) ![0, 128] S1024x128.size
      (k0_pay166 (VecWindow.window qf off S1024x128.size inb)) = withFeatures a qf n := by
  subst e
  funext x
  have h0 : (x 0).val < 1024 := (x 0).isLt
  have h1 : (x 1).val < 256 := (x 1).isLt
  rw [pay165_eq, pay166_eq]
  unfold VecWindow.put withFeatures
  by_cases hx : (x 1).val < 128
  · rw [dif_neg fun hp => by
      have h1 : 128 ≤ (x 1).val ∧ (x 1).val < 128 + 128 := hp 1
      omega, dif_pos (fun a => by
      match a with
      | 0 => show 0 ≤ (x 0).val ∧ (x 0).val < 0 + 1024; omega
      | 1 => show 0 ≤ (x 1).val ∧ (x 1).val < 0 + 128; omega), if_pos hx]
    refine congrArg a (funext fun a => Fin.ext ?_)
    match a with
    | 0 => show (x 0).val - 0 = (x 0).val; omega
    | 1 => show (x 1).val - 0 = (x 1).val % 128; omega
  · rw [dif_pos (fun a => by
      match a with
      | 0 => show 0 ≤ (x 0).val ∧ (x 0).val < 0 + 1024; omega
      | 1 => show 128 ≤ (x 1).val ∧ (x 1).val < 128 + 128; omega), if_neg hx]
    refine window_unit qf ![n, 0] S1024x128.size inb _ _ fun a => ?_
    match a with
    | 0 => show (n + (x 0).val) % 8192 = n + ((x 0).val - 0); omega
    | 1 => show (x 1).val % 128 = 0 + ((x 1).val - 128); omega

set_option maxHeartbeats 1000000 in
include harg2 harg8 harg11 harg14 harg15 in
theorem wp_start (a : Vec F S1024x128 .bf16) (qf : Vec F S8192x128 .bf16) (E : Set ℕ) (K : PUnit → sProp 𝕄) :
    iprop(owns (c : Thread nD τ) arg2 fullShare a ∗ owns (c : Thread nD τ) arg8 fullShare qf ∗ (∃ d, owns (c : Thread nD τ) arg11 fullShare d)
        ∗ (∃ d, owns (c : Thread nD τ) arg14 fullShare d) ∗ (∃ d, owns (c : Thread nD τ) arg15 fullShare d)
        ∗ (iprop(owns (c : Thread nD τ) arg2 fullShare a ∗ owns (c : Thread nD τ) arg8 fullShare qf
            ∗ owns (c : Thread nD τ) arg11 fullShare (withFeatures a qf (1024 * qb t))
            ∗ owns (c : Thread nD τ) arg14 fullShare (start (F := F)).m ∗ owns (c : Thread nD τ) arg15 fullShare (start (F := F)).ac) -∗ K ⟨⟩))
      ⊢ wp frame (wpE (defs₀ (F := F)) Variants.none c none) E (startP (grid0.coords t) arg2 arg8 arg11 harg11 arg14 arg15) K := by
  have hq : qb t < 8 := Nat.mod_lt _ (by decide)
  have e := (at_diag t).2.2.2.2.2.2.2
  unfold startP owns
  iintro ⟨⟨%f0, %hf0, H0⟩, ⟨%f1, %hf1, H1⟩, ⟨%d2, %f2, %hf2, H2⟩, ⟨%d3, %f3, -, H3⟩, ⟨%d4, %f4, -, H4⟩, Hk⟩
  obtain rfl := harg2.eq_unread hf0; obtain rfl := harg8.eq_unread hf1; obtain rfl := harg11.eq_unread hf2
  sl_exec
  sl_step
  iapply Hk
  isplitl [H0]
  · iexists _; isplitr; · ipureintro; exact harg2.read_unread _
    iexact H0
  isplitl [H1]
  · iexists _; isplitr; · ipureintro; exact harg8.read_unread _
    iexact H1
  isplitl [H2]
  · iexists _; isplitr; swap; · iexact H2
    ipureintro
    rw [View.read_writes_cons_put _ _ _ _ _ rfl, View.read_writes_cons_put _ _ _ _ _ rfl, View.writes_nil, harg11.read_unread,
      readAt_window harg8, (View.readAt_full _ _ _).trans (harg2.read_unread _)]
    exact withFeatures_put _ _ _ (1024 * qb t) (by omega) e _
  isplitl [H3]
  · iexists _; isplitr; swap; · iexact H3
    ipureintro
    rw [View.read_writes_cons_put _ _ _ _ _ rfl]
    exact put_whole _ _ zero2 _
  iexists _; isplitr; swap; · iexact H4
  ipureintro
  rw [View.read_writes_cons_put _ _ _ _ _ rfl]
  exact put_whole _ _ zero2 _

set_option maxHeartbeats 1000000 in
include harg6 harg7 harg15 in
theorem wp_finish (ac : Vec F S144x1024 .f32) (z : Vec F S1024x128 .bf16) (E : Set ℕ) (K : PUnit → sProp 𝕄) :
    iprop(owns (c : Thread nD τ) arg15 fullShare ac ∗ owns (c : Thread nD τ) arg6 fullShare z ∗ (∃ d, owns (c : Thread nD τ) arg7 fullShare d)
        ∗ (iprop(owns (c : Thread nD τ) arg15 fullShare ac ∗ owns (c : Thread nD τ) arg6 fullShare z
            ∗ owns (c : Thread nD τ) arg7 fullShare (k0_pay3 ac z)) -∗ K ⟨⟩))
      ⊢ wp frame (wpE (defs₀ (F := F)) Variants.none c none) E (finishP arg6 arg7 harg7 arg15) K := by
  unfold finishP owns
  iintro ⟨⟨%f0, %hf0, H0⟩, ⟨%f1, %hf1, H1⟩, ⟨%d2, %f2, -, H2⟩, Hk⟩
  obtain rfl := harg15.eq_unread hf0; obtain rfl := harg6.eq_unread hf1
  sl_exec
  sl_step
  iapply Hk
  isplitl [H0]
  · iexists _; isplitr; · ipureintro; exact harg15.read_unread _
    iexact H0
  isplitl [H1]
  · iexists _; isplitr; · ipureintro; exact harg6.read_unread _
    iexact H1
  iexists _; isplitr; swap; · iexact H2
  ipureintro
  rw [View.read_writes_cons_put _ _ _ _ _ rfl, (View.readAt_full _ _ _).trans (harg15.read_unread _), (View.readAt_full _ _ _).trans (harg6.read_unread _)]
  exact put_whole _ _ zero2 _

end Cert.Kernel8Ideal.Attn

end
-- ==== Proof.Attn.Fill.lean ====
/- The first point of a head: the decay features of its queries and keys, and its values under a row of ones. -/
module

public import proofs.«01_k».proof.Proof.Attn.Steps

@[expose] public section

set_option maxRecDepth 16384

noncomputable section

namespace Cert.Kernel8Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel8Ideal Cert.Kernel8Ideal.Gen

variable {F : FTy → Type} [FloatOps F] [Named F]

local notation "𝕄" => MT nD τ sig Unit (Elt F) ℕ (UR sig nD τ) ℕ

/-! ## The values -/

/-- The 4096 entries from entry `n` on. -/
def part (f : Vec F S1x1x8192 .f32) (n : ℕ) : Vec F S1x1x4096 .f32 := fun y => f (ix3 (y 0) (y 1) ⟨(n + (y 2).val) % 8192, Nat.mod_lt _ (by decide)⟩)

/-- The row numbers. -/
abbrev rowNo : IVec S128x4096 32 := iota .tc S128x4096 32 [0] iota_S128x4096_d0_w32

def qfPart (p : Vec F S1x1x4096 .f32) : Vec F S4096x128 .bf16 := k0_pay161 (k0_pay9 p) (k0_pay10 rowNo p)
def kfPart (p : Vec F S1x1x4096 .f32) : Vec F S4096x128 .bf16 := k0_pay162 (k0_pay7 rowNo p) (k0_pay8 p) (k0_pay9 p) 4#32

/-- The queries' features, and the keys'. -/
def queryFeatures (f : Vec F S1x1x8192 .f32) : Vec F S8192x128 .bf16 := fun x =>
  qfPart (part f (4096 * ((x 0).val / 4096))) (ix2 ⟨(x 0).val % 4096, Nat.mod_lt _ (by decide)⟩ (x 1))
def keyFeatures (f : Vec F S1x1x8192 .f32) : Vec F S8192x128 .bf16 := fun x =>
  kfPart (part f (4096 * ((x 0).val / 4096))) (ix2 ⟨(x 0).val % 4096, Nat.mod_lt _ (by decide)⟩ (x 1))

/-- The values under a row of ones. -/
def valueRows (v : Vec F S128x8192 .bf16) : Vec F S144x8192 .bf16 := fun x =>
  if (x 0).val < 128 then v (ix2 ⟨(x 0).val % 128, Nat.mod_lt _ (by decide)⟩ (x 1))
  else (k0_pay164 (F := F)) (ix2 ⟨((x 0).val - 128) % 16, Nat.mod_lt _ (by decide)⟩ (x 1))

theorem at_parts : ∀ j : Fin k0_t1_loop.trips, k0_off1 j = ![0, 0, 4096 * j.val] ∧ k0_off2 j = ![4096 * j.val, 0] ∧ j.val < 2 := by decide +kernel
theorem part_trips : k0_t1_loop.trips = 2 := by decide +kernel

theorem part_window (f : Vec F S1x1x8192 .f32) (n : ℕ) (hn : n + 4096 ≤ 8192) {off : Fin 3 → ℕ} (e : off = ![0, 0, n])
    (inb : ∀ a, off a + S1x1x4096.size a ≤ S1x1x8192.size a) : VecWindow.window f off S1x1x4096.size inb = part f n := by
  subst e
  funext x
  have h0 : (x 2).val < 4096 := (x 2).isLt
  refine window_unit f ![0, 0, n] S1x1x4096.size inb x _ fun a => ?_
  match a with
  | 0 => show (x 0).val = 0 + (x 0).val; omega
  | 1 => show (x 1).val = 0 + (x 1).val; omega
  | 2 => show (n + (x 2).val) % 8192 = n + (x 2).val; omega

/-- The rows filled after one more part. -/
theorem put_part (d G : Vec F S8192x128 .bf16) (w : Vec F S4096x128 .bf16) (j : ℕ) (hj : j < 2)
    (hd : ∀ x, (x 0).val < 4096 * j → d x = G x)
    (hw : ∀ x, (x 0).val / 4096 = j → G x = w (ix2 ⟨(x 0).val % 4096, Nat.mod_lt _ (by decide)⟩ (x 1)))
    {off : Fin 2 → ℕ} (e : off = ![4096 * j, 0])
    (x : S8192x128.Idx) (hx : (x 0).val < 4096 * (j + 1)) : VecWindow.put d off S4096x128.size w x = G x := by
  subst e
  have h1 : (x 1).val < 128 := (x 1).isLt
  unfold VecWindow.put
  by_cases hc : 4096 * j ≤ (x 0).val
  · rw [dif_pos (fun a => by
      match a with
      | 0 => show 4096 * j ≤ (x 0).val ∧ (x 0).val < 4096 * j + 4096; omega
      | 1 => show 0 ≤ (x 1).val ∧ (x 1).val < 0 + 128; omega), hw x (by omega)]
    refine congrArg w (funext fun a => Fin.ext ?_)
    match a with
    | 0 => show (x 0).val - 4096 * j = (x 0).val % 4096; omega
    | 1 => show (x 1).val - 0 = (x 1).val; omega
  · rw [dif_neg fun hp => hc (hp 0).1]
    exact hd x (by omega)

theorem pay163_eq (x : Vec F S128x8192 .bf16) : k0_pay163 x = x := shapeCast_self _ _

theorem values_put (d : Vec F S144x8192 .bf16) (v : Vec F S128x8192 .bf16) :
    VecWindow.put (VecWindow.put d ![0, 0] S128x8192.size (k0_pay163 v)) ![128, 0] S16x8192.size (k0_pay164 (F := F)) = valueRows v := by
  funext x
  rw [pay163_eq]
  have h0 : (x 0).val < 144 := (x 0).isLt
  have h1 : (x 1).val < 8192 := (x 1).isLt
  unfold VecWindow.put valueRows
  by_cases hx : (x 0).val < 128
  · rw [dif_neg fun hp => by
      have h1 : 128 ≤ (x 0).val ∧ (x 0).val < 128 + 16 := hp 0
      omega, dif_pos (fun a => by
      match a with
      | 0 => show 0 ≤ (x 0).val ∧ (x 0).val < 0 + 128; omega
      | 1 => show 0 ≤ (x 1).val ∧ (x 1).val < 0 + 8192; omega), if_pos hx]
    refine congrArg v (funext fun a => Fin.ext ?_)
    match a with
    | 0 => show (x 0).val - 0 = (x 0).val % 128; omega
    | 1 => show (x 1).val - 0 = (x 1).val; omega
  · rw [dif_pos (fun a => by
      match a with
      | 0 => show 128 ≤ (x 0).val ∧ (x 0).val < 128 + 16; omega
      | 1 => show 0 ≤ (x 1).val ∧ (x 1).val < 0 + 8192; omega), if_neg hx]
    refine congrArg (k0_pay164 (F := F)) (funext fun a => Fin.ext ?_)
    match a with
    | 0 => show (x 0).val - 128 = ((x 0).val - 128) % 16; omega
    | 1 => show (x 1).val - 0 = (x 1).val; omega

/-! ## The program -/

variable (t : Fin grid0.N)
    (arg2 : Memref sig .tc .vmem S1024x128 .bf16) (harg2 : arg2.IsWhole) (arg3 : Memref sig .tc .vmem S8192x128 .bf16) (harg3 : arg3.IsWhole)
    (arg4 : Memref sig .tc .vmem S128x8192 .bf16) (harg4 : arg4.IsWhole) (arg5 : Memref sig .tc .vmem S1x1x8192 .f32) (harg5 : arg5.IsWhole)
    (arg6 : Memref sig .tc .vmem S1024x128 .bf16) (harg6 : arg6.IsWhole) (arg7 : Memref sig .tc .vmem S1024x128 .bf16) (harg7 : arg7.IsWhole)
    (arg8 : Memref sig .tc .vmem S8192x128 .bf16) (harg8 : arg8.IsWhole) (arg9 : Memref sig .tc .vmem S8192x128 .bf16) (harg9 : arg9.IsWhole)
    (arg10 : Memref sig .tc .vmem S144x8192 .bf16) (harg10 : arg10.IsWhole) (arg11 : Memref sig .tc .vmem S1024x256 .bf16) (harg11 : arg11.IsWhole)
    (arg12 : Memref sig .tc .vmem S512x1024 .f32) (harg12 : arg12.IsWhole) (arg13 : Memref sig .tc .vmem S512x1024 .f32) (harg13 : arg13.IsWhole)
    (arg14 : Memref sig .tc .vmem S1x1024 .f32) (harg14 : arg14.IsWhole) (arg15 : Memref sig .tc .vmem S144x1024 .f32) (harg15 : arg15.IsWhole)
    (c : Dev nD) (f : Vec F S1x1x8192 .f32)

/-- Before part `n`: the parts before it are filled. -/
def Parts (n : ℕ) : sProp 𝕄 :=
  iprop(owns (c : Thread nD τ) arg5 fullShare f
    ∗ (∃ d8, iprop(⌜∀ x : S8192x128.Idx, (x 0).val < 4096 * n → d8 x = queryFeatures f x⌝ ∗ owns (c : Thread nD τ) arg8 fullShare d8))
    ∗ (∃ d9, iprop(⌜∀ x : S8192x128.Idx, (x 0).val < 4096 * n → d9 x = keyFeatures f x⌝ ∗ owns (c : Thread nD τ) arg9 fullShare d9)))

set_option maxHeartbeats 1000000 in
theorem wp_part (h : k0_cond1 (grid0.coords t) = 1#1) (j : Fin k0_t1_loop.trips) (u : Unit) (E : Set ℕ) :
    Parts (F := F) arg5 arg8 arg9 c f j.val ⊢ wp frame (wpE (defs₀ (F := F)) Variants.none c none) E
      (k0_t1_body (grid0.coords t) arg2 harg2 arg3 harg3 arg4 harg4 arg5 harg5 arg6 harg6 arg7 harg7 arg8 harg8 arg9 harg9 arg10 harg10 arg11 harg11 arg12 harg12 arg13 harg13 arg14 harg14 arg15 harg15 h rowNo j u)
      (fun _ => Parts arg5 arg8 arg9 c f (j.val + 1)) := by
  obtain ⟨e1, e2, hj⟩ := at_parts j
  unfold k0_t1_body
  rw [k0_part1_eq_skeleton]
  unfold k0_part1_skel Parts owns
  iintro ⟨⟨%f0, %hf0, H0⟩, ⟨%d8, %hd8, %f1, %hf1, H1⟩, ⟨%d9, %hd9, %f2, %hf2, H2⟩⟩
  obtain rfl := harg5.eq_unread hf0; obtain rfl := harg8.eq_unread hf1; obtain rfl := harg9.eq_unread hf2
  sl_exec
  sl_step
  isplitl [H0]
  · iexists _; isplitr; · ipureintro; exact harg5.read_unread _
    iexact H0
  isplitl [H1]
  · iexists _; isplitr; swap
    · iexists _; isplitr; swap; · iexact H1
      ipureintro; rfl
    ipureintro
    rw [View.read_writes_cons_put _ _ _ _ _ rfl, View.writes_nil, harg8.read_unread, readAt_window harg5]
    rw [part_window f (4096 * j.val) (by omega) e1]
    refine put_part d8 _ _ j.val hj hd8 (fun x hx => ?_) e2
    unfold queryFeatures
    rw [hx]
    rfl
  iexists _; isplitr; swap
  · iexists _; isplitr; swap; · iexact H2
    ipureintro; rfl
  ipureintro
  rw [View.read_writes_cons_put _ _ _ _ _ rfl, View.writes_nil, harg9.read_unread, readAt_window harg5]
  rw [part_window f (4096 * j.val) (by omega) e1]
  refine put_part d9 _ _ j.val hj hd9 (fun x hx => ?_) e2
  unfold keyFeatures
  rw [hx]
  rfl

set_option maxHeartbeats 1000000 in
theorem wp_fill (h : k0_cond1 (grid0.coords t) = 1#1) (v : Vec F S128x8192 .bf16) (E : Set ℕ) (K : PUnit → sProp 𝕄) :
    iprop(owns (c : Thread nD τ) arg4 fullShare v ∗ owns (c : Thread nD τ) arg5 fullShare f
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg4 fullShare v ∗ owns (c : Thread nD τ) arg5 fullShare f
            ∗ owns (c : Thread nD τ) arg8 fullShare (queryFeatures f) ∗ owns (c : Thread nD τ) arg9 fullShare (keyFeatures f)
            ∗ owns (c : Thread nD τ) arg10 fullShare (valueRows v)) -∗ K ⟨⟩))
      ⊢ wp frame (wpE (defs₀ (F := F)) Variants.none c none) E
      (fillP (grid0.coords t) arg2 harg2 arg3 harg3 arg4 harg4 arg5 harg5 arg6 harg6 arg7 harg7 arg8 harg8 arg9 harg9 arg10 harg10 arg11 harg11 arg12 harg12 arg13 harg13 arg14 harg14 arg15 harg15 h) K := by
  have hpt : Scf.trips k0_t1_loop.lb k0_t1_loop.ub k0_t1_loop.st = 2 := part_trips
  unfold fillP
  rw [wp_bind]
  refine .trans ?_ (Scf.wp_for frame (wpE (defs₀ (F := F)) Variants.none c none) E _ _ _ (k0_t1_ok (grid0.coords t) h) ⟨⟩ _
    (fun n _ => Parts arg5 arg8 arg9 c f n) (fun j u => wp_part t arg2 harg2 arg3 harg3 arg4 harg4 arg5 harg5 arg6 harg6 arg7 harg7 arg8 harg8 arg9 harg9 arg10 harg10 arg11 harg11 arg12 harg12 arg13 harg13 arg14 harg14 arg15 harg15 c f h j u E))
  rw [hpt]
  iintro ⟨H4, H5, ⟨%d8, H8⟩, ⟨%d9, H9⟩, ⟨%d10, H10⟩, Hk⟩
  isplitl [H5 H8 H9]
  · unfold Parts
    isplitl [H5]; · iexact H5
    isplitl [H8]
    · iexists _; isplitr; swap; · iexact H8
      ipureintro; intro x hx; exact absurd hx (by omega)
    iexists _; isplitr; swap; · iexact H9
    ipureintro; intro x hx; exact absurd hx (by omega)
  iintro %u HP
  unfold Parts
  icases HP with ⟨H5, ⟨%d8, %hd8, H8⟩, ⟨%d9, %hd9, H9⟩⟩
  obtain rfl : d8 = queryFeatures f := funext fun x => hd8 x (by have : (x 0).val < 8192 := (x 0).isLt; omega)
  obtain rfl : d9 = keyFeatures f := funext fun x => hd9 x (by have : (x 0).val < 8192 := (x 0).isLt; omega)
  unfold owns
  icases H4 with ⟨%f4, %hf4, H4⟩
  icases H10 with ⟨%f10, %hf10, H10⟩
  obtain rfl := harg4.eq_unread hf4; obtain rfl := harg10.eq_unread hf10
  sl_exec
  sl_step
  iapply Hk
  isplitl [H4]
  · iexists _; isplitr; · ipureintro; exact harg4.read_unread _
    iexact H4
  isplitl [H5]; · iexact H5
  isplitl [H8]; · iexact H8
  isplitl [H9]; · iexact H9
  iexists _; isplitr; swap; · iexact H10
  ipureintro
  rw [View.read_writes_cons_put _ _ _ _ _ rfl, View.read_writes_cons_put _ _ _ _ _ rfl, View.writes_nil, harg10.read_unread,
    (View.readAt_full _ _ _).trans (harg4.read_unread _)]
  exact values_put _ _

end Cert.Kernel8Ideal.Attn

end
-- ==== Proof.Attn.Run.lean ====
/- The grid of the attention: what the scratch holds between the points of a head, the proof data, and the run, over any values. -/
module

public import proofs.«01_k».proof.Proof.Attn.Fill
public import proofs.«01_k».proof.Proof.Gen.Kernel8Ideal.Points
public import proofs.«01_k».proof.Proof.Gen.Kernel8Ideal.Launch
public import Idealize.ShloMosaic.Lib.Pipeline.ValueKit
public import Idealize.ShloMosaic.Lib.PointwiseCore

@[expose] public section

set_option maxRecDepth 16384

noncomputable section

namespace Cert.Kernel8Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal Cert.Kernel8Ideal.Gen

variable {F : FTy → Type} [FloatOps F] [Named F]

local notation "𝕄" => MT nD τ sig Unit (Elt F) ℕ (UR sig nD τ) ℕ

/-! ## One point -/

/-- What a point leaves in its result's buffer. -/
def outOf (a : Vec F S1024x128 .bf16) (k : Vec F S8192x128 .bf16) (v : Vec F S128x8192 .bf16) (f : Vec F S1x1x8192 .f32)
    (z : Vec F S1024x128 .bf16) (j : ℕ) : Vec F S1024x128 .bf16 :=
  k0_pay3 (total k (keyFeatures f) (valueRows v) (withFeatures a (queryFeatures f) (1024 * j)) j).ac z

section Point

variable (t : Fin grid0.N)
    (arg2 : Memref sig .tc .vmem S1024x128 .bf16) (harg2 : arg2.IsWhole) (arg3 : Memref sig .tc .vmem S8192x128 .bf16) (harg3 : arg3.IsWhole)
    (arg4 : Memref sig .tc .vmem S128x8192 .bf16) (harg4 : arg4.IsWhole) (arg5 : Memref sig .tc .vmem S1x1x8192 .f32) (harg5 : arg5.IsWhole)
    (arg6 : Memref sig .tc .vmem S1024x128 .bf16) (harg6 : arg6.IsWhole) (arg7 : Memref sig .tc .vmem S1024x128 .bf16) (harg7 : arg7.IsWhole)
    (arg8 : Memref sig .tc .vmem S8192x128 .bf16) (harg8 : arg8.IsWhole) (arg9 : Memref sig .tc .vmem S8192x128 .bf16) (harg9 : arg9.IsWhole)
    (arg10 : Memref sig .tc .vmem S144x8192 .bf16) (harg10 : arg10.IsWhole) (arg11 : Memref sig .tc .vmem S1024x256 .bf16) (harg11 : arg11.IsWhole)
    (arg12 : Memref sig .tc .vmem S512x1024 .f32) (harg12 : arg12.IsWhole) (arg13 : Memref sig .tc .vmem S512x1024 .f32) (harg13 : arg13.IsWhole)
    (arg14 : Memref sig .tc .vmem S1x1024 .f32) (harg14 : arg14.IsWhole) (arg15 : Memref sig .tc .vmem S144x1024 .f32) (harg15 : arg15.IsWhole)
    (c : Dev nD) (a : Vec F S1024x128 .bf16) (k : Vec F S8192x128 .bf16) (v : Vec F S128x8192 .bf16) (f : Vec F S1x1x8192 .f32) (z : Vec F S1024x128 .bf16)

/-- The scratch of a head: at a head's first point anything, later the head's features and values. -/
def Head (b : Prop) : sProp 𝕄 :=
  iprop(∃ d8, ∃ d9, ∃ d10, iprop(⌜b → d8 = queryFeatures f ∧ d9 = keyFeatures f ∧ d10 = valueRows v⌝
    ∗ owns (c : Thread nD τ) arg8 fullShare d8 ∗ owns (c : Thread nD τ) arg9 fullShare d9 ∗ owns (c : Thread nD τ) arg10 fullShare d10))

/-- The rest of the scratch, at anything. -/
def Rest : sProp 𝕄 :=
  iprop((∃ d, owns (c : Thread nD τ) arg11 fullShare d) ∗ (∃ d, owns (c : Thread nD τ) arg12 fullShare d) ∗ (∃ d, owns (c : Thread nD τ) arg13 fullShare d)
    ∗ (∃ d, owns (c : Thread nD τ) arg14 fullShare d) ∗ (∃ d, owns (c : Thread nD τ) arg15 fullShare d))

theorem wp_first (E : Set ℕ) (K : PUnit → sProp 𝕄) :
    iprop(owns (c : Thread nD τ) arg4 fullShare v ∗ owns (c : Thread nD τ) arg5 fullShare f ∗ Head arg8 arg9 arg10 c v f (qb t ≠ 0)
        ∗ (iprop(owns (c : Thread nD τ) arg4 fullShare v ∗ owns (c : Thread nD τ) arg5 fullShare f
            ∗ owns (c : Thread nD τ) arg8 fullShare (queryFeatures f) ∗ owns (c : Thread nD τ) arg9 fullShare (keyFeatures f)
            ∗ owns (c : Thread nD τ) arg10 fullShare (valueRows v)) -∗ K ⟨⟩))
      ⊢ wp frame (wpE (defs₀ (F := F)) Variants.none c none) E
      (if h : k0_cond1 (grid0.coords t) = 1#1 then fillP (grid0.coords t) arg2 harg2 arg3 harg3 arg4 harg4 arg5 harg5 arg6 harg6 arg7 harg7 arg8 harg8 arg9 harg9 arg10 harg10 arg11 harg11 arg12 harg12 arg13 harg13 arg14 harg14 arg15 harg15 h
        else pure ⟨⟩) K := by
  unfold Head
  by_cases h : k0_cond1 (grid0.coords t) = 1#1
  · rw [dif_pos h]
    iintro ⟨H4, H5, ⟨%d8, %d9, %d10, -, H8, H9, H10⟩, Hk⟩
    iapply (wp_fill t arg2 harg2 arg3 harg3 arg4 harg4 arg5 harg5 arg6 harg6 arg7 harg7 arg8 harg8 arg9 harg9 arg10 harg10 arg11 harg11 arg12 harg12 arg13 harg13 arg14 harg14 arg15 harg15 c f h v E K)
    isplitl [H4]; · iexact H4
    isplitl [H5]; · iexact H5
    isplitl [H8]; · iexists _; iexact H8
    isplitl [H9]; · iexists _; iexact H9
    isplitl [H10]; · iexists _; iexact H10
    iexact Hk
  · rw [dif_neg h]
    show _ ⊢ wp frame (wpE (defs₀ (F := F)) Variants.none c none) E (.ret ⟨⟩) K
    rw [wp_ret]
    iintro ⟨H4, H5, ⟨%d8, %d9, %d10, %hd, H8, H9, H10⟩, Hk⟩
    obtain ⟨rfl, rfl, rfl⟩ := hd fun h0 => h ((at_cond t).1.mpr h0)
    imodintro
    iapply Hk
    isplitl [H4]; · iexact H4
    isplitl [H5]; · iexact H5
    isplitl [H8]; · iexact H8
    isplitl [H9]; · iexact H9
    iexact H10

set_option maxHeartbeats 1000000 in
theorem wp_main (E : Set ℕ) (K : PUnit → sProp 𝕄) :
    iprop(owns (c : Thread nD τ) arg2 fullShare a ∗ owns (c : Thread nD τ) arg3 fullShare k ∗ owns (c : Thread nD τ) arg4 fullShare v
        ∗ owns (c : Thread nD τ) arg5 fullShare f ∗ owns (c : Thread nD τ) arg6 fullShare z ∗ (∃ d, owns (c : Thread nD τ) arg7 fullShare d)
        ∗ Head arg8 arg9 arg10 c v f (qb t ≠ 0) ∗ Rest arg11 arg12 arg13 arg14 arg15 c
        ∗ (iprop(owns (c : Thread nD τ) arg2 fullShare a ∗ owns (c : Thread nD τ) arg3 fullShare k ∗ owns (c : Thread nD τ) arg4 fullShare v
            ∗ owns (c : Thread nD τ) arg5 fullShare f ∗ owns (c : Thread nD τ) arg6 fullShare z
            ∗ owns (c : Thread nD τ) arg7 fullShare (outOf a k v f z (qb t))
            ∗ Head arg8 arg9 arg10 c v f True ∗ Rest arg11 arg12 arg13 arg14 arg15 c) -∗ K ⟨⟩))
      ⊢ wp frame (wpE (defs₀ (F := F)) Variants.none c none) E
      (cc0_attn (F := F) (grid0.coords t) arg2 harg2 arg3 harg3 arg4 harg4 arg5 harg5 arg6 harg6 arg7 harg7 arg8 harg8 arg9 harg9 arg10 harg10 arg11 harg11 arg12 harg12 arg13 harg13 arg14 harg14 arg15 harg15) K := by
  rw [body_eq _ _ _ _ _ _ _ _ _ _ _ _ _ _ _ _ _ _ _ _ _ _ _ _ _ _ _ _ _ fun body => Scf.for_eq_ret _ _ _ _ _ _ (at_cond t).2.2.2]
  unfold mainP
  simp only [wp_bind]
  iintro ⟨H2, H3, H4, H5, H6, H7, HH, HR, Hk⟩
  iapply (wp_first t arg2 harg2 arg3 harg3 arg4 harg4 arg5 harg5 arg6 harg6 arg7 harg7 arg8 harg8 arg9 harg9 arg10 harg10 arg11 harg11 arg12 harg12 arg13 harg13 arg14 harg14 arg15 harg15 c v f E _)
  isplitl [H4]; · iexact H4
  isplitl [H5]; · iexact H5
  isplitl [HH]; · iexact HH
  iintro ⟨H4, H5, H8, H9, H10⟩
  unfold Rest
  icases HR with ⟨H11, H12, H13, H14, H15⟩
  iapply (wp_start t arg2 harg2 arg8 harg8 arg11 harg11 arg14 harg14 arg15 harg15 c a (queryFeatures f) E _)
  isplitl [H2]; · iexact H2
  isplitl [H8]; · iexact H8
  isplitl [H11]; · iexact H11
  isplitl [H14]; · iexact H14
  isplitl [H15]; · iexact H15
  iintro ⟨H2, H8, H11, H14, H15⟩
  iapply (wp_scores arg3 arg9 arg11 arg12 c harg3 harg9 harg11 harg12 _ (n := 0) rfl (by omega) k (keyFeatures f)
    (withFeatures a (queryFeatures f) (1024 * qb t)) E _)
  isplitl [H3]; · iexact H3
  isplitl [H9]; · iexact H9
  isplitl [H11]; · iexact H11
  isplitl [H12]; · iexact H12
  iintro ⟨H3, H9, H11, H12⟩
  iapply (wp_loop t arg3 harg3 arg9 harg9 arg10 harg10 arg11 harg11 arg12 harg12 arg13 harg13 arg14 harg14 arg15 harg15 c k (keyFeatures f) (valueRows v)
    (withFeatures a (queryFeatures f) (1024 * qb t)) E _)
  isplitl [H3 H9 H10 H11 H12 H13 H14 H15]
  · unfold Mem
    isplitl [H3]; · iexact H3
    isplitl [H9]; · iexact H9
    isplitl [H10]; · iexact H10
    isplitl [H11]; · iexact H11
    isplitl [H12]; · iexact H12
    isplitl [H13]; · iexact H13
    isplitl [H14]; · iexact H14
    iexact H15
  iintro %u HM
  iapply (wp_pair t arg3 harg3 arg9 harg9 arg10 harg10 arg11 harg11 arg12 harg12 arg13 harg13 arg14 harg14 arg15 harg15 c k (keyFeatures f) (valueRows v)
    (withFeatures a (queryFeatures f) (1024 * qb t)) E _)
  isplitl [HM]; · iexact HM
  iintro HM
  iapply (wp_diag t arg3 harg3 arg9 harg9 arg10 harg10 arg11 harg11 arg12 harg12 arg13 harg13 arg14 harg14 arg15 harg15 c k (keyFeatures f) (valueRows v)
    (withFeatures a (queryFeatures f) (1024 * qb t)) E _)
  isplitl [HM]; · iexact HM
  iintro ⟨%s, HM⟩
  unfold Mem
  icases HM with ⟨H3, H9, H10, H11, H12, H13, H14, H15⟩
  iapply (wp_finish arg6 harg6 arg7 harg7 arg15 harg15 c _ z E _)
  isplitl [H15]; · iexact H15
  isplitl [H6]; · iexact H6
  isplitl [H7]; · iexact H7
  iintro ⟨H15, H6, H7⟩
  iapply Hk
  isplitl [H2]; · iexact H2
  isplitl [H3]; · iexact H3
  isplitl [H4]; · iexact H4
  isplitl [H5]; · iexact H5
  isplitl [H6]; · iexact H6
  isplitl [H7]; · iexact H7
  isplitl [H8 H9 H10]
  · unfold Head
    iexists _; iexists _; iexists _
    isplitr; swap
    · isplitl [H8]; · iexact H8
      isplitl [H9]; · iexact H9
      iexact H10
    ipureintro
    exact fun _ => ⟨rfl, rfl, rfl⟩
  isplitl [H11]; · iexists _; iexact H11
  isplitl [H12]; · iexists _; iexact H12
  isplitl [H13]; · iexact H13
  isplitl [H14]; · iexists _; iexact H14
  iexists _; iexact H15

end Point

variable (m : (ℓ : Loc nD τ sig) → Buf (Elt F) ℓ) (ρ : Dev nD → PrngReg)

/-! ## The schedule -/

/-- Where each window stands. -/
theorem idx : ∀ t : Fin cfg0.N, win0_0.index t = ![t.val % 8, t.val / 8] ∧ win0_1.index t = ![0, 16 + t.val / 8] ∧ win0_2.index t = ![t.val / 8, 0]
    ∧ win0_3.index t = ![t.val / 8, 0, 0] ∧ win0_4.index t = ![t.val % 8, t.val / 8] ∧ win0_5.index t = ![t.val % 8, t.val / 8] :=
  (by decide +kernel : ∀ t : Fin grid0.N, win0_0.index t = ![t.val % 8, t.val / 8] ∧ win0_1.index t = ![0, 16 + t.val / 8] ∧ win0_2.index t = ![t.val / 8, 0]
    ∧ win0_3.index t = ![t.val / 8, 0, 0] ∧ win0_4.index t = ![t.val % 8, t.val / 8] ∧ win0_5.index t = ![t.val % 8, t.val / 8])

/-- The decays of a head. -/
def headF (c : Dev nD) (h : ℕ) : Vec F S1x1x8192 .f32 :=
  fun y => V m c main_v0 (ix3 ⟨h % 16, Nat.mod_lt _ (by decide)⟩ (y 1) (y 2))

/-- The values of a head. -/
def headV (c : Dev nD) (h : ℕ) : Vec F S128x8192 .bf16 :=
  fun y => V m c main_arg1 (ix2 ⟨(128 * h + (y 0).val) % 2048, Nat.mod_lt _ (by decide)⟩ (y 1))

theorem iblk_f (c : Dev nD) (t : Fin cfg0.N) : (iblk m c 3 t : Vec F S1x1x8192 .f32) = headF m c (t.val / 8) := by
  have hN : t.val < 128 := lt_of_lt_of_eq t.isLt (show cfg0.N = 128 from N_0)
  have e := (idx t).2.2.2.1
  have hh : t.val / 8 % 16 = t.val / 8 := by omega
  funext y
  unfold headF
  blk_ext [iblk, e, hh]

theorem iblk_v (c : Dev nD) (t : Fin cfg0.N) : (iblk m c 2 t : Vec F S128x8192 .bf16) = headV m c (t.val / 8) := by
  have hN : t.val < 128 := lt_of_lt_of_eq t.isLt (show cfg0.N = 128 from N_0)
  have e := (idx t).2.2.1
  funext y
  have h0 : (y 0).val < 128 := (y 0).isLt
  have hh : (128 * (t.val / 8) + (y 0).val) % 2048 = t.val / 8 * 128 + (y 0).val := by omega
  unfold headV
  blk_ext [iblk, e, hh]

/-! ## The proof data -/

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev sc0 : Memref sig .tc .vmem S8192x128 .bf16 := Memref.whole cc0_scratch0
abbrev sc1 : Memref sig .tc .vmem S8192x128 .bf16 := Memref.whole cc0_scratch1
abbrev sc2 : Memref sig .tc .vmem S144x8192 .bf16 := Memref.whole cc0_scratch2
abbrev sc3 : Memref sig .tc .vmem S1024x256 .bf16 := Memref.whole cc0_scratch3
abbrev sc4 : Memref sig .tc .vmem S512x1024 .f32 := Memref.whole cc0_scratch4
abbrev sc5 : Memref sig .tc .vmem S512x1024 .f32 := Memref.whole cc0_scratch5
abbrev sc6 : Memref sig .tc .vmem S1x1024 .f32 := Memref.whole cc0_scratch6
abbrev sc7 : Memref sig .tc .vmem S144x1024 .f32 := Memref.whole cc0_scratch7

/-- What the launch hands the region: the scratch at anything and the generator register at some state. -/
theorem launched_eq (c : Dev nD) :
    (Pipeline.ΦA spec0 c : sProp 𝕄) = iprop(iprop((∃ d, owns (c : Thread nD τ) sc0 fullShare d) ∗ (∃ d, owns (c : Thread nD τ) sc1 fullShare d)
      ∗ (∃ d, owns (c : Thread nD τ) sc2 fullShare d) ∗ (∃ d, owns (c : Thread nD τ) sc3 fullShare d) ∗ (∃ d, owns (c : Thread nD τ) sc4 fullShare d)
      ∗ (∃ d, owns (c : Thread nD τ) sc5 fullShare d) ∗ (∃ d, owns (c : Thread nD τ) sc6 fullShare d) ∗ (∃ d, owns (c : Thread nD τ) sc7 fullShare d))
      ∗ (∃ r, prngReg c r)) := by
  unfold Pipeline.ΦA; rw [scopedRest0_eq]; simp only [sc0, sc1, sc2, sc3, sc4, sc5, sc6, sc7, owns_whole]; try rfl

/-- The invariant before point `n`: within a head the scratch holds the head's features and values. -/
def Phi (c : Dev nD) (n : ℕ) : sProp 𝕄 :=
  iprop(iprop(Head sc0 sc1 sc2 c (headV m c (n / 8)) (headF m c (n / 8)) (n % 8 ≠ 0) ∗ Rest sc3 sc4 sc5 sc6 sc7 c) ∗ (∃ r, prngReg c r))

/-- The block of the result that point `t` computes. -/
def block (c : Dev nD) (t : Fin cfg0.N) : Vec F S1024x128 .bf16 :=
  outOf (iblk m c 0 t) (iblk m c 1 t) (headV m c (t.val / 8)) (headF m c (t.val / 8)) (iblk m c 4 t) (qb t)

/-- The proof data: the inputs' buffers stay at their blocks, the result's ends at the computed block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => block m c t
  Φ t := Phi m c t.val
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = block m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t)

/-- A head's scratch may be weakened to a later point's condition. -/
theorem Head_next (c : Dev nD) (t : ℕ) :
    Head (F := F) sc0 sc1 sc2 c (headV m c (t / 8)) (headF m c (t / 8)) True
      ⊢ Head sc0 sc1 sc2 c (headV m c ((t + 1) / 8)) (headF m c ((t + 1) / 8)) ((t + 1) % 8 ≠ 0) := by
  unfold Head
  iintro ⟨%d8, %d9, %d10, %hd, H8, H9, H10⟩
  iexists d8; iexists d9; iexists d10
  isplitr; swap
  · isplitl [H8]; · iexact H8
    isplitl [H9]; · iexact H9
    iexact H10
  ipureintro
  intro h
  rw [show (t + 1) / 8 = t / 8 by omega]
  exact hd trivial

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    show (dats m 0 c).Φ t.castSucc = Phi m c t.val from rfl, show (dats m 0 c).Φ t.succ = Phi m c (t.val + 1) from rfl,
    show (dats m 0 c).leavesExact 0 t = owns (c : Thread nD τ) (ms0 t) fullShare (iblk m c 0 t) from by
      unfold Dat.leavesExact; rw [show cfg0.idle 0 (grid0.coords t) = false from rfl, after0],
    show (dats m 0 c).leavesExact 1 t = owns (c : Thread nD τ) (ms1 t) fullShare (iblk m c 1 t) from by
      unfold Dat.leavesExact; rw [show cfg0.idle 1 (grid0.coords t) = false from rfl, after1],
    show (dats m 0 c).leavesExact 2 t = owns (c : Thread nD τ) (ms2 t) fullShare (headV m c (t.val / 8)) from by
      unfold Dat.leavesExact; rw [show cfg0.idle 2 (grid0.coords t) = false from rfl, after2]; exact congrArg (owns (c : Thread nD τ) (ms2 t) fullShare) (iblk_v m c t),
    show (dats m 0 c).leavesExact 3 t = owns (c : Thread nD τ) (ms3 t) fullShare (headF m c (t.val / 8)) from by
      unfold Dat.leavesExact; rw [show cfg0.idle 3 (grid0.coords t) = false from rfl, after3]; exact congrArg (owns (c : Thread nD τ) (ms3 t) fullShare) (iblk_f m c t),
    show (dats m 0 c).leavesExact 4 t = owns (c : Thread nD τ) (ms4 t) fullShare (iblk m c 4 t) from by
      unfold Dat.leavesExact; rw [show cfg0.idle 4 (grid0.coords t) = false from rfl, after4],
    show (dats m 0 c).leavesExact 5 t = owns (c : Thread nD τ) (ms5 t) fullShare (block m c t) from by
      unfold Dat.leavesExact; rw [show cfg0.idle 5 (grid0.coords t) = false from rfl, after5]]
  rw [show (iblk m c 2 t) = headV m c (t.val / 8) from iblk_v m c t, show (iblk m c 3 t) = headF m c (t.val / 8) from iblk_f m c t]
  unfold Phi
  iintro ⟨⟨⟨HH, HR⟩, Hg⟩, Ho, ⟨%d0, H0⟩, ⟨%d1, H1⟩, ⟨%d2, H2⟩, ⟨%d3, H3⟩, ⟨%d4, H4⟩, ⟨%d5, H5⟩⟩
  iapply (wp_main t _ _ _ _ _ _ _ _ _ _ _ _ _ _ _ _ _ _ _ _ _ _ _ _ _ _ _ _ c (iblk m c 0 t) (iblk m c 1 t) (headV m c (t.val / 8))
    (headF m c (t.val / 8)) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HH]; · iexact HH
  isplitl [HR]; · iexact HR
  iintro ⟨H0, H1, H2, H3, H4, H5, HH, HR⟩
  isplitl [HH HR Hg]
  · isplitl [HH HR]
    · isplitl [HH]; · iapply (Head_next m c t.val); iexact HH
      iexact HR
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, launched_eq]
  unfold Phi Head Rest
  iintro ⟨⟨⟨%d0, H0⟩, ⟨%d1, H1⟩, ⟨%d2, H2⟩, HR⟩, Hg⟩
  isplitl [H0 H1 H2 HR]
  · isplitl [H0 H1 H2]
    · iexists d0; iexists d1; iexists d2
      isplitr; swap
      · isplitl [H0]; · iexact H0
        isplitl [H1]; · iexact H1
        iexact H2
      ipureintro
      exact fun h => absurd rfl h
    iexact HR
  iexact Hg

theorem hout (c : Dev nD) : (dats m 0 c).Φ (Fin.last cfg0.N) ⊢ Pipeline.ΦA spec0 c := by
  rw [show (dats m 0 c).Φ (Fin.last cfg0.N) = Phi m c (Fin.last cfg0.N).val from rfl, launched_eq]
  unfold Phi Head Rest
  iintro ⟨⟨⟨%d0, %d1, %d2, -, H0, H1, H2⟩, HR⟩, Hg⟩
  isplitl [H0 H1 H2 HR]
  · isplitl [H0]; · iexists _; iexact H0
    isplitl [H1]; · iexists _; iexact H1
    isplitl [H2]; · iexists _; iexact H2
    iexact HR
  iexact Hg

/-! ## The run -/

set_option backward.isDefEq.respectTransparency.types false in
/-- Every weakly fair execution ends, the arrays as the proof data says and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun c w hw => rfl)
    (howed := fun _ _ => rfl) (V := V m) (hmain := hmain m Variants.none) (hA := A_eq m) (hin := hin m) (hout := hout m)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_quiet m ρ)))
    ((θ_run defs _ _).mono (fun _ h => h.2) (run_quiet m ρ))

end Cert.Kernel8Ideal.Attn

end
-- ==== Proof.Attn.Sums.lean ====
/- Weighted sums taken in block by block under a moving reference, and the softmax they amount to. -/
module

public import Idealize.ShloMosaic.PureOps.Ideal
public import Idealize.ShloMosaic.Lib.PointwiseCore

@[expose] public section

noncomputable section

namespace Cert.Kernel8Ideal.Attn.Sums

open Idealize.ShloMosaic

/-- A finite sum of reals, read among the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- A nonnegative real goes into a sum of extended reals. -/
theorem mul_sum {ι : Type} (r : ℝ) (hr : 0 ≤ r) (s : Finset ι) (f : ι → EReal) : (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (by exact_mod_cast hr) (EReal.coe_ne_top r), ih]

theorem div_by_real (x : EReal) (b : ℝ) (hb : b ≠ 0) : Ideal.div x (b : EReal) = x * ((b⁻¹ : ℝ) : EReal) := by
  unfold Ideal.div
  rw [if_neg (by exact_mod_cast hb), ← EReal.coe_inv]

/-- The sum over the first `N` keys of those a query at `t` sees, each weighted by its score over the reference `μ`. -/
def upTo (σ : ℕ → ℝ) (w : ℕ → EReal) (t N : ℕ) (μ : ℝ) : EReal :=
  ∑ n ∈ Finset.range N, if n ≤ t then (((2 : ℝ) ^ (σ n - μ) : ℝ) : EReal) * w n else 0

/-- The whole sum, with no reference. -/
def full (σ : ℕ → ℝ) (w : ℕ → EReal) (t : ℕ) : EReal := ∑ n ∈ Finset.range (t + 1), (((2 : ℝ) ^ (σ n) : ℝ) : EReal) * w n

/-- The sum of the weights. -/
def mass (σ : ℕ → ℝ) (t : ℕ) : ℝ := ∑ n ∈ Finset.range (t + 1), (2 : ℝ) ^ (σ n)

theorem mass_pos (σ : ℕ → ℝ) (t : ℕ) : 0 < mass σ t := by
  unfold mass
  refine Finset.sum_pos (fun n _ => by positivity) ⟨0, Finset.mem_range.mpr (by omega)⟩

theorem full_one (σ : ℕ → ℝ) (t : ℕ) : full σ (fun _ => 1) t = ((mass σ t : ℝ) : EReal) := by
  unfold full mass
  simp only [mul_one]
  exact coe_sum _ _

theorem range_seen (t N : ℕ) (h : t < N) : (Finset.range N).filter (· ≤ t) = Finset.range (t + 1) := by
  ext n; simp only [Finset.mem_filter, Finset.mem_range]; omega

theorem upTo_full (σ : ℕ → ℝ) (w : ℕ → EReal) (t N : ℕ) (μ : ℝ) (h : t < N) : upTo σ w t N μ = (((2 : ℝ) ^ (-μ) : ℝ) : EReal) * full σ w t := by
  unfold upTo full
  rw [← Finset.sum_filter, range_seen t N h, mul_sum _ (by positivity)]
  refine Finset.sum_congr rfl fun n _ => ?_
  rw [sub_eq_add_neg, Real.rpow_add (by norm_num), ← mul_assoc, ← EReal.coe_mul, mul_comm ((2 : ℝ) ^ (-μ))]

/-- A change of reference. -/
theorem upTo_shift (σ : ℕ → ℝ) (w : ℕ → EReal) (t N : ℕ) (μ ν : ℝ) : (((2 : ℝ) ^ (μ - ν) : ℝ) : EReal) * upTo σ w t N μ = upTo σ w t N ν := by
  unfold upTo
  rw [mul_sum _ (by positivity)]
  refine Finset.sum_congr rfl fun n _ => ?_
  split
  · rw [← mul_assoc, ← EReal.coe_mul, ← Real.rpow_add (by norm_num), show μ - ν + (σ n - μ) = σ n - ν from by ring]
  · rw [mul_zero]

theorem upTo_add (σ : ℕ → ℝ) (w : ℕ → EReal) (t N K : ℕ) (μ : ℝ) : upTo σ w t (N + K) μ
    = upTo σ w t N μ + ∑ i : Fin K, if N + i.val ≤ t then (((2 : ℝ) ^ (σ (N + i.val) - μ) : ℝ) : EReal) * w (N + i.val) else 0 := by
  unfold upTo
  rw [Finset.sum_range_add, Finset.sum_range (fun i => if N + i ≤ t then (((2 : ℝ) ^ (σ (N + i) - μ) : ℝ) : EReal) * w (N + i) else 0)]

/-- The running maximum and sums after the first `N` keys: the maximum is some real reference, the sums stand over it. -/
def Good {D : Type} (σ : ℕ → ℝ) (w : D → ℕ → EReal) (t N : ℕ) (m : EReal) (ac : D → EReal) : Prop :=
  (N = 0 ∧ m = ⊥ ∧ ∀ d, ac d = 0) ∨ ∃ μ : ℝ, m = (μ : EReal) ∧ ∀ d, ac d = upTo σ (w d) t N μ

/-- A score over the reference, raised. -/
theorem term (σ : ℕ → ℝ) (w : ℕ → EReal) (t n : ℕ) (μ : ℝ) : w n * Ideal.exp2 ((if n ≤ t then (σ n : EReal) else ⊥) - (μ : EReal))
    = if n ≤ t then (((2 : ℝ) ^ (σ n - μ) : ℝ) : EReal) * w n else 0 := by
  by_cases h : n ≤ t
  · rw [if_pos h, if_pos h, ← EReal.coe_sub, Ideal.exp2_coe, mul_comm]
    rfl
  · rw [if_neg h, if_neg h, EReal.bot_sub, Ideal.exp2_bot, mul_zero]

/-- A block of keys taken in. -/
theorem Good.step {D : Type} {σ : ℕ → ℝ} {w : D → ℕ → EReal} {t N K : ℕ} {m : EReal} {ac : D → EReal} (h : Good σ w t N m ac) (hN : N ≤ t)
    (hK : 0 < K) (e : Fin K → EReal) (he : ∀ i, e i = if N + i.val ≤ t then (σ (N + i.val) : EReal) else ⊥)
    (X : EReal) (hX : e ⟨0, hK⟩ ≤ X) (hX' : X ≠ ⊤) (vb : D → Fin K → EReal) (hv : ∀ d i, vb d i = w d (N + i.val)) :
    Good σ w t (N + K) (max m X) (fun d => Ideal.exp2 (m - max m X) * ac d + ∑ i, vb d i * Ideal.exp2 (e i - max m X)) := by
  have h0 : (σ N : EReal) ≤ X := by
    have := he ⟨0, hK⟩
    rw [if_pos (by show N + 0 ≤ t; omega)] at this
    rw [this] at hX
    exact hX
  have hm : m ≠ ⊤ := by
    rcases h with ⟨-, rfl, -⟩ | ⟨μ, rfl, -⟩
    · exact bot_ne_top
    · exact EReal.coe_ne_top μ
  obtain ⟨ν, hν⟩ : ∃ ν : ℝ, max m X = (ν : EReal) := by
    refine ⟨(max m X).toReal, (EReal.coe_toReal ?_ ?_).symm⟩
    · rcases max_choice m X with h | h <;> rw [h] <;> assumption
    · exact ((EReal.bot_lt_coe (σ N)).trans_le (h0.trans (le_max_right m X))).ne'
  have hs : ∀ d, (∑ i, vb d i * Ideal.exp2 (e i - (ν : EReal)))
      = ∑ i : Fin K, if N + i.val ≤ t then (((2 : ℝ) ^ (σ (N + i.val) - ν) : ℝ) : EReal) * w d (N + i.val) else 0 := by
    intro d
    refine Finset.sum_congr rfl fun i _ => ?_
    rw [hv, he]
    exact term σ (w d) t (N + i.val) ν
  refine .inr ⟨ν, hν, fun d => ?_⟩
  simp only [hν]
  rw [hs d, upTo_add]
  refine congrArg (· + _) ?_
  rcases h with ⟨rfl, rfl, ha⟩ | ⟨μ, rfl, ha⟩
  · rw [ha d, mul_zero]
    rfl
  · rw [ha d, ← EReal.coe_sub, Ideal.exp2_coe, ← upTo_shift σ (w d) t N μ ν]
    rfl

/-- The quotient once every key is in. -/
theorem Good.ratio {D : Type} {σ : ℕ → ℝ} {w : D → ℕ → EReal} {t N : ℕ} {m : EReal} {ac : D → EReal} (h : Good σ w t N m ac) (ht : t < N)
    (d o : D) (ho : ∀ n, w o n = 1) : Ideal.div (ac d) (ac o) = (((mass σ t)⁻¹ : ℝ) : EReal) * full σ (w d) t := by
  rcases h with ⟨rfl, -, -⟩ | ⟨μ, -, ha⟩
  · exact absurd ht (by omega)
  have hp : (0 : ℝ) < (2 : ℝ) ^ (-μ) := by positivity
  have hf := mass_pos σ t
  rw [ha d, ha o, show w o = fun _ => 1 from funext ho, upTo_full _ _ _ _ _ ht, upTo_full _ _ _ _ _ ht, full_one, ← EReal.coe_mul,
    div_by_real _ _ (by positivity), mul_comm, ← mul_assoc, ← EReal.coe_mul,
    show ((2 : ℝ) ^ (-μ) * mass σ t)⁻¹ * (2 : ℝ) ^ (-μ) = (mass σ t)⁻¹ from by field_simp]

/-- A score times the logarithm of two, raised. -/
theorem exp_log (x : ℝ) : Real.exp (x * Real.log 2) = (2 : ℝ) ^ x := by
  rw [Real.rpow_def_of_pos (by norm_num), mul_comm]

theorem term_exp (σ : ℕ → ℝ) (t n : ℕ) (μ : ℝ) : Ideal.exp ((if n ≤ t then ((σ n * Real.log 2 : ℝ) : EReal) else ⊥) - (μ : EReal))
    = ((if n ≤ t then Real.exp (-μ) * (2 : ℝ) ^ (σ n) else 0 : ℝ) : EReal) := by
  by_cases h : n ≤ t
  · rw [if_pos h, if_pos h, ← EReal.coe_sub, Ideal.exp_coe, sub_eq_add_neg, Real.exp_add, exp_log, mul_comm]
  · rw [if_neg h, if_neg h, EReal.bot_sub, Ideal.exp_bot, EReal.coe_zero]

theorem sum_seen {M : Type} [AddCommMonoid M] (f : ℕ → M) (t L : ℕ) (h : t < L) :
    (∑ i : Fin L, if i.val ≤ t then f i.val else 0) = ∑ n ∈ Finset.range (t + 1), f n := by
  rw [← Finset.sum_range (fun i => if i ≤ t then f i else 0), ← Finset.sum_filter, range_seen t L h]

/-- The softmax under a reference, against the values. -/
theorem soft {L : ℕ} (σ : ℕ → ℝ) (w : ℕ → EReal) (t : ℕ) (ht : t < L) (e v : Fin L → EReal)
    (he : ∀ i, e i = if i.val ≤ t then ((σ i.val * Real.log 2 : ℝ) : EReal) else ⊥) (hv : ∀ i, v i = w i.val)
    (M : EReal) (hM : e ⟨t, ht⟩ ≤ M) (hM' : M ≠ ⊤) :
    (∑ i, v i * Ideal.div (Ideal.exp (e i - M)) (∑ j, Ideal.exp (e j - M))) = (((mass σ t)⁻¹ : ℝ) : EReal) * full σ w t := by
  obtain ⟨μ, rfl⟩ : ∃ μ : ℝ, M = (μ : EReal) := by
    refine ⟨M.toReal, (EReal.coe_toReal hM' ?_).symm⟩
    rw [he, if_pos le_rfl] at hM
    exact ((EReal.bot_lt_coe _).trans_le hM).ne'
  have hp : (0 : ℝ) < Real.exp (-μ) := Real.exp_pos _
  have hf := mass_pos σ t
  have hd : (∑ j, Ideal.exp (e j - (μ : EReal))) = ((Real.exp (-μ) * mass σ t : ℝ) : EReal) := by
    simp only [he, term_exp]
    rw [coe_sum, sum_seen (fun n => Real.exp (-μ) * (2 : ℝ) ^ (σ n)) t L ht]
    unfold mass
    rw [Finset.mul_sum]
  rw [hd]
  have hi : ∀ i : Fin L, v i * Ideal.div (Ideal.exp (e i - (μ : EReal))) ((Real.exp (-μ) * mass σ t : ℝ) : EReal)
      = if i.val ≤ t then (((mass σ t)⁻¹ : ℝ) : EReal) * ((((2 : ℝ) ^ (σ i.val) : ℝ) : EReal) * w i.val) else 0 := by
    intro i
    rw [he, hv, term_exp, div_real _ _ (by positivity)]
    split
    · rw [mul_div_mul_left _ _ hp.ne', div_eq_mul_inv, EReal.coe_mul, mul_comm, mul_comm (((2 : ℝ) ^ (σ i.val) : ℝ) : EReal), mul_assoc]
    · rw [zero_div, EReal.coe_zero, mul_zero]
  simp only [hi]
  rw [sum_seen (fun n => (((mass σ t)⁻¹ : ℝ) : EReal) * ((((2 : ℝ) ^ (σ n) : ℝ) : EReal) * w n)) t L ht, ← mul_sum _ (by positivity)]
  rfl

end Cert.Kernel8Ideal.Attn.Sums

end
-- ==== Proof.Attn.Pay.lean ====
/- What the attention kernel's pieces are over the reals: the scores with their masks, the maxima, the sums, the features. -/
module

public import proofs.«01_k».proof.Proof.Attn.Fill
public import proofs.«01_k».proof.Proof.Attn.Sums
public import Idealize.ShloMosaic.Lib.Pipeline.ValueKit
public import Idealize.ShloMosaic.Lib.WordCmp

@[expose] public section

set_option maxRecDepth 16384

noncomputable section

namespace Cert.Kernel8Ideal.Attn

open Idealize.ShloMosaic Idealize.ShloMosaic.TcCoe Idealize.SL.Sem
open Idealize.ShloMosaic.WordCmp (addi_ofNat cmpi_sge_ofNat cmpi_eq_ofNat cmpi_slt_ofNat select_decide)
open Cert.Kernel8Ideal Cert.Kernel8Ideal.Gen

/-! ## The constants -/

theorem mask_bot : Named.named (F := Ideal) κ "mask" (φ := .f32) 0xF149F2CA#32 = (⊥ : EReal) :=
  IdealRules.named_const.ideal_named_scalar _ _ _ _ rfl

theorem log2e_real : Named.named (F := Ideal) κ "log2e" (φ := .f32) 0x3FB8AA3B#32 = (((Real.log 2)⁻¹ : ℝ) : EReal) :=
  IdealRules.named_const.ideal_named_scalar _ _ _ _ rfl

theorem neg_inf : Ideal.ofBits .f32 4286578688#32 = (⊥ : EReal) := by
  simp [Ideal.ofBits, Ideal.ieee]

/-! ## Selecting by a word's order -/

theorem sel_ge {α : Type} (a k b : ℕ) (ha : a + k < 2 ^ 31) (hb : b < 2 ^ 31) (x y : α) :
    Scalar.select (IntOp.cmpi .sge (IntOp.addi (BitVec.ofNat 32 a) (BitVec.ofNat 32 k)) (BitVec.ofNat 32 b)) x y = if b ≤ a + k then x else y := by
  rw [addi_ofNat, cmpi_sge_ofNat (by simpa using ha) (by simpa using hb), select_decide]

theorem sel_eq {α : Type} (d k : ℕ) (hd : d < 2 ^ 31) (hk : k < 2 ^ 31) (x y : α) :
    Scalar.select (IntOp.cmpi .eq (BitVec.ofNat 32 d) (BitVec.ofNat 32 k)) x y = if d = k then x else y := by
  rw [cmpi_eq_ofNat (by omega) (by omega), select_decide]

theorem sel_lt {α : Type} (d k : ℕ) (hd : d < 2 ^ 31) (hk : k < 2 ^ 31) (x y : α) :
    Scalar.select (IntOp.cmpi .slt (BitVec.ofNat 32 d) (BitVec.ofNat 32 k)) x y = if d < k then x else y := by
  rw [cmpi_slt_ofNat (by simpa using hd) (by simpa using hk), select_decide]

theorem sel_mid {α : Type} (x y : α) (d : Fin 128) :
    Scalar.select (IntOp.andi (IntOp.cmpi .sge (BitVec.ofNat 32 d.val) 3#32) (IntOp.cmpi .slt (BitVec.ofNat 32 d.val) 6#32)) x y
      = if 3 ≤ d.val ∧ d.val < 6 then x else y := by
  have h : ∀ d : Fin 128, IntOp.andi (IntOp.cmpi .sge (BitVec.ofNat 32 d.val) 3#32) (IntOp.cmpi .slt (BitVec.ofNat 32 d.val) 6#32)
      = BitVec.ofBool (decide (3 ≤ d.val ∧ d.val < 6)) := by decide +kernel
  rw [h d, select_decide]

/-! ## The pieces -/

theorem pay17_at (s : Vec Ideal S512x256 .f32) (m : Vec Ideal S1x256 .f32) (z : Fin 1) (c : Fin 256) :
    k0_pay17 s m (ix2 z c) = max (m (ix2 z c)) (Finset.fold max (⊥ : EReal) (fun x : Fin 512 => s (ix2 x c)) Finset.univ) := by
  pointwise [k0_pay17]
  rw [neg_inf]

theorem pay19_at (s : Vec Ideal S512x256 .f32) (m : Vec Ideal S1x256 .f32) (z : Fin 1) (c : Fin 256) :
    k0_pay19 s m (ix2 z c) = max (m (ix2 z c)) (Finset.fold max (⊥ : EReal) (fun x : Fin 512 => s (ix2 x c)) Finset.univ) := by
  pointwise [k0_pay19, k0_pay17]
  rw [neg_inf]

theorem pay18_at (s : Vec Ideal S512x256 .f32) (m : Vec Ideal S1x256 .f32) (vb : Vec Ideal S144x512 .bf16) (a : Vec Ideal S144x256 .f32)
    (d : Fin 144) (c : Fin 256) : k0_pay18 s m vb a (ix2 d c)
      = Ideal.exp2 (m (ix2 0 c) - k0_pay17 s m (ix2 0 c)) * a (ix2 d c)
        + ∑ x : Fin 512, vb (ix2 d x) * Ideal.exp2 (s (ix2 x c) - k0_pay17 s m (ix2 0 c)) := by
  pointwise [k0_pay18]
  rfl

theorem pay182_at (s : Vec Ideal S512x256 .f32) (i : Fin 512) (c : Fin 256) :
    k0_pay182 s (ix2 i c) = if i.val ≤ c.val then s (ix2 i c) else (⊥ : EReal) := by
  pointwise [k0_pay182]
  rw [mask_bot, sel_ge _ _ _ (by omega) (by omega), Nat.add_zero]

theorem pay186_at (s : Vec Ideal S512x256 .f32) (i : Fin 512) (c : Fin 256) :
    k0_pay186 s (ix2 i c) = if i.val ≤ c.val + 256 then s (ix2 i c) else (⊥ : EReal) := by
  pointwise [k0_pay186]
  rw [mask_bot, sel_ge _ _ _ (by omega) (by omega)]

theorem pay164_at (d : Fin 16) (n : Fin 8192) : k0_pay164 (F := Ideal) (ix2 d n) = if d.val = 0 then (1 : EReal) else 0 := by
  pointwise [k0_pay164]
  rw [sel_eq _ _ (by omega) (by omega)]

theorem pay167_at (z : Fin 1) (n : Fin 1024) : k0_pay167 (F := Ideal) (ix2 z n) = (⊥ : EReal) := by
  pointwise [k0_pay167]
  exact mask_bot

theorem pay168_at (d : Fin 144) (n : Fin 1024) : k0_pay168 (F := Ideal) (ix2 d n) = (0 : EReal) := by
  pointwise [k0_pay168]

theorem pay3_at (a : Vec Ideal S144x1024 .f32) (z : Vec Ideal S1024x128 .bf16) (r : Fin 1024) (d : Fin 128) :
    k0_pay3 (F := Ideal) a z (ix2 r d) = Ideal.div (a (ix2 ⟨d.val, by omega⟩ r)) (a (ix2 128 r)) * z (ix2 r d) := by
  pointwise [k0_pay3]

/-! ## The features -/

/-- A query's feature `d`, where its decay is `x`; and a key's. -/
def qft (x : ℝ) (d : ℕ) : ℝ := if d = 0 then x else if 3 ≤ d ∧ d < 6 then 1 else 0
def kft (x : ℝ) (d : ℕ) : ℝ := if d = 3 then -x else if d < 3 then 1 else 0

theorem qfPart_at (p : Vec Ideal S1x1x4096 .f32) (r : Fin 4096) (d : Fin 128) (y : ℝ) (hy : p (ix3 0 0 r) = (y : EReal)) :
    qfPart (F := Ideal) p (ix2 r d) = ((qft (y * (Real.log 2)⁻¹) d.val : ℝ) : EReal) := by
  have hd : d.val < 128 := d.isLt
  pointwise [qfPart, k0_pay161, k0_pay160, k0_pay9, k0_pay8, k0_pay6, k0_pay5, k0_pay4, k0_pay10]
  rw [hy, log2e_real, sel_mid, sel_eq _ _ (by omega) (by omega), sel_eq _ _ (by omega) (by omega), sel_eq _ _ (by omega) (by omega), ← EReal.coe_mul,
    ← EReal.coe_sub, ← EReal.coe_sub, sub_self, sub_self]
  unfold qft
  split_ifs <;> first | rfl | omega

theorem kfPart_at (p : Vec Ideal S1x1x4096 .f32) (r : Fin 4096) (d : Fin 128) (y : ℝ) (hy : p (ix3 0 0 r) = (y : EReal)) :
    kfPart (F := Ideal) p (ix2 r d) = ((kft (y * (Real.log 2)⁻¹) d.val : ℝ) : EReal) := by
  have hd : d.val < 128 := d.isLt
  pointwise [kfPart, k0_pay162, k0_pay160, k0_pay9, k0_pay8, k0_pay6, k0_pay5, k0_pay4, k0_pay7]
  rw [hy, log2e_real, sel_eq _ _ (by omega) (by omega), sel_eq _ _ (by omega) (by omega), sel_eq _ _ (by omega) (by omega),
    sel_lt _ _ (by omega) (by omega), ← EReal.coe_mul, ← EReal.coe_sub, ← EReal.coe_sub, sub_self, sub_self, ← EReal.coe_zero, ← EReal.coe_sub, ← EReal.coe_sub,
    zero_sub, zero_sub, neg_zero]
  unfold kft
  split_ifs <;> first | rfl | omega

theorem ft_sum (x y : ℝ) : ∑ d : Fin 128, kft y d.val * qft x d.val = x - y := by
  have h : ∀ d : Fin 128, kft y d.val * qft x d.val = (if d = (0 : Fin 128) then x else 0) + (if d = (3 : Fin 128) then -y else 0) := fun d => by
    have e0 : d = (0 : Fin 128) ↔ d.val = 0 := Fin.ext_iff
    have e3 : d = (3 : Fin 128) ↔ d.val = 3 := Fin.ext_iff
    unfold kft qft
    simp only [e0, e3]
    split_ifs <;> first | omega | simp
  rw [Finset.sum_congr rfl fun d _ => h d, Finset.sum_add_distrib, Finset.sum_ite_eq' , Finset.sum_ite_eq']
  simp [sub_eq_add_neg]

end Cert.Kernel8Ideal.Attn

end
-- ==== Proof.Attn.Cols.lean ====
/- Each query's maximum and sums, as the blocks of keys are taken in one after another. -/
module

public import proofs.«01_k».proof.Proof.Attn.Pay
public import proofs.«01_k».proof.Proof.Attn.Steps

@[expose] public section

set_option maxRecDepth 16384

noncomputable section

namespace Cert.Kernel8Ideal.Attn

open Idealize.ShloMosaic Idealize.ShloMosaic.TcCoe Idealize.SL.Sem
open Cert.Kernel8Ideal Cert.Kernel8Ideal.Gen
open Sums

/-! ## What a head's arrays hold -/

/-- The score of query `t` at key `n`, to base two: the product of the two and the difference of the decays. -/
def score (Q K : ℕ → Fin 128 → ℝ) (Fr : ℕ → ℝ) (t n : ℕ) : ℝ :=
  ∑ d, K n d * Q t d + (Fr t * (Real.log 2)⁻¹ - Fr n * (Real.log 2)⁻¹)

/-- The rows that are summed: the values, then a one, then nothing. -/
def rowsOf (W : Fin 128 → ℕ → EReal) (d : Fin 144) (n : ℕ) : EReal :=
  if h : d.val < 128 then W ⟨d.val, h⟩ n else if d.val = 128 then 1 else 0

/-- The arrays of one head, and the block of queries from `b` on, hold these numbers, all but the values real. -/
structure Holds (a : Vec Ideal S1024x128 .bf16) (k : Vec Ideal S8192x128 .bf16) (v : Vec Ideal S128x8192 .bf16) (f : Vec Ideal S1x1x8192 .f32)
    (b : ℕ) (Q K : ℕ → Fin 128 → ℝ) (W : Fin 128 → ℕ → EReal) (Fr : ℕ → ℝ) : Prop where
  q : ∀ r d, a (ix2 r d) = ((Q (b + r.val) d : ℝ) : EReal)
  k : ∀ n d, k (ix2 n d) = ((K n.val d : ℝ) : EReal)
  v : ∀ d n, v (ix2 d n) = W d n.val
  f : ∀ n, f (ix3 0 0 n) = ((Fr n.val : ℝ) : EReal)

theorem part_at (f : Vec Ideal S1x1x8192 .f32) (n : Fin 8192) :
    part f (4096 * (n.val / 4096)) (ix3 0 0 (⟨n.val % 4096, Nat.mod_lt _ (by decide)⟩ : Fin 4096)) = f (ix3 0 0 n) := by
  have e : (⟨(4096 * (n.val / 4096) + n.val % 4096) % 8192, Nat.mod_lt _ (by decide)⟩ : Fin 8192) = n := Fin.ext (by
    show (4096 * (n.val / 4096) + n.val % 4096) % 8192 = n.val
    omega)
  exact congrArg (fun m : Fin 8192 => f (ix3 0 0 m)) e

theorem queryFeatures_at (f : Vec Ideal S1x1x8192 .f32) (Fr : ℕ → ℝ) (hf : ∀ n : Fin 8192, f (ix3 0 0 n) = ((Fr n.val : ℝ) : EReal)) (n : Fin 8192) (d : Fin 128) :
    queryFeatures f (ix2 n d) = ((qft (Fr n.val * (Real.log 2)⁻¹) d.val : ℝ) : EReal) :=
  qfPart_at _ _ _ _ ((part_at f n).trans (hf n))

theorem keyFeatures_at (f : Vec Ideal S1x1x8192 .f32) (Fr : ℕ → ℝ) (hf : ∀ n : Fin 8192, f (ix3 0 0 n) = ((Fr n.val : ℝ) : EReal)) (n : Fin 8192) (d : Fin 128) :
    keyFeatures f (ix2 n d) = ((kft (Fr n.val * (Real.log 2)⁻¹) d.val : ℝ) : EReal) :=
  kfPart_at _ _ _ _ ((part_at f n).trans (hf n))

theorem valueRows_at (v : Vec Ideal S128x8192 .bf16) (W : Fin 128 → ℕ → EReal) (hv : ∀ d (n : Fin 8192), v (ix2 d n) = W d n.val) (d : Fin 144) (n : Fin 8192) :
    valueRows v (ix2 d n) = rowsOf W d n.val := by
  unfold valueRows rowsOf
  by_cases h : d.val < 128
  · have e : (⟨d.val % 128, Nat.mod_lt _ (by decide)⟩ : Fin 128) = ⟨d.val, h⟩ := Fin.ext (Nat.mod_eq_of_lt h)
    rw [dif_pos h, ← hv, ← e]
    exact if_pos h
  · rw [dif_neg h]
    refine (if_neg h).trans ((pay164_at _ _).trans ?_)
    have hd : d.val < 144 := d.isLt
    by_cases h8 : d.val = 128
    · rw [if_pos h8, if_pos (by show (d.val - 128) % 16 = 0; omega)]
    · rw [if_neg h8, if_neg (by show ¬(d.val - 128) % 16 = 0; omega)]

/-! ## The scores -/

theorem sum_score (Q K : ℕ → Fin 128 → ℝ) (Fr : ℕ → ℝ) (t n : ℕ) (kx qx kfx qfx : Fin 128 → EReal) (hk : ∀ x, kx x = ((K n x : ℝ) : EReal))
    (hq : ∀ x, qx x = ((Q t x : ℝ) : EReal)) (hkf : ∀ x, kfx x = ((kft (Fr n * (Real.log 2)⁻¹) x.val : ℝ) : EReal))
    (hqf : ∀ x, qfx x = ((qft (Fr t * (Real.log 2)⁻¹) x.val : ℝ) : EReal)) :
    ∑ x, kx x * qx x + ∑ x, kfx x * qfx x = ((score Q K Fr t n : ℝ) : EReal) := by
  have h1 : ∀ x, kx x * qx x = ((K n x * Q t x : ℝ) : EReal) := fun x => by rw [hk, hq, EReal.coe_mul]
  have h2 : ∀ x, kfx x * qfx x = ((kft (Fr n * (Real.log 2)⁻¹) x.val * qft (Fr t * (Real.log 2)⁻¹) x.val : ℝ) : EReal) := fun x => by rw [hkf, hqf, EReal.coe_mul]
  rw [Finset.sum_congr rfl fun x _ => h1 x, Finset.sum_congr rfl fun x _ => h2 x, coe_sum, coe_sum, ft_sum, ← EReal.coe_add]
  rfl

section Head

variable {a : Vec Ideal S1024x128 .bf16} {k : Vec Ideal S8192x128 .bf16} {v : Vec Ideal S128x8192 .bf16} {f : Vec Ideal S1x1x8192 .f32}
  {j : ℕ} {Q K : ℕ → Fin 128 → ℝ} {W : Fin 128 → ℕ → EReal} {Fr : ℕ → ℝ} (H : Holds a k v f (1024 * j) Q K W Fr) (hj : j < 8)

include H hj

theorem query_at (r : Fin 1024) (x : Fin 256) (h : x.val < 128) :
    withFeatures a (queryFeatures f) (1024 * j) (ix2 r x) = ((Q (1024 * j + r.val) ⟨x.val, h⟩ : ℝ) : EReal) := by
  rw [← H.q]
  have e : (⟨x.val % 128, Nat.mod_lt _ (by decide)⟩ : Fin 128) = ⟨x.val, h⟩ := Fin.ext (Nat.mod_eq_of_lt h)
  refine (if_pos h).trans ?_
  exact congrArg (fun y : Fin 128 => a (ix2 r y)) e

theorem query_ft_at (r : Fin 1024) (x : Fin 256) (y : Fin 128) (h : x.val = 128 + y.val) :
    withFeatures a (queryFeatures f) (1024 * j) (ix2 r x) = ((qft (Fr (1024 * j + r.val) * (Real.log 2)⁻¹) y.val : ℝ) : EReal) := by
  have hy : y.val < 128 := y.isLt
  have e : (⟨x.val % 128, Nat.mod_lt _ (by decide)⟩ : Fin 128) = y := Fin.ext (by show x.val % 128 = y.val; omega)
  have hr : (1024 * j + r.val) % 8192 = 1024 * j + r.val := Nat.mod_eq_of_lt (by omega)
  refine (if_neg (by show ¬ x.val < 128; omega)).trans ((queryFeatures_at f Fr H.f _ _).trans ?_)
  show ((qft (Fr ((1024 * j + r.val) % 8192) * (Real.log 2)⁻¹) (x.val % 128) : ℝ) : EReal) = _
  rw [hr, show x.val % 128 = y.val by omega]

theorem rows_at (n : ℕ) (hn : n + 512 ≤ 8192) (i : Fin 512) (x : Fin 128) : rowsAt k n (ix2 i x) = ((K (n + i.val) x : ℝ) : EReal) := by
  refine (H.k _ _).trans ?_
  show ((K ((n + i.val) % 8192) x : ℝ) : EReal) = _
  rw [Nat.mod_eq_of_lt (by omega)]

theorem rows_ft_at (n : ℕ) (hn : n + 512 ≤ 8192) (i : Fin 512) (x : Fin 128) :
    rowsAt (keyFeatures f) n (ix2 i x) = ((kft (Fr (n + i.val) * (Real.log 2)⁻¹) x.val : ℝ) : EReal) := by
  refine (keyFeatures_at f Fr H.f _ _).trans ?_
  show ((kft (Fr ((n + i.val) % 8192) * (Real.log 2)⁻¹) x.val : ℝ) : EReal) = _
  rw [Nat.mod_eq_of_lt (by omega)]

theorem cols_at (n : ℕ) (hn : n + 512 ≤ 8192) (d : Fin 144) (i : Fin 512) : colsAt (valueRows v) n (ix2 d i) = rowsOf W d (n + i.val) := by
  refine (valueRows_at v W H.v _ _).trans ?_
  show rowsOf W d ((n + i.val) % 8192) = _
  rw [Nat.mod_eq_of_lt (by omega)]

theorem scAt_at (n : ℕ) (hn : n + 512 ≤ 8192) (i : Fin 512) (c : Fin 1024) :
    scAt k (keyFeatures f) (withFeatures a (queryFeatures f) (1024 * j)) n (ix2 i c) = ((score Q K Fr (1024 * j + c.val) (n + i.val) : ℝ) : EReal) := by
  unfold scAt
  pointwise [k0_pay11]
  exact sum_score Q K Fr _ _ _ _ _ _ (fun x => rows_at H hj n hn i x) (fun x => query_at H hj c _ x.isLt)
    (fun x => rows_ft_at H hj n hn i x) (fun x => query_ft_at H hj c _ x rfl)

theorem half_at (n : ℕ) (hn : n + 512 ≤ 8192) (i : Fin 512) (c : Fin 512) :
    k0_pay181 (rowsAt k n) (rowsAt (keyFeatures f) n) (lowerRows (withFeatures a (queryFeatures f) (1024 * j))) (ix2 i c)
      = ((score Q K Fr (1024 * j + (512 + c.val)) (n + i.val) : ℝ) : EReal) := by
  have hr : ∀ x : Fin 256, lowerRows (withFeatures a (queryFeatures f) (1024 * j)) (ix2 c x)
      = withFeatures a (queryFeatures f) (1024 * j) (ix2 (⟨512 + c.val, by omega⟩ : Fin 1024) x) := fun x =>
    congrArg (fun r : Fin 1024 => withFeatures a (queryFeatures f) (1024 * j) (ix2 r x)) (Fin.ext (Nat.mod_eq_of_lt (show 512 + c.val < 1024 by omega)))
  pointwise [k0_pay181]
  exact sum_score Q K Fr _ _ _ _ _ _ (fun x => rows_at H hj n hn i x) (fun x => (hr _).trans (query_at H hj _ _ x.isLt))
    (fun x => rows_ft_at H hj n hn i x) (fun x => (hr _).trans (query_ft_at H hj _ _ x rfl))

end Head

/-! ## The invariant -/

/-- Every query of quarter `q` has taken in the first `B q` keys. -/
def All (j : ℕ) (Q K : ℕ → Fin 128 → ℝ) (W : Fin 128 → ℕ → EReal) (Fr : ℕ → ℝ) (B : Fin 4 → ℕ) (y : Run Ideal) : Prop :=
  ∀ (q : Fin 4) (c : Fin 256), Good (score Q K Fr (1024 * j + (256 * q.val + c.val))) (rowsOf W) (1024 * j + (256 * q.val + c.val)) (B q)
    (y.m (ix2 0 (qcol q c))) (fun d => y.ac (ix2 d (qcol q c)))

theorem setM_here (s : Vec Ideal S1x1024 .f32) (q : Fin 4) (w : Vec Ideal S1x256 .f32) (c : Fin 256) : setM s q w (ix2 0 (qcol q c)) = w (ix2 0 c) := by
  have e : (⟨(256 * q.val + c.val) % 256, Nat.mod_lt _ (by decide)⟩ : Fin 256) = c := Fin.ext (by show (256 * q.val + c.val) % 256 = c.val; omega)
  exact (if_pos (by show (256 * q.val + c.val) / 256 = q.val; omega)).trans (congrArg (fun x : Fin 256 => w (ix2 0 x)) e)

theorem setA_here (s : Vec Ideal S144x1024 .f32) (q : Fin 4) (w : Vec Ideal S144x256 .f32) (d : Fin 144) (c : Fin 256) :
    setA s q w (ix2 d (qcol q c)) = w (ix2 d c) := by
  have e : (⟨(256 * q.val + c.val) % 256, Nat.mod_lt _ (by decide)⟩ : Fin 256) = c := Fin.ext (by show (256 * q.val + c.val) % 256 = c.val; omega)
  exact (if_pos (by show (256 * q.val + c.val) / 256 = q.val; omega)).trans (congrArg (fun x : Fin 256 => w (ix2 d x)) e)

theorem setM_there (s : Vec Ideal S1x1024 .f32) (q p : Fin 4) (h : p ≠ q) (w : Vec Ideal S1x256 .f32) (c : Fin 256) :
    setM s q w (ix2 0 (qcol p c)) = s (ix2 0 (qcol p c)) :=
  if_neg (by
    show ¬(256 * p.val + c.val) / 256 = q.val
    have : p.val ≠ q.val := fun e => h (Fin.ext e)
    omega)

theorem setA_there (s : Vec Ideal S144x1024 .f32) (q p : Fin 4) (h : p ≠ q) (w : Vec Ideal S144x256 .f32) (d : Fin 144) (c : Fin 256) :
    setA s q w (ix2 d (qcol p c)) = s (ix2 d (qcol p c)) :=
  if_neg (by
    show ¬(256 * p.val + c.val) / 256 = q.val
    have : p.val ≠ q.val := fun e => h (Fin.ext e)
    omega)

theorem le_fold (e : Fin 512 → EReal) (i : Fin 512) : e i ≤ Finset.fold max (⊥ : EReal) e Finset.univ :=
  Finset.le_fold_max (e i) |>.mpr (Or.inr ⟨i, Finset.mem_univ _, le_rfl⟩)

theorem fold_ne_top {ι : Type} (s : Finset ι) (e : ι → EReal) (h : ∀ i, e i ≠ ⊤) : Finset.fold max (⊥ : EReal) e s ≠ ⊤ :=
  ne_of_lt (Finset.fold_max_lt ⊤ |>.mpr ⟨bot_lt_top, fun i _ => lt_top_iff_ne_top.mpr (h i)⟩)

section Inv

variable {a : Vec Ideal S1024x128 .bf16} {k : Vec Ideal S8192x128 .bf16} {v : Vec Ideal S128x8192 .bf16} {f : Vec Ideal S1x1x8192 .f32}
  {j : ℕ} {Q K : ℕ → Fin 128 → ℝ} {W : Fin 128 → ℕ → EReal} {Fr : ℕ → ℝ} (H : Holds a k v f (1024 * j) Q K W Fr) (hj : j < 8)

include H hj

/-- One quarter takes in a block of keys, of which each query sees those up to its own place. -/
theorem chunk_all {B : Fin 4 → ℕ} {y : Run Ideal} (h : All j Q K W Fr B y) (q : Fin 4) (n : ℕ) (hn : n + 512 ≤ 8192) (hq : B q = n) (hle : n ≤ 1024 * j + 256 * q.val)
    (g : Vec Ideal S512x256 .f32 → Vec Ideal S512x256 .f32) (s : Vec Ideal S512x1024 .f32)
    (he : ∀ (i : Fin 512) (c : Fin 256), g (qS s q) (ix2 i c)
      = if n + i.val ≤ 1024 * j + (256 * q.val + c.val) then ((score Q K Fr (1024 * j + (256 * q.val + c.val)) (n + i.val) : ℝ) : EReal) else ⊥)
    (B' : Fin 4 → ℕ) (hB : B' q = n + 512) (hB' : ∀ p, p ≠ q → B' p = B p) :
    All j Q K W Fr B' (chunk g (colsAt (valueRows v) n) s q y) := fun p c => by
  by_cases hp : p = q
  · subst hp
    have h' := h p c
    rw [hq] at h'
    have hs := h'.step (K := 512) (by omega) (by decide) (fun i => g (qS s p) (ix2 i c)) (fun i => he i c)
      (Finset.fold max (⊥ : EReal) (fun x : Fin 512 => g (qS s p) (ix2 x c)) Finset.univ) (le_fold (fun x : Fin 512 => g (qS s p) (ix2 x c)) 0)
      (fold_ne_top _ _ fun i => by
        rw [he i c]
        split_ifs
        · exact EReal.coe_ne_top _
        · exact bot_ne_top)
      (fun d i => colsAt (valueRows v) n (ix2 d i)) (fun d i => cols_at H hj n hn d i)
    rw [hB]
    have em : (chunk g (colsAt (valueRows v) n) s p y).m (ix2 0 (qcol p c))
        = max (y.m (ix2 0 (qcol p c))) (Finset.fold max (⊥ : EReal) (fun x : Fin 512 => g (qS s p) (ix2 x c)) Finset.univ) :=
      (setM_here _ _ _ _).trans (pay19_at _ _ _ _)
    have ea : ∀ d, (chunk g (colsAt (valueRows v) n) s p y).ac (ix2 d (qcol p c)) = _ := fun d =>
      (setA_here _ _ _ _ _).trans (pay18_at _ _ _ _ _ _)
    simp only [pay17_at] at ea
    rw [em, funext ea]
    exact hs
  · have em : (chunk g (colsAt (valueRows v) n) s q y).m (ix2 0 (qcol p c)) = y.m (ix2 0 (qcol p c)) := setM_there _ _ _ hp _ _
    have ea : ∀ d, (chunk g (colsAt (valueRows v) n) s q y).ac (ix2 d (qcol p c)) = y.ac (ix2 d (qcol p c)) := fun d => setA_there _ _ _ hp _ _ _
    rw [em, funext ea, hB' p hp]
    exact h p c

/-- A quarter that sees the whole block. -/
theorem chunk_whole {B : Fin 4 → ℕ} {y : Run Ideal} (h : All j Q K W Fr B y) (q : Fin 4) (n : ℕ) (hn : n + 512 ≤ 8192) (hq : B q = n)
    (hle : n + 511 ≤ 1024 * j + 256 * q.val) (B' : Fin 4 → ℕ) (hB : B' q = n + 512) (hB' : ∀ p, p ≠ q → B' p = B p) :
    All j Q K W Fr B' (chunk id (colsAt (valueRows v) n) (scAt k (keyFeatures f) (withFeatures a (queryFeatures f) (1024 * j)) n) q y) :=
  chunk_all H hj h q n hn hq (by omega) id _ (fun i c => by
    rw [if_pos (by omega)]
    exact scAt_at H hj n hn i (qcol q c)) B' hB hB'

/-- All four quarters see the whole block. -/
theorem consume_all {y : Run Ideal} (n : ℕ) (h : All j Q K W Fr (fun _ => n) y) (hn : n + 512 ≤ 1024 * j) :
    All j Q K W Fr (fun _ => n + 512)
      (consume (colsAt (valueRows v) n) (scAt k (keyFeatures f) (withFeatures a (queryFeatures f) (1024 * j)) n) y) := by
  have hn' : n + 512 ≤ 8192 := by omega
  have h0 := chunk_whole H hj h 0 n hn' rfl (by omega) ![n + 512, n, n, n] rfl (fun p hp => by fin_cases p <;> first | rfl | exact absurd rfl hp)
  have h1 := chunk_whole H hj h0 1 n hn' rfl (by omega) ![n + 512, n + 512, n, n] rfl (fun p hp => by fin_cases p <;> first | rfl | exact absurd rfl hp)
  have h2 := chunk_whole H hj h1 2 n hn' rfl (by omega) ![n + 512, n + 512, n + 512, n] rfl (fun p hp => by fin_cases p <;> first | rfl | exact absurd rfl hp)
  exact chunk_whole H hj h2 3 n hn' rfl (by omega) (fun _ => n + 512) rfl (fun p hp => by fin_cases p <;> first | rfl | exact absurd rfl hp)

theorem start_all : All j Q K W Fr (fun _ => 0) start := fun q c => Or.inl ⟨rfl, pay167_at 0 (qcol q c), fun d => pay168_at d (qcol q c)⟩

theorem pairs_all (n : ℕ) (hn : n ≤ j) :
    All j Q K W Fr (fun _ => 1024 * n) (pairs k (keyFeatures f) (valueRows v) (withFeatures a (queryFeatures f) (1024 * j)) n) := by
  induction n with
  | zero => exact start_all H hj
  | succ n ih =>
    have h1 := consume_all H hj (1024 * n) (ih (by omega)) (by omega)
    have h2 := consume_all H hj (1024 * n + 512) h1 (by omega)
    exact h2

/-- A quarter that sees a block up to the diagonal. -/
theorem chunk_masked {B : Fin 4 → ℕ} {y : Run Ideal} (h : All j Q K W Fr B y) (q : Fin 4) (n o : ℕ) (hn : n + 512 ≤ 8192) (hq : B q = n)
    (ho : n + o = 1024 * j + 256 * q.val) (g : Vec Ideal S512x256 .f32 → Vec Ideal S512x256 .f32)
    (hg : ∀ s (i : Fin 512) (c : Fin 256), g s (ix2 i c) = if i.val ≤ c.val + o then s (ix2 i c) else ⊥) (s : Vec Ideal S512x1024 .f32)
    (hs : ∀ (i : Fin 512) (c : Fin 256), qS s q (ix2 i c) = ((score Q K Fr (1024 * j + (256 * q.val + c.val)) (n + i.val) : ℝ) : EReal))
    (B' : Fin 4 → ℕ) (hB : B' q = n + 512) (hB' : ∀ p, p ≠ q → B' p = B p) :
    All j Q K W Fr B' (chunk g (colsAt (valueRows v) n) s q y) :=
  chunk_all H hj h q n hn hq (by omega) g s (fun i c => (hg _ _ _).trans (if_congr (by omega) (hs i c) rfl)) B' hB hB'

/-- The first block on the diagonal. -/
theorem diag1_all {y : Run Ideal} (n : ℕ) (e : n = 1024 * j) (h : All j Q K W Fr (fun _ => n) y) : All j Q K W Fr (fun _ => n + 512)
    (diag1 k (keyFeatures f) (valueRows v) (withFeatures a (queryFeatures f) (1024 * j)) n y) := by
  have hn : n + 512 ≤ 8192 := by omega
  have e1 : ((1 : Fin 4) : ℕ) = 1 := rfl
  have e2 : ((2 : Fin 4) : ℕ) = 2 := rfl
  have e3 : ((3 : Fin 4) : ℕ) = 3 := rfl
  have h0 := chunk_masked H hj h 0 n 0 hn rfl (by rw [e]; rfl) k0_pay182 pay182_at (scAt k (keyFeatures f) (withFeatures a (queryFeatures f) (1024 * j)) n)
    (fun i c => scAt_at H hj n hn i (qcol 0 c)) ![n + 512, n, n, n] rfl (fun p hp => by fin_cases p <;> first | rfl | exact absurd rfl hp)
  have h1 := chunk_masked H hj h0 1 n 256 hn rfl (by rw [e, e1]) k0_pay186 pay186_at (scAt k (keyFeatures f) (withFeatures a (queryFeatures f) (1024 * j)) n)
    (fun i c => scAt_at H hj n hn i (qcol 1 c)) ![n + 512, n + 512, n, n] rfl (fun p hp => by fin_cases p <;> first | rfl | exact absurd rfl hp)
  have h2 := chunk_whole H hj h1 2 n hn rfl (by rw [e2]; omega) ![n + 512, n + 512, n + 512, n] rfl (fun p hp => by fin_cases p <;> first | rfl | exact absurd rfl hp)
  exact chunk_whole H hj h2 3 n hn rfl (by rw [e3]; omega) (fun _ => n + 512) rfl (fun p hp => by fin_cases p <;> first | rfl | exact absurd rfl hp)

theorem setHalf_at (d : Vec Ideal S512x1024 .f32) (w : Vec Ideal S512x512 .f32) (q : Fin 4) (i : Fin 512) (c : Fin 256) (p : Fin 512)
    (hp : 256 * q.val + c.val = 512 + p.val) : qS (setHalf d w) q (ix2 i c) = w (ix2 i p) := by
  have e : (⟨(256 * q.val + c.val) % 512, Nat.mod_lt _ (by decide)⟩ : Fin 512) = p := Fin.ext (by
    show (256 * q.val + c.val) % 512 = p.val
    omega)
  exact (if_pos (by show 512 ≤ 256 * q.val + c.val; omega)).trans (congrArg (fun x : Fin 512 => w (ix2 i x)) e)

theorem half_score (n : ℕ) (hn : n + 512 ≤ 8192) (d : Vec Ideal S512x1024 .f32) (q : Fin 4) (hq : 2 ≤ q.val) (i : Fin 512) (c : Fin 256) :
    qS (setHalf d (k0_pay181 (rowsAt k n) (rowsAt (keyFeatures f) n) (lowerRows (withFeatures a (queryFeatures f) (1024 * j))))) q (ix2 i c)
      = ((score Q K Fr (1024 * j + (256 * q.val + c.val)) (n + i.val) : ℝ) : EReal) := by
  have hp : 256 * q.val + c.val = 512 + (256 * q.val + c.val - 512) := by omega
  rw [setHalf_at H hj d _ q i c ⟨256 * q.val + c.val - 512, by omega⟩ hp, half_at H hj n hn i, ← hp]

/-- The second block on the diagonal. -/
theorem diag2_all {y : Run Ideal} (n : ℕ) (e : n = 1024 * j + 512) (h : All j Q K W Fr (fun _ => n) y) (d : Vec Ideal S512x1024 .f32) :
    All j Q K W Fr ![n, n, n + 512, n + 512] (diag2 k (keyFeatures f) (valueRows v) (withFeatures a (queryFeatures f) (1024 * j)) d n y) := by
  have hn : n + 512 ≤ 8192 := by omega
  have e2 : ((2 : Fin 4) : ℕ) = 2 := rfl
  have e3 : ((3 : Fin 4) : ℕ) = 3 := rfl
  have h0 := chunk_masked H hj h 2 n 0 hn rfl (by rw [e, e2]) k0_pay182 pay182_at _ (half_score H hj n hn d 2 (by rw [e2]))
    ![n, n, n + 512, n] rfl (fun p hp => by fin_cases p <;> first | rfl | exact absurd rfl hp)
  exact chunk_masked H hj h0 3 n 256 hn rfl (by rw [e, e3]) k0_pay186 pay186_at _ (half_score H hj n hn d 3 (by rw [e3]; omega))
    ![n, n, n + 512, n + 512] rfl (fun p hp => by fin_cases p <;> first | rfl | exact absurd rfl hp)

/-- The whole point. -/
theorem total_all : All j Q K W Fr ![1024 * j + 512, 1024 * j + 512, 1024 * j + 512 + 512, 1024 * j + 512 + 512]
    (total k (keyFeatures f) (valueRows v) (withFeatures a (queryFeatures f) (1024 * j)) j) :=
  diag2_all H hj _ rfl (diag1_all H hj _ rfl (pairs_all H hj j le_rfl)) _

/-- What a point leaves at a query and a head's column: the weighted mean of the values it sees, by the gate. -/
theorem out_at (z : Vec Ideal S1024x128 .bf16) (r : Fin 1024) (d : Fin 128) :
    k0_pay3 (F := Ideal) (total k (keyFeatures f) (valueRows v) (withFeatures a (queryFeatures f) (1024 * j)) j).ac z (ix2 r d)
      = (((mass (score Q K Fr (1024 * j + r.val)) (1024 * j + r.val))⁻¹ : ℝ) : EReal) * full (score Q K Fr (1024 * j + r.val)) (W d) (1024 * j + r.val)
        * z (ix2 r d) := by
  obtain ⟨q, c, hr⟩ : ∃ (q : Fin 4) (c : Fin 256), r.val = 256 * q.val + c.val :=
    ⟨⟨r.val / 256, by omega⟩, ⟨r.val % 256, by omega⟩, by show r.val = 256 * (r.val / 256) + r.val % 256; omega⟩
  obtain rfl : r = qcol q c := Fin.ext hr
  have hg := total_all H hj q c
  have hlt : 1024 * j + (256 * q.val + c.val) < ![1024 * j + 512, 1024 * j + 512, 1024 * j + 512 + 512, 1024 * j + 512 + 512] q := by
    have hc : c.val < 256 := c.isLt
    match q with
    | 0 => show 1024 * j + (256 * 0 + c.val) < 1024 * j + 512; omega
    | 1 => show 1024 * j + (256 * 1 + c.val) < 1024 * j + 512; omega
    | 2 => show 1024 * j + (256 * 2 + c.val) < 1024 * j + 512 + 512; omega
    | 3 => show 1024 * j + (256 * 3 + c.val) < 1024 * j + 512 + 512; omega
  have hd : d.val < 128 := d.isLt
  have hW : rowsOf W ⟨d.val, by omega⟩ = W d := funext fun n => dif_pos hd
  have h := hg.ratio hlt ⟨d.val, by omega⟩ 128 (fun n => rfl)
  rw [hW] at h
  exact (pay3_at _ _ _ _).trans (congrArg (· * z (ix2 (qcol q c) d)) h)

end Inv

end Cert.Kernel8Ideal.Attn

end
-- ==== Proof.Attn.Ref.lean ====
/- The reference's attention over the extended reals: the masked scores, and the softmax of each row taken over the values. -/
module

public import proofs.«01_k».proof.Proof.Attn.Cols
public import proofs.«01_k».proof.Proof.Gen.Reference8Ideal.Run
public import Idealize.ShloMosaic.Lib.Pipeline.ValueKit
public import Idealize.ShloMosaic.Lib.WordCmp

@[expose] public section

set_option maxRecDepth 65536

noncomputable section

/-! ## What the arrays hold -/

namespace Cert.Kernel8Ideal.Attn

open Idealize.ShloMosaic

/-- Every entry is a real. -/
def Reals {s : Shape} (x : s.Idx → EReal) : Prop := ∀ i, x i = ((x i).toReal : EReal)

/-- Head `h`'s queries, keys and decays, as reals, and its values as they are. -/
def qR (X : (⟨2, ![8192, 4096]⟩ : Shape).Idx → EReal) (h t : ℕ) (d : Fin 128) : ℝ :=
  (X (ix2 ⟨t % 8192, Nat.mod_lt _ (by decide)⟩ ⟨(128 * h + d.val) % 4096, Nat.mod_lt _ (by decide)⟩)).toReal
def kR (X : (⟨2, ![8192, 4096]⟩ : Shape).Idx → EReal) (h n : ℕ) (d : Fin 128) : ℝ :=
  (X (ix2 ⟨n % 8192, Nat.mod_lt _ (by decide)⟩ ⟨(2048 + (128 * h + d.val)) % 4096, Nat.mod_lt _ (by decide)⟩)).toReal
def vE (Y : (⟨2, ![2048, 8192]⟩ : Shape).Idx → EReal) (h : ℕ) (d : Fin 128) (n : ℕ) : EReal :=
  Y (ix2 ⟨(128 * h + d.val) % 2048, Nat.mod_lt _ (by decide)⟩ ⟨n % 8192, Nat.mod_lt _ (by decide)⟩)
def fR (Z : (⟨2, ![16, 8192]⟩ : Shape).Idx → EReal) (h n : ℕ) : ℝ :=
  (Z (ix2 ⟨h % 16, Nat.mod_lt _ (by decide)⟩ ⟨n % 8192, Nat.mod_lt _ (by decide)⟩)).toReal

/-- The attention of head `h` at row `t` and the head's column `d`: the mean of the values, each key that the row sees
    weighted by two to its score. -/
def attend (X : (⟨2, ![8192, 4096]⟩ : Shape).Idx → EReal) (Y : (⟨2, ![2048, 8192]⟩ : Shape).Idx → EReal) (Z : (⟨2, ![16, 8192]⟩ : Shape).Idx → EReal)
    (h t : ℕ) (d : Fin 128) : EReal :=
  (((Sums.mass (score (qR X h) (kR X h) (fR Z h) t) t)⁻¹ : ℝ) : EReal) * Sums.full (score (qR X h) (kR X h) (fR Z h) t) (vE Y h d) t

end Cert.Kernel8Ideal.Attn

/-! ## The reference -/

namespace Cert.Reference8Ideal.Attn

open Idealize.ShloMosaic Idealize.ShloMosaic.TcCoe Idealize.SL.Sem
open Cert.Reference8Ideal Cert.Reference8Ideal.Gen

/-- The products of the queries and the keys, by head. -/
def prods (X : FVec Ideal S8192x4096 .bf16) : FVec Ideal S16x8192x8192 .f32 :=
  Host.dotGeneral dot_S8192x16x128_S8192x16x128_S16x8192x8192_2_2_0_0_1_1 none
    (shapeCast _ (extf .f32 (extractStridedSlice S8192x2048 ![0, 0] X slices_S8192x4096_S8192x2048_0_0) bitsLt_bf16_f32) shapeCasts_S8192x2048_S8192x16x128)
    (shapeCast _ (extf .f32 (extractStridedSlice S8192x2048 ![0, 2048] X slices_S8192x4096_S8192x2048_0_2048) bitsLt_bf16_f32) shapeCasts_S8192x2048_S8192x16x128)

/-- Which keys a query sees. -/
def sees : IVec S16x8192x8192 1 :=
  broadcastInDim S16x8192x8192 ![1, 2] bcast_S8192x8192_S16x8192x8192_1_2
    (cmpi .sge (broadcastInDim S8192x8192 ![0, 1] bcast_S8192x1_S8192x8192_0_1 (broadcastInDim S8192x1 ![0] bcast_S8192_S8192x1_0 (iotaInDim S8192 32 0)))
      (broadcastInDim S8192x8192 ![0, 1] bcast_S1x8192_S8192x8192_0_1 (broadcastInDim S1x8192 ![1] bcast_S8192_S1x8192_1 (iotaInDim S8192 32 0))))

/-- The masked scores. -/
def scores (p : FVec Ideal S16x8192x8192 .f32) (Z : FVec Ideal S16x8192 .f32) : FVec Ideal S16x8192x8192 .f32 :=
  select sees (addf (mulf p (broadcastInDim S16x8192x8192 ![] bcast_S_S16x8192x8192 (Host.log (constant S_ .f32 0x40000000#32))))
      (subf (broadcastInDim S16x8192x8192 ![0, 1, 2] bcast_S16x8192x1_S16x8192x8192_0_1_2 (broadcastInDim S16x8192x1 ![0, 1] bcast_S16x8192_S16x8192x1_0_1 Z))
        (broadcastInDim S16x8192x8192 ![0, 1, 2] bcast_S16x1x8192_S16x8192x8192_0_1_2 (broadcastInDim S16x1x8192 ![0, 2] bcast_S16x8192_S16x1x8192_0_2 Z))))
    (broadcastInDim S16x8192x8192 ![] bcast_S_S16x8192x8192 (id (constant S_ .f32 0xFF800000#32)))

/-- Each row's greatest score. -/
def peak (s : FVec Ideal S16x8192x8192 .f32) : FVec Ideal S16x8192 .f32 :=
  maximumf (broadcastInDim S16x8192 ![] bcast_S_S16x8192 (constant S_ .f32 0xFF800000#32))
    (Host.reduce FloatOps.maximumf s (constant S_ .f32 0xFF800000#32) reducesTo_S16x8192x8192_S16x8192_d2 h_S_)

/-- The powers of the scores less the greatest. -/
def powers (s : FVec Ideal S16x8192x8192 .f32) (M : FVec Ideal S16x8192 .f32) : FVec Ideal S16x8192x8192 .f32 :=
  Host.exp (subf s (broadcastInDim S16x8192x8192 ![0, 1, 2] bcast_S16x8192x1_S16x8192x8192_0_1_2 (broadcastInDim S16x8192x1 ![0, 1] bcast_S16x8192_S16x8192x1_0_1 M)))

/-- The powers over their sum. -/
def weights (e : FVec Ideal S16x8192x8192 .f32) : FVec Ideal S16x8192x8192 .f32 :=
  Host.divf e (broadcastInDim S16x8192x8192 ![0, 1, 2] bcast_S16x8192x1_S16x8192x8192_0_1_2 (broadcastInDim S16x8192x1 ![0, 1] bcast_S16x8192_S16x8192x1_0_1
    (Host.reduceAdd e (constant S_ .f32 0x00000000#32) reducesTo_S16x8192x8192_S16x8192_d2 h_S_)))

/-- The weighted values, gated. -/
def gated (w : FVec Ideal S16x8192x8192 .f32) (Y : FVec Ideal S2048x8192 .bf16) (G : FVec Ideal S8192x4096 .bf16) : FVec Ideal S8192x2048 .bf16 :=
  truncf .bf16 (mulf (shapeCast _ (transpose S8192x16x128 [2, 0, 1]
      (Host.dotGeneral dot_S16x128x8192_S16x8192x8192_S16x128x8192_2_2_1_1_0_0 none (shapeCast _ (extf .f32 Y bitsLt_bf16_f32) shapeCasts_S2048x8192_S16x128x8192) w)
      transposes_S16x128x8192_S8192x16x128_2_0_1) shapeCasts_S8192x16x128_S8192x2048)
    (extf .f32 (extractStridedSlice S8192x2048 ![0, 0] G slices_S8192x4096_S8192x2048_0_0) bitsLt_bf16_f32)) bitsLt_bf16_f32

theorem res_eq (m : (ℓ : Loc nD τ sig) → Buf (Elt Ideal) ℓ) (c : Dev nD) :
    Value.res_main_v42 m c = gated (weights (powers (scores (prods (m ((c : Thread nD τ).loc main_arg0))) (m ((c : Thread nD τ).loc main_arg3)))
        (peak (scores (prods (m ((c : Thread nD τ).loc main_arg0))) (m ((c : Thread nD τ).loc main_arg3))))))
      (m ((c : Thread nD τ).loc main_arg1)) (m ((c : Thread nD τ).loc main_arg2)) := by
  with_unfolding_all rfl

open Cert.Kernel8Ideal.Attn (neg_inf fold_ne_top score Reals qR kR vE fR attend)
open Cert.Kernel8Ideal.Attn.Sums

theorem log_two : Ideal.log (Ideal.ofBits .f32 1073741824#32) = ((Real.log 2 : ℝ) : EReal) := by
  have h : Ideal.ofBits .f32 1073741824#32 = ((2 : ℝ) : EReal) := by
    simp [Ideal.ofBits, Ideal.ieee, -EReal.coe_mul]; norm_num
  rw [h, Ideal.log_coe, if_neg (by norm_num)]

theorem prods_at (X : FVec Ideal S8192x4096 .bf16) (hX : Reals X) (h : Fin 16) (q k : Fin 8192) :
    prods X (ix3 h q k) = ((∑ d, kR X h.val k.val d * qR X h.val q.val d : ℝ) : EReal) := by
  have hh : h.val < 16 := h.isLt
  pointwise [prods]
  rw [← coe_sum]
  refine Finset.sum_congr rfl fun d _ => ?_
  have hd : d.val < 128 := d.isLt
  rw [EReal.coe_mul, mul_comm]
  unfold kR qR
  rw [← hX, ← hX]
  refine congrArg₂ (· * ·) (congrArg X (congrArg₂ ix2 (Fin.ext ?_) (Fin.ext ?_))) (congrArg X (congrArg₂ ix2 (Fin.ext ?_) (Fin.ext ?_)))
  · show k.val = k.val % 8192; omega
  · show 2048 + (h.val * 128 + d.val) = (2048 + (128 * h.val + d.val)) % 4096; omega
  · show q.val = q.val % 8192; omega
  · show h.val * 128 + d.val = (128 * h.val + d.val) % 4096; omega

theorem decay_at (Z : FVec Ideal S16x8192 .f32) (hZ : Reals Z) (h : Fin 16) (n : Fin 8192) : Z (ix2 h n) = ((fR Z h.val n.val : ℝ) : EReal) := by
  unfold fR
  rw [← hZ]
  exact congrArg Z (congrArg₂ ix2 (Fin.ext (Nat.mod_eq_of_lt h.isLt).symm) (Fin.ext (Nat.mod_eq_of_lt n.isLt).symm))

theorem sees_at (h : Fin 16) (q k : Fin 8192) : sees (ix3 h q k) = BitVec.ofBool (decide (k.val ≤ q.val)) := by
  pointwise [sees]
  rw [Idealize.ShloMosaic.WordCmp.cmpi_sge_ofNat (by omega) (by omega)]

/-- A masked score is the base-two score times the logarithm of two, where the key is seen. -/
theorem scores_at (X : FVec Ideal S8192x4096 .bf16) (hX : Reals X) (Z : FVec Ideal S16x8192 .f32) (hZ : Reals Z) (h : Fin 16) (q k : Fin 8192) :
    scores (prods X) Z (ix3 h q k)
      = if k.val ≤ q.val then ((score (qR X h.val) (kR X h.val) (fR Z h.val) q.val k.val * Real.log 2 : ℝ) : EReal) else ⊥ := by
  have hl : Real.log 2 ≠ 0 := (Real.log_pos (by norm_num)).ne'
  pointwise [scores]
  rw [sees_at, Idealize.ShloMosaic.WordCmp.select_decide]
  refine if_congr Iff.rfl ?_ neg_inf
  rw [prods_at X hX, log_two, decay_at Z hZ, decay_at Z hZ, ← EReal.coe_mul, ← EReal.coe_sub, ← EReal.coe_add]
  refine congrArg _ ?_
  unfold score
  field_simp

theorem constant_bot : constant (F := Ideal) S_ .f32 0xFF800000#32 = fun _ => (⊥ : EReal) := funext fun _ => neg_inf

section Peak

variable {n0 n1 n2 : ℕ} (v : FVec Ideal ⟨3, ![n0, n1, n2]⟩ .f32) (w : FVec Ideal ⟨2, ![n0, n1]⟩ .f32)
    (h : (⟨3, ![n0, n1, n2]⟩ : Shape).ReducesTo [2] ⟨2, ![n0, n1]⟩) (hu : 0 < (⟨0, ![]⟩ : Shape).numel) (a : Fin n0) (b : Fin n1)

theorem reduce_max (c : FVec Ideal ⟨0, ![]⟩ .f32) :
    Host.reduce FloatOps.maximumf v c h hu (ix2 a b) = Finset.fold max (c (Shape.Idx.first hu)) (fun k : Fin n2 => v (ix3 a b k)) Finset.univ := by
  simp only [pointwise]

theorem greatest_ge (hw : w (ix2 a b) = (⊥ : EReal)) (k : Fin n2) : v (ix3 a b k)
    ≤ maximumf (F := Ideal) w (Host.reduce FloatOps.maximumf v (fun _ => (⊥ : EReal)) h hu) (ix2 a b) := by
  show _ ≤ max (w (ix2 a b)) (Host.reduce FloatOps.maximumf v (fun _ => (⊥ : EReal)) h hu (ix2 a b))
  rw [reduce_max]
  exact le_max_of_le_right (Finset.le_fold_max (v (ix3 a b k)) |>.mpr (Or.inr ⟨k, Finset.mem_univ _, le_rfl⟩))

theorem greatest_ne_top (hw : w (ix2 a b) = (⊥ : EReal)) (hv : ∀ k, v (ix3 a b k) ≠ (⊤ : EReal)) :
    maximumf (F := Ideal) w (Host.reduce FloatOps.maximumf v (fun _ => (⊥ : EReal)) h hu) (ix2 a b) ≠ (⊤ : EReal) := by
  show max (w (ix2 a b)) (Host.reduce FloatOps.maximumf v (fun _ => (⊥ : EReal)) h hu (ix2 a b)) ≠ ⊤
  rw [reduce_max, hw]
  exact ne_of_lt (max_lt bot_lt_top (Finset.fold_max_lt ⊤ |>.mpr ⟨bot_lt_top, fun k _ => lt_top_iff_ne_top.mpr (hv k)⟩))

end Peak

theorem peak_ge (s : FVec Ideal S16x8192x8192 .f32) (h : Fin 16) (q k : Fin 8192) : s (ix3 h q k) ≤ peak s (ix2 h q) := by
  unfold peak
  rw [constant_bot]
  exact greatest_ge s _ _ _ h q rfl k

theorem peak_ne_top (s : FVec Ideal S16x8192x8192 .f32) (h : Fin 16) (q : Fin 8192) (hs : ∀ k, s (ix3 h q k) ≠ (⊤ : EReal)) : peak s (ix2 h q) ≠ (⊤ : EReal) := by
  unfold peak
  rw [constant_bot]
  exact greatest_ne_top s _ _ _ h q rfl hs

theorem powers_at (s : FVec Ideal S16x8192x8192 .f32) (M : FVec Ideal S16x8192 .f32) (h : Fin 16) (q k : Fin 8192) :
    powers s M (ix3 h q k) = Ideal.exp (s (ix3 h q k) - M (ix2 h q)) := by
  pointwise [powers]

theorem weights_at (e : FVec Ideal S16x8192x8192 .f32) (h : Fin 16) (q k : Fin 8192) :
    weights e (ix3 h q k) = Ideal.div (e (ix3 h q k)) (∑ x : Fin 8192, e (ix3 h q x)) := by
  pointwise [weights]

theorem gated_at (w : FVec Ideal S16x8192x8192 .f32) (Y : FVec Ideal S2048x8192 .bf16) (G : FVec Ideal S8192x4096 .bf16) (a : Fin 8192) (b : Fin 2048) :
    gated w Y G (ix2 a b) = (∑ x : Fin 8192, Y (ix2 b x) * w (ix3 (⟨b.val / 128, by omega⟩ : Fin 16) a x)) * G (ix2 a ⟨b.val, by omega⟩) := by
  pointwise [gated]

/-- The reference's result at a row and a column. -/
theorem result_at (X : FVec Ideal S8192x4096 .bf16) (hX : Reals X) (Y : FVec Ideal S2048x8192 .bf16) (G : FVec Ideal S8192x4096 .bf16)
    (Z : FVec Ideal S16x8192 .f32) (hZ : Reals Z) (a : Fin 8192) (b : Fin 2048) :
    gated (weights (powers (scores (prods X) Z) (peak (scores (prods X) Z)))) Y G (ix2 a b)
      = attend X Y Z (b.val / 128) a.val ⟨b.val % 128, Nat.mod_lt _ (by decide)⟩ * G (ix2 a ⟨b.val, by omega⟩) := by
  refine (gated_at _ _ _ _ _).trans (congrArg (· * _) ?_)
  simp only [weights_at, powers_at]
  have hb : b.val < 2048 := b.isLt
  have he := scores_at X hX Z hZ (⟨b.val / 128, by omega⟩ : Fin 16) a
  refine soft _ _ a.val a.isLt (fun i => scores (prods X) Z (ix3 (⟨b.val / 128, by omega⟩ : Fin 16) a i)) (fun x => Y (ix2 b x)) he (fun i => ?_) _
    (peak_ge _ _ _ _) (peak_ne_top _ _ _ fun k => ?_)
  · unfold vE
    refine congrArg Y (congrArg₂ ix2 (Fin.ext ?_) (Fin.ext ?_))
    · show b.val = (128 * (b.val / 128) + b.val % 128) % 2048; omega
    · show i.val = i.val % 8192; omega
  · rw [he k]
    split_ifs
    · exact EReal.coe_ne_top _
    · exact bot_ne_top

end Cert.Reference8Ideal.Attn

end
-- ==== Proof.Attn.Value.lean ====
/- The attention's result over the extended reals, from the kernel and from the reference: of finite queries, keys and decays, the mean of
   the values, each weighted by two to its score, by the gate. -/
module

public import proofs.«01_k».proof.Defs
public import proofs.«01_k».proof.Proof.Attn.Run
public import proofs.«01_k».proof.Proof.Attn.Ref
public import proofs.«01_k».proof.Proof.Gen.Kernel8
public import proofs.«01_k».proof.Proof.Gen.Pre_finite
public import Idealize.ShloMosaic.Lib.Pipeline.ValueKit
public import Idealize.ShloMosaic.Lib.Quiescent
public import Idealize.ShloMosaic.Lib.ReduceAll
public import Idealize.ShloMosaic.Lib.Affine

@[expose] public section

set_option maxRecDepth 16384

noncomputable section

namespace Cert.Kernel8Ideal.Attn

open Idealize.ShloMosaic Idealize.ShloMosaic.TcCoe Idealize.SL.Sem
open Idealize.ShloMosaic.Pipeline (Dat)
open Cert.Kernel8Ideal Cert.Kernel8Ideal.Gen

/-! ## Finite arrays hold reals -/

theorem pos_inf : Ideal.ofBits .f32 0x7F800000#32 = (⊤ : EReal) := by
  simp [Ideal.ofBits, Ideal.ieee]

theorem reals_of_between {s u : Shape} {axes : List (Fin s.rank)} (x : s.Idx → EReal) (lo hi : s.Idx → EReal) (hlo : ∀ i, lo i = ⊥) (hhi : ∀ i, hi i = ⊤)
    (c : u.Idx → BitVec 1) (h : s.ReducesTo axes ⟨0, ![]⟩) (hu : 0 < u.numel) (j : (⟨0, ![]⟩ : Shape).Idx)
    (e : Host.reduce IntOp.andi (andi (cmpf (F := Ideal) (φ := .f32) .olt x hi) (cmpf (F := Ideal) (φ := .f32) .ogt x lo)) c h hu j = 1#1) : Reals x := fun i => by
  haveI : Subsingleton (⟨0, ![]⟩ : Shape).Idx := ⟨fun a b => funext fun k => k.elim0⟩
  obtain ⟨h1, h2⟩ := IntOp.andi_eq_one.1 (Host.reduce_andi_all _ _ _ _ _ e i)
  have h1' : Ideal.cmp .olt (x i) (hi i) = 1#1 := h1
  have h2' : Ideal.cmp .ogt (x i) (lo i) = 1#1 := h2
  simp only [Ideal.cmp, hlo, hhi, WordCmp.ofBool_decide_eq_ite] at h1' h2'
  have g1 : x i < ⊤ := by
    by_contra hn
    rw [if_neg hn] at h1'
    exact absurd h1' (by decide)
  have g2 : ⊥ < x i := by
    by_contra hn
    rw [if_neg hn] at h2'
    exact absurd h2' (by decide)
  exact (EReal.coe_toReal g1.ne g2.ne').symm

theorem reals_of_finite (X : FVec Ideal S8192x4096 .bf16) (Y : FVec Ideal S2048x8192 .bf16) (G : FVec Ideal S8192x4096 .bf16) (Z : FVec Ideal S16x8192 .f32)
    (h : Cert.Pre_finite.fn (F := Ideal) X Y G Z = fun _ => 1#1) : Reals X ∧ Reals Z := by
  have h0 := congrFun h ix0
  dsimp only [Cert.Pre_finite.fn] at h0
  obtain ⟨hx, hz⟩ := IntOp.andi_eq_one.1 h0
  exact ⟨reals_of_between X _ _ (fun _ => neg_inf) (fun _ => pos_inf) _ _ _ _ hx,
    reals_of_between Z _ _ (fun _ => neg_inf) (fun _ => pos_inf) _ _ _ _ hz⟩

/-! ## The kernel's result -/

/-- The gated attention at row `a`, column `b`. -/
def entry (X : FVec Ideal S8192x4096 .bf16) (Y : FVec Ideal S2048x8192 .bf16) (G : FVec Ideal S8192x4096 .bf16) (Z : FVec Ideal S16x8192 .f32)
    (a : Fin 8192) (b : ℕ) : EReal :=
  attend X Y Z (b / 128) a.val ⟨b % 128, Nat.mod_lt _ (by decide)⟩ * G (ix2 a ⟨b % 4096, Nat.mod_lt _ (by decide)⟩)

/-- The gated attention. -/
def G (X : FVec Ideal S8192x4096 .bf16) (Y : FVec Ideal S2048x8192 .bf16) (Zg : FVec Ideal S8192x4096 .bf16) (Z : FVec Ideal S16x8192 .f32) :
    FVec Ideal S8192x2048 .bf16 :=
  fun y => entry X Y Zg Z (y 0) (y 1).val

variable (m : (ℓ : Loc nD τ sig) → Buf (Elt Ideal) ℓ)

/-- The decays as the region finds them are the argument with a unit axis put in. -/
theorem decays (c : Dev nD) (h : Fin 16) (z : Fin 1) (n : Fin 8192) :
    (V m c main_v0 : FVec Ideal S16x1x8192 .f32) (ix3 h z n) = m ((c : Thread nD τ).loc main_arg3) (ix2 h n) := by
  entry_read
  pointwise

section Point

variable (c : Dev nD) (hX : Reals (m ((c : Thread nD τ).loc main_arg0))) (hZ : Reals (m ((c : Thread nD τ).loc main_arg3)))

include hX hZ in
/-- What a point's arrays hold. -/
theorem point_holds (t : Fin cfg0.N) : Holds (iblk m c 0 t) (iblk m c 1 t) (headV m c (t.val / 8)) (headF m c (t.val / 8)) (1024 * (t.val % 8))
    (qR (m ((c : Thread nD τ).loc main_arg0)) (t.val / 8)) (kR (m ((c : Thread nD τ).loc main_arg0)) (t.val / 8))
    (vE (m ((c : Thread nD τ).loc main_arg1)) (t.val / 8)) (fR (m ((c : Thread nD τ).loc main_arg3)) (t.val / 8)) where
  q r d := by
    have hN : t.val < 128 := lt_of_lt_of_eq t.isLt (show cfg0.N = 128 from N_0)
    have e := (idx t).1
    have e0 : (1024 * (t.val % 8) + r.val) % 8192 = t.val % 8 * 1024 + r.val := by omega
    have e1 : (128 * (t.val / 8) + d.val) % 4096 = t.val / 8 * 128 + d.val := by omega
    unfold qR
    rw [← hX]
    blk_ext [iblk, V, e, e0, e1]
  k n d := by
    have hN : t.val < 128 := lt_of_lt_of_eq t.isLt (show cfg0.N = 128 from N_0)
    have e := (idx t).2.1
    have e0 : n.val % 8192 = n.val := by omega
    have e1 : (2048 + (128 * (t.val / 8) + d.val)) % 4096 = (16 + t.val / 8) * 128 + d.val := by omega
    unfold kR
    rw [← hX]
    blk_ext [iblk, V, e, e0, e1]
  v d n := by
    unfold vE headV
    have e : n.val % 8192 = n.val := by omega
    show V m c main_arg1 _ = _
    simp only [e]
    rfl
  f n := by
    unfold fR headF
    rw [← hZ]
    refine (decays m c _ _ _).trans ?_
    have e : n.val % 8192 = n.val := by omega
    simp only [e]
    rfl

include hX hZ in
theorem block_apply (t : Fin cfg0.N) (r : Fin 1024) (d : Fin 128) (a : Fin 8192) (b : ℕ) (ha : a.val = t.val % 8 * 1024 + r.val) (hb : b = t.val / 8 * 128 + d.val) :
    block m c t (ix2 r d) = entry (m ((c : Thread nD τ).loc main_arg0)) (m ((c : Thread nD τ).loc main_arg1)) (m ((c : Thread nD τ).loc main_arg2))
      (m ((c : Thread nD τ).loc main_arg3)) a b := by
  have hN : t.val < 128 := lt_of_lt_of_eq t.isLt (show cfg0.N = 128 from N_0)
  have h := out_at (point_holds m c hX hZ t) (by omega) (iblk m c 4 t) r d
  have e := (idx t).2.2.2.2.1
  have ea : 1024 * (t.val % 8) + r.val = a.val := by omega
  have eb : b / 128 = t.val / 8 := by omega
  have ed : (⟨b % 128, Nat.mod_lt _ (by decide)⟩ : Fin 128) = d := Fin.ext (by show b % 128 = d.val; omega)
  have ez : b % 4096 = t.val / 8 * 128 + d.val := by omega
  rw [ea] at h
  refine h.trans ?_
  unfold entry attend
  rw [eb, ed]
  refine congrArg₂ (fun x y : EReal => x * y) rfl ?_
  blk_ext [iblk, V, e, ha, ez]

include hX hZ in
/-- The result array after the run. -/
theorem final : (dats m 0 c).arrAt 5 cfg0.N
    = G (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have hN : t.val < 128 := lt_of_lt_of_eq t.isLt (show cfg0.N = 128 from N_0)
  have e := (idx t).2.2.2.2.2
  rw [after5]
  idx_vars y
  rw [show ((View.whole main_v1).slice ((win0 5).rect t)).emb (ix2 y0 y1)
      = ix2 (⟨t.val % 8 * 1024 + y0.val, by omega⟩ : Fin 8192) (⟨t.val / 8 * 128 + y1.val, by omega⟩ : Fin 2048) from by
    blk_ext [e]]
  refine Eq.trans ?_ (block_apply m c hX hZ t y0 y1 _ _ rfl rfl)
  blk_simp

end Point

/-- The run of finite queries, keys and decays, its result array at the gated attention. -/
theorem result (ρ : Dev nD → PrngReg) (h : Cert.Pre_Kernel8Ideal_finite m) : θ_run defs (onTc (τ := τ) (main (F := Ideal))) ⟨m, fun _ => 0, ρ⟩ (fun r => ∀ c : Dev nD,
      r.2.mem ((c.tc : Thread nD τ).loc main_v1)
        = G (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ hr c => ⟨((hr.2.1 c).1 5).trans (by
    obtain ⟨hX, hZ⟩ := reals_of_finite _ _ _ _ (h c)
    exact final m c hX hZ), hr.1.1 c⟩) (θ_run_and (frame m ρ) (run_quiet m ρ))

end Cert.Kernel8Ideal.Attn

/-! ## The claims -/

namespace Cert.Proof

open Idealize.ShloMosaic Idealize.SL.Sem

/-- A named constant read as the float its word is: what the run of the kernel as printed has in its place. -/
@[reducible] def wordNames : Named Bits where
  named _ _ {φ} b := Scalar.ofBits φ b

attribute [local instance] wordNames

theorem attn_defs : Cert.Kernel8.defs (F := Bits) = Cert.Kernel8Ideal.defs (F := Bits) := by
  have h : Cert.Kernel8.defs₀ (F := Bits) = Cert.Kernel8Ideal.defs₀ (F := Bits) := by
    unfold Cert.Kernel8.defs₀ Cert.Kernel8Ideal.defs₀
    refine congrArg Defs.onTc (funext fun l => funext fun a => ?_)
    match l, a with
    | 0, (t, s) => rfl
  unfold Cert.Kernel8.defs Cert.Kernel8Ideal.defs
  rw [h]; rfl

theorem frame_kernel8 : Cert.quiescent_Kernel8 := fun m g _ => by
  rw [attn_defs]
  exact Cert.Kernel8Ideal.Attn.frame (F := Bits) m g

theorem frame_ideal8 : Cert.quiescent_Kernel8Ideal := fun m g _ => Cert.Kernel8Ideal.Attn.frame (F := Ideal) m g

theorem frame_ideal8_finite : Cert.quiescent_Kernel8Ideal_pre_finite := fun m g _ => Cert.Kernel8Ideal.Attn.frame (F := Ideal) m g

theorem frame_reference8 : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

theorem frame_reference8_finite : Cert.quiescent_Reference8Ideal_pre_finite := fun m g _ =>
  (θ_run Cert.Reference8Ideal.defs _ _).mono (fun r h => ⟨fun c => (h c).2, sem_eq_zero_of_no_sems (by decide) r.2⟩)
    (Cert.Reference8Ideal.Value.run (F := Ideal) m g)

theorem preserves8 : Cert.preserves_Kernel8_Kernel8Ideal :=
  ⟨IdealRules.named_const.statement Cert.Kernel8Ideal.κ "log2e" .f32 0x3FB8AA3B#32 (((Real.log 2)⁻¹ : ℝ) : EReal) rfl,
    IdealRules.named_const.statement Cert.Kernel8Ideal.κ "mask" .f32 0xF149F2CA#32 ⊥ rfl⟩

theorem algebraic8 : Cert.algebraic_Kernel8Ideal_Reference8Ideal_pre_finite := by
  intro m g m' g' hp hagree
  refine ⟨_, Cert.Kernel8Ideal.Attn.result m g hp, ?_⟩
  refine (θ_run Cert.Reference8Ideal.defs _ _).mono (fun r h c => ⟨(h c).1.trans ?_, (h c).2⟩) (Cert.Reference8Ideal.Value.run (F := Ideal) m' g')
  obtain ⟨hX, hZ⟩ := Cert.Kernel8Ideal.Attn.reals_of_finite _ _ _ _ (hp c)
  refine (Cert.Reference8Ideal.Attn.res_eq m' c).trans ?_
  have h0 := (hagree c).1
  have h1 := (hagree c).2.1
  have h2 := (hagree c).2.2.1
  have h3 := (hagree c).2.2.2
  refine funext fun y => ?_
  idx_vars y
  refine Eq.trans (b := Cert.Reference8Ideal.Attn.gated (Cert.Reference8Ideal.Attn.weights (Cert.Reference8Ideal.Attn.powers
      (Cert.Reference8Ideal.Attn.scores (Cert.Reference8Ideal.Attn.prods (m (c.tc.loc Cert.Kernel8Ideal.main_arg0))) (m (c.tc.loc Cert.Kernel8Ideal.main_arg3)))
      (Cert.Reference8Ideal.Attn.peak (Cert.Reference8Ideal.Attn.scores (Cert.Reference8Ideal.Attn.prods (m (c.tc.loc Cert.Kernel8Ideal.main_arg0))) (m (c.tc.loc Cert.Kernel8Ideal.main_arg3))))))
      (m (c.tc.loc Cert.Kernel8Ideal.main_arg1)) (m (c.tc.loc Cert.Kernel8Ideal.main_arg2)) (ix2 y0 y1)) ?_
    ((Cert.Reference8Ideal.Attn.result_at _ hX _ _ _ hZ y0 y1).trans ?_)
  · rw [h0, h1, h2, h3]
  · have hb : y1.val < 2048 := y1.isLt
    have e : (⟨y1.val, by omega⟩ : Fin 4096) = ⟨y1.val % 4096, Nat.mod_lt _ (by decide)⟩ := Fin.ext (Nat.mod_eq_of_lt (by omega)).symm
    show _ = Cert.Kernel8Ideal.Attn.entry _ _ _ _ y0 y1.val
    unfold Cert.Kernel8Ideal.Attn.entry
    rw [e]

end Cert.Proof

end
-- ==== Proof.Pre.Gates.lean ====
/- Two ways of writing the log of the logistic function agree on the extended reals. -/
module

public import Idealize.ShloMosaic.Lib.IdealHost

@[expose] public section

namespace Cert.Pre

open Idealize.ShloMosaic

/-- The exponential is never negative. -/
theorem exp_nonneg (x : EReal) : 0 ≤ Ideal.exp x := by
  induction x with
  | bot => exact le_rfl
  | top => exact le_top
  | coe r => exact EReal.coe_nonneg.mpr (Real.exp_pos r).le

/-- So the log of one more than it isn't the least element. -/
theorem log1p_exp_ne_bot (x : EReal) : Ideal.log1p (Ideal.exp x) ≠ ⊥ := by
  have h := exp_nonneg x
  unfold Ideal.log1p
  generalize Ideal.exp x = y at h
  induction y with
  | bot => exact absurd h (by simp)
  | top =>
    rw [EReal.add_top_of_ne_bot (by exact EReal.coe_ne_bot 1)]
    exact top_ne_bot
  | coe r =>
    have hr : 0 ≤ r := EReal.coe_nonneg.mp h
    rw [← EReal.coe_one, ← EReal.coe_add]
    show (if 1 + r ≤ 0 then (⊥ : EReal) else (Real.log (1 + r) : EReal)) ≠ ⊥
    rw [if_neg (by linarith)]
    exact EReal.coe_ne_bot _

/-- `min z 0 - log (1 + e^(-|z|)) = -(max (-z) 0 + log (1 + e^(-|-z|)))`. -/
theorem log_sigmoid (z : EReal) :
    -(max (-z) 0 + Ideal.log1p (Ideal.exp (-(max (-z) (- -z)))))
      = min z 0 - Ideal.log1p (Ideal.exp (-(max z (-z)))) := by
  rw [neg_neg, max_comm (-z) z]
  have hb := log1p_exp_ne_bot (-(max z (-z)))
  have ha : max (-z) 0 ≠ ⊥ := fun h => by
    have := le_max_right (-z) (0 : EReal)
    rw [h] at this
    exact absurd this (by simp)
  rw [EReal.neg_add (Or.inl ha) (Or.inr hb)]
  refine congrArg (· - _) ?_
  rcases le_total z 0 with h | h
  · rw [min_eq_left h, max_eq_left (by rw [EReal.le_neg]; simpa using h), neg_neg]
  · rw [min_eq_right h, max_eq_right (by rw [EReal.neg_le]; simpa using h), neg_zero]

end Cert.Pre
-- ==== Proof.Pre.Steps.lean ====
/- The modulated pre-norm's steps: the normed rows, the logits' log-sigmoid and the weights' copy that each point leaves. -/
module

public import proofs.«01_k».proof.Defs
public import proofs.«01_k».proof.Proof.Gen.Kernel9Ideal.Frame
public import Idealize.ShloMosaic.Lib.Pipeline.ValueKit

@[expose] public section

set_option maxRecDepth 16384

noncomputable section

namespace Cert.Kernel9Ideal.Pre

open Idealize.ShloMosaic Idealize.ShloMosaic.TcCoe Idealize.SL.Sem
open Cert.Kernel9Ideal Cert.Kernel9Ideal.Gen

variable {F : FTy → Type} [FloatOps F]

theorem hz : (![0, 0] : Fin 2 → ℕ) = fun _ => 0 := by
  funext i
  match i with
  | 0 => rfl
  | 1 => rfl

/-- The log-sigmoid of the logits, from the rows' block, the weights' copy and the bias. -/
abbrev logf (x0 : Vec F S512x4096 .f32) (x1 x2 x3 : Vec F S1x4096 .f32) (w : Vec F S128x4096 .bf16) (x5 : Vec F S1x128 .f32) :
    Vec F S512x128 .f32 := k0_pay1 (k0_pay4 x0 x1 x2 x3 w x5) k0_pay5

section
variable (c : Dev nD) (i : grid0.Coords) (a1 : Memref sig .tc .vmem S512x4096 .f32) (h1 : a1.IsWhole)
  (a2 : Memref sig .tc .vmem S1x4096 .f32) (h2 : a2.IsWhole) (a3 : Memref sig .tc .vmem S1x4096 .f32) (h3 : a3.IsWhole)
  (a4 : Memref sig .tc .vmem S1x4096 .f32) (h4 : a4.IsWhole) (a5 : Memref sig .tc .vmem S128x4096 .f32) (h5 : a5.IsWhole)
  (a6 : Memref sig .tc .vmem S1x128 .f32) (h6 : a6.IsWhole) (a7 : Memref sig .tc .vmem S512x4096 .bf16) (h7 : a7.IsWhole)
  (a8 : Memref sig .tc .vmem S512x128 .f32) (h8 : a8.IsWhole) (a9 : Memref sig .tc .vmem S128x4096 .bf16) (h9 : a9.IsWhole)
  (x0 : Vec F S512x4096 .f32) (x1 x2 x3 : Vec F S1x4096 .f32) (x4 : Vec F S128x4096 .f32) (x5 : Vec F S1x128 .f32)
  (w : Vec F S128x4096 .bf16)

theorem rows_A (hc : cond0_0 i) : out0_A_6 c i a1 h1 a2 h2 a3 h3 a4 h4 a5 h5 a6 h6 a7 h7 a8 h8 a9 h9 hc x0 x1 x2 x3 x4 x5
    = k0_pay3 x0 x1 x2 x3 := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  sl_unfold_words
  rw [View.canon_unit_zero (S := S512x4096) hz]
  simp only [View.readAt_eq_ld, h1.read_unread, h2.read_unread, h3.read_unread, h4.read_unread, View.ld_unit_zero (S := S512x4096) hz, View.ld_unit_zero (S := S1x4096) hz, View.ld_unit_zero (S := S128x4096) hz, View.ld_unit_zero (S := S1x128) hz]

theorem rows_B (hc : ¬cond0_0 i) : out0_B_6 c i a1 h1 a2 h2 a3 h3 a4 h4 a5 h5 a6 h6 a7 h7 a8 h8 a9 h9 hc x0 x1 x2 x3 x4 x5 w
    = k0_pay3 x0 x1 x2 x3 := by
  unfold out0_B_6
  rw [View.read_writes_eq_canon _ _ _ (cover0_B_6 c i a1 h1 a2 h2 a3 h3 a4 h4 a5 h5 a6 h6 a7 h7 a8 h8 a9 h9 hc x0 x1 x2 x3 x4 x5 w)]
  unfold kernelRun0_B
  dsimp only
  sl_unfold_words
  rw [View.canon_unit_zero (S := S512x4096) hz]
  simp only [View.readAt_eq_ld, h1.read_unread, h2.read_unread, h3.read_unread, h4.read_unread, View.ld_unit_zero (S := S512x4096) hz, View.ld_unit_zero (S := S1x4096) hz, View.ld_unit_zero (S := S128x4096) hz, View.ld_unit_zero (S := S1x128) hz]

theorem copy_A (hc : cond0_0 i) : sout0_A_0 c i a1 h1 a2 h2 a3 h3 a4 h4 a5 h5 a6 h6 a7 h7 a8 h8 a9 h9 hc x0 x1 x2 x3 x4 x5
    = k0_pay2 x4 := by
  unfold sout0_A_0
  rw [View.read_writes_eq_canon _ _ _ (scover0_A_0 c i a1 h1 a2 h2 a3 h3 a4 h4 a5 h5 a6 h6 a7 h7 a8 h8 a9 h9 hc x0 x1 x2 x3 x4 x5)]
  unfold kernelRun0_A
  dsimp only
  sl_unfold_words
  rw [View.canon_unit_zero (S := S128x4096) hz]
  simp only [View.readAt_eq_ld, h5.read_unread, View.ld_unit_zero (S := S512x4096) hz, View.ld_unit_zero (S := S1x4096) hz, View.ld_unit_zero (S := S128x4096) hz, View.ld_unit_zero (S := S1x128) hz]

theorem logf_A (hc : cond0_0 i) : out0_A_7 c i a1 h1 a2 h2 a3 h3 a4 h4 a5 h5 a6 h6 a7 h7 a8 h8 a9 h9 hc x0 x1 x2 x3 x4 x5
    = logf x0 x1 x2 x3 (k0_pay2 x4) x5 := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_unit_zero (S := S512x128) hz, View.readCov_unit_zero (S := S128x4096) _ hz]
  simp only [View.readAt_eq_ld, h1.read_unread, h2.read_unread, h3.read_unread, h4.read_unread, h5.read_unread, h6.read_unread,
    View.ld_unit_zero (S := S512x4096) hz, View.ld_unit_zero (S := S1x4096) hz, View.ld_unit_zero (S := S128x4096) hz, View.ld_unit_zero (S := S1x128) hz]

theorem logf_B (hc : ¬cond0_0 i) : out0_B_7 c i a1 h1 a2 h2 a3 h3 a4 h4 a5 h5 a6 h6 a7 h7 a8 h8 a9 h9 hc x0 x1 x2 x3 x4 x5 w
    = logf x0 x1 x2 x3 w x5 := by
  unfold out0_B_7
  rw [View.read_writes_eq_canon _ _ _ (cover0_B_7 c i a1 h1 a2 h2 a3 h3 a4 h4 a5 h5 a6 h6 a7 h7 a8 h8 a9 h9 hc x0 x1 x2 x3 x4 x5 w)]
  unfold kernelRun0_B
  dsimp only
  sl_unfold_words
  rw [View.canon_unit_zero (S := S512x128) hz]
  simp only [View.readAt_eq_ld, h1.read_unread, h2.read_unread, h3.read_unread, h4.read_unread, h6.read_unread, h9.read_unread,
    View.ld_unit_zero (S := S512x4096) hz, View.ld_unit_zero (S := S1x4096) hz, View.ld_unit_zero (S := S128x4096) hz, View.ld_unit_zero (S := S1x128) hz]

end

variable (m : (ℓ : Loc nD τ sig) → Buf (Elt F) ℓ)

/-- The weights' rows as the first point copies them. -/
def held (c : Dev nD) : Vec F S128x4096 .bf16 := k0_pay2 (iblk m c 4 (⟨0, by rw [show cfg0.N = 16 from N_0]; decide⟩ : Fin cfg0.N))

/-- What every point leaves. -/
theorem left (c : Dev nD) : ∀ (n : ℕ) (hn : n < cfg0.N), outsAt0 m c n hn
    = (k0_pay3 (iblk m c 0 ⟨n, hn⟩) (iblk m c 1 ⟨n, hn⟩) (iblk m c 2 ⟨n, hn⟩) (iblk m c 3 ⟨n, hn⟩),
       logf (iblk m c 0 ⟨n, hn⟩) (iblk m c 1 ⟨n, hn⟩) (iblk m c 2 ⟨n, hn⟩) (iblk m c 3 ⟨n, hn⟩) (held m c) (iblk m c 5 ⟨n, hn⟩),
       held m c)
  | 0, hn => by
    rw [outsAt0_A m c ⟨0, hn⟩ (Nat.zero_mod _), rows_A, logf_A, copy_A]
    rfl
  | n + 1, hn => by
    have hN := lt_of_lt_of_eq hn (show cfg0.N = 16 from N_0)
    rw [outsAt0_B m c ⟨n + 1, hn⟩ (by show ¬(n + 1) % 16 = 0; omega), rows_B, logf_B]
    have ih : (outsAt0 m c (n + 1 - 1) (Nat.lt_of_succ_lt hn)).2.2 = held m c := congrArg (fun x => x.2.2) (left c n (Nat.lt_of_succ_lt hn))
    unfold sout0_B_0
    rw [ih]

end Cert.Kernel9Ideal.Pre

end
-- ==== Proof.Pre.Arrays.lean ====
/- The modulated pre-norm's two results over the extended reals: the normed rows, and the log of the logistic function of
   their product with 128 rows of the weights plus a bias. -/
module

public import proofs.«01_k».proof.Defs
public import proofs.«01_k».proof.Proof.Pre.Steps
public import Idealize.ShloMosaic.Lib.Pipeline.ValueKit

@[expose] public section

set_option maxRecDepth 16384

noncomputable section

namespace Cert.Kernel9Ideal.Pre

open Idealize.ShloMosaic Idealize.ShloMosaic.TcCoe Idealize.SL.Sem
open Idealize.ShloMosaic.Pipeline (Dat)
open Cert.Kernel9Ideal Cert.Kernel9Ideal.Gen

/-- The normed row `a` at column `k`, scaled and shifted. -/
def normed (X : FVec Ideal S8192x4096 .f32) (N : FVec Ideal S4096 .f32) (A B : FVec Ideal S1x4096 .f32) (a : Fin 8192) (k : Fin 4096) : EReal :=
  X (ix2 a k) * Ideal.rsqrt (Ideal.div (∑ j : Fin 4096, X (ix2 a j) * X (ix2 a j)) (Ideal.ofBits .f32 0x45800000#32)
      + Ideal.ofBits .f32 0x358637BD#32) * N (ix1 k) * (Ideal.ofBits .f32 0x3F800000#32 + A (ix2 0 k)) + B (ix2 0 k)

/-- The bias of column `b`: zero from the seventeenth column on. -/
def bias (D : FVec Ideal S16 .f32) (b : Fin 128) : EReal :=
  if h : b.val < 16 then D (ix1 ⟨b.val, h⟩) else 0

/-- The logit at row `a`, column `b`. -/
def logit (X : FVec Ideal S8192x4096 .f32) (N : FVec Ideal S4096 .f32) (A B : FVec Ideal S1x4096 .f32)
    (W : FVec Ideal S4096x12304 .f32) (D : FVec Ideal S16 .f32) (a : Fin 8192) (b : Fin 128) : EReal :=
  (∑ k : Fin 4096, normed X N A B a k * W (ix2 k (⟨8192 + b.val, by omega⟩ : Fin 12304))) + bias D b

/-- The log of the logistic function. -/
def gate (z : EReal) : EReal := min z 0 - Ideal.log1p (Ideal.exp (-(max z (-z))))

/-- The normed rows. -/
def G (X : FVec Ideal S8192x4096 .f32) (N : FVec Ideal S4096 .f32) (A B : FVec Ideal S1x4096 .f32) : FVec Ideal S8192x4096 .bf16 :=
  fun y => normed X N A B (y 0) (y 1)

/-- The log gates. -/
def L (X : FVec Ideal S8192x4096 .f32) (N : FVec Ideal S4096 .f32) (A B : FVec Ideal S1x4096 .f32)
    (W : FVec Ideal S4096x12304 .f32) (D : FVec Ideal S16 .f32) : FVec Ideal S8192x128 .f32 :=
  fun y => gate (logit X N A B W D (y 0) (y 1))

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![8192, 0] ∧ win0_5.index t = ![0, 0] ∧ win0_6.index t = ![t.val, 0]
    ∧ win0_7.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![8192, 0] ∧ win0_5.index t = ![0, 0] ∧ win0_6.index t = ![t.val, 0]
    ∧ win0_7.index t = ![t.val, 0])

/-- The rows' block. -/
theorem rows (c : Dev nD) (t : Fin cfg0.N) (y : Fin 512) (k : Fin 4096) (a : Fin 8192) (ha : a.val = t.val * 512 + y.val) :
    (iblk m c 0 t : FVec Ideal S512x4096 .f32) (ix2 y k) = m ((c : Thread nD τ).loc main_arg0) (ix2 a k) := by
  have e := (idx t).1
  blk_ext [iblk, V, e, ha]

/-- The host's operations before the region, read at the array that each writes. -/
theorem V_v0 (c : Dev nD) : V m c main_v0
    = transpose S12304x4096 [1, 0] (m ((c : Thread nD τ).loc main_arg4)) transposes_S4096x12304_S12304x4096_1_0 := by
  show StableHlo.after [hostOps0, hostOps0_1, hostOps0_2].flatten (fun b => m (c, b)) (Proc.tc.devRef main_v0) = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> rfl

theorem V_v2 (c : Dev nD) : V m c main_v2
    = shapeCast S1x128 (pad S128 ![0] ![112] ![0] (m ((c : Thread nD τ).loc main_arg5) : FVec Ideal S16 .f32) (sitofp .f32 (constantI S_ 32 0#32) : FVec Ideal S_ .f32)
        pads_S16_S128_01120 h_S_) shapeCasts_S128_S1x128 := by
  show StableHlo.after [hostOps0, hostOps0_1, hostOps0_2].flatten (fun b => m (c, b)) (Proc.tc.devRef main_v2) = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> rfl

theorem V_v3 (c : Dev nD) : V m c main_v3 = shapeCast S1x4096 (m ((c : Thread nD τ).loc main_arg1) : FVec Ideal S4096 .f32) shapeCasts_S4096_S1x4096 := by
  show StableHlo.after [hostOps0, hostOps0_1, hostOps0_2].flatten (fun b => m (c, b)) (Proc.tc.devRef main_v3) = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> rfl

theorem row_apply (N : FVec Ideal S4096 .f32) (z : Fin 1) (k : Fin 4096) :
    shapeCast S1x4096 N shapeCasts_S4096_S1x4096 (ix2 z k) = N (ix1 k) := by
  pointwise

theorem pad_apply (D : FVec Ideal S16 .f32) (z : Fin 1) (b : Fin 128) :
    shapeCast S1x128 (pad S128 ![0] ![112] ![0] D (sitofp .f32 (constantI S_ 32 0#32) : FVec Ideal S_ .f32)
        pads_S16_S128_01120 h_S_) shapeCasts_S128_S1x128 (ix2 z b) = bias D b := by
  unfold bias
  pointwise
  by_cases h : b.val < 16
  · rw [dif_pos h, dif_pos h]
  · rw [dif_neg h, dif_neg h]
    show (((0#32 : BitVec 32).toInt : ℝ) : EReal) = 0
    simp

/-- The norm's weights as the region finds them. -/
theorem row (c : Dev nD) (z : Fin 1) (k : Fin 4096) :
    (V m c main_v3 : FVec Ideal S1x4096 .f32) (ix2 z k) = m ((c : Thread nD τ).loc main_arg1) (ix1 k) := by
  rw [V_v3]
  exact row_apply _ z k

/-- The norm's weights. -/
theorem gains (c : Dev nD) (t : Fin cfg0.N) (z : Fin 1) (k : Fin 4096) :
    (iblk m c 1 t : FVec Ideal S1x4096 .f32) (ix2 z k) = m ((c : Thread nD τ).loc main_arg1) (ix1 k) := by
  have e := (idx t).2.1
  refine Eq.trans ?_ (row m c 0 k)
  blk_ext [iblk, e]

theorem scales (c : Dev nD) (t : Fin cfg0.N) (z : Fin 1) (k : Fin 4096) :
    (iblk m c 2 t : FVec Ideal S1x4096 .f32) (ix2 z k) = m ((c : Thread nD τ).loc main_arg2) (ix2 0 k) := by
  have e := (idx t).2.2.1
  blk_ext [iblk, V, e]

theorem shifts (c : Dev nD) (t : Fin cfg0.N) (z : Fin 1) (k : Fin 4096) :
    (iblk m c 3 t : FVec Ideal S1x4096 .f32) (ix2 z k) = m ((c : Thread nD τ).loc main_arg3) (ix2 0 k) := by
  have e := (idx t).2.2.2.1
  blk_ext [iblk, V, e]

/-- The weights as the region finds them are the argument transposed. -/
theorem turned (c : Dev nD) (a : Fin 12304) (k : Fin 4096) :
    (V m c main_v0 : FVec Ideal S12304x4096 .f32) (ix2 a k) = m ((c : Thread nD τ).loc main_arg4) (ix2 k a) := by
  rw [V_v0]
  pointwise

theorem weights (c : Dev nD) (t : Fin cfg0.N) (b : Fin 128) (k : Fin 4096) :
    (iblk m c 4 t : FVec Ideal S128x4096 .f32) (ix2 b k)
      = m ((c : Thread nD τ).loc main_arg4) (ix2 k (⟨8192 + b.val, by omega⟩ : Fin 12304)) := by
  have e := (idx t).2.2.2.2.1
  refine Eq.trans ?_ (turned m c _ _)
  show (V m c main_v0 : FVec Ideal S12304x4096 .f32) (((View.whole main_v0).slice (win0_4.rect t)).emb (ix2 b k)) = _
  refine congrArg _ (funext fun a => Fin.ext ?_)
  match a with
  | 0 =>
    show win0_4.index t 0 + 1 * b.val = 8192 + b.val
    rw [e, one_mul]; rfl
  | 1 =>
    show win0_4.index t 1 + 1 * k.val = k.val
    rw [e, one_mul]; exact Nat.zero_add _

/-- The bias as the region finds it. -/
theorem padded (c : Dev nD) (z : Fin 1) (b : Fin 128) :
    (V m c main_v2 : FVec Ideal S1x128 .f32) (ix2 z b) = bias (m ((c : Thread nD τ).loc main_arg5)) b := by
  rw [V_v2]
  exact pad_apply _ z b

theorem biases (c : Dev nD) (t : Fin cfg0.N) (z : Fin 1) (b : Fin 128) :
    (iblk m c 5 t : FVec Ideal S1x128 .f32) (ix2 z b) = bias (m ((c : Thread nD τ).loc main_arg5)) b := by
  have e := (idx t).2.2.2.2.2.1
  refine Eq.trans ?_ (padded m c 0 b)
  blk_ext [iblk, e]

theorem held_apply (c : Dev nD) (b : Fin 128) (k : Fin 4096) :
    held m c (ix2 b k) = m ((c : Thread nD τ).loc main_arg4) (ix2 k (⟨8192 + b.val, by omega⟩ : Fin 12304)) := by
  refine Eq.trans ?_ (weights m c (⟨0, by rw [show cfg0.N = 16 from N_0]; decide⟩ : Fin cfg0.N) b k)
  unfold held
  pointwise [k0_pay2]

/-- The normed rows' block. -/
theorem normed_block (c : Dev nD) (t : Fin cfg0.N) (y : Fin 512) (k : Fin 4096) (a : Fin 8192) (ha : a.val = t.val * 512 + y.val) :
    k0_pay3 (iblk m c 0 t) (iblk m c 1 t) (iblk m c 2 t) (iblk m c 3 t) (ix2 y k)
      = normed (m ((c : Thread nD τ).loc main_arg0)) (m ((c : Thread nD τ).loc main_arg1))
          (m ((c : Thread nD τ).loc main_arg2)) (m ((c : Thread nD τ).loc main_arg3)) a k := by
  unfold normed
  pointwise [k0_pay3]
  simp only [rows m c t y _ a ha, gains m c t, scales m c t, shifts m c t]

/-- The log gates' block. -/
theorem gate_block (c : Dev nD) (t : Fin cfg0.N) (y : Fin 512) (b : Fin 128) (a : Fin 8192) (ha : a.val = t.val * 512 + y.val) :
    logf (iblk m c 0 t) (iblk m c 1 t) (iblk m c 2 t) (iblk m c 3 t) (held m c) (iblk m c 5 t) (ix2 y b)
      = gate (logit (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) a b) := by
  have hz : k0_pay4 (iblk m c 0 t) (iblk m c 1 t) (iblk m c 2 t) (iblk m c 3 t) (held m c) (iblk m c 5 t) (ix2 y b)
      = logit (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) a b := by
    unfold logit
    pointwise [k0_pay4]
    simp only [normed_block m c t y _ a ha, held_apply m c, biases m c t]
  unfold logf
  generalize k0_pay4 (iblk m c 0 t) (iblk m c 1 t) (iblk m c 2 t) (iblk m c 3 t) (held m c) (iblk m c 5 t) = Z at hz ⊢
  rw [← hz]
  unfold gate
  pointwise [k0_pay1, k0_pay5]
  rw [zero_sub]
  rfl

/-- The normed rows' array after the run. -/
theorem final6 (c : Dev nD) : (dats m 0 c).arrAt 6 cfg0.N
    = G (m ((c : Thread nD τ).loc main_arg0)) (m ((c : Thread nD τ).loc main_arg1))
          (m ((c : Thread nD τ).loc main_arg2)) (m ((c : Thread nD τ).loc main_arg3)) := by
  refine (dats m 0 c).arrAt_eq_of_covers 6 _ (by decide +kernel) fun t hf y => ?_
  have hN : t.val < 16 := lt_of_lt_of_eq t.isLt (show cfg0.N = 16 from N_0)
  have e := (idx t).2.2.2.2.2.2.1
  rw [after0_6, left]
  idx_vars y
  rw [show ((View.whole main_v4_0).slice ((win0 6).rect t)).emb (ix2 y0 y1)
      = ix2 (⟨t.val * 512 + y0.val, by omega⟩ : Fin 8192) (y1 : Fin 4096) from by
    blk_ext [e]]
  refine Eq.trans ?_ (normed_block m c t y0 y1 _ rfl)
  blk_simp

/-- The log gates' array after the run. -/
theorem final7 (c : Dev nD) : (dats m 0 c).arrAt 7 cfg0.N
    = L (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  refine (dats m 0 c).arrAt_eq_of_covers 7 _ (by decide +kernel) fun t hf y => ?_
  have hN : t.val < 16 := lt_of_lt_of_eq t.isLt (show cfg0.N = 16 from N_0)
  have e := (idx t).2.2.2.2.2.2.2
  rw [after0_7, left]
  idx_vars y
  rw [show ((View.whole main_v4_1).slice ((win0 7).rect t)).emb (ix2 y0 y1)
      = ix2 (⟨t.val * 512 + y0.val, by omega⟩ : Fin 8192) (y1 : Fin 128) from by
    blk_ext [e]]
  refine Eq.trans ?_ (gate_block m c t y0 y1 _ rfl)
  blk_simp

/-- The run, its result arrays at the normed rows and the log gates. -/
theorem result (ρ : Dev nD → PrngReg) : θ_run defs (onTc (τ := τ) (main (F := Ideal))) ⟨m, fun _ => 0, ρ⟩ (fun r => ∀ c : Dev nD,
      r.2.mem ((c.tc : Thread nD τ).loc main_v4_0)
        = G (m ((c : Thread nD τ).loc main_arg0)) (m ((c : Thread nD τ).loc main_arg1))
          (m ((c : Thread nD τ).loc main_arg2)) (m ((c : Thread nD τ).loc main_arg3))
      ∧ r.2.mem ((c.tc : Thread nD τ).loc main_v4_1)
        = L (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.2 c).1 6).trans (final6 m c), ((h.2 c).1 7).trans (final7 m c), h.1.1 c⟩)
    (θ_run_and (frame m ρ) (run_main m ρ))

end Cert.Kernel9Ideal.Pre

end
-- ==== Proof.Pre.Value.lean ====
/- The modulated pre-norm's claims: the two programs run and leave their arguments as they were, and the kernel's two
   results are the reference's over the extended reals. -/
module

public import proofs.«01_k».proof.Defs
public import proofs.«01_k».proof.Proof.Pre.Gates
public import proofs.«01_k».proof.Proof.Pre.Arrays
public import proofs.«01_k».proof.Proof.Gen.Kernel9
public import proofs.«01_k».proof.Proof.Gen.Reference9Ideal.Run
public import Idealize.ShloMosaic.Lib.Quiescent

@[expose] public section

set_option maxRecDepth 16384

noncomputable section

namespace Cert.Reference9Ideal.Pre

open Idealize.ShloMosaic Cert.Reference9Ideal Cert.Reference9Ideal.Gen

/-- The reference's log of the logistic function, at an index. -/
theorem gate_apply (Z : FVec Ideal S8192x128 .f32) (y0 : Fin 8192) (y1 : Fin 128) :
    (Host.negf (select (cmpf .une
        (subf (Host.negf Z) (broadcastInDim S8192x128 ![] bcast_S_S8192x128 (constant S_ .f32 0x00000000#32)))
        (subf (Host.negf Z) (broadcastInDim S8192x128 ![] bcast_S_S8192x128 (constant S_ .f32 0x00000000#32))))
      (addf (Host.negf Z) (broadcastInDim S8192x128 ![] bcast_S_S8192x128 (constant S_ .f32 0x00000000#32)))
      (addf (maximumf (Host.negf Z) (broadcastInDim S8192x128 ![] bcast_S_S8192x128 (constant S_ .f32 0x00000000#32)))
        (Host.log1p (Host.exp (Host.negf (Host.absf
          (subf (Host.negf Z) (broadcastInDim S8192x128 ![] bcast_S_S8192x128 (constant S_ .f32 0x00000000#32)))))))))
        : FVec Ideal S8192x128 .f32) (ix2 y0 y1)
      = Cert.Kernel9Ideal.Pre.gate (Z (ix2 y0 y1)) := by
  unfold Cert.Kernel9Ideal.Pre.gate
  rw [← Cert.Pre.log_sigmoid]
  pointwise
  generalize Z (ix2 y0 y1) = z
  rw [if_neg (by simp [Ideal.cmp])]
  rfl

end Cert.Reference9Ideal.Pre

namespace Cert.Proof

open Idealize.ShloMosaic Idealize.SL.Sem

theorem pre_defs : Cert.Kernel9.defs (F := Bits) = Cert.Kernel9Ideal.defs (F := Bits) := by
  have h : Cert.Kernel9.defs₀ (F := Bits) = Cert.Kernel9Ideal.defs₀ (F := Bits) := by
    unfold Cert.Kernel9.defs₀ Cert.Kernel9Ideal.defs₀
    refine congrArg Defs.onTc (funext fun l => funext fun a => ?_)
    match l, a with
    | 0, (t, s) => rfl
  unfold Cert.Kernel9.defs Cert.Kernel9Ideal.defs
  rw [h]; rfl

theorem frame_kernel9 : Cert.quiescent_Kernel9 := fun m g _ => by
  rw [pre_defs]
  exact Cert.Kernel9Ideal.Gen.frame (F := Bits) m g

theorem frame_ideal9 : Cert.quiescent_Kernel9Ideal := fun m g _ => Cert.Kernel9Ideal.Gen.frame (F := Ideal) m g

theorem frame_reference9 : Cert.quiescent_Reference9Ideal := fun m g _ =>
  (θ_run Cert.Reference9Ideal.defs _ _).mono (fun r h => ⟨fun c => (h c).2.2, sem_eq_zero_of_no_sems (by decide) r.2⟩)
    (Cert.Reference9Ideal.Value.run (F := Ideal) m g)

theorem algebraic9 : Cert.algebraic_Kernel9Ideal_Reference9Ideal := by
  intro m g m' g' _ hagree
  refine ⟨_, _, Cert.Kernel9Ideal.Pre.result m g, ?_⟩
  refine (θ_run Cert.Reference9Ideal.defs _ _).mono (fun r h c => ⟨(h c).1.trans ?_, (h c).2.1.trans ?_, (h c).2.2⟩)
    (Cert.Reference9Ideal.Value.run (F := Ideal) m' g')
  · rw [(hagree c).1, (hagree c).2.1, (hagree c).2.2.1, (hagree c).2.2.2.1]
    refine funext fun y => ?_
    idx_vars y
    show _ = Cert.Kernel9Ideal.Pre.normed _ _ _ _ y0 y1
    unfold Cert.Kernel9Ideal.Pre.normed
    pointwise
  · unfold Cert.Reference9Ideal.Value.res_main_v28
    rw [(hagree c).1, (hagree c).2.1, (hagree c).2.2.1, (hagree c).2.2.2.1, (hagree c).2.2.2.2.1, (hagree c).2.2.2.2.2]
    refine funext fun y => ?_
    idx_vars y
    refine (Cert.Reference9Ideal.Pre.gate_apply _ y0 y1).trans ?_
    refine congrArg Cert.Kernel9Ideal.Pre.gate ?_
    unfold Cert.Kernel9Ideal.Pre.logit Cert.Kernel9Ideal.Pre.normed Cert.Kernel9Ideal.Pre.bias
    pointwise

end Cert.Proof

end
-- ==== Proof.lean ====
/- The claims of this certificate, assembled: of each program that it runs and leaves its arguments as they were, and of
   each pair that the two results are equal over the extended reals. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Reference8Ideal
public import proofs.«01_k».proof.Proof.Gen.Reference8Ideal.Run
public import proofs.«01_k».proof.Proof.Gen.Pre_finite
public import proofs.«01_k».proof.Proof.Gen.Kernel9
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Z.Frames
public import proofs.«01_k».proof.Proof.Z.Value
public import proofs.«01_k».proof.Proof.Gate.Value
public import proofs.«01_k».proof.Proof.Out.Value
public import proofs.«01_k».proof.Proof.Merge.Value
public import proofs.«01_k».proof.Proof.Vp.Value
public import proofs.«01_k».proof.Proof.Xr.Value
public import proofs.«01_k».proof.Proof.Qk.Value
public import proofs.«01_k».proof.Proof.Attn.Value
public import proofs.«01_k».proof.Proof.Pre.Value

@[expose] public section

noncomputable section

namespace Cert.Proof

open Idealize.ShloMosaic Idealize.SL.Sem Cert.Kernel

theorem frame_reference : Cert.quiescent_ReferenceIdeal := fun m g _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m g)

theorem algebraic : Cert.algebraic_KernelIdeal_ReferenceIdeal := by
  intro m g m' g' _ hagree
  refine ⟨fun c => Cert.KernelIdeal.Z.REF (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact Cert.KernelIdeal.Z.result m g
  · refine (θ_run Cert.ReferenceIdeal.defs _ _).mono (fun r h c => ⟨(h c).1.trans ?_, (h c).2⟩) (Cert.ReferenceIdeal.Value.run (F := Ideal) m' g')
    rw [(hagree c).1, (hagree c).2]

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Pre_finite.Gen.facts,
    frame_kernel, frame_ideal, frame_reference,
    frame_kernel2, frame_ideal2, frame_reference2,
    frame_kernel3, frame_ideal3, frame_reference3,
    frame_kernel4, frame_ideal4, frame_reference4,
    frame_kernel5, frame_ideal5, frame_reference5,
    frame_kernel6, frame_ideal6, frame_reference6,
    frame_kernel7, frame_ideal7, frame_reference7,
    frame_kernel8, frame_ideal8, frame_ideal8_finite,
    frame_reference8, frame_reference8_finite, frame_kernel9,
    frame_ideal9, frame_reference9,
    trivial, algebraic, trivial, algebraic2, trivial, algebraic3, trivial, algebraic4, trivial, algebraic5, trivial, algebraic6, trivial, algebraic7, preserves8, algebraic8, trivial, algebraic9⟩

end Cert.Proof

end
